-- ==== Defs.lean ====
def Pre_Kernel [hPre_tiles_planned : Cert.Pre_tiles_planned.Facts] (m : (ℓ : Loc Cert.Kernel.nD Cert.Kernel.τ Cert.Kernel.sig) → Buf (Elt Bits) ℓ) : Prop :=
  ∀ c : Dev Cert.Kernel.nD,
    (Cert.Pre_tiles_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_tiles_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_tiles_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_tiles_planned.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2 = (fun _ => 1#1)

def Pre_KernelIdeal [hPre_tiles_planned : Cert.Pre_tiles_planned.Facts] (m : (ℓ : Loc Cert.KernelIdeal.nD Cert.KernelIdeal.τ Cert.KernelIdeal.sig) → Buf (Elt Ideal) ℓ) : Prop :=
  ∀ c : Dev Cert.KernelIdeal.nD,
    (Cert.Pre_tiles_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_tiles_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_tiles_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_tiles_planned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tiles_planned [hPre_tiles_planned : Cert.Pre_tiles_planned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiles_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_tiles_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_tiles_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_tiles_planned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_queries_keys [hPre_finite_queries_keys : Cert.Pre_finite_queries_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_queries_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite_queries_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_queries_keys [hPre_finite_queries_keys : Cert.Pre_finite_queries_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_queries_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite_queries_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_tiles_planned : Cert.Pre_tiles_planned.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tiles_planned : Cert.Pre_tiles_planned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tiles_planned [hReferenceIdeal : Cert.ReferenceIdeal.Facts] [hPre_tiles_planned : Cert.Pre_tiles_planned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tiles_planned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_queries_keys [hKernel3Ideal : Cert.Kernel3Ideal.Facts] [hPre_finite_queries_keys : Cert.Pre_finite_queries_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_queries_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_queries_keys [hReference3Ideal : Cert.Reference3Ideal.Facts] [hPre_finite_queries_keys : Cert.Pre_finite_queries_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_queries_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.bf16_pair.BufferStatement Cert.KernelIdeal.S196608x2x128 Cert.KernelIdeal.S196608x1x128
  ∧ IdealRules.bf16_pair.BufferStatement Cert.KernelIdeal.S2048x2x128 Cert.KernelIdeal.S2048x1x128
  ∧ IdealRules.bf16_pair.PackStatement Cert.KernelIdeal.S256x1024
  ∧ IdealRules.bf16_pair.Statement Cert.KernelIdeal.S256x2x128 Cert.KernelIdeal.S256x1x128
  ∧ IdealRules.bf16_pair.PackStatement Cert.KernelIdeal.S2048x128
  ∧ IdealRules.bf16_pair.Statement Cert.KernelIdeal.S2048x2x128 Cert.KernelIdeal.S2048x1x128
  ∧ IdealRules.bf16_pair.Statement Cert.KernelIdeal.S512x1024 Cert.KernelIdeal.S256x1024

def algebraic_KernelIdeal_ReferenceIdeal [hKernelIdeal : Cert.KernelIdeal.Facts] [hReferenceIdeal : Cert.ReferenceIdeal.Facts] [hPre_tiles_planned : Cert.Pre_tiles_planned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v98) = v0 c
          ∧ r.2.mem ((c.tc : Thread Cert.Reference2Ideal.nD Cert.Reference2Ideal.τ).loc Cert.Reference2Ideal.main_v100) = v1 c
          ∧ r.2.mem ((c.tc : Thread Cert.Reference2Ideal.nD Cert.Reference2Ideal.τ).loc Cert.Reference2Ideal.main_v102) = v2 c
          ∧ r.2.mem ((c.tc : Thread Cert.Reference2Ideal.nD Cert.Reference2Ideal.τ).loc Cert.Reference2Ideal.main_v103) = v3 c
          ∧ r.2.mem ((c.tc : Thread Cert.Reference2Ideal.nD Cert.Reference2Ideal.τ).loc Cert.Reference2Ideal.main_v105) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥

def algebraic_Kernel3Ideal_Reference3Ideal_pre_finite_queries_keys [hKernel3Ideal : Cert.Kernel3Ideal.Facts] [hReference3Ideal : Cert.Reference3Ideal.Facts] [hPre_finite_queries_keys : Cert.Pre_finite_queries_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_queries_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v27_0)) (v1 : (c : Dev Cert.Kernel4Ideal.nD) → Buf (Elt Ideal) ((c.tc : Thread Cert.Kernel4Ideal.nD Cert.Kernel4Ideal.τ).loc Cert.Kernel4Ideal.main_v27_1)) (v2 : (c : Dev Cert.Kernel4Ideal.nD) → Buf (Elt Ideal) ((c.tc : Thread Cert.Kernel4Ideal.nD Cert.Kernel4Ideal.τ).loc Cert.Kernel4Ideal.main_v27_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v27_0) = v0 c
          ∧ r.2.mem ((c.tc : Thread Cert.Kernel4Ideal.nD Cert.Kernel4Ideal.τ).loc Cert.Kernel4Ideal.main_v27_1) = v1 c
          ∧ r.2.mem ((c.tc : Thread Cert.Kernel4Ideal.nD Cert.Kernel4Ideal.τ).loc Cert.Kernel4Ideal.main_v27_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v64) = v0 c
          ∧ r.2.mem ((c.tc : Thread Cert.Reference4Ideal.nD Cert.Reference4Ideal.τ).loc Cert.Reference4Ideal.main_v66) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tiles_planned : Cert.Pre_tiles_planned.Facts) (hPre_finite_queries_keys : Cert.Pre_finite_queries_keys.Facts),
    quiescent_Kernel (hKernel := hKernel) (hPre_tiles_planned := hPre_tiles_planned)
    ∧ quiescent_KernelIdeal (hKernelIdeal := hKernelIdeal) (hPre_tiles_planned := hPre_tiles_planned)
    ∧ quiescent_ReferenceIdeal (hReferenceIdeal := hReferenceIdeal)
    ∧ quiescent_ReferenceIdeal_pre_tiles_planned (hReferenceIdeal := hReferenceIdeal) (hPre_tiles_planned := hPre_tiles_planned)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_queries_keys (hKernel3Ideal := hKernel3Ideal) (hPre_finite_queries_keys := hPre_finite_queries_keys)
    ∧ quiescent_Reference3Ideal (hReference3Ideal := hReference3Ideal)
    ∧ quiescent_Reference3Ideal_pre_finite_queries_keys (hReference3Ideal := hReference3Ideal) (hPre_finite_queries_keys := hPre_finite_queries_keys)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_tiles_planned := hPre_tiles_planned)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_queries_keys (hKernel3Ideal := hKernel3Ideal) (hReference3Ideal := hReference3Ideal) (hPre_finite_queries_keys := hPre_finite_queries_keys)
    ∧ preserves_Kernel4_Kernel4Ideal
    ∧ algebraic_Kernel4Ideal_Reference4Ideal (hKernel4Ideal := hKernel4Ideal) (hReference4Ideal := hReference4Ideal)
-- ==== Pre_finite_queries_keys.lean ====
abbrev S4x2048x8x192 : Shape := ⟨4, ![4, 2048, 8, 192]⟩
abbrev S4x2048x8x128 : Shape := ⟨4, ![4, 2048, 8, 128]⟩
abbrev S_ : Shape := ⟨0, ![]⟩

class Facts : Prop where
  bcast_S_S4x2048x8x192 : S_.BroadcastsInDim S4x2048x8x192 (![] : Fin 0 → Fin S4x2048x8x192.rank)

variable [Facts]

def fn {F : FTy → Type} [FloatOps F] (main_arg0 : FVec F S4x2048x8x192 .f32) (main_arg1 : FVec F S4x2048x8x192 .f32) (main_arg2 : FVec F S4x2048x8x128 .f32) : IVec S4x2048x8x192 1 × IVec S4x2048x8x192 1 :=
  let main_cst : FVec F S_ .f32 := constant S_ .f32 0xFF800000#32
  let main_v0 : FVec F S4x2048x8x192 .f32 := broadcastInDim S4x2048x8x192 ![] bcast_S_S4x2048x8x192 main_cst
  let main_v1 : IVec S4x2048x8x192 1 := cmpf .ogt main_arg0 main_v0
  let main_cst_0 : FVec F S_ .f32 := constant S_ .f32 0x7F800000#32
  let main_v2 : FVec F S4x2048x8x192 .f32 := broadcastInDim S4x2048x8x192 ![] bcast_S_S4x2048x8x192 main_cst_0
  let main_v3 : IVec S4x2048x8x192 1 := cmpf .olt main_arg0 main_v2
  let main_v4 : IVec S4x2048x8x192 1 := andi main_v1 main_v3
  let main_cst_1 : FVec F S_ .f32 := constant S_ .f32 0xFF800000#32
  let main_v5 : FVec F S4x2048x8x192 .f32 := broadcastInDim S4x2048x8x192 ![] bcast_S_S4x2048x8x192 main_cst_1
  let main_v6 : IVec S4x2048x8x192 1 := cmpf .ogt main_arg1 main_v5
  let main_cst_2 : FVec F S_ .f32 := constant S_ .f32 0x7F800000#32
  let main_v7 : FVec F S4x2048x8x192 .f32 := broadcastInDim S4x2048x8x192 ![] bcast_S_S4x2048x8x192 main_cst_2
  let main_v8 : IVec S4x2048x8x192 1 := cmpf .olt main_arg1 main_v7
  let main_v9 : IVec S4x2048x8x192 1 := andi main_v6 main_v8
  (main_v4, main_v9)
-- ==== Pre_tiles_planned.lean ====
abbrev S128x128 : Shape := ⟨2, ![128, 128]⟩
abbrev S196608x128 : Shape := ⟨2, ![196608, 128]⟩
abbrev S32x2048x512 : Shape := ⟨3, ![32, 2048, 512]⟩
abbrev S32x512x2048 : Shape := ⟨3, ![32, 512, 2048]⟩
abbrev S96x1 : Shape := ⟨2, ![96, 1]⟩
abbrev S96 : Shape := ⟨1, ![96]⟩
abbrev S1x1 : Shape := ⟨2, ![1, 1]⟩
abbrev S_ : Shape := ⟨0, ![]⟩
abbrev S95 : Shape := ⟨1, ![95]⟩

class Facts : Prop where
  slices_S128x128_S96x1_0_0 : S128x128.Slices ![0, 0] S96x1
  shapeCasts_S96x1_S96 : S96x1.ShapeCasts S96
  slices_S128x128_S96x1_0_1 : S128x128.Slices ![0, 1] S96x1
  slices_S128x128_S96x1_0_2 : S128x128.Slices ![0, 2] S96x1
  slices_S128x128_S96x1_0_4 : S128x128.Slices ![0, 4] S96x1
  slices_S128x128_S96x1_0_5 : S128x128.Slices ![0, 5] S96x1
  slices_S128x128_S96x1_0_7 : S128x128.Slices ![0, 7] S96x1
  slices_S128x128_S1x1_0_8 : S128x128.Slices ![0, 8] S1x1
  shapeCasts_S1x1_S_ : S1x1.ShapeCasts S_
  bcast_S_S96 : S_.BroadcastsInDim S96 (![] : Fin 0 → Fin S96.rank)
  slices_S96_S95_1 : S96.Slices ![1] S95
  slices_S96_S95_0 : S96.Slices ![0] S95
  bcast_S_S95 : S_.BroadcastsInDim S95 (![] : Fin 0 → Fin S95.rank)

variable [Facts]

def fn_part4 {F : FTy → Type} [FloatOps F] (main_v1 : IVec S96 32) (main_v5 : IVec S96 32) (main_v7 : IVec S96 32) (main_v9 : IVec S96 32) (main_v46 : IVec S96 1) (main_v54 : IVec S96 1) (main_v62 : IVec S96 1) (main_v67 : IVec S95 1) (main_v78 : IVec S95 1) (main_v79 : IVec S95 32) : IVec S96 1 × IVec S96 1 × IVec S96 1 × IVec S95 1 :=
  let main_c_15 : IVec S_ 32 := constantI S_ 32 0#32
  let main_v80 : IVec S95 32 := broadcastInDim S95 ![] bcast_S_S95 main_c_15
  let main_v81 : IVec S95 1 := cmpi .eq main_v79 main_v80
  let main_v82 : IVec S95 1 := andi main_v78 main_v81
  let main_v83 : IVec S95 32 := (extractStridedSlice S95 ![1] · slices_S96_S95_1) main_v1
  let main_v84 : IVec S95 32 := (extractStridedSlice S95 ![0] · slices_S96_S95_0) main_v7
  let main_v85 : IVec S95 1 := cmpi .eq main_v83 main_v84
  let main_v86 : IVec S95 32 := (extractStridedSlice S95 ![1] · slices_S96_S95_1) main_v7
  let main_v87 : IVec S95 32 := (extractStridedSlice S95 ![0] · slices_S96_S95_0) main_v9
  let main_v88 : IVec S95 1 := cmpi .eq main_v86 main_v87
  let main_v89 : IVec S95 1 := andi main_v85 main_v88
  let main_v90 : IVec S95 32 := (extractStridedSlice S95 ![1] · slices_S96_S95_1) main_v5
  let main_c_16 : IVec S_ 32 := constantI S_ 32 1#32
  let main_v91 : IVec S95 32 := broadcastInDim S95 ![] bcast_S_S95 main_c_16
  let main_v92 : IVec S95 1 := cmpi .eq main_v90 main_v91
  let main_v93 : IVec S95 1 := andi main_v89 main_v92
  let main_v94 : IVec S95 1 := ori main_v82 main_v93
  let main_v95 : IVec S95 1 := andi main_v67 main_v94
  (main_v46, main_v54, main_v62, main_v95)

def fn_part3 {F : FTy → Type} [FloatOps F] (main_v1 : IVec S96 32) (main_v5 : IVec S96 32) (main_v7 : IVec S96 32) (main_v9 : IVec S96 32) (main_v11 : IVec S96 32) (main_v12 : IVec S96 32) (main_v46 : IVec S96 1) (main_v54 : IVec S96 1) (main_v56 : IVec S96 1) (main_c_13 : IVec S_ 32) : IVec S96 1 × IVec S96 1 × IVec S96 1 × IVec S95 1 :=
  let main_v57 : IVec S96 32 := broadcastInDim S96 ![] bcast_S_S96 main_c_13
  let main_v58 : IVec S96 1 := cmpi .sge main_v9 main_v57
  let main_v59 : IVec S96 1 := andi main_v56 main_v58
  let main_c_14 : IVec S_ 32 := constantI S_ 32 95#32
  let main_v60 : IVec S96 32 := broadcastInDim S96 ![] bcast_S_S96 main_c_14
  let main_v61 : IVec S96 1 := cmpi .slt main_v12 main_v60
  let main_v62 : IVec S96 1 := ori main_v59 main_v61
  let main_v63 : IVec S95 32 := (extractStridedSlice S95 ![1] · slices_S96_S95_1) main_v11
  let main_v64 : IVec S95 32 := (extractStridedSlice S95 ![0] · slices_S96_S95_0) main_v11
  let main_v65 : IVec S95 32 := (extractStridedSlice S95 ![1] · slices_S96_S95_1) main_v5
  let main_v66 : IVec S95 32 := addi main_v64 main_v65
  let main_v67 : IVec S95 1 := cmpi .eq main_v63 main_v66
  let main_v68 : IVec S95 32 := (extractStridedSlice S95 ![1] · slices_S96_S95_1) main_v1
  let main_v69 : IVec S95 32 := (extractStridedSlice S95 ![0] · slices_S96_S95_0) main_v1
  let main_v70 : IVec S95 1 := cmpi .eq main_v68 main_v69
  let main_v71 : IVec S95 32 := (extractStridedSlice S95 ![1] · slices_S96_S95_1) main_v7
  let main_v72 : IVec S95 32 := (extractStridedSlice S95 ![0] · slices_S96_S95_0) main_v7
  let main_v73 : IVec S95 1 := cmpi .eq main_v71 main_v72
  let main_v74 : IVec S95 1 := andi main_v70 main_v73
  let main_v75 : IVec S95 32 := (extractStridedSlice S95 ![1] · slices_S96_S95_1) main_v9
  let main_v76 : IVec S95 32 := (extractStridedSlice S95 ![0] · slices_S96_S95_0) main_v9
  let main_v77 : IVec S95 1 := cmpi .eq main_v75 main_v76
  let main_v78 : IVec S95 1 := andi main_v74 main_v77
  let main_v79 : IVec S95 32 := (extractStridedSlice S95 ![1] · slices_S96_S95_1) main_v5
  fn_part4 (F := F) main_v1 main_v5 main_v7 main_v9 main_v46 main_v54 main_v62 main_v67 main_v78 main_v79

def fn_part2 {F : FTy → Type} [FloatOps F] (main_v1 : IVec S96 32) (main_v3 : IVec S96 32) (main_v5 : IVec S96 32) (main_v7 : IVec S96 32) (main_v9 : IVec S96 32) (main_v11 : IVec S96 32) (main_v12 : IVec S96 32) (main_v14 : IVec S_ 32) (main_v37 : IVec S96 1) (main_v38 : IVec S_ 1) : IVec S96 1 × IVec S96 1 × IVec S96 1 × IVec S95 1 :=
  let main_v39 : IVec S96 1 := broadcastInDim S96 ![] bcast_S_S96 main_v38
  let main_v40 : IVec S96 1 := andi main_v37 main_v39
  let main_c_8 : IVec S_ 32 := constantI S_ 32 0#32
  let main_v41 : IVec S96 32 := broadcastInDim S96 ![] bcast_S_S96 main_c_8
  let main_v42 : IVec S96 1 := cmpi .sle main_v3 main_v41
  let main_v43 : IVec S96 32 := broadcastInDim S96 ![] bcast_S_S96 main_v14
  let main_v44 : IVec S96 1 := cmpi .sle main_v12 main_v43
  let main_v45 : IVec S96 1 := ori main_v42 main_v44
  let main_v46 : IVec S96 1 := andi main_v40 main_v45
  let main_c_9 : IVec S_ 32 := constantI S_ 32 1#32
  let main_v47 : IVec S96 32 := broadcastInDim S96 ![] bcast_S_S96 main_c_9
  let main_v48 : IVec S96 1 := cmpi .eq main_v5 main_v47
  let main_c_10 : IVec S_ 32 := constantI S_ 32 0#32
  let main_v49 : IVec S96 32 := broadcastInDim S96 ![] bcast_S_S96 main_c_10
  let main_v50 : IVec S96 1 := cmpi .eq main_v11 main_v49
  let main_v51 : IVec S96 1 := andi main_v48 main_v50
  let main_c_11 : IVec S_ 32 := constantI S_ 32 0#32
  let main_v52 : IVec S96 32 := broadcastInDim S96 ![] bcast_S_S96 main_c_11
  let main_v53 : IVec S96 1 := cmpi .sgt main_v12 main_v52
  let main_v54 : IVec S96 1 := ori main_v51 main_v53
  let main_c_12 : IVec S_ 32 := constantI S_ 32 32#32
  let main_v55 : IVec S96 32 := broadcastInDim S96 ![] bcast_S_S96 main_c_12
  let main_v56 : IVec S96 1 := cmpi .sge main_v7 main_v55
  let main_c_13 : IVec S_ 32 := constantI S_ 32 32#32
  fn_part3 (F := F) main_v1 main_v5 main_v7 main_v9 main_v11 main_v12 main_v46 main_v54 main_v56 main_c_13

def fn_part1 {F : FTy → Type} [FloatOps F] (main_v1 : IVec S96 32) (main_v3 : IVec S96 32) (main_v5 : IVec S96 32) (main_v7 : IVec S96 32) (main_v9 : IVec S96 32) (main_v11 : IVec S96 32) (main_v12 : IVec S96 32) (main_v14 : IVec S_ 32) (main_v19 : IVec S96 1) (main_v20 : IVec S96 32) : IVec S96 1 × IVec S96 1 × IVec S96 1 × IVec S95 1 :=
  let main_v21 : IVec S96 1 := cmpi .sge main_v7 main_v20
  let main_v22 : IVec S96 1 := andi main_v19 main_v21
  let main_c_2 : IVec S_ 32 := constantI S_ 32 0#32
  let main_v23 : IVec S96 32 := broadcastInDim S96 ![] bcast_S_S96 main_c_2
  let main_v24 : IVec S96 1 := cmpi .sge main_v9 main_v23
  let main_v25 : IVec S96 1 := andi main_v22 main_v24
  let main_c_3 : IVec S_ 32 := constantI S_ 32 0#32
  let main_v26 : IVec S96 32 := broadcastInDim S96 ![] bcast_S_S96 main_c_3
  let main_v27 : IVec S96 1 := cmpi .sge main_v5 main_v26
  let main_v28 : IVec S96 1 := andi main_v25 main_v27
  let main_c_4 : IVec S_ 32 := constantI S_ 32 1#32
  let main_v29 : IVec S96 32 := broadcastInDim S96 ![] bcast_S_S96 main_c_4
  let main_v30 : IVec S96 1 := cmpi .sle main_v5 main_v29
  let main_v31 : IVec S96 1 := andi main_v28 main_v30
  let main_c_5 : IVec S_ 32 := constantI S_ 32 0#32
  let main_v32 : IVec S96 32 := broadcastInDim S96 ![] bcast_S_S96 main_c_5
  let main_v33 : IVec S96 1 := cmpi .sge main_v3 main_v32
  let main_v34 : IVec S96 1 := andi main_v31 main_v33
  let main_c_6 : IVec S_ 32 := constantI S_ 32 0#32
  let main_v35 : IVec S_ 1 := cmpi .sge main_v14 main_c_6
  let main_v36 : IVec S96 1 := broadcastInDim S96 ![] bcast_S_S96 main_v35
  let main_v37 : IVec S96 1 := andi main_v34 main_v36
  let main_c_7 : IVec S_ 32 := constantI S_ 32 96#32
  let main_v38 : IVec S_ 1 := cmpi .slt main_v14 main_c_7
  fn_part2 (F := F) main_v1 main_v3 main_v5 main_v7 main_v9 main_v11 main_v12 main_v14 main_v37 main_v38

def fn {F : FTy → Type} [FloatOps F] (main_arg0 : IVec S128x128 32) (main_arg1 : IVec S196608x128 32) (main_arg2 : FVec F S32x2048x512 .f32) (main_arg3 : FVec F S32x2048x512 .f32) (main_arg4 : FVec F S32x512x2048 .f32) : IVec S96 1 × IVec S96 1 × IVec S96 1 × IVec S95 1 :=
  let main_v0 : IVec S96x1 32 := (extractStridedSlice S96x1 ![0, 0] · slices_S128x128_S96x1_0_0) main_arg0
  let main_v1 : IVec S96 32 := shapeCast S96 main_v0 shapeCasts_S96x1_S96
  let main_v2 : IVec S96x1 32 := (extractStridedSlice S96x1 ![0, 1] · slices_S128x128_S96x1_0_1) main_arg0
  let main_v3 : IVec S96 32 := shapeCast S96 main_v2 shapeCasts_S96x1_S96
  let main_v4 : IVec S96x1 32 := (extractStridedSlice S96x1 ![0, 2] · slices_S128x128_S96x1_0_2) main_arg0
  let main_v5 : IVec S96 32 := shapeCast S96 main_v4 shapeCasts_S96x1_S96
  let main_v6 : IVec S96x1 32 := (extractStridedSlice S96x1 ![0, 4] · slices_S128x128_S96x1_0_4) main_arg0
  let main_v7 : IVec S96 32 := shapeCast S96 main_v6 shapeCasts_S96x1_S96
  let main_v8 : IVec S96x1 32 := (extractStridedSlice S96x1 ![0, 5] · slices_S128x128_S96x1_0_5) main_arg0
  let main_v9 : IVec S96 32 := shapeCast S96 main_v8 shapeCasts_S96x1_S96
  let main_v10 : IVec S96x1 32 := (extractStridedSlice S96x1 ![0, 7] · slices_S128x128_S96x1_0_7) main_arg0
  let main_v11 : IVec S96 32 := shapeCast S96 main_v10 shapeCasts_S96x1_S96
  let main_v12 : IVec S96 32 := iotaInDim S96 32 0
  let main_v13 : IVec S1x1 32 := (extractStridedSlice S1x1 ![0, 8] · slices_S128x128_S1x1_0_8) main_arg0
  let main_v14 : IVec S_ 32 := shapeCast S_ main_v13 shapeCasts_S1x1_S_
  let main_c : IVec S_ 32 := constantI S_ 32 0#32
  let main_v15 : IVec S96 32 := broadcastInDim S96 ![] bcast_S_S96 main_c
  let main_v16 : IVec S96 1 := cmpi .sge main_v1 main_v15
  let main_c_0 : IVec S_ 32 := constantI S_ 32 32#32
  let main_v17 : IVec S96 32 := broadcastInDim S96 ![] bcast_S_S96 main_c_0
  let main_v18 : IVec S96 1 := cmpi .slt main_v1 main_v17
  let main_v19 : IVec S96 1 := andi main_v16 main_v18
  let main_c_1 : IVec S_ 32 := constantI S_ 32 0#32
  let main_v20 : IVec S96 32 := broadcastInDim S96 ![] bcast_S_S96 main_c_1
  fn_part1 (F := F) main_v1 main_v3 main_v5 main_v7 main_v9 main_v11 main_v12 main_v14 main_v19 main_v20
-- ==== Kernel.lean ====
abbrev S128x128 : Shape := ⟨2, ![128, 128]⟩
abbrev S196608x128 : Shape := ⟨2, ![196608, 128]⟩
abbrev S32x2048x512 : Shape := ⟨3, ![32, 2048, 512]⟩
abbrev S32x512x2048 : Shape := ⟨3, ![32, 512, 2048]⟩
abbrev S2048x128 : Shape := ⟨2, ![2048, 128]⟩
abbrev S1x1 : Shape := ⟨2, ![1, 1]⟩
abbrev S2048x512 : Shape := ⟨2, ![2048, 512]⟩
abbrev S512x2048 : Shape := ⟨2, ![512, 2048]⟩
abbrev S2x2048x512 : Shape := ⟨3, ![2, 2048, 512]⟩
abbrev S2x512x2048 : Shape := ⟨3, ![2, 512, 2048]⟩
abbrev S2x3 : Shape := ⟨2, ![2, 3]⟩
abbrev S_ : Shape := ⟨0, ![]⟩
abbrev S1x2048x512 : Shape := ⟨3, ![1, 2048, 512]⟩
abbrev S1x512x2048 : Shape := ⟨3, ![1, 512, 2048]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S256x2048 : Shape := ⟨2, ![256, 2048]⟩
abbrev S2048x256 : Shape := ⟨2, ![2048, 256]⟩
abbrev S24576x2048 : Shape := ⟨2, ![24576, 2048]⟩

abbrev nBuf : Space → Nat
  | .hbm => 6
  | .vmem => 14
  | .smem => 1
  | _ => 0

abbrev bufTy : (tb : Table) → Fin (tcTables nBuf tb) → BufTy
  | .hbm, ⟨0, _⟩ => ⟨S196608x128, .i32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S196608x128, .i32⟩
  | .hbm, ⟨5, _⟩ => ⟨S24576x2048, .f32⟩
  | .local _ .vmem, ⟨0, _⟩ => ⟨S2048x128, .i32⟩
  | .local _ .vmem, ⟨1, _⟩ => ⟨S2048x128, .i32⟩
  | .local _ .vmem, ⟨2, _⟩ => ⟨S2048x128, .i32⟩
  | .local _ .vmem, ⟨3, _⟩ => ⟨S2048x128, .i32⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S2x2048x512, .f32⟩
  | .local _ .vmem, ⟨8, _⟩ => ⟨S2x2048x512, .f32⟩
  | .local _ .vmem, ⟨9, _⟩ => ⟨S2x512x2048, .f32⟩
  | .local _ .vmem, ⟨10, _⟩ => ⟨S2048x128, .i32⟩
  | .local _ .vmem, ⟨11, _⟩ => ⟨S2048x128, .i32⟩
  | .local _ .vmem, ⟨12, _⟩ => ⟨S256x2048, .f32⟩
  | .local _ .vmem, ⟨13, _⟩ => ⟨S256x2048, .f32⟩
  | .local _ .smem, ⟨0, _⟩ => ⟨S128x128, .i32⟩
  | _, _ => ⟨S196608x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [BitOps F]

abbrev grid0 : Pipeline.Grid := ⟨1, ![96], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v26 : BitVec 32) : Fin 3 → Nat :=
  let c0_i32_20 : BitVec 32 := 0#32
  let c0_i32_21 : BitVec 32 := 0#32
  ![v26.toNat, 0, 0]
def k0_cond2 (v18 : BitVec 32) : BitVec 1 :=
  let c32_i32 : BitVec 32 := 32#32
  let v19 : BitVec 1 := Scalar.cmpi .slt v18 c32_i32
  let v20 : BitVec 32 := Scalar.extui v19
  let c0_i32_9 : BitVec 32 := 0#32
  let v21 : BitVec 1 := Scalar.cmpi .ne v20 c0_i32_9
  v21

def k0_off2 (v26 : BitVec 32) : Fin 3 → Nat :=
  let c0_i32_32 : BitVec 32 := 0#32
  let c0_i32_33 : BitVec 32 := 0#32
  ![v26.toNat, 0, 0]

def k0_chk1 (i : grid0.Coords) (v18 : BitVec 32) (v26 : BitVec 32) : Prop :=
  (∀ (k0_h1 : k0_cond1 i = 1#1), ∀ (k0_h2 : k0_cond2 v18 = 1#1), ∀ a, (k0_off1 v26) a + S1x2048x512.size a ≤ S32x2048x512.size a) ∧
  (∀ (k0_h1 : k0_cond1 i = 1#1), ∀ (k0_h2 : k0_cond2 v18 = 1#1), ∀ a, (k0_off2 v26) a + S1x512x2048.size a ≤ S32x512x2048.size a)
theorem k0_off1_inb : ∀ (i : grid0.Coords) (v18 : BitVec 32) (v26 : BitVec 32) (k0_hw1 : k0_chk1 i v18 v26), ∀ (k0_h1 : k0_cond1 i = 1#1), ∀ (k0_h2 : k0_cond2 v18 = 1#1), ∀ a, (k0_off1 v26) a + S1x2048x512.size a ≤ S32x2048x512.size a := fun i v18 v26 k0_hw1 k0_h1 k0_h2 => k0_hw1.1 k0_h1 k0_h2
theorem k0_off2_inb : ∀ (i : grid0.Coords) (v18 : BitVec 32) (v26 : BitVec 32) (k0_hw1 : k0_chk1 i v18 v26), ∀ (k0_h1 : k0_cond1 i = 1#1), ∀ (k0_h2 : k0_cond2 v18 = 1#1), ∀ a, (k0_off2 v26) a + S1x512x2048.size a ≤ S32x512x2048.size a := fun i v18 v26 k0_hw1 k0_h1 k0_h2 => k0_hw1.2 k0_h1 k0_h2

def k0_off3 (v26 : BitVec 32) : Fin 3 → Nat :=
  let c0_i32_19 : BitVec 32 := 0#32
  let c0_i32_20 : BitVec 32 := 0#32
  ![v26.toNat, 0, 0]
def k0_cond3 (v22 : BitVec 32) : BitVec 1 :=
  let c32_i32_11 : BitVec 32 := 32#32
  let v23 : BitVec 1 := Scalar.cmpi .slt v22 c32_i32_11
  let v24 : BitVec 32 := Scalar.extui v23
  let c0_i32_12 : BitVec 32 := 0#32
  let v25 : BitVec 1 := Scalar.cmpi .ne v24 c0_i32_12
  v25

def k0_off4 (v26 : BitVec 32) : Fin 3 → Nat :=
  let c0_i32_32 : BitVec 32 := 0#32
  let c0_i32_33 : BitVec 32 := 0#32
  ![v26.toNat, 0, 0]

def k0_chk2 (i : grid0.Coords) (v22 : BitVec 32) (v26 : BitVec 32) : Prop :=
  (∀ (k0_h1 : k0_cond1 i = 1#1), ∀ (k0_h3 : k0_cond3 v22 = 1#1), ∀ a, (k0_off3 v26) a + S1x2048x512.size a ≤ S32x2048x512.size a) ∧
  (∀ (k0_h1 : k0_cond1 i = 1#1), ∀ (k0_h3 : k0_cond3 v22 = 1#1), ∀ a, (k0_off4 v26) a + S1x512x2048.size a ≤ S32x512x2048.size a)
theorem k0_off3_inb : ∀ (i : grid0.Coords) (v22 : BitVec 32) (v26 : BitVec 32) (k0_hw2 : k0_chk2 i v22 v26), ∀ (k0_h1 : k0_cond1 i = 1#1), ∀ (k0_h3 : k0_cond3 v22 = 1#1), ∀ a, (k0_off3 v26) a + S1x2048x512.size a ≤ S32x2048x512.size a := fun i v22 v26 k0_hw2 k0_h1 k0_h3 => k0_hw2.1 k0_h1 k0_h3
theorem k0_off4_inb : ∀ (i : grid0.Coords) (v22 : BitVec 32) (v26 : BitVec 32) (k0_hw2 : k0_chk2 i v22 v26), ∀ (k0_h1 : k0_cond1 i = 1#1), ∀ (k0_h3 : k0_cond3 v22 = 1#1), ∀ a, (k0_off4 v26) a + S1x512x2048.size a ≤ S32x512x2048.size a := fun i v22 v26 k0_hw2 k0_h1 k0_h3 => k0_hw2.2 k0_h1 k0_h3

def k0_off5 (i : grid0.Coords) : Fin 2 → Nat :=
  let arg0 : BitVec 32 := BitVec.ofNat 32 (i 0).val
  let v3 : Index := Scalar.indexCast arg0
  let c2 : Index := 2#32
  ![v3.toNat, 2]
def k0_off6 (i : grid0.Coords) : Fin 2 → Nat :=
  let arg0 : BitVec 32 := BitVec.ofNat 32 (i 0).val
  let v18 : Index := Scalar.indexCast arg0
  let c7 : Index := 7#32
  ![v18.toNat, 7]
def k0_off7 (i : grid0.Coords) : Fin 2 → Nat :=
  let arg0 : BitVec 32 := BitVec.ofNat 32 (i 0).val
  let v30 : Index := Scalar.indexCast arg0
  let c0 : Index := 0#32
  ![v30.toNat, 0]
def k0_off8 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_12 : BitVec 32 := 0#32
  ![v29.toNat, 0]
def k0_cond4 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def k0_off9 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v29.toNat, 0, 0]
def k0_off10 (v31 : BitVec 32) : Fin 3 → Nat :=
  let c0_i32_15 : BitVec 32 := 0#32
  let c0_i32_16 : BitVec 32 := 0#32
  ![v31.toNat, 0, 0]

def k0_off11 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c1_i32_17 : BitVec 32 := 1#32
  ![v29.toNat, 1]
def k0_off12 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_18 : BitVec 32 := 0#32
  let c0_i32_19 : BitVec 32 := 0#32
  ![v29.toNat, 0, 0]
def k0_off13 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c2_i32_22 : BitVec 32 := 2#32
  ![v29.toNat, 2]
def k0_off14 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_23 : BitVec 32 := 0#32
  let c0_i32_24 : BitVec 32 := 0#32
  ![v29.toNat, 0, 0]
def k0_off15 (v31 : BitVec 32) : Fin 3 → Nat :=
  let c0_i32_25 : BitVec 32 := 0#32
  let c0_i32_26 : BitVec 32 := 0#32
  ![v31.toNat, 0, 0]

def k0_chk4 (v4 : BitVec 32) (v31 : BitVec 32) : Prop :=
  (∀ (k0_h4 : k0_cond4 v4 = 1#1), ∀ a, (k0_off10 v31) a + S1x2048x512.size a ≤ S32x2048x512.size a) ∧
  (∀ (k0_h4 : k0_cond4 v4 = 1#1), ∀ a, (k0_off15 v31) a + S1x512x2048.size a ≤ S32x512x2048.size a)
theorem k0_off10_inb : ∀ (v4 : BitVec 32) (v31 : BitVec 32) (k0_hw4 : k0_chk4 v4 v31), ∀ (k0_h4 : k0_cond4 v4 = 1#1), ∀ a, (k0_off10 v31) a + S1x2048x512.size a ≤ S32x2048x512.size a := fun v4 v31 k0_hw4 k0_h4 => k0_hw4.1 k0_h4
theorem k0_off15_inb : ∀ (v4 : BitVec 32) (v31 : BitVec 32) (k0_hw4 : k0_chk4 v4 v31), ∀ (k0_h4 : k0_cond4 v4 = 1#1), ∀ a, (k0_off15 v31) a + S1x512x2048.size a ≤ S32x512x2048.size a := fun v4 v31 k0_hw4 k0_h4 => k0_hw4.2 k0_h4

def k0_off16 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let v50 : Index := Scalar.indexCast v29
  let c0_27 : Index := 0#32
  let c0_28 : Index := 0#32
  ![v50.toNat, 0, 0]
def k0_off17 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let v64 : Index := Scalar.indexCast v29
  let c0_35 : Index := 0#32
  let c0_36 : Index := 0#32
  ![v64.toNat, 0, 0]

def k0_chk3 (v4 : BitVec 32) (v19 : BitVec 32) : Prop :=
  (∀ (k0_h4 : k0_cond4 v4 = 1#1), ∀ a, (k0_off8 v19) a + S1x1.size a ≤ S2x3.size a) ∧
  (∀ (k0_h4 : k0_cond4 v4 = 1#1), ∀ a, (k0_off9 v19) a + S1x2048x512.size a ≤ S2x2048x512.size a) ∧
  (∀ (k0_h4 : k0_cond4 v4 = 1#1), ∀ a, (k0_off11 v19) a + S1x1.size a ≤ S2x3.size a) ∧
  (∀ (k0_h4 : k0_cond4 v4 = 1#1), ∀ a, (k0_off12 v19) a + S1x2048x512.size a ≤ S2x2048x512.size a) ∧
  (∀ (k0_h4 : k0_cond4 v4 = 1#1), ∀ a, (k0_off13 v19) a + S1x1.size a ≤ S2x3.size a) ∧
  (∀ (k0_h4 : k0_cond4 v4 = 1#1), ∀ a, (k0_off14 v19) a + S1x512x2048.size a ≤ S2x512x2048.size a) ∧
  (∀ (k0_h4 : k0_cond4 v4 = 1#1), ∀ a, (k0_off16 v19) a + S1x2048x512.size a ≤ S2x2048x512.size a) ∧
  (∀ (k0_h4 : k0_cond4 v4 = 1#1), ∀ a, (k0_off17 v19) a + S1x512x2048.size a ≤ S2x512x2048.size a)
theorem k0_off8_inb : ∀ (v4 : BitVec 32) (v19 : BitVec 32) (k0_hw3 : k0_chk3 v4 v19), ∀ (k0_h4 : k0_cond4 v4 = 1#1), ∀ a, (k0_off8 v19) a + S1x1.size a ≤ S2x3.size a := fun v4 v19 k0_hw3 k0_h4 => k0_hw3.1 k0_h4
theorem k0_off9_inb : ∀ (v4 : BitVec 32) (v19 : BitVec 32) (k0_hw3 : k0_chk3 v4 v19), ∀ (k0_h4 : k0_cond4 v4 = 1#1), ∀ a, (k0_off9 v19) a + S1x2048x512.size a ≤ S2x2048x512.size a := fun v4 v19 k0_hw3 k0_h4 => k0_hw3.2.1 k0_h4
theorem k0_off11_inb : ∀ (v4 : BitVec 32) (v19 : BitVec 32) (k0_hw3 : k0_chk3 v4 v19), ∀ (k0_h4 : k0_cond4 v4 = 1#1), ∀ a, (k0_off11 v19) a + S1x1.size a ≤ S2x3.size a := fun v4 v19 k0_hw3 k0_h4 => k0_hw3.2.2.1 k0_h4
theorem k0_off12_inb : ∀ (v4 : BitVec 32) (v19 : BitVec 32) (k0_hw3 : k0_chk3 v4 v19), ∀ (k0_h4 : k0_cond4 v4 = 1#1), ∀ a, (k0_off12 v19) a + S1x2048x512.size a ≤ S2x2048x512.size a := fun v4 v19 k0_hw3 k0_h4 => k0_hw3.2.2.2.1 k0_h4
theorem k0_off13_inb : ∀ (v4 : BitVec 32) (v19 : BitVec 32) (k0_hw3 : k0_chk3 v4 v19), ∀ (k0_h4 : k0_cond4 v4 = 1#1), ∀ a, (k0_off13 v19) a + S1x1.size a ≤ S2x3.size a := fun v4 v19 k0_hw3 k0_h4 => k0_hw3.2.2.2.2.1 k0_h4
theorem k0_off14_inb : ∀ (v4 : BitVec 32) (v19 : BitVec 32) (k0_hw3 : k0_chk3 v4 v19), ∀ (k0_h4 : k0_cond4 v4 = 1#1), ∀ a, (k0_off14 v19) a + S1x512x2048.size a ≤ S2x512x2048.size a := fun v4 v19 k0_hw3 k0_h4 => k0_hw3.2.2.2.2.2.1 k0_h4
theorem k0_off16_inb : ∀ (v4 : BitVec 32) (v19 : BitVec 32) (k0_hw3 : k0_chk3 v4 v19), ∀ (k0_h4 : k0_cond4 v4 = 1#1), ∀ a, (k0_off16 v19) a + S1x2048x512.size a ≤ S2x2048x512.size a := fun v4 v19 k0_hw3 k0_h4 => k0_hw3.2.2.2.2.2.2.1 k0_h4
theorem k0_off17_inb : ∀ (v4 : BitVec 32) (v19 : BitVec 32) (k0_hw3 : k0_chk3 v4 v19), ∀ (k0_h4 : k0_cond4 v4 = 1#1), ∀ a, (k0_off17 v19) a + S1x512x2048.size a ≤ S2x512x2048.size a := fun v4 v19 k0_hw3 k0_h4 => k0_hw3.2.2.2.2.2.2.2 k0_h4

def k0_off18 (i : grid0.Coords) : Fin 2 → Nat :=
  let arg0 : BitVec 32 := BitVec.ofNat 32 (i 0).val
  let v71 : Index := Scalar.indexCast arg0
  let c5 : Index := 5#32
  ![v71.toNat, 5]
def k0_off19 (i : grid0.Coords) : Fin 2 → Nat :=
  let arg0 : BitVec 32 := BitVec.ofNat 32 (i 0).val
  let v76 : Index := Scalar.indexCast arg0
  let c5_40 : Index := 5#32
  ![v76.toNat, 5]
def k0_off20 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_41 : BitVec 32 := 0#32
  ![v29.toNat, 0]
def k0_cond5 (v72 : BitVec 32) : BitVec 1 :=
  let c32_i32 : BitVec 32 := 32#32
  let v73 : BitVec 1 := Scalar.cmpi .slt v72 c32_i32
  let v74 : BitVec 32 := Scalar.extui v73
  let c0_i32_39 : BitVec 32 := 0#32
  let v75 : BitVec 1 := Scalar.cmpi .ne v74 c0_i32_39
  v75

def k0_off21 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_42 : BitVec 32 := 0#32
  let c0_i32_43 : BitVec 32 := 0#32
  ![v29.toNat, 0, 0]
def k0_off22 (v77 : BitVec 32) : Fin 3 → Nat :=
  let c0_i32_44 : BitVec 32 := 0#32
  let c0_i32_45 : BitVec 32 := 0#32
  ![v77.toNat, 0, 0]

def k0_off23 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c1_i32_46 : BitVec 32 := 1#32
  ![v29.toNat, 1]
def k0_off24 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_47 : BitVec 32 := 0#32
  let c0_i32_48 : BitVec 32 := 0#32
  ![v29.toNat, 0, 0]
def k0_off25 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c2_i32_51 : BitVec 32 := 2#32
  ![v29.toNat, 2]
def k0_off26 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_52 : BitVec 32 := 0#32
  let c0_i32_53 : BitVec 32 := 0#32
  ![v29.toNat, 0, 0]

def k0_chk5 (v4 : BitVec 32) (v19 : BitVec 32) (v72 : BitVec 32) : Prop :=
  (∀ (k0_h4 : k0_cond4 v4 = 1#1), ∀ (k0_h5 : k0_cond5 v72 = 1#1), ∀ a, (k0_off20 v19) a + S1x1.size a ≤ S2x3.size a) ∧
  (∀ (k0_h4 : k0_cond4 v4 = 1#1), ∀ (k0_h5 : k0_cond5 v72 = 1#1), ∀ a, (k0_off21 v19) a + S1x2048x512.size a ≤ S2x2048x512.size a) ∧
  (∀ (k0_h4 : k0_cond4 v4 = 1#1), ∀ (k0_h5 : k0_cond5 v72 = 1#1), ∀ a, (k0_off23 v19) a + S1x1.size a ≤ S2x3.size a) ∧
  (∀ (k0_h4 : k0_cond4 v4 = 1#1), ∀ (k0_h5 : k0_cond5 v72 = 1#1), ∀ a, (k0_off24 v19) a + S1x2048x512.size a ≤ S2x2048x512.size a) ∧
  (∀ (k0_h4 : k0_cond4 v4 = 1#1), ∀ (k0_h5 : k0_cond5 v72 = 1#1), ∀ a, (k0_off25 v19) a + S1x1.size a ≤ S2x3.size a) ∧
  (∀ (k0_h4 : k0_cond4 v4 = 1#1), ∀ (k0_h5 : k0_cond5 v72 = 1#1), ∀ a, (k0_off26 v19) a + S1x512x2048.size a ≤ S2x512x2048.size a)
theorem k0_off20_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off20 v19) a + S1x1.size a ≤ S2x3.size a := fun v4 v19 v72 k0_hw5 k0_h4 k0_h5 => k0_hw5.1 k0_h4 k0_h5
theorem k0_off21_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off21 v19) a + S1x2048x512.size a ≤ S2x2048x512.size a := fun v4 v19 v72 k0_hw5 k0_h4 k0_h5 => k0_hw5.2.1 k0_h4 k0_h5
theorem k0_off23_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off23 v19) a + S1x1.size a ≤ S2x3.size a := fun v4 v19 v72 k0_hw5 k0_h4 k0_h5 => k0_hw5.2.2.1 k0_h4 k0_h5
theorem k0_off24_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off24 v19) a + S1x2048x512.size a ≤ S2x2048x512.size a := fun v4 v19 v72 k0_hw5 k0_h4 k0_h5 => k0_hw5.2.2.2.1 k0_h4 k0_h5
theorem k0_off25_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off25 v19) a + S1x1.size a ≤ S2x3.size a := fun v4 v19 v72 k0_hw5 k0_h4 k0_h5 => k0_hw5.2.2.2.2.1 k0_h4 k0_h5
theorem k0_off26_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off26 v19) a + S1x512x2048.size a ≤ S2x512x2048.size a := fun v4 v19 v72 k0_hw5 k0_h4 k0_h5 => k0_hw5.2.2.2.2.2 k0_h4 k0_h5

def k0_off27 (v77 : BitVec 32) : Fin 3 → Nat :=
  let c0_i32_54 : BitVec 32 := 0#32
  let c0_i32_55 : BitVec 32 := 0#32
  ![v77.toNat, 0, 0]

def k0_chk6 (v4 : BitVec 32) (v72 : BitVec 32) (v77 : BitVec 32) : Prop :=
  (∀ (k0_h4 : k0_cond4 v4 = 1#1), ∀ (k0_h5 : k0_cond5 v72 = 1#1), ∀ a, (k0_off22 v77) a + S1x2048x512.size a ≤ S32x2048x512.size a) ∧
  (∀ (k0_h4 : k0_cond4 v4 = 1#1), ∀ (k0_h5 : k0_cond5 v72 = 1#1), ∀ a, (k0_off27 v77) a + S1x512x2048.size a ≤ S32x512x2048.size a)
theorem k0_off22_inb : ∀ (v4 : BitVec 32) (v72 : BitVec 32) (v77 : BitVec 32) (k0_hw6 : k0_chk6 v4 v72 v77), ∀ (k0_h4 : k0_cond4 v4 = 1#1), ∀ (k0_h5 : k0_cond5 v72 = 1#1), ∀ a, (k0_off22 v77) a + S1x2048x512.size a ≤ S32x2048x512.size a := fun v4 v72 v77 k0_hw6 k0_h4 k0_h5 => k0_hw6.1 k0_h4 k0_h5
theorem k0_off27_inb : ∀ (v4 : BitVec 32) (v72 : BitVec 32) (v77 : BitVec 32) (k0_hw6 : k0_chk6 v4 v72 v77), ∀ (k0_h4 : k0_cond4 v4 = 1#1), ∀ (k0_h5 : k0_cond5 v72 = 1#1), ∀ a, (k0_off27 v77) a + S1x512x2048.size a ≤ S32x512x2048.size a := fun v4 v72 v77 k0_hw6 k0_h4 k0_h5 => k0_hw6.2 k0_h4 k0_h5

def k0_off28 (i : grid0.Coords) : Fin 2 → Nat :=
  let arg0 : BitVec 32 := BitVec.ofNat 32 (i 0).val
  let v8 : Index := Scalar.indexCast arg0
  let c1 : Index := 1#32
  ![v8.toNat, 1]
def k0_off29 (i : grid0.Coords) : Fin 2 → Nat :=
  let arg0 : BitVec 32 := BitVec.ofNat 32 (i 0).val
  let v13 : Index := Scalar.indexCast arg0
  let c1_5 : Index := 1#32
  ![v13.toNat, 1]
def k0_cond6 (v9 : BitVec 32) : BitVec 1 :=
  let c0_i32_3 : BitVec 32 := 0#32
  let v10 : BitVec 1 := Scalar.cmpi .sgt v9 c0_i32_3
  let v11 : BitVec 32 := Scalar.extui v10
  let c0_i32_4 : BitVec 32 := 0#32
  let v12 : BitVec 1 := Scalar.cmpi .ne v11 c0_i32_4
  v12

def k0_cond7 (v14 : BitVec 32) : BitVec 1 :=
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def cc0_transform_0 (inb_S128x128_S1x1_0_8 : ∀ a, (![0, 8] : Fin 2 → Nat) a + S1x1.size a ≤ S128x128.size a) (numel1_S1x1 : S1x1.numel = 1) (pf : pre0.Contents (Elt F)) (i : grid0.Coords) : Fin 2 → Nat :=
  let arg0 : BitVec 32 := BitVec.ofNat 32 (i 0).val
  let c0 : Index := 0#32
  let c8 : Index := 8#32
  let v0 : BitVec 32 := pf.at 0 (Rect.unit (s := S128x128) ![0, 8] S1x1.size inb_S128x128_S1x1_0_8) numel1_S1x1
  let v1 : BitVec 32 := Scalar.minsi arg0 v0
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== KernelIdeal.lean ====
abbrev S128x128 : Shape := ⟨2, ![128, 128]⟩
abbrev S196608x128 : Shape := ⟨2, ![196608, 128]⟩
abbrev S32x2048x512 : Shape := ⟨3, ![32, 2048, 512]⟩
abbrev S32x512x2048 : Shape := ⟨3, ![32, 512, 2048]⟩
abbrev S196608x2x128 : Shape := ⟨3, ![196608, 2, 128]⟩
abbrev S196608x1x128 : Shape := ⟨3, ![196608, 1, 128]⟩
abbrev S2048x128 : Shape := ⟨2, ![2048, 128]⟩
abbrev S1x1 : Shape := ⟨2, ![1, 1]⟩
abbrev S2048x2x128 : Shape := ⟨3, ![2048, 2, 128]⟩
abbrev S2048x1x128 : Shape := ⟨3, ![2048, 1, 128]⟩
abbrev S2048x512 : Shape := ⟨2, ![2048, 512]⟩
abbrev S512x2048 : Shape := ⟨2, ![512, 2048]⟩
abbrev S2x2048x512 : Shape := ⟨3, ![2, 2048, 512]⟩
abbrev S2x512x2048 : Shape := ⟨3, ![2, 512, 2048]⟩
abbrev S2x3 : Shape := ⟨2, ![2, 3]⟩
abbrev S_ : Shape := ⟨0, ![]⟩
abbrev S1x2048x512 : Shape := ⟨3, ![1, 2048, 512]⟩
abbrev S1x512x2048 : Shape := ⟨3, ![1, 512, 2048]⟩
abbrev S256x128 : Shape := ⟨2, ![256, 128]⟩
abbrev S256x1024 : Shape := ⟨2, ![256, 1024]⟩
abbrev S1024x512 : Shape := ⟨2, ![1024, 512]⟩
abbrev S256x512 : Shape := ⟨2, ![256, 512]⟩
abbrev S256x2048 : Shape := ⟨2, ![256, 2048]⟩
abbrev S256x2x128 : Shape := ⟨3, ![256, 2, 128]⟩
abbrev S256x1x128 : Shape := ⟨3, ![256, 1, 128]⟩
abbrev S2048x256 : Shape := ⟨2, ![2048, 256]⟩
abbrev S24576x2048 : Shape := ⟨2, ![24576, 2048]⟩
abbrev S512x1024 : Shape := ⟨2, ![512, 1024]⟩

abbrev nBuf : Space → Nat
  | .hbm => 6
  | .vmem => 14
  | .smem => 1
  | _ => 0

abbrev bufTy : (tb : Table) → Fin (tcTables nBuf tb) → BufTy
  | .hbm, ⟨0, _⟩ => ⟨S196608x128, .i32⟩
  | .hbm, ⟨1, _⟩ => ⟨S32x2048x512, .f32⟩
  | .hbm, ⟨2, _⟩ => ⟨S32x2048x512, .f32⟩
  | .hbm, ⟨3, _⟩ => ⟨S32x512x2048, .f32⟩
  | .hbm, ⟨4, _⟩ => ⟨S196608x2x128, .bf16⟩
  | .hbm, ⟨5, _⟩ => ⟨S24576x2048, .f32⟩
  | .local _ .vmem, ⟨0, _⟩ => ⟨S2048x128, .i32⟩
  | .local _ .vmem, ⟨1, _⟩ => ⟨S2048x128, .i32⟩
  | .local _ .vmem, ⟨2, _⟩ => ⟨S2048x2x128, .bf16⟩
  | .local _ .vmem, ⟨3, _⟩ => ⟨S2048x2x128, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S2x2048x512, .f32⟩
  | .local _ .vmem, ⟨8, _⟩ => ⟨S2x2048x512, .f32⟩
  | .local _ .vmem, ⟨9, _⟩ => ⟨S2x512x2048, .f32⟩
  | .local _ .vmem, ⟨10, _⟩ => ⟨S2048x2x128, .bf16⟩
  | .local _ .vmem, ⟨11, _⟩ => ⟨S2048x2x128, .bf16⟩
  | .local _ .vmem, ⟨12, _⟩ => ⟨S256x2048, .f32⟩
  | .local _ .vmem, ⟨13, _⟩ => ⟨S256x2048, .f32⟩
  | .local _ .smem, ⟨0, _⟩ => ⟨S128x128, .i32⟩
  | _, _ => ⟨S196608x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 10
abbrev cc1_sem0_1 : DmaSem sig := 11
abbrev cc1_sem1_0 : DmaSem sig := 12
abbrev cc1_sem1_1 : DmaSem sig := 13

abbrev nD : Nat := 1
abbrev τ : Topo := Topo.v7x

variable {F : FTy → Type} [FloatOps F]

abbrev grid0 : Pipeline.Grid := ⟨1, ![96], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v26 : BitVec 32) : Fin 3 → Nat :=
  let c0_i32_20 : BitVec 32 := 0#32
  let c0_i32_21 : BitVec 32 := 0#32
  ![v26.toNat, 0, 0]
def k0_cond2 (v18 : BitVec 32) : BitVec 1 :=
  let c32_i32 : BitVec 32 := 32#32
  let v19 : BitVec 1 := Scalar.cmpi .slt v18 c32_i32
  let v20 : BitVec 32 := Scalar.extui v19
  let c0_i32_9 : BitVec 32 := 0#32
  let v21 : BitVec 1 := Scalar.cmpi .ne v20 c0_i32_9
  v21

def k0_off2 (v26 : BitVec 32) : Fin 3 → Nat :=
  let c0_i32_32 : BitVec 32 := 0#32
  let c0_i32_33 : BitVec 32 := 0#32
  ![v26.toNat, 0, 0]

def k0_chk1 (i : grid0.Coords) (v18 : BitVec 32) (v26 : BitVec 32) : Prop :=
  (∀ (k0_h1 : k0_cond1 i = 1#1), ∀ (k0_h2 : k0_cond2 v18 = 1#1), ∀ a, (k0_off1 v26) a + S1x2048x512.size a ≤ S32x2048x512.size a) ∧
  (∀ (k0_h1 : k0_cond1 i = 1#1), ∀ (k0_h2 : k0_cond2 v18 = 1#1), ∀ a, (k0_off2 v26) a + S1x512x2048.size a ≤ S32x512x2048.size a)
theorem k0_off1_inb : ∀ (i : grid0.Coords) (v18 : BitVec 32) (v26 : BitVec 32) (k0_hw1 : k0_chk1 i v18 v26), ∀ (k0_h1 : k0_cond1 i = 1#1), ∀ (k0_h2 : k0_cond2 v18 = 1#1), ∀ a, (k0_off1 v26) a + S1x2048x512.size a ≤ S32x2048x512.size a := fun i v18 v26 k0_hw1 k0_h1 k0_h2 => k0_hw1.1 k0_h1 k0_h2
theorem k0_off2_inb : ∀ (i : grid0.Coords) (v18 : BitVec 32) (v26 : BitVec 32) (k0_hw1 : k0_chk1 i v18 v26), ∀ (k0_h1 : k0_cond1 i = 1#1), ∀ (k0_h2 : k0_cond2 v18 = 1#1), ∀ a, (k0_off2 v26) a + S1x512x2048.size a ≤ S32x512x2048.size a := fun i v18 v26 k0_hw1 k0_h1 k0_h2 => k0_hw1.2 k0_h1 k0_h2

def k0_off3 (v26 : BitVec 32) : Fin 3 → Nat :=
  let c0_i32_19 : BitVec 32 := 0#32
  let c0_i32_20 : BitVec 32 := 0#32
  ![v26.toNat, 0, 0]
def k0_cond3 (v22 : BitVec 32) : BitVec 1 :=
  let c32_i32_11 : BitVec 32 := 32#32
  let v23 : BitVec 1 := Scalar.cmpi .slt v22 c32_i32_11
  let v24 : BitVec 32 := Scalar.extui v23
  let c0_i32_12 : BitVec 32 := 0#32
  let v25 : BitVec 1 := Scalar.cmpi .ne v24 c0_i32_12
  v25

def k0_off4 (v26 : BitVec 32) : Fin 3 → Nat :=
  let c0_i32_32 : BitVec 32 := 0#32
  let c0_i32_33 : BitVec 32 := 0#32
  ![v26.toNat, 0, 0]

def k0_chk2 (i : grid0.Coords) (v22 : BitVec 32) (v26 : BitVec 32) : Prop :=
  (∀ (k0_h1 : k0_cond1 i = 1#1), ∀ (k0_h3 : k0_cond3 v22 = 1#1), ∀ a, (k0_off3 v26) a + S1x2048x512.size a ≤ S32x2048x512.size a) ∧
  (∀ (k0_h1 : k0_cond1 i = 1#1), ∀ (k0_h3 : k0_cond3 v22 = 1#1), ∀ a, (k0_off4 v26) a + S1x512x2048.size a ≤ S32x512x2048.size a)
theorem k0_off3_inb : ∀ (i : grid0.Coords) (v22 : BitVec 32) (v26 : BitVec 32) (k0_hw2 : k0_chk2 i v22 v26), ∀ (k0_h1 : k0_cond1 i = 1#1), ∀ (k0_h3 : k0_cond3 v22 = 1#1), ∀ a, (k0_off3 v26) a + S1x2048x512.size a ≤ S32x2048x512.size a := fun i v22 v26 k0_hw2 k0_h1 k0_h3 => k0_hw2.1 k0_h1 k0_h3
theorem k0_off4_inb : ∀ (i : grid0.Coords) (v22 : BitVec 32) (v26 : BitVec 32) (k0_hw2 : k0_chk2 i v22 v26), ∀ (k0_h1 : k0_cond1 i = 1#1), ∀ (k0_h3 : k0_cond3 v22 = 1#1), ∀ a, (k0_off4 v26) a + S1x512x2048.size a ≤ S32x512x2048.size a := fun i v22 v26 k0_hw2 k0_h1 k0_h3 => k0_hw2.2 k0_h1 k0_h3

def k0_off5 (i : grid0.Coords) : Fin 2 → Nat :=
  let arg0 : BitVec 32 := BitVec.ofNat 32 (i 0).val
  let v3 : Index := Scalar.indexCast arg0
  let c2 : Index := 2#32
  ![v3.toNat, 2]
def k0_off6 (i : grid0.Coords) : Fin 2 → Nat :=
  let arg0 : BitVec 32 := BitVec.ofNat 32 (i 0).val
  let v18 : Index := Scalar.indexCast arg0
  let c7 : Index := 7#32
  ![v18.toNat, 7]
def k0_off7 (i : grid0.Coords) : Fin 2 → Nat :=
  let arg0 : BitVec 32 := BitVec.ofNat 32 (i 0).val
  let v30 : Index := Scalar.indexCast arg0
  let c0 : Index := 0#32
  ![v30.toNat, 0]
def k0_off8 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_12 : BitVec 32 := 0#32
  ![v29.toNat, 0]
def k0_cond4 (v4 : BitVec 32) : BitVec 1 :=
  let c0_i32_1 : BitVec 32 := 0#32
  let v5 : BitVec 1 := Scalar.cmpi .sgt v4 c0_i32_1
  let v6 : BitVec 32 := Scalar.extui v5
  let c0_i32_2 : BitVec 32 := 0#32
  let v7 : BitVec 1 := Scalar.cmpi .ne v6 c0_i32_2
  v7

def k0_off9 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_13 : BitVec 32 := 0#32
  let c0_i32_14 : BitVec 32 := 0#32
  ![v29.toNat, 0, 0]
def k0_off10 (v31 : BitVec 32) : Fin 3 → Nat :=
  let c0_i32_15 : BitVec 32 := 0#32
  let c0_i32_16 : BitVec 32 := 0#32
  ![v31.toNat, 0, 0]

def k0_off11 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c1_i32_17 : BitVec 32 := 1#32
  ![v29.toNat, 1]
def k0_off12 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_18 : BitVec 32 := 0#32
  let c0_i32_19 : BitVec 32 := 0#32
  ![v29.toNat, 0, 0]
def k0_off13 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c2_i32_22 : BitVec 32 := 2#32
  ![v29.toNat, 2]
def k0_off14 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_23 : BitVec 32 := 0#32
  let c0_i32_24 : BitVec 32 := 0#32
  ![v29.toNat, 0, 0]
def k0_off15 (v31 : BitVec 32) : Fin 3 → Nat :=
  let c0_i32_25 : BitVec 32 := 0#32
  let c0_i32_26 : BitVec 32 := 0#32
  ![v31.toNat, 0, 0]

def k0_chk4 (v4 : BitVec 32) (v31 : BitVec 32) : Prop :=
  (∀ (k0_h4 : k0_cond4 v4 = 1#1), ∀ a, (k0_off10 v31) a + S1x2048x512.size a ≤ S32x2048x512.size a) ∧
  (∀ (k0_h4 : k0_cond4 v4 = 1#1), ∀ a, (k0_off15 v31) a + S1x512x2048.size a ≤ S32x512x2048.size a)
theorem k0_off10_inb : ∀ (v4 : BitVec 32) (v31 : BitVec 32) (k0_hw4 : k0_chk4 v4 v31), ∀ (k0_h4 : k0_cond4 v4 = 1#1), ∀ a, (k0_off10 v31) a + S1x2048x512.size a ≤ S32x2048x512.size a := fun v4 v31 k0_hw4 k0_h4 => k0_hw4.1 k0_h4
theorem k0_off15_inb : ∀ (v4 : BitVec 32) (v31 : BitVec 32) (k0_hw4 : k0_chk4 v4 v31), ∀ (k0_h4 : k0_cond4 v4 = 1#1), ∀ a, (k0_off15 v31) a + S1x512x2048.size a ≤ S32x512x2048.size a := fun v4 v31 k0_hw4 k0_h4 => k0_hw4.2 k0_h4

def k0_off16 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let v50 : Index := Scalar.indexCast v29
  let c0_27 : Index := 0#32
  let c0_28 : Index := 0#32
  ![v50.toNat, 0, 0]
def k0_off17 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let v64 : Index := Scalar.indexCast v29
  let c0_35 : Index := 0#32
  let c0_36 : Index := 0#32
  ![v64.toNat, 0, 0]

def k0_chk3 (v4 : BitVec 32) (v19 : BitVec 32) : Prop :=
  (∀ (k0_h4 : k0_cond4 v4 = 1#1), ∀ a, (k0_off8 v19) a + S1x1.size a ≤ S2x3.size a) ∧
  (∀ (k0_h4 : k0_cond4 v4 = 1#1), ∀ a, (k0_off9 v19) a + S1x2048x512.size a ≤ S2x2048x512.size a) ∧
  (∀ (k0_h4 : k0_cond4 v4 = 1#1), ∀ a, (k0_off11 v19) a + S1x1.size a ≤ S2x3.size a) ∧
  (∀ (k0_h4 : k0_cond4 v4 = 1#1), ∀ a, (k0_off12 v19) a + S1x2048x512.size a ≤ S2x2048x512.size a) ∧
  (∀ (k0_h4 : k0_cond4 v4 = 1#1), ∀ a, (k0_off13 v19) a + S1x1.size a ≤ S2x3.size a) ∧
  (∀ (k0_h4 : k0_cond4 v4 = 1#1), ∀ a, (k0_off14 v19) a + S1x512x2048.size a ≤ S2x512x2048.size a) ∧
  (∀ (k0_h4 : k0_cond4 v4 = 1#1), ∀ a, (k0_off16 v19) a + S1x2048x512.size a ≤ S2x2048x512.size a) ∧
  (∀ (k0_h4 : k0_cond4 v4 = 1#1), ∀ a, (k0_off17 v19) a + S1x512x2048.size a ≤ S2x512x2048.size a)
theorem k0_off8_inb : ∀ (v4 : BitVec 32) (v19 : BitVec 32) (k0_hw3 : k0_chk3 v4 v19), ∀ (k0_h4 : k0_cond4 v4 = 1#1), ∀ a, (k0_off8 v19) a + S1x1.size a ≤ S2x3.size a := fun v4 v19 k0_hw3 k0_h4 => k0_hw3.1 k0_h4
theorem k0_off9_inb : ∀ (v4 : BitVec 32) (v19 : BitVec 32) (k0_hw3 : k0_chk3 v4 v19), ∀ (k0_h4 : k0_cond4 v4 = 1#1), ∀ a, (k0_off9 v19) a + S1x2048x512.size a ≤ S2x2048x512.size a := fun v4 v19 k0_hw3 k0_h4 => k0_hw3.2.1 k0_h4
theorem k0_off11_inb : ∀ (v4 : BitVec 32) (v19 : BitVec 32) (k0_hw3 : k0_chk3 v4 v19), ∀ (k0_h4 : k0_cond4 v4 = 1#1), ∀ a, (k0_off11 v19) a + S1x1.size a ≤ S2x3.size a := fun v4 v19 k0_hw3 k0_h4 => k0_hw3.2.2.1 k0_h4
theorem k0_off12_inb : ∀ (v4 : BitVec 32) (v19 : BitVec 32) (k0_hw3 : k0_chk3 v4 v19), ∀ (k0_h4 : k0_cond4 v4 = 1#1), ∀ a, (k0_off12 v19) a + S1x2048x512.size a ≤ S2x2048x512.size a := fun v4 v19 k0_hw3 k0_h4 => k0_hw3.2.2.2.1 k0_h4
theorem k0_off13_inb : ∀ (v4 : BitVec 32) (v19 : BitVec 32) (k0_hw3 : k0_chk3 v4 v19), ∀ (k0_h4 : k0_cond4 v4 = 1#1), ∀ a, (k0_off13 v19) a + S1x1.size a ≤ S2x3.size a := fun v4 v19 k0_hw3 k0_h4 => k0_hw3.2.2.2.2.1 k0_h4
theorem k0_off14_inb : ∀ (v4 : BitVec 32) (v19 : BitVec 32) (k0_hw3 : k0_chk3 v4 v19), ∀ (k0_h4 : k0_cond4 v4 = 1#1), ∀ a, (k0_off14 v19) a + S1x512x2048.size a ≤ S2x512x2048.size a := fun v4 v19 k0_hw3 k0_h4 => k0_hw3.2.2.2.2.2.1 k0_h4
theorem k0_off16_inb : ∀ (v4 : BitVec 32) (v19 : BitVec 32) (k0_hw3 : k0_chk3 v4 v19), ∀ (k0_h4 : k0_cond4 v4 = 1#1), ∀ a, (k0_off16 v19) a + S1x2048x512.size a ≤ S2x2048x512.size a := fun v4 v19 k0_hw3 k0_h4 => k0_hw3.2.2.2.2.2.2.1 k0_h4
theorem k0_off17_inb : ∀ (v4 : BitVec 32) (v19 : BitVec 32) (k0_hw3 : k0_chk3 v4 v19), ∀ (k0_h4 : k0_cond4 v4 = 1#1), ∀ a, (k0_off17 v19) a + S1x512x2048.size a ≤ S2x512x2048.size a := fun v4 v19 k0_hw3 k0_h4 => k0_hw3.2.2.2.2.2.2.2 k0_h4

def k0_off18 (i : grid0.Coords) : Fin 2 → Nat :=
  let arg0 : BitVec 32 := BitVec.ofNat 32 (i 0).val
  let v71 : Index := Scalar.indexCast arg0
  let c5 : Index := 5#32
  ![v71.toNat, 5]
def k0_off19 (i : grid0.Coords) : Fin 2 → Nat :=
  let arg0 : BitVec 32 := BitVec.ofNat 32 (i 0).val
  let v76 : Index := Scalar.indexCast arg0
  let c5_40 : Index := 5#32
  ![v76.toNat, 5]
def k0_off20 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_41 : BitVec 32 := 0#32
  ![v29.toNat, 0]
def k0_cond5 (v72 : BitVec 32) : BitVec 1 :=
  let c32_i32 : BitVec 32 := 32#32
  let v73 : BitVec 1 := Scalar.cmpi .slt v72 c32_i32
  let v74 : BitVec 32 := Scalar.extui v73
  let c0_i32_39 : BitVec 32 := 0#32
  let v75 : BitVec 1 := Scalar.cmpi .ne v74 c0_i32_39
  v75

def k0_off21 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_42 : BitVec 32 := 0#32
  let c0_i32_43 : BitVec 32 := 0#32
  ![v29.toNat, 0, 0]
def k0_off22 (v77 : BitVec 32) : Fin 3 → Nat :=
  let c0_i32_44 : BitVec 32 := 0#32
  let c0_i32_45 : BitVec 32 := 0#32
  ![v77.toNat, 0, 0]

def k0_off23 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c1_i32_46 : BitVec 32 := 1#32
  ![v29.toNat, 1]
def k0_off24 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_47 : BitVec 32 := 0#32
  let c0_i32_48 : BitVec 32 := 0#32
  ![v29.toNat, 0, 0]
def k0_off25 (v19 : BitVec 32) : Fin 2 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c2_i32_51 : BitVec 32 := 2#32
  ![v29.toNat, 2]
def k0_off26 (v19 : BitVec 32) : Fin 3 → Nat :=
  let c2_i32 : BitVec 32 := 2#32
  let c0_i32_8 : BitVec 32 := 0#32
  let v20 : BitVec 1 := Scalar.cmpi .eq c2_i32 c0_i32_8
  let c1_i32 : BitVec 32 := 1#32
  let v21 : BitVec 32 := Scalar.select v20 c1_i32 c2_i32
  let v22 : BitVec 32 := Scalar.remsi v19 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c0_i32_52 : BitVec 32 := 0#32
  let c0_i32_53 : BitVec 32 := 0#32
  ![v29.toNat, 0, 0]

def k0_chk5 (v4 : BitVec 32) (v19 : BitVec 32) (v72 : BitVec 32) : Prop :=
  (∀ (k0_h4 : k0_cond4 v4 = 1#1), ∀ (k0_h5 : k0_cond5 v72 = 1#1), ∀ a, (k0_off20 v19) a + S1x1.size a ≤ S2x3.size a) ∧
  (∀ (k0_h4 : k0_cond4 v4 = 1#1), ∀ (k0_h5 : k0_cond5 v72 = 1#1), ∀ a, (k0_off21 v19) a + S1x2048x512.size a ≤ S2x2048x512.size a) ∧
  (∀ (k0_h4 : k0_cond4 v4 = 1#1), ∀ (k0_h5 : k0_cond5 v72 = 1#1), ∀ a, (k0_off23 v19) a + S1x1.size a ≤ S2x3.size a) ∧
  (∀ (k0_h4 : k0_cond4 v4 = 1#1), ∀ (k0_h5 : k0_cond5 v72 = 1#1), ∀ a, (k0_off24 v19) a + S1x2048x512.size a ≤ S2x2048x512.size a) ∧
  (∀ (k0_h4 : k0_cond4 v4 = 1#1), ∀ (k0_h5 : k0_cond5 v72 = 1#1), ∀ a, (k0_off25 v19) a + S1x1.size a ≤ S2x3.size a) ∧
  (∀ (k0_h4 : k0_cond4 v4 = 1#1), ∀ (k0_h5 : k0_cond5 v72 = 1#1), ∀ a, (k0_off26 v19) a + S1x512x2048.size a ≤ S2x512x2048.size a)
theorem k0_off20_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off20 v19) a + S1x1.size a ≤ S2x3.size a := fun v4 v19 v72 k0_hw5 k0_h4 k0_h5 => k0_hw5.1 k0_h4 k0_h5
theorem k0_off21_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off21 v19) a + S1x2048x512.size a ≤ S2x2048x512.size a := fun v4 v19 v72 k0_hw5 k0_h4 k0_h5 => k0_hw5.2.1 k0_h4 k0_h5
theorem k0_off23_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off23 v19) a + S1x1.size a ≤ S2x3.size a := fun v4 v19 v72 k0_hw5 k0_h4 k0_h5 => k0_hw5.2.2.1 k0_h4 k0_h5
theorem k0_off24_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off24 v19) a + S1x2048x512.size a ≤ S2x2048x512.size a := fun v4 v19 v72 k0_hw5 k0_h4 k0_h5 => k0_hw5.2.2.2.1 k0_h4 k0_h5
theorem k0_off25_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off25 v19) a + S1x1.size a ≤ S2x3.size a := fun v4 v19 v72 k0_hw5 k0_h4 k0_h5 => k0_hw5.2.2.2.2.1 k0_h4 k0_h5
theorem k0_off26_inb : ∀ (v4 : BitVec 32) (v19 : BitVec 32) (v72 : BitVec 32) (k0_hw5 : k0_chk5 v4 v19 v72), ∀ (k0_h4 : k0_cond4 v4 = 1#1), ∀ (k0_h5 : k0_cond5 v72 = 1#1), ∀ a, (k0_off26 v19) a + S1x512x2048.size a ≤ S2x512x2048.size a := fun v4 v19 v72 k0_hw5 k0_h4 k0_h5 => k0_hw5.2.2.2.2.2 k0_h4 k0_h5

def k0_off27 (v77 : BitVec 32) : Fin 3 → Nat :=
  let c0_i32_54 : BitVec 32 := 0#32
  let c0_i32_55 : BitVec 32 := 0#32
  ![v77.toNat, 0, 0]

def k0_chk6 (v4 : BitVec 32) (v72 : BitVec 32) (v77 : BitVec 32) : Prop :=
  (∀ (k0_h4 : k0_cond4 v4 = 1#1), ∀ (k0_h5 : k0_cond5 v72 = 1#1), ∀ a, (k0_off22 v77) a + S1x2048x512.size a ≤ S32x2048x512.size a) ∧
  (∀ (k0_h4 : k0_cond4 v4 = 1#1), ∀ (k0_h5 : k0_cond5 v72 = 1#1), ∀ a, (k0_off27 v77) a + S1x512x2048.size a ≤ S32x512x2048.size a)
theorem k0_off22_inb : ∀ (v4 : BitVec 32) (v72 : BitVec 32) (v77 : BitVec 32) (k0_hw6 : k0_chk6 v4 v72 v77), ∀ (k0_h4 : k0_cond4 v4 = 1#1), ∀ (k0_h5 : k0_cond5 v72 = 1#1), ∀ a, (k0_off22 v77) a + S1x2048x512.size a ≤ S32x2048x512.size a := fun v4 v72 v77 k0_hw6 k0_h4 k0_h5 => k0_hw6.1 k0_h4 k0_h5
theorem k0_off27_inb : ∀ (v4 : BitVec 32) (v72 : BitVec 32) (v77 : BitVec 32) (k0_hw6 : k0_chk6 v4 v72 v77), ∀ (k0_h4 : k0_cond4 v4 = 1#1), ∀ (k0_h5 : k0_cond5 v72 = 1#1), ∀ a, (k0_off27 v77) a + S1x512x2048.size a ≤ S32x512x2048.size a := fun v4 v72 v77 k0_hw6 k0_h4 k0_h5 => k0_hw6.2 k0_h4 k0_h5

def k0_off28 (i : grid0.Coords) : Fin 2 → Nat :=
  let arg0 : BitVec 32 := BitVec.ofNat 32 (i 0).val
  let v8 : Index := Scalar.indexCast arg0
  let c1 : Index := 1#32
  ![v8.toNat, 1]
def k0_off29 (i : grid0.Coords) : Fin 2 → Nat :=
  let arg0 : BitVec 32 := BitVec.ofNat 32 (i 0).val
  let v13 : Index := Scalar.indexCast arg0
  let c1_5 : Index := 1#32
  ![v13.toNat, 1]
def k0_cond6 (v9 : BitVec 32) : BitVec 1 :=
  let c0_i32_3 : BitVec 32 := 0#32
  let v10 : BitVec 1 := Scalar.cmpi .sgt v9 c0_i32_3
  let v11 : BitVec 32 := Scalar.extui v10
  let c0_i32_4 : BitVec 32 := 0#32
  let v12 : BitVec 1 := Scalar.cmpi .ne v11 c0_i32_4
  v12

def k0_cond7 (v14 : BitVec 32) : BitVec 1 :=
  let c0_i32_6 : BitVec 32 := 0#32
  let v15 : BitVec 1 := Scalar.cmpi .eq v14 c0_i32_6
  let v16 : BitVec 32 := Scalar.extui v15
  let c0_i32_7 : BitVec 32 := 0#32
  let v17 : BitVec 1 := Scalar.cmpi .ne v16 c0_i32_7
  v17

def cc0_transform_0 (inb_S128x128_S1x1_0_8 : ∀ a, (![0, 8] : Fin 2 → Nat) a + S1x1.size a ≤ S128x128.size a) (numel1_S1x1 : S1x1.numel = 1) (pf : pre0.Contents (Elt F)) (i : grid0.Coords) : Fin 2 → Nat :=
  let arg0 : BitVec 32 := BitVec.ofNat 32 (i 0).val
  let c0 : Index := 0#32
  let c8 : Index := 8#32
  let v0 : BitVec 32 := pf.at 0 (Rect.unit (s := S128x128) ![0, 8] S1x1.size inb_S128x128_S1x1_0_8) numel1_S1x1
  let v1 : BitVec 32 := Scalar.minsi arg0 v0
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![96], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x2x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S128x128 : Shape := ⟨2, ![128, 128]⟩
abbrev S196608x128 : Shape := ⟨2, ![196608, 128]⟩
abbrev S32x2048x512 : Shape := ⟨3, ![32, 2048, 512]⟩
abbrev S32x512x2048 : Shape := ⟨3, ![32, 512, 2048]⟩
abbrev S24576x1024 : Shape := ⟨2, ![24576, 1024]⟩
abbrev S_ : Shape := ⟨0, ![]⟩
abbrev S24576x2048 : Shape := ⟨2, ![24576, 2048]⟩
abbrev S96x1 : Shape := ⟨2, ![96, 1]⟩
abbrev S96x256 : Shape := ⟨2, ![96, 256]⟩
abbrev S24576 : Shape := ⟨1, ![24576]⟩
abbrev S32 : Shape := ⟨1, ![32]⟩
abbrev S32x1 : Shape := ⟨2, ![32, 1]⟩
abbrev S1x24576 : Shape := ⟨2, ![1, 24576]⟩
abbrev S32x24576 : Shape := ⟨2, ![32, 24576]⟩
abbrev S32x512x24576 : Shape := ⟨3, ![32, 512, 24576]⟩
abbrev S32x24576x512 : Shape := ⟨3, ![32, 24576, 512]⟩
abbrev S32x24576x2048 : Shape := ⟨3, ![32, 24576, 2048]⟩
abbrev S32x24576x1 : Shape := ⟨3, ![32, 24576, 1]⟩

abbrev nBuf : Space → Nat
  | .hbm => 54
  | .vmem => 0
  | .smem => 0
  | _ => 0

abbrev bufTy : (tb : Table) → Fin (tcTables nBuf tb) → BufTy
  | .hbm, ⟨0, _⟩ => ⟨S128x128, .i32⟩
  | .hbm, ⟨1, _⟩ => ⟨S196608x128, .i32⟩
  | .hbm, ⟨2, _⟩ => ⟨S32x2048x512, .f32⟩
  | .hbm, ⟨3, _⟩ => ⟨S32x2048x512, .f32⟩
  | .hbm, ⟨4, _⟩ => ⟨S32x512x2048, .f32⟩
  | .hbm, ⟨5, _⟩ => ⟨S24576x1024, .i32⟩
  | .hbm, ⟨6, _⟩ => ⟨S_, .i32⟩
  | .hbm, ⟨7, _⟩ => ⟨S24576x1024, .i32⟩
  | .hbm, ⟨8, _⟩ => ⟨S24576x1024, .i32⟩
  | .hbm, ⟨9, _⟩ => ⟨S24576x1024, .f32⟩
  | .hbm, ⟨10, _⟩ => ⟨S_, .i32⟩
  | .hbm, ⟨11, _⟩ => ⟨S24576x1024, .i32⟩
  | .hbm, ⟨12, _⟩ => ⟨S24576x1024, .i32⟩
  | .hbm, ⟨13, _⟩ => ⟨S24576x1024, .f32⟩
  | .hbm, ⟨14, _⟩ => ⟨S24576x2048, .f32⟩
  | .hbm, ⟨15, _⟩ => ⟨S96x1, .i32⟩
  | .hbm, ⟨16, _⟩ => ⟨S96x256, .i32⟩
  | .hbm, ⟨17, _⟩ => ⟨S24576, .i32⟩
  | .hbm, ⟨18, _⟩ => ⟨S96x1, .i32⟩
  | .hbm, ⟨19, _⟩ => ⟨S96x256, .i32⟩
  | .hbm, ⟨20, _⟩ => ⟨S24576, .i32⟩
  | .hbm, ⟨21, _⟩ => ⟨S32, .i32⟩
  | .hbm, ⟨22, _⟩ => ⟨S32x1, .i32⟩
  | .hbm, ⟨23, _⟩ => ⟨S1x24576, .i32⟩
  | .hbm, ⟨24, _⟩ => ⟨S32x24576, .i32⟩
  | .hbm, ⟨25, _⟩ => ⟨S32x24576, .i32⟩
  | .hbm, ⟨26, _⟩ => ⟨S32x24576, .i1⟩
  | .hbm, ⟨27, _⟩ => ⟨S1x24576, .i32⟩
  | .hbm, ⟨28, _⟩ => ⟨S_, .i32⟩
  | .hbm, ⟨29, _⟩ => ⟨S1x24576, .i32⟩
  | .hbm, ⟨30, _⟩ => ⟨S1x24576, .i1⟩
  | .hbm, ⟨31, _⟩ => ⟨S32x24576, .i1⟩
  | .hbm, ⟨32, _⟩ => ⟨S32x24576, .i1⟩
  | .hbm, ⟨33, _⟩ => ⟨S32x24576, .f32⟩
  | .hbm, ⟨34, _⟩ => ⟨S32x512x24576, .f32⟩
  | .hbm, ⟨35, _⟩ => ⟨S32x24576x512, .f32⟩
  | .hbm, ⟨36, _⟩ => ⟨S32x512x24576, .f32⟩
  | .hbm, ⟨37, _⟩ => ⟨S32x24576x512, .f32⟩
  | .hbm, ⟨38, _⟩ => ⟨S32x24576x512, .f32⟩
  | .hbm, ⟨39, _⟩ => ⟨S32x24576x512, .f32⟩
  | .hbm, ⟨40, _⟩ => ⟨S_, .f32⟩
  | .hbm, ⟨41, _⟩ => ⟨S32x24576x512, .f32⟩
  | .hbm, ⟨42, _⟩ => ⟨S32x24576x512, .f32⟩
  | .hbm, ⟨43, _⟩ => ⟨S_, .f32⟩
  | .hbm, ⟨44, _⟩ => ⟨S32x24576x512, .f32⟩
  | .hbm, ⟨45, _⟩ => ⟨S32x24576x512, .f32⟩
  | .hbm, ⟨46, _⟩ => ⟨S32x24576x512, .f32⟩
  | .hbm, ⟨47, _⟩ => ⟨S32x24576x512, .f32⟩
  | .hbm, ⟨48, _⟩ => ⟨S32x24576x2048, .f32⟩
  | .hbm, ⟨49, _⟩ => ⟨S32x24576x1, .f32⟩
  | .hbm, ⟨50, _⟩ => ⟨S32x24576x2048, .f32⟩
  | .hbm, ⟨51, _⟩ => ⟨S32x24576x2048, .f32⟩
  | .hbm, ⟨52, _⟩ => ⟨S_, .f32⟩
  | .hbm, ⟨53, _⟩ => ⟨S24576x2048, .f32⟩
  | _, _ => ⟨S128x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst : Ref sig .tc := ⟨.hbm, 52, rfl⟩
abbrev main_v36 : Ref sig .tc := ⟨.hbm, 53, rfl⟩

abbrev nD : Nat := 1
abbrev τ : Topo := Topo.v7x

variable {F : FTy → Type} [FloatOps F]
-- ==== Kernel2.lean ====
abbrev S4x2048x2048 : Shape := ⟨3, ![4, 2048, 2048]⟩
abbrev S4x12288 : Shape := ⟨2, ![4, 12288]⟩
abbrev S2048x3392 : Shape := ⟨2, ![2048, 3392]⟩
abbrev S768 : Shape := ⟨1, ![768]⟩
abbrev S512 : Shape := ⟨1, ![512]⟩
abbrev S1024 : Shape := ⟨1, ![1024]⟩
abbrev S8192x2048 : Shape := ⟨2, ![8192, 2048]⟩
abbrev S4x6x2048 : Shape := ⟨3, ![4, 6, 2048]⟩
abbrev S3392x2048 : Shape := ⟨2, ![3392, 2048]⟩
abbrev S1x768 : Shape := ⟨2, ![1, 768]⟩
abbrev S1x512 : Shape := ⟨2, ![1, 512]⟩
abbrev S1x1024 : Shape := ⟨2, ![1, 1024]⟩
abbrev S8192x768 : Shape := ⟨2, ![8192, 768]⟩
abbrev S8192x512 : Shape := ⟨2, ![8192, 512]⟩
abbrev S8192x128 : Shape := ⟨2, ![8192, 128]⟩
abbrev S8192x1024 : Shape := ⟨2, ![8192, 1024]⟩
abbrev S512x2048 : Shape := ⟨2, ![512, 2048]⟩
abbrev S1x6x2048 : Shape := ⟨3, ![1, 6, 2048]⟩
abbrev S512x768 : Shape := ⟨2, ![512, 768]⟩
abbrev S512x512 : Shape := ⟨2, ![512, 512]⟩
abbrev S512x128 : Shape := ⟨2, ![512, 128]⟩
abbrev S512x1024 : Shape := ⟨2, ![512, 1024]⟩
abbrev S1x1x2048 : Shape := ⟨3, ![1, 1, 2048]⟩
abbrev S1x2048 : Shape := ⟨2, ![1, 2048]⟩
abbrev S512x1 : Shape := ⟨2, ![512, 1]⟩
abbrev S768x2048 : Shape := ⟨2, ![768, 2048]⟩
abbrev S128x2048 : Shape := ⟨2, ![128, 2048]⟩
abbrev S2048x2048 : Shape := ⟨2, ![2048, 2048]⟩

abbrev nBuf : Space → Nat
  | .hbm => 20
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S4x12288, .f32⟩
  | .hbm, ⟨2, _⟩ => ⟨S2048x3392, .f32⟩
  | .hbm, ⟨3, _⟩ => ⟨S768, .f32⟩
  | .hbm, ⟨4, _⟩ => ⟨S512, .f32⟩
  | .hbm, ⟨5, _⟩ => ⟨S1024, .f32⟩
  | .hbm, ⟨6, _⟩ => ⟨S1024, .f32⟩
  | .hbm, ⟨7, _⟩ => ⟨S8192x2048, .f32⟩
  | .hbm, ⟨8, _⟩ => ⟨S4x6x2048, .f32⟩
  | .hbm, ⟨9, _⟩ => ⟨S3392x2048, .f32⟩
  | .hbm, ⟨10, _⟩ => ⟨S3392x2048, .bf16⟩
  | .hbm, ⟨11, _⟩ => ⟨S1x768, .f32⟩
  | .hbm, ⟨12, _⟩ => ⟨S1x512, .f32⟩
  | .hbm, ⟨13, _⟩ => ⟨S1x1024, .f32⟩
  | .hbm, ⟨14, _⟩ => ⟨S1x1024, .f32⟩
  | .hbm, ⟨15, _⟩ => ⟨S8192x768, .bf16⟩
  | .hbm, ⟨16, _⟩ => ⟨S8192x512, .bf16⟩
  | .hbm, ⟨17, _⟩ => ⟨S8192x128, .f32⟩
  | .hbm, ⟨18, _⟩ => ⟨S8192x1024, .f32⟩
  | .hbm, ⟨19, _⟩ => ⟨S8192x1024, .bf16⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S3392x2048, .bf16⟩
  | .local _ .vmem, ⟨5, _⟩ => ⟨S1x768, .f32⟩
  | .local _ .vmem, ⟨6, _⟩ => ⟨S1x512, .f32⟩
  | .local _ .vmem, ⟨7, _⟩ => ⟨S1x1024, .f32⟩
  | .local _ .vmem, ⟨8, _⟩ => ⟨S1x1024, .f32⟩
  | .local _ .vmem, ⟨9, _⟩ => ⟨S512x768, .bf16⟩
  | .local _ .vmem, ⟨10, _⟩ => ⟨S512x768, .bf16⟩
  | .local _ .vmem, ⟨11, _⟩ => ⟨S512x512, .bf16⟩
  | .local _ .vmem, ⟨12, _⟩ => ⟨S512x512, .bf16⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3392x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S4x2048x2048 : Shape := ⟨3, ![4, 2048, 2048]⟩
abbrev S4x12288 : Shape := ⟨2, ![4, 12288]⟩
abbrev S2048x3392 : Shape := ⟨2, ![2048, 3392]⟩
abbrev S768 : Shape := ⟨1, ![768]⟩
abbrev S512 : Shape := ⟨1, ![512]⟩
abbrev S1024 : Shape := ⟨1, ![1024]⟩
abbrev S4x2048 : Shape := ⟨2, ![4, 2048]⟩
abbrev S4x1x2048 : Shape := ⟨3, ![4, 1, 2048]⟩
abbrev S_ : Shape := ⟨0, ![]⟩
abbrev S4x2048x1 : Shape := ⟨3, ![4, 2048, 1]⟩
abbrev S4x2048x3392 : Shape := ⟨3, ![4, 2048, 3392]⟩
abbrev S4x2048x768 : Shape := ⟨3, ![4, 2048, 768]⟩
abbrev S1x1x768 : Shape := ⟨3, ![1, 1, 768]⟩
abbrev S4x2048x512 : Shape := ⟨3, ![4, 2048, 512]⟩
abbrev S1x1x512 : Shape := ⟨3, ![1, 1, 512]⟩
abbrev S4x2048x1024 : Shape := ⟨3, ![4, 2048, 1024]⟩
abbrev S1x1x1024 : Shape := ⟨3, ![1, 1, 1024]⟩
abbrev S8192x768 : Shape := ⟨2, ![8192, 768]⟩
abbrev S8192x512 : Shape := ⟨2, ![8192, 512]⟩
abbrev S4x2048x128 : Shape := ⟨3, ![4, 2048, 128]⟩
abbrev S8192x128 : Shape := ⟨2, ![8192, 128]⟩
abbrev S8192x1024 : Shape := ⟨2, ![8192, 1024]⟩

abbrev nBuf : Space → Nat
  | .hbm => 134
  | .vmem => 0
  | .smem => 0
  | _ => 0

abbrev hbmTy0_0 (i : Nat) : BufTy := match i % 128 with
  | 0 => ⟨S4x2048x2048, .f32⟩
  | 1 => ⟨S4x12288, .f32⟩
  | 2 => ⟨S2048x3392, .f32⟩
  | 3 => ⟨S768, .f32⟩
  | 4 => ⟨S512, .f32⟩
  | 5 => ⟨S1024, .f32⟩
  | 6 => ⟨S1024, .f32⟩
  | 7 => ⟨S4x2048, .f32⟩
  | 8 => ⟨S4x1x2048, .f32⟩
  | 9 => ⟨S4x2048, .f32⟩
  | 10 => ⟨S4x1x2048, .f32⟩
  | 11 => ⟨S_, .f32⟩
  | 12 => ⟨S4x2048, .f32⟩
  | 13 => ⟨S4x2048x1, .f32⟩
  | 14 => ⟨S_, .f32⟩
  | 15 => ⟨S4x2048x1, .f32⟩
  | 16 => ⟨S4x2048x1, .f32⟩
  | 17 => ⟨S4x2048x2048, .f32⟩
  | 18 => ⟨S4x2048x2048, .f32⟩
  | 19 => ⟨S4x2048x2048, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S4x2048x2048, .f32⟩
  | 27 => ⟨S4x2048x2048, .f32⟩
  | 28 => ⟨S_, .f32⟩
  | 29 => ⟨S4x2048x1, .f32⟩
  | 30 => ⟨S4x2048x1, .f32⟩
  | 31 => ⟨S4x2048x1, .f32⟩
  | 32 => ⟨S4x2048x2048, .f32⟩
  | 33 => ⟨S4x2048x2048, .f32⟩
  | 34 => ⟨S_, .f32⟩
  | 35 => ⟨S4x1x2048, .f32⟩
  | 36 => ⟨S4x1x2048, .f32⟩
  | 37 => ⟨S4x2048x2048, .f32⟩
  | 38 => ⟨S4x2048x2048, .f32⟩
  | 39 => ⟨S4x2048x2048, .f32⟩
  | 40 => ⟨S4x2048x2048, .f32⟩
  | 41 => ⟨S4x2048x3392, .f32⟩
  | 42 => ⟨S4x2048x768, .f32⟩
  | 43 => ⟨S4x2048x768, .f32⟩
  | 44 => ⟨S_, .f32⟩
  | 45 => ⟨S4x2048, .f32⟩
  | 46 => ⟨S4x2048x1, .f32⟩
  | 47 => ⟨S_, .f32⟩
  | 48 => ⟨S4x2048x1, .f32⟩
  | 49 => ⟨S4x2048x1, .f32⟩
  | 50 => ⟨S_, .f32⟩
  | 51 => ⟨S4x2048x1, .f32⟩
  | 52 => ⟨S4x2048x1, .f32⟩
  | 53 => ⟨S4x2048x1, .f32⟩
  | 54 => ⟨S4x2048x768, .f32⟩
  | 55 => ⟨S4x2048x768, .f32⟩
  | 56 => ⟨S1x1x768, .f32⟩
  | 57 => ⟨S4x2048x768, .f32⟩
  | 58 => ⟨S4x2048x768, .f32⟩
  | 59 => ⟨S4x2048x512, .f32⟩
  | 60 => ⟨S4x2048x512, .f32⟩
  | 61 => ⟨S_, .f32⟩
  | 62 => ⟨S4x2048, .f32⟩
  | 63 => ⟨S4x2048x1, .f32⟩
  | 64 => ⟨S_, .f32⟩
  | 65 => ⟨S4x2048x1, .f32⟩
  | 66 => ⟨S4x2048x1, .f32⟩
  | 67 => ⟨S_, .f32⟩
  | 68 => ⟨S4x2048x1, .f32⟩
  | 69 => ⟨S4x2048x1, .f32⟩
  | 70 => ⟨S4x2048x1, .f32⟩
  | 71 => ⟨S4x2048x512, .f32⟩
  | 72 => ⟨S4x2048x512, .f32⟩
  | 73 => ⟨S1x1x512, .f32⟩
  | 74 => ⟨S4x2048x512, .f32⟩
  | 75 => ⟨S4x2048x512, .f32⟩
  | 76 => ⟨S4x2048x2048, .f32⟩
  | 77 => ⟨S4x2048x2048, .f32⟩
  | 78 => ⟨S4x2048x2048, .f32⟩
  | 79 => ⟨S_, .f32⟩
  | 80 => ⟨S4x2048x2048, .f32⟩
  | 81 => ⟨S4x2048x2048, .f32⟩
  | 82 => ⟨S4x2048x2048, .f32⟩
  | 83 => ⟨S_, .f32⟩
  | 84 => ⟨S4x2048x2048, .f32⟩
  | 85 => ⟨S4x2048x2048, .f32⟩
  | 86 => ⟨S4x2048x2048, .f32⟩
  | 87 => ⟨S_, .f32⟩
  | 88 => ⟨S4x2048x2048, .f32⟩
  | 89 => ⟨S4x2048x2048, .f32⟩
  | 90 => ⟨S_, .f32⟩
  | 91 => ⟨S4x2048x2048, .f32⟩
  | 92 => ⟨S4x2048x2048, .f32⟩
  | 93 => ⟨S4x2048x2048, .f32⟩
  | 94 => ⟨S4x2048x1024, .f32⟩
  | 95 => ⟨S4x2048x1024, .f32⟩
  | 96 => ⟨S_, .f32⟩
  | 97 => ⟨S4x2048, .f32⟩
  | 98 => ⟨S4x2048x1, .f32⟩
  | 99 => ⟨S_, .f32⟩
  | 100 => ⟨S4x2048x1, .f32⟩
  | 101 => ⟨S4x2048x1, .f32⟩
  | 102 => ⟨S4x2048x1024, .f32⟩
  | 103 => ⟨S4x2048x1024, .f32⟩
  | 104 => ⟨S4x2048x1024, .f32⟩
  | 105 => ⟨S_, .f32⟩
  | 106 => ⟨S4x2048, .f32⟩
  | 107 => ⟨S4x2048x1, .f32⟩
  | 108 => ⟨S_, .f32⟩
  | 109 => ⟨S4x2048x1, .f32⟩
  | 110 => ⟨S4x2048x1, .f32⟩
  | 111 => ⟨S4x2048x1024, .f32⟩
  | 112 => ⟨S4x2048x1024, .f32⟩
  | 113 => ⟨S_, .f32⟩
  | 114 => ⟨S4x2048x1, .f32⟩
  | 115 => ⟨S4x2048x1, .f32⟩
  | 116 => ⟨S4x2048x1, .f32⟩
  | 117 => ⟨S4x2048x1024, .f32⟩
  | 118 => ⟨S4x2048x1024, .f32⟩
  | 119 => ⟨S1x1x1024, .f32⟩
  | 120 => ⟨S4x2048x1024, .f32⟩
  | 121 => ⟨S4x2048x1024, .f32⟩
  | 122 => ⟨S1x1x1024, .f32⟩
  | 123 => ⟨S4x2048x1024, .f32⟩
  | 124 => ⟨S4x2048x1024, .f32⟩
  | 125 => ⟨S8192x768, .f32⟩
  | 126 => ⟨S8192x768, .bf16⟩
  | 127 => ⟨S8192x512, .f32⟩
  | _ => ⟨S4x2048x2048, .f32⟩

abbrev hbmTy0_1 (i : Nat) : BufTy := match i % 128 with
  | 0 => ⟨S8192x512, .bf16⟩
  | 1 => ⟨S4x2048x128, .f32⟩
  | 2 => ⟨S8192x128, .f32⟩
  | 3 => ⟨S8192x1024, .f32⟩
  | 4 => ⟨S8192x1024, .f32⟩
  | 5 => ⟨S8192x1024, .bf16⟩
  | _ => ⟨S4x2048x2048, .f32⟩

abbrev hbmTy (i : Nat) : BufTy := match i / 128 with
  | 0 => hbmTy0_0 i
  | 1 => hbmTy0_1 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_cst_9 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_12 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_17 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_19 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩

abbrev nD : Nat := 1
abbrev τ : Topo := Topo.v7x

variable {F : FTy → Type} [FloatOps F]
-- ==== Kernel3.lean ====
abbrev S4x2048x8x192 : Shape := ⟨4, ![4, 2048, 8, 192]⟩
abbrev S4x2048x8x128 : Shape := ⟨4, ![4, 2048, 8, 128]⟩
abbrev S_ : Shape := ⟨0, ![]⟩
abbrev S4x8x2048x192 : Shape := ⟨4, ![4, 8, 2048, 192]⟩
abbrev S4x8x128x2048 : Shape := ⟨4, ![4, 8, 128, 2048]⟩
abbrev S4x2048x1024 : Shape := ⟨3, ![4, 2048, 1024]⟩
abbrev S1x4x1024x192 : Shape := ⟨4, ![1, 4, 1024, 192]⟩
abbrev S1x4x2048x192 : Shape := ⟨4, ![1, 4, 2048, 192]⟩
abbrev S1x4x128x2048 : Shape := ⟨4, ![1, 4, 128, 2048]⟩
abbrev S1x1024x512 : Shape := ⟨3, ![1, 1024, 512]⟩
abbrev S1x1024 : Shape := ⟨2, ![1, 1024]⟩
abbrev S128x1024 : Shape := ⟨2, ![128, 1024]⟩
abbrev S1x1x1024x192 : Shape := ⟨4, ![1, 1, 1024, 192]⟩
abbrev S1024x192 : Shape := ⟨2, ![1024, 192]⟩
abbrev S1x1x128x1024 : Shape := ⟨4, ![1, 1, 128, 1024]⟩
abbrev S1024x1024 : Shape := ⟨2, ![1024, 1024]⟩
abbrev S1024 : Shape := ⟨1, ![1024]⟩
abbrev S1024x128 : Shape := ⟨2, ![1024, 128]⟩
abbrev S1x1024x128 : Shape := ⟨3, ![1, 1024, 128]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x8x192, .f32⟩
  | .hbm, ⟨1, _⟩ => ⟨S4x2048x8x192, .f32⟩
  | .hbm, ⟨2, _⟩ => ⟨S4x2048x8x128, .f32⟩
  | .hbm, ⟨3, _⟩ => ⟨S_, .f32⟩
  | .hbm, ⟨4, _⟩ => ⟨S4x2048x8x192, .f32⟩
  | .hbm, ⟨5, _⟩ => ⟨S4x2048x8x192, .f32⟩
  | .hbm, ⟨6, _⟩ => ⟨S4x2048x8x192, .bf16⟩
  | .hbm, ⟨7, _⟩ => ⟨S4x8x2048x192, .bf16⟩
  | .hbm, ⟨8, _⟩ => ⟨S4x2048x8x192, .bf16⟩
  | .hbm, ⟨9, _⟩ => ⟨S4x8x2048x192, .bf16⟩
  | .hbm, ⟨10, _⟩ => ⟨S4x2048x8x128, .bf16⟩
  | .hbm, ⟨11, _⟩ => ⟨S4x8x128x2048, .bf16⟩
  | .hbm, ⟨12, _⟩ => ⟨S4x2048x1024, .bf16⟩
  | .local _ .vmem, ⟨0, _⟩ => ⟨S1x4x1024x192, .bf16⟩
  | .local _ .vmem, ⟨1, _⟩ => ⟨S1x4x1024x192, .bf16⟩
  | .local _ .vmem, ⟨2, _⟩ => ⟨S1x4x2048x192, .bf16⟩
  | .local _ .vmem, ⟨3, _⟩ => ⟨S1x4x2048x192, .bf16⟩
  | .local _ .vmem, ⟨4, _⟩ => ⟨S1x4x128x2048, .bf16⟩
  | .local _ .vmem, ⟨5, _⟩ => ⟨S1x4x128x2048, .bf16⟩
  | .local _ .vmem, ⟨6, _⟩ => ⟨S1x1024x512, .bf16⟩
  | .local _ .vmem, ⟨7, _⟩ => ⟨S1x1024x512, .bf16⟩
  | _, _ => ⟨S4x2048x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

@[reducible] def k0_t1_loop (i : grid0.Coords) : Scf.Loop 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_11 : BitVec 32 := 1#32
  ⟨c0_i32, v16, c1_i32_11⟩
def k0_mult1 (i : grid0.Coords) (k0_t1 : Fin (k0_t1_loop i).trips) : BitVec 32 :=
  let c0_i32 : BitVec 32 := 0#32
  let c1_i32_11 : BitVec 32 := 1#32
  let arg7 : BitVec 32 := Scf.iv c0_i32 c1_i32_11 k0_t1
  let c1024_i32_81 : BitVec 32 := 1024#32
  let v179 : BitVec 32 := Scalar.muli arg7 c1024_i32_81
  v179
def k0_off1 (i : grid0.Coords) (k0_t1 : Fin (k0_t1_loop i).trips) : Fin 4 → Nat :=
  let c0_82 : Index := 0#32
  let c0_83 : Index := 0#32
  let c0_i32 : BitVec 32 := 0#32
  let c1_i32_11 : BitVec 32 := 1#32
  let arg7 : BitVec 32 := Scf.iv c0_i32 c1_i32_11 k0_t1
  let c1024_i32_81 : BitVec 32 := 1024#32
  let v179 : BitVec 32 := Scalar.muli arg7 c1024_i32_81
  let v180 : BitVec 32 := v179
  let v181 : Index := Scalar.indexCast v180
  let c0_84 : Index := 0#32
  ![0, 0, v181.toNat, 0]
def k0_off2 (i : grid0.Coords) (k0_t1 : Fin (k0_t1_loop i).trips) : Fin 4 → Nat :=
  let c0_85 : Index := 0#32
  let c0_86 : Index := 0#32
  let c0_87 : Index := 0#32
  let c0_i32 : BitVec 32 := 0#32
  let c1_i32_11 : BitVec 32 := 1#32
  let arg7 : BitVec 32 := Scf.iv c0_i32 c1_i32_11 k0_t1
  let c1024_i32_81 : BitVec 32 := 1024#32
  let v179 : BitVec 32 := Scalar.muli arg7 c1024_i32_81
  let v180 : BitVec 32 := v179
  let v184 : Index := Scalar.indexCast v180
  ![0, 0, 0, v184.toNat]
def k0_mult2 (i : grid0.Coords) (k0_t1 : Fin (k0_t1_loop i).trips) : BitVec 32 :=
  let c0_i32 : BitVec 32 := 0#32
  let c1_i32_11 : BitVec 32 := 1#32
  let arg7 : BitVec 32 := Scf.iv c0_i32 c1_i32_11 k0_t1
  let c1024_i32_96 : BitVec 32 := 1024#32
  let v207 : BitVec 32 := Scalar.muli arg7 c1024_i32_96
  v207
def k0_off3 (i : grid0.Coords) (k0_t1 : Fin (k0_t1_loop i).trips) : Fin 4 → Nat :=
  let c0_97 : Index := 0#32
  let c1_98 : Index := 1#32
  let c0_i32 : BitVec 32 := 0#32
  let c1_i32_11 : BitVec 32 := 1#32
  let arg7 : BitVec 32 := Scf.iv c0_i32 c1_i32_11 k0_t1
  let c1024_i32_96 : BitVec 32 := 1024#32
  let v207 : BitVec 32 := Scalar.muli arg7 c1024_i32_96
  let v208 : BitVec 32 := v207
  let v209 : Index := Scalar.indexCast v208
  let c0_99 : Index := 0#32
  ![0, 1, v209.toNat, 0]
def k0_off4 (i : grid0.Coords) (k0_t1 : Fin (k0_t1_loop i).trips) : Fin 4 → Nat :=
  let c0_100 : Index := 0#32
  let c1_101 : Index := 1#32
  let c0_102 : Index := 0#32
  let c0_i32 : BitVec 32 := 0#32
  let c1_i32_11 : BitVec 32 := 1#32
  let arg7 : BitVec 32 := Scf.iv c0_i32 c1_i32_11 k0_t1
  let c1024_i32_96 : BitVec 32 := 1024#32
  let v207 : BitVec 32 := Scalar.muli arg7 c1024_i32_96
  let v208 : BitVec 32 := v207
  let v212 : Index := Scalar.indexCast v208
  ![0, 1, 0, v212.toNat]
def k0_mult3 (i : grid0.Coords) (k0_t1 : Fin (k0_t1_loop i).trips) : BitVec 32 :=
  let c0_i32 : BitVec 32 := 0#32
  let c1_i32_11 : BitVec 32 := 1#32
  let arg7 : BitVec 32 := Scf.iv c0_i32 c1_i32_11 k0_t1
  let c1024_i32_111 : BitVec 32 := 1024#32
  let v235 : BitVec 32 := Scalar.muli arg7 c1024_i32_111
  v235
def k0_off5 (i : grid0.Coords) (k0_t1 : Fin (k0_t1_loop i).trips) : Fin 4 → Nat :=
  let c0_112 : Index := 0#32
  let c2_113 : Index := 2#32
  let c0_i32 : BitVec 32 := 0#32
  let c1_i32_11 : BitVec 32 := 1#32
  let arg7 : BitVec 32 := Scf.iv c0_i32 c1_i32_11 k0_t1
  let c1024_i32_111 : BitVec 32 := 1024#32
  let v235 : BitVec 32 := Scalar.muli arg7 c1024_i32_111
  let v236 : BitVec 32 := v235
  let v237 : Index := Scalar.indexCast v236
  let c0_114 : Index := 0#32
  ![0, 2, v237.toNat, 0]
def k0_off6 (i : grid0.Coords) (k0_t1 : Fin (k0_t1_loop i).trips) : Fin 4 → Nat :=
  let c0_115 : Index := 0#32
  let c2_116 : Index := 2#32
  let c0_117 : Index := 0#32
  let c0_i32 : BitVec 32 := 0#32
  let c1_i32_11 : BitVec 32 := 1#32
  let arg7 : BitVec 32 := Scf.iv c0_i32 c1_i32_11 k0_t1
  let c1024_i32_111 : BitVec 32 := 1024#32
  let v235 : BitVec 32 := Scalar.muli arg7 c1024_i32_111
  let v236 : BitVec 32 := v235
  let v240 : Index := Scalar.indexCast v236
  ![0, 2, 0, v240.toNat]
def k0_mult4 (i : grid0.Coords) (k0_t1 : Fin (k0_t1_loop i).trips) : BitVec 32 :=
  let c0_i32 : BitVec 32 := 0#32
  let c1_i32_11 : BitVec 32 := 1#32
  let arg7 : BitVec 32 := Scf.iv c0_i32 c1_i32_11 k0_t1
  let c1024_i32_126 : BitVec 32 := 1024#32
  let v263 : BitVec 32 := Scalar.muli arg7 c1024_i32_126
  v263
def k0_off7 (i : grid0.Coords) (k0_t1 : Fin (k0_t1_loop i).trips) : Fin 4 → Nat :=
  let c0_127 : Index := 0#32
  let c3_128 : Index := 3#32
  let c0_i32 : BitVec 32 := 0#32
  let c1_i32_11 : BitVec 32 := 1#32
  let arg7 : BitVec 32 := Scf.iv c0_i32 c1_i32_11 k0_t1
  let c1024_i32_126 : BitVec 32 := 1024#32
  let v263 : BitVec 32 := Scalar.muli arg7 c1024_i32_126
  let v264 : BitVec 32 := v263
  let v265 : Index := Scalar.indexCast v264
  let c0_129 : Index := 0#32
  ![0, 3, v265.toNat, 0]
def k0_off8 (i : grid0.Coords) (k0_t1 : Fin (k0_t1_loop i).trips) : Fin 4 → Nat :=
  let c0_130 : Index := 0#32
  let c3_131 : Index := 3#32
  let c0_132 : Index := 0#32
  let c0_i32 : BitVec 32 := 0#32
  let c1_i32_11 : BitVec 32 := 1#32
  let arg7 : BitVec 32 := Scf.iv c0_i32 c1_i32_11 k0_t1
  let c1024_i32_126 : BitVec 32 := 1024#32
  let v263 : BitVec 32 := Scalar.muli arg7 c1024_i32_126
  let v264 : BitVec 32 := v263
  let v268 : Index := Scalar.indexCast v264
  ![0, 3, 0, v268.toNat]
@[reducible] def k0_t2_loop (i : grid0.Coords) : Scf.Loop 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let v13 : BitVec 32 := Scalar.addi c0_i32 v12
  let c1_i32_12 : BitVec 32 := 1#32
  ⟨v16, v13, c1_i32_12⟩
def k0_mult5 (i : grid0.Coords) (k0_t2 : Fin (k0_t2_loop i).trips) : BitVec 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_81 : BitVec 32 := 1024#32
  let v179 : BitVec 32 := Scalar.muli arg7 c1024_i32_81
  v179
def k0_off9 (i : grid0.Coords) (k0_t2 : Fin (k0_t2_loop i).trips) : Fin 4 → Nat :=
  let c0_82 : Index := 0#32
  let c0_83 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_81 : BitVec 32 := 1024#32
  let v179 : BitVec 32 := Scalar.muli arg7 c1024_i32_81
  let v180 : BitVec 32 := v179
  let v181 : Index := Scalar.indexCast v180
  let c0_84 : Index := 0#32
  ![0, 0, v181.toNat, 0]
def k0_off10 (i : grid0.Coords) (k0_t2 : Fin (k0_t2_loop i).trips) : Fin 4 → Nat :=
  let c0_85 : Index := 0#32
  let c0_86 : Index := 0#32
  let c0_87 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_81 : BitVec 32 := 1024#32
  let v179 : BitVec 32 := Scalar.muli arg7 c1024_i32_81
  let v180 : BitVec 32 := v179
  let v184 : Index := Scalar.indexCast v180
  ![0, 0, 0, v184.toNat]
def k0_mult6 (i : grid0.Coords) (k0_t2 : Fin (k0_t2_loop i).trips) : BitVec 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_96 : BitVec 32 := 1024#32
  let v207 : BitVec 32 := Scalar.muli arg7 c1024_i32_96
  v207
def k0_off11 (i : grid0.Coords) (k0_t2 : Fin (k0_t2_loop i).trips) : Fin 4 → Nat :=
  let c0_97 : Index := 0#32
  let c1_98 : Index := 1#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_96 : BitVec 32 := 1024#32
  let v207 : BitVec 32 := Scalar.muli arg7 c1024_i32_96
  let v208 : BitVec 32 := v207
  let v209 : Index := Scalar.indexCast v208
  let c0_99 : Index := 0#32
  ![0, 1, v209.toNat, 0]
def k0_off12 (i : grid0.Coords) (k0_t2 : Fin (k0_t2_loop i).trips) : Fin 4 → Nat :=
  let c0_100 : Index := 0#32
  let c1_101 : Index := 1#32
  let c0_102 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_96 : BitVec 32 := 1024#32
  let v207 : BitVec 32 := Scalar.muli arg7 c1024_i32_96
  let v208 : BitVec 32 := v207
  let v212 : Index := Scalar.indexCast v208
  ![0, 1, 0, v212.toNat]
def k0_mult7 (i : grid0.Coords) (k0_t2 : Fin (k0_t2_loop i).trips) : BitVec 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_111 : BitVec 32 := 1024#32
  let v235 : BitVec 32 := Scalar.muli arg7 c1024_i32_111
  v235
def k0_off13 (i : grid0.Coords) (k0_t2 : Fin (k0_t2_loop i).trips) : Fin 4 → Nat :=
  let c0_112 : Index := 0#32
  let c2_113 : Index := 2#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_111 : BitVec 32 := 1024#32
  let v235 : BitVec 32 := Scalar.muli arg7 c1024_i32_111
  let v236 : BitVec 32 := v235
  let v237 : Index := Scalar.indexCast v236
  let c0_114 : Index := 0#32
  ![0, 2, v237.toNat, 0]
def k0_off14 (i : grid0.Coords) (k0_t2 : Fin (k0_t2_loop i).trips) : Fin 4 → Nat :=
  let c0_115 : Index := 0#32
  let c2_116 : Index := 2#32
  let c0_117 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_111 : BitVec 32 := 1024#32
  let v235 : BitVec 32 := Scalar.muli arg7 c1024_i32_111
  let v236 : BitVec 32 := v235
  let v240 : Index := Scalar.indexCast v236
  ![0, 2, 0, v240.toNat]
def k0_mult8 (i : grid0.Coords) (k0_t2 : Fin (k0_t2_loop i).trips) : BitVec 32 :=
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_126 : BitVec 32 := 1024#32
  let v263 : BitVec 32 := Scalar.muli arg7 c1024_i32_126
  v263
def k0_off15 (i : grid0.Coords) (k0_t2 : Fin (k0_t2_loop i).trips) : Fin 4 → Nat :=
  let c0_127 : Index := 0#32
  let c3_128 : Index := 3#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_126 : BitVec 32 := 1024#32
  let v263 : BitVec 32 := Scalar.muli arg7 c1024_i32_126
  let v264 : BitVec 32 := v263
  let v265 : Index := Scalar.indexCast v264
  let c0_129 : Index := 0#32
  ![0, 3, v265.toNat, 0]
def k0_off16 (i : grid0.Coords) (k0_t2 : Fin (k0_t2_loop i).trips) : Fin 4 → Nat :=
  let c0_130 : Index := 0#32
  let c3_131 : Index := 3#32
  let c0_132 : Index := 0#32
  let c0_i32 : BitVec 32 := 0#32
  let arg2 : BitVec 32 := BitVec.ofNat 32 (i 2).val
  let v12 : BitVec 32 := Scalar.subi arg2 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_12 : BitVec 32 := 1#32
  let arg7 : BitVec 32 := Scf.iv v16 c1_i32_12 k0_t2
  let c1024_i32_126 : BitVec 32 := 1024#32
  let v263 : BitVec 32 := Scalar.muli arg7 c1024_i32_126
  let v264 : BitVec 32 := v263
  let v268 : Index := Scalar.indexCast v264
  ![0, 3, 0, v268.toNat]
def k0_mult9 (i : grid0.Coords) : BitVec 32 :=
  let arg2 : BitVec 32 := BitVec.ofNat 32 (i 2).val
  let c1024_i32 : BitVec 32 := 1024#32
  let v19 : BitVec 32 := Scalar.muli arg2 c1024_i32
  v19
def k0_off17 (i : grid0.Coords) : Fin 4 → Nat :=
  let c0 : Index := 0#32
  let c0_13 : Index := 0#32
  let arg2 : BitVec 32 := BitVec.ofNat 32 (i 2).val
  let c1024_i32 : BitVec 32 := 1024#32
  let v19 : BitVec 32 := Scalar.muli arg2 c1024_i32
  let v20 : BitVec 32 := v19
  let v21 : Index := Scalar.indexCast v20
  let c0_14 : Index := 0#32
  ![0, 0, v21.toNat, 0]
def k0_off18 (i : grid0.Coords) : Fin 4 → Nat :=
  let c0_15 : Index := 0#32
  let c0_16 : Index := 0#32
  let c0_17 : Index := 0#32
  let arg2 : BitVec 32 := BitVec.ofNat 32 (i 2).val
  let c1024_i32 : BitVec 32 := 1024#32
  let v19 : BitVec 32 := Scalar.muli arg2 c1024_i32
  let v20 : BitVec 32 := v19
  let v24 : Index := Scalar.indexCast v20
  ![0, 0, 0, v24.toNat]
def k0_mult10 (i : grid0.Coords) : BitVec 32 :=
  let arg2 : BitVec 32 := BitVec.ofNat 32 (i 2).val
  let c1024_i32_27 : BitVec 32 := 1024#32
  let v52 : BitVec 32 := Scalar.muli arg2 c1024_i32_27
  v52
def k0_off19 (i : grid0.Coords) : Fin 4 → Nat :=
  let c0_28 : Index := 0#32
  let c1 : Index := 1#32
  let arg2 : BitVec 32 := BitVec.ofNat 32 (i 2).val
  let c1024_i32_27 : BitVec 32 := 1024#32
  let v52 : BitVec 32 := Scalar.muli arg2 c1024_i32_27
  let v53 : BitVec 32 := v52
  let v54 : Index := Scalar.indexCast v53
  let c0_29 : Index := 0#32
  ![0, 1, v54.toNat, 0]
def k0_off20 (i : grid0.Coords) : Fin 4 → Nat :=
  let c0_30 : Index := 0#32
  let c1_31 : Index := 1#32
  let c0_32 : Index := 0#32
  let arg2 : BitVec 32 := BitVec.ofNat 32 (i 2).val
  let c1024_i32_27 : BitVec 32 := 1024#32
  let v52 : BitVec 32 := Scalar.muli arg2 c1024_i32_27
  let v53 : BitVec 32 := v52
  let v57 : Index := Scalar.indexCast v53
  ![0, 1, 0, v57.toNat]
def k0_mult11 (i : grid0.Coords) : BitVec 32 :=
  let arg2 : BitVec 32 := BitVec.ofNat 32 (i 2).val
  let c1024_i32_42 : BitVec 32 := 1024#32
  let v85 : BitVec 32 := Scalar.muli arg2 c1024_i32_42
  v85
def k0_off21 (i : grid0.Coords) : Fin 4 → Nat :=
  let c0_43 : Index := 0#32
  let c2 : Index := 2#32
  let arg2 : BitVec 32 := BitVec.ofNat 32 (i 2).val
  let c1024_i32_42 : BitVec 32 := 1024#32
  let v85 : BitVec 32 := Scalar.muli arg2 c1024_i32_42
  let v86 : BitVec 32 := v85
  let v87 : Index := Scalar.indexCast v86
  let c0_44 : Index := 0#32
  ![0, 2, v87.toNat, 0]
def k0_off22 (i : grid0.Coords) : Fin 4 → Nat :=
  let c0_45 : Index := 0#32
  let c2_46 : Index := 2#32
  let c0_47 : Index := 0#32
  let arg2 : BitVec 32 := BitVec.ofNat 32 (i 2).val
  let c1024_i32_42 : BitVec 32 := 1024#32
  let v85 : BitVec 32 := Scalar.muli arg2 c1024_i32_42
  let v86 : BitVec 32 := v85
  let v90 : Index := Scalar.indexCast v86
  ![0, 2, 0, v90.toNat]
def k0_mult12 (i : grid0.Coords) : BitVec 32 :=
  let arg2 : BitVec 32 := BitVec.ofNat 32 (i 2).val
  let c1024_i32_57 : BitVec 32 := 1024#32
  let v118 : BitVec 32 := Scalar.muli arg2 c1024_i32_57
  v118
def k0_off23 (i : grid0.Coords) : Fin 4 → Nat :=
  let c0_58 : Index := 0#32
  let c3 : Index := 3#32
  let arg2 : BitVec 32 := BitVec.ofNat 32 (i 2).val
  let c1024_i32_57 : BitVec 32 := 1024#32
  let v118 : BitVec 32 := Scalar.muli arg2 c1024_i32_57
  let v119 : BitVec 32 := v118
  let v120 : Index := Scalar.indexCast v119
  let c0_59 : Index := 0#32
  ![0, 3, v120.toNat, 0]
def k0_off24 (i : grid0.Coords) : Fin 4 → Nat :=
  let c0_60 : Index := 0#32
  let c3_61 : Index := 3#32
  let c0_62 : Index := 0#32
  let arg2 : BitVec 32 := BitVec.ofNat 32 (i 2).val
  let c1024_i32_57 : BitVec 32 := 1024#32
  let v118 : BitVec 32 := Scalar.muli arg2 c1024_i32_57
  let v119 : BitVec 32 := v118
  let v123 : Index := Scalar.indexCast v119
  ![0, 3, 0, v123.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Kernel3Ideal.lean ====
variable {F : FTy → Type} [FloatOps F] [Named F]
def κ : String → Option EReal := fun
  | "mask" => some ⊥
  | _ => none
-- ==== Reference3Ideal.lean ====
abbrev S4x2048x8x192 : Shape := ⟨4, ![4, 2048, 8, 192]⟩
abbrev S4x2048x8x128 : Shape := ⟨4, ![4, 2048, 8, 128]⟩
abbrev S4x8x2048x2048 : Shape := ⟨4, ![4, 8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩
abbrev S4x2048x1024 : Shape := ⟨3, ![4, 2048, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x8x192, .f32⟩
  | .hbm, ⟨1, _⟩ => ⟨S4x2048x8x192, .f32⟩
  | .hbm, ⟨2, _⟩ => ⟨S4x2048x8x128, .f32⟩
  | .hbm, ⟨3, _⟩ => ⟨S4x8x2048x2048, .f32⟩
  | .hbm, ⟨4, _⟩ => ⟨S_, .f32⟩
  | .hbm, ⟨5, _⟩ => ⟨S4x8x2048x2048, .f32⟩
  | .hbm, ⟨6, _⟩ => ⟨S4x8x2048x2048, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S_, .f32⟩
  | .hbm, ⟨14, _⟩ => ⟨S_, .f32⟩
  | .hbm, ⟨15, _⟩ => ⟨S4x8x2048x2048, .i1⟩
  | .hbm, ⟨16, _⟩ => ⟨S4x8x2048x2048, .f32⟩
  | .hbm, ⟨17, _⟩ => ⟨S4x8x2048x2048, .f32⟩
  | .hbm, ⟨18, _⟩ => ⟨S_, .f32⟩
  | .hbm, ⟨19, _⟩ => ⟨S4x8x2048, .f32⟩
  | .hbm, ⟨20, _⟩ => ⟨S_, .f32⟩
  | .hbm, ⟨21, _⟩ => ⟨S4x8x2048, .f32⟩
  | .hbm, ⟨22, _⟩ => ⟨S4x8x2048, .f32⟩
  | .hbm, ⟨23, _⟩ => ⟨S4x8x2048x1, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S_, .f32⟩
  | .hbm, ⟨28, _⟩ => ⟨S4x8x2048, .f32⟩
  | .hbm, ⟨29, _⟩ => ⟨S4x8x2048x1, .f32⟩
  | .hbm, ⟨30, _⟩ => ⟨S4x8x2048x2048, .f32⟩
  | .hbm, ⟨31, _⟩ => ⟨S4x8x2048x2048, .f32⟩
  | .hbm, ⟨32, _⟩ => ⟨S4x8x128x2048, .f32⟩
  | .hbm, ⟨33, _⟩ => ⟨S4x2048x8x128, .f32⟩
  | .hbm, ⟨34, _⟩ => ⟨S4x2048x1024, .f32⟩
  | .hbm, ⟨35, _⟩ => ⟨S4x2048x1024, .bf16⟩
  | _, _ => ⟨S4x2048x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel4.lean ====
abbrev S8192x768 : Shape := ⟨2, ![8192, 768]⟩
abbrev S8192x512 : Shape := ⟨2, ![8192, 512]⟩
abbrev S8192x128 : Shape := ⟨2, ![8192, 128]⟩
abbrev S4x2048 : Shape := ⟨2, ![4, 2048]⟩
abbrev S768x1536 : Shape := ⟨2, ![768, 1536]⟩
abbrev S512x2048 : Shape := ⟨2, ![512, 2048]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S768x8x192 : Shape := ⟨3, ![768, 8, 192]⟩
abbrev S768x8x128 : Shape := ⟨3, ![768, 8, 128]⟩
abbrev S768x1024 : Shape := ⟨2, ![768, 1024]⟩
abbrev S768x8x64 : Shape := ⟨3, ![768, 8, 64]⟩
abbrev S768x512 : Shape := ⟨2, ![768, 512]⟩
abbrev S512x8x2x128 : Shape := ⟨4, ![512, 8, 2, 128]⟩
abbrev S512x2x8x128 : Shape := ⟨4, ![512, 2, 8, 128]⟩
abbrev S8192x1 : Shape := ⟨2, ![8192, 1]⟩
abbrev S4x8x2048x192 : Shape := ⟨4, ![4, 8, 2048, 192]⟩
abbrev S4x8x128x2048 : Shape := ⟨4, ![4, 8, 128, 2048]⟩
abbrev S1024x768 : Shape := ⟨2, ![1024, 768]⟩
abbrev S1024x512 : Shape := ⟨2, ![1024, 512]⟩
abbrev S1024x128 : Shape := ⟨2, ![1024, 128]⟩
abbrev S1024x1 : Shape := ⟨2, ![1024, 1]⟩
abbrev S1x8x1024x192 : Shape := ⟨4, ![1, 8, 1024, 192]⟩
abbrev S1x8x128x1024 : Shape := ⟨4, ![1, 8, 128, 1024]⟩
abbrev S1024x1536 : Shape := ⟨2, ![1024, 1536]⟩
abbrev S1024x2048 : Shape := ⟨2, ![1024, 2048]⟩
abbrev S1024x64 : Shape := ⟨2, ![1024, 64]⟩
abbrev S1x1x1024x128 : Shape := ⟨4, ![1, 1, 1024, 128]⟩
abbrev S1x1x1024x64 : Shape := ⟨4, ![1, 1, 1024, 64]⟩
abbrev S128x1024 : Shape := ⟨2, ![128, 1024]⟩
abbrev S1x1x128x1024 : Shape := ⟨4, ![1, 1, 128, 1024]⟩

abbrev nBuf : Space → Nat
  | .hbm => 41
  | .vmem => 17
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x128, .f32⟩
  | .hbm, ⟨3, _⟩ => ⟨S4x2048, .i32⟩
  | .hbm, ⟨4, _⟩ => ⟨S768x1536, .f32⟩
  | .hbm, ⟨5, _⟩ => ⟨S512x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S1x32, .f32⟩
  | .hbm, ⟨23, _⟩ => ⟨S4x32, .f32⟩
  | .hbm, ⟨24, _⟩ => ⟨S128, .f32⟩
  | .hbm, ⟨25, _⟩ => ⟨S1x128, .f32⟩
  | .hbm, ⟨26, _⟩ => ⟨S768x8x192, .f32⟩
  | .hbm, ⟨27, _⟩ => ⟨S768x8x128, .f32⟩
  | .hbm, ⟨28, _⟩ => ⟨S768x1024, .f32⟩
  | .hbm, ⟨29, _⟩ => ⟨S768x8x64, .f32⟩
  | .hbm, ⟨30, _⟩ => ⟨S768x512, .f32⟩
  | .hbm, ⟨31, _⟩ => ⟨S768x1536, .f32⟩
  | .hbm, ⟨32, _⟩ => ⟨S768x1536, .bf16⟩
  | .hbm, ⟨33, _⟩ => ⟨S512x8x2x128, .f32⟩
  | .hbm, ⟨34, _⟩ => ⟨S512x2x8x128, .f32⟩
  | .hbm, ⟨35, _⟩ => ⟨S512x2048, .f32⟩
  | .hbm, ⟨36, _⟩ => ⟨S512x2048, .bf16⟩
  | .hbm, ⟨37, _⟩ => ⟨S8192x1, .i32⟩
  | .hbm, ⟨38, _⟩ => ⟨S4x8x2048x192, .bf16⟩
  | .hbm, ⟨39, _⟩ => ⟨S4x8x2048x192, .bf16⟩
  | .hbm, ⟨40, _⟩ => ⟨S4x8x128x2048, .bf16⟩
  | .local _ .vmem, ⟨0, _⟩ => ⟨S1024x768, .bf16⟩
  | .local _ .vmem, ⟨1, _⟩ => ⟨S1024x768, .bf16⟩
  | .local _ .vmem, ⟨2, _⟩ => ⟨S1024x512, .bf16⟩
  | .local _ .vmem, ⟨3, _⟩ => ⟨S1024x512, .bf16⟩
  | .local _ .vmem, ⟨4, _⟩ => ⟨S1024x128, .f32⟩
  | .local _ .vmem, ⟨5, _⟩ => ⟨S1024x128, .f32⟩
  | .local _ .vmem, ⟨6, _⟩ => ⟨S1024x1, .i32⟩
  | .local _ .vmem, ⟨7, _⟩ => ⟨S1024x1, .i32⟩
  | .local _ .vmem, ⟨8, _⟩ => ⟨S1x128, .f32⟩
  | .local _ .vmem, ⟨9, _⟩ => ⟨S768x1536, .bf16⟩
  | .local _ .vmem, ⟨10, _⟩ => ⟨S512x2048, .bf16⟩
  | .local _ .vmem, ⟨11, _⟩ => ⟨S1x8x1024x192, .bf16⟩
  | .local _ .vmem, ⟨12, _⟩ => ⟨S1x8x1024x192, .bf16⟩
  | .local _ .vmem, ⟨13, _⟩ => ⟨S1x8x1024x192, .bf16⟩
  | .local _ .vmem, ⟨14, _⟩ => ⟨S1x8x1024x192, .bf16⟩
  | .local _ .vmem, ⟨15, _⟩ => ⟨S1x8x128x1024, .bf16⟩
  | .local _ .vmem, ⟨16, _⟩ => ⟨S1x8x128x1024, .bf16⟩
  | _, _ => ⟨S8192x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v27_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x1024x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1024x192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S8192x768 : Shape := ⟨2, ![8192, 768]⟩
abbrev S8192x512 : Shape := ⟨2, ![8192, 512]⟩
abbrev S8192x128 : Shape := ⟨2, ![8192, 128]⟩
abbrev S4x2048 : Shape := ⟨2, ![4, 2048]⟩
abbrev S768x1536 : Shape := ⟨2, ![768, 1536]⟩
abbrev S512x2048 : Shape := ⟨2, ![512, 2048]⟩
abbrev S4x2048x768 : Shape := ⟨3, ![4, 2048, 768]⟩
abbrev S4x2048x512 : Shape := ⟨3, ![4, 2048, 512]⟩
abbrev S8192x64 : Shape := ⟨2, ![8192, 64]⟩
abbrev S4x2048x64 : Shape := ⟨3, ![4, 2048, 64]⟩
abbrev S4x2048x1536 : Shape := ⟨3, ![4, 2048, 1536]⟩
abbrev S4x2048x8x192 : Shape := ⟨4, ![4, 2048, 8, 192]⟩
abbrev S4x2048x8x128 : Shape := ⟨4, ![4, 2048, 8, 128]⟩
abbrev S4x2048x8x64 : Shape := ⟨4, ![4, 2048, 8, 64]⟩
abbrev S4x2048x2048 : Shape := ⟨3, ![4, 2048, 2048]⟩
abbrev S4x2048x8x256 : Shape := ⟨4, ![4, 2048, 8, 256]⟩
abbrev S32 : Shape := ⟨1, ![32]⟩
abbrev S_ : Shape := ⟨0, ![]⟩
abbrev S4x2048x1 : Shape := ⟨3, ![4, 2048, 1]⟩
abbrev S1x1x32 : Shape := ⟨3, ![1, 1, 32]⟩
abbrev S4x2048x32 : Shape := ⟨3, ![4, 2048, 32]⟩
abbrev S4x2048x1x32 : Shape := ⟨4, ![4, 2048, 1, 32]⟩
abbrev S4x2048x8x32 : Shape := ⟨4, ![4, 2048, 8, 32]⟩
abbrev S4x2048x1x64 : Shape := ⟨4, ![4, 2048, 1, 64]⟩
abbrev S4x8x2048x192 : Shape := ⟨4, ![4, 8, 2048, 192]⟩
abbrev S4x8x128x2048 : Shape := ⟨4, ![4, 8, 128, 2048]⟩

abbrev nBuf : Space → Nat
  | .hbm => 81
  | .vmem => 0
  | .smem => 0
  | _ => 0

abbrev bufTy : (tb : Table) → Fin (tcTables nBuf tb) → BufTy
  | .hbm, ⟨0, _⟩ => ⟨S8192x768, .bf16⟩
  | .hbm, ⟨1, _⟩ => ⟨S8192x512, .bf16⟩
  | .hbm, ⟨2, _⟩ => ⟨S8192x128, .f32⟩
  | .hbm, ⟨3, _⟩ => ⟨S4x2048, .i32⟩
  | .hbm, ⟨4, _⟩ => ⟨S768x1536, .f32⟩
  | .hbm, ⟨5, _⟩ => ⟨S512x2048, .f32⟩
  | .hbm, ⟨6, _⟩ => ⟨S8192x768, .f32⟩
  | .hbm, ⟨7, _⟩ => ⟨S4x2048x768, .f32⟩
  | .hbm, ⟨8, _⟩ => ⟨S8192x512, .f32⟩
  | .hbm, ⟨9, _⟩ => ⟨S4x2048x512, .f32⟩
  | .hbm, ⟨10, _⟩ => ⟨S8192x64, .f32⟩
  | .hbm, ⟨11, _⟩ => ⟨S4x2048x64, .f32⟩
  | .hbm, ⟨12, _⟩ => ⟨S4x2048x1536, .f32⟩
  | .hbm, ⟨13, _⟩ => ⟨S4x2048x8x192, .f32⟩
  | .hbm, ⟨14, _⟩ => ⟨S4x2048x8x128, .f32⟩
  | .hbm, ⟨15, _⟩ => ⟨S4x2048x8x64, .f32⟩
  | .hbm, ⟨16, _⟩ => ⟨S4x2048x2048, .f32⟩
  | .hbm, ⟨17, _⟩ => ⟨S4x2048x8x256, .f32⟩
  | .hbm, ⟨18, _⟩ => ⟨S4x2048x8x128, .f32⟩
  | .hbm, ⟨19, _⟩ => ⟨S4x2048x8x128, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S4x2048, .f32⟩
  | .hbm, ⟨37, _⟩ => ⟨S4x2048x1, .f32⟩
  | .hbm, ⟨38, _⟩ => ⟨S1x1x32, .f32⟩
  | .hbm, ⟨39, _⟩ => ⟨S4x2048x32, .f32⟩
  | .hbm, ⟨40, _⟩ => ⟨S4x2048x32, .f32⟩
  | .hbm, ⟨41, _⟩ => ⟨S4x2048x32, .f32⟩
  | .hbm, ⟨42, _⟩ => ⟨S4x2048x32, .f32⟩
  | .hbm, ⟨43, _⟩ => ⟨S4x2048x32, .f32⟩
  | .hbm, ⟨44, _⟩ => ⟨S4x2048x1x32, .f32⟩
  | .hbm, ⟨45, _⟩ => ⟨S4x2048x1x32, .f32⟩
  | .hbm, ⟨46, _⟩ => ⟨S4x2048x8x32, .f32⟩
  | .hbm, ⟨47, _⟩ => ⟨S4x2048x8x32, .f32⟩
  | .hbm, ⟨48, _⟩ => ⟨S4x2048x8x32, .f32⟩
  | .hbm, ⟨49, _⟩ => ⟨S4x2048x8x32, .f32⟩
  | .hbm, ⟨50, _⟩ => ⟨S4x2048x8x32, .f32⟩
  | .hbm, ⟨51, _⟩ => ⟨S4x2048x8x32, .f32⟩
  | .hbm, ⟨52, _⟩ => ⟨S4x2048x8x32, .f32⟩
  | .hbm, ⟨53, _⟩ => ⟨S4x2048x8x32, .f32⟩
  | .hbm, ⟨54, _⟩ => ⟨S4x2048x8x32, .f32⟩
  | .hbm, ⟨55, _⟩ => ⟨S4x2048x8x32, .f32⟩
  | .hbm, ⟨56, _⟩ => ⟨S4x2048x8x32, .f32⟩
  | .hbm, ⟨57, _⟩ => ⟨S4x2048x8x32, .f32⟩
  | .hbm, ⟨58, _⟩ => ⟨S4x2048x8x64, .f32⟩
  | .hbm, ⟨59, _⟩ => ⟨S4x2048x32, .f32⟩
  | .hbm, ⟨60, _⟩ => ⟨S4x2048x32, .f32⟩
  | .hbm, ⟨61, _⟩ => ⟨S4x2048x32, .f32⟩
  | .hbm, ⟨62, _⟩ => ⟨S4x2048x32, .f32⟩
  | .hbm, ⟨63, _⟩ => ⟨S4x2048x32, .f32⟩
  | .hbm, ⟨64, _⟩ => ⟨S4x2048x32, .f32⟩
  | .hbm, ⟨65, _⟩ => ⟨S4x2048x32, .f32⟩
  | .hbm, ⟨66, _⟩ => ⟨S4x2048x32, .f32⟩
  | .hbm, ⟨67, _⟩ => ⟨S4x2048x64, .f32⟩
  | .hbm, ⟨68, _⟩ => ⟨S4x2048x8x192, .f32⟩
  | .hbm, ⟨69, _⟩ => ⟨S_, .f32⟩
  | .hbm, ⟨70, _⟩ => ⟨S4x2048x8x192, .f32⟩
  | .hbm, ⟨71, _⟩ => ⟨S4x2048x8x192, .f32⟩
  | .hbm, ⟨72, _⟩ => ⟨S4x2048x1x64, .f32⟩
  | .hbm, ⟨73, _⟩ => ⟨S4x2048x8x64, .f32⟩
  | .hbm, ⟨74, _⟩ => ⟨S4x2048x8x192, .f32⟩
  | .hbm, ⟨75, _⟩ => ⟨S4x2048x8x192, .bf16⟩
  | .hbm, ⟨76, _⟩ => ⟨S4x8x2048x192, .bf16⟩
  | .hbm, ⟨77, _⟩ => ⟨S4x2048x8x192, .bf16⟩
  | .hbm, ⟨78, _⟩ => ⟨S4x8x2048x192, .bf16⟩
  | .hbm, ⟨79, _⟩ => ⟨S4x2048x8x128, .bf16⟩
  | .hbm, ⟨80, _⟩ => ⟨S4x8x128x2048, .bf16⟩
  | _, _ => ⟨S8192x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_cst_4 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Proof.Plan.lean ====
module

public import Idealize.ShloMosaic.PureOps

@[expose] public section

namespace Cert.Proof

open Idealize.ShloMosaic

/-- The shape of the tile table. -/
abbrev TblShape : Shape := ⟨2, ![128, 128]⟩

/-- The table's row `r`, column `k`. -/
def tix (r k : Nat) : TblShape.Idx := fun a =>
  match a with
  | ⟨0, _⟩ => ⟨r % 128, Nat.mod_lt _ (by decide)⟩
  | ⟨1, _⟩ => ⟨k % 128, Nat.mod_lt _ (by decide)⟩

/-- The table's word at row `r`, column `k`. -/
def tw (T : TblShape.Idx → BitVec 32) (r k : Nat) : BitVec 32 := T (tix r k)

/-- What the proof uses of a planned table: each row's words in range, the first row opening the first expert, the
    last row announcing none, and each row either continuing the expert of the row before it or moving to the one that
    row announced. -/
structure Planned (T : TblShape.Idx → BitVec 32) : Prop where
  exp : ∀ i, i < 96 → (tw T i 0).toNat < 32
  valid : ∀ i, i < 96 → (tw T i 1).toNat < 2 ^ 31
  first : ∀ i, i < 96 → tw T i 2 = 0#32 ∨ tw T i 2 = 1#32
  nxt : ∀ i, i < 96 → (tw T i 4).toNat < 2 ^ 31
  nxt2 : ∀ i, i < 96 → (tw T i 5).toNat < 2 ^ 31
  last : (tw T 0 8).toNat < 96
  reach : ∀ i, i < 96 → 0 < (tw T i 1).toNat → i ≤ (tw T 0 8).toNat
  start : tw T 0 2 = 1#32 ∧ tw T 0 7 = 0#32
  done : 32 ≤ (tw T 95 4).toNat ∧ 32 ≤ (tw T 95 5).toNat
  step : ∀ i, i < 95 → tw T (i + 1) 7 = tw T i 7 + tw T (i + 1) 2
  move : ∀ i, i < 95 →
    (tw T (i + 1) 2 = 0#32 ∧ tw T (i + 1) 0 = tw T i 0 ∧ tw T (i + 1) 4 = tw T i 4 ∧ tw T (i + 1) 5 = tw T i 5)
    ∨ (tw T (i + 1) 2 = 1#32 ∧ tw T (i + 1) 0 = tw T i 4 ∧ tw T (i + 1) 4 = tw T i 5)

namespace Planned

variable {T : TblShape.Idx → BitVec 32} (h : Planned T)
include h

/-- The running count of experts at row `i` is at most `i`. -/
theorem ord_le (i : Nat) (hi : i < 96) : (tw T i 7).toNat ≤ i := by
  induction i with
  | zero => rw [h.start.2]; decide
  | succ n ih =>
    have := ih (by omega)
    rw [h.step n (by omega), BitVec.toNat_add]
    rcases h.first (n + 1) hi with e | e <;> rw [e] <;> simp <;> omega

theorem ord_eq (i : Nat) (hi : i < 96) : tw T i 7 = BitVec.ofNat 32 (tw T i 7).toNat := by simp

theorem ord_succ (i : Nat) (hi : i < 95) :
    (tw T (i + 1) 7).toNat = (tw T i 7).toNat + (tw T (i + 1) 2).toNat := by
  have := h.ord_le i (by omega)
  rw [h.step i hi, BitVec.toNat_add]
  rcases h.first (i + 1) (by omega) with e | e <;> rw [e] <;> simp <;> omega

end Planned

/-- A word below `2 ^ 31` compared with a small number as a signed word. -/
theorem slt_small (w : BitVec 32) (n : Nat) (hn : n < 2 ^ 31) (h : w.toNat < 2 ^ 31) :
    w.slt (BitVec.ofNat 32 n) = decide (w.toNat < n) := by
  rw [BitVec.slt, BitVec.toInt_eq_toNat_of_lt (by omega), BitVec.toInt_eq_toNat_of_lt (by simp; omega)]
  simp only [BitVec.toNat_ofNat]
  rw [Nat.mod_eq_of_lt (by omega)]
  simp

theorem small_slt (w : BitVec 32) (n : Nat) (hn : n < 2 ^ 31) (h : w.toNat < 2 ^ 31) :
    (BitVec.ofNat 32 n).slt w = decide (n < w.toNat) := by
  rw [BitVec.slt, BitVec.toInt_eq_toNat_of_lt (by simp; omega), BitVec.toInt_eq_toNat_of_lt (by omega)]
  simp only [BitVec.toNat_ofNat]
  rw [Nat.mod_eq_of_lt (by omega)]
  simp

end Cert.Proof
-- ==== Proof.MoeBody.lean ====
module

public import proofs.«01_k».proof.Proof.MoeRing
public import Idealize.ShloMosaic.Lib.Pointwise
public import Idealize.ShloMosaic.Lib.VecWindow

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ UU ℕ

/-- The expert layer's body at the memrefs of the launch. -/
abbrev moeBody (i : grid0.Coords) (M2 M6 : Memref sig .tc .vmem S2048x128 .i32) (h2 : M2.IsWhole) (h6 : M6.IsWhole) :=
  cc0_moe (F := F) i (Memref.whole main_arg0) (Memref.isWhole_whole _) M2 h2 (Memref.whole main_arg2) (Memref.isWhole_whole _) (Memref.whole main_arg3) (Memref.isWhole_whole _) (Memref.whole main_arg4) (Memref.isWhole_whole _) M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6

/-- The expert a word names, if it names one. -/
def opt (w : BitVec 32) : Option (Fin 32) := if h : w.toNat < 32 then some ⟨w.toNat, h⟩ else none

theorem opt_some {w : BitVec 32} (h : w.toNat < 32) : opt w = some ⟨w.toNat, h⟩ := dif_pos h
theorem opt_none {w : BitVec 32} (h : ¬ w.toNat < 32) : opt w = none := dif_neg h

/-- Slot `s`: being filled with an expert's weights, or free. -/
def slotS (c : Dev nD) (w : Wts F c) (s : Fin 2) : Option (Fin 32) → sProp 𝕄
  | none => idleS c w s
  | some e => busyS c w s e

theorem slotS_some (c : Dev nD) (w : Wts F c) (s : Fin 2) (e : Fin 32) : slotS c w s (some e) = busyS c w s e := rfl
theorem slotS_none (c : Dev nD) (w : Wts F c) (s : Fin 2) : slotS c w s none = idleS c w s := rfl

/-- The slot of the expert row `n` counts. -/
def slotAt (T : TblShape.Idx → BitVec 32) (n : Nat) : Fin 2 := ⟨(tw T n 7).toNat % 2, Nat.mod_lt _ (by decide)⟩
/-- The other slot. -/
def otherAt (T : TblShape.Idx → BitVec 32) (n : Nat) : Fin 2 := ⟨((tw T n 7).toNat + 1) % 2, Nat.mod_lt _ (by decide)⟩

/-- The ring after row `n`: the row's slot with the expert after the next, the other with the next. -/
def ringPost (c : Dev nD) (w : Wts F c) (T : TblShape.Idx → BitVec 32) (n : Nat) : sProp 𝕄 :=
  iprop(slotS c w (slotAt T n) (opt (tw T n 5)) ∗ slotS c w (otherAt T n) (opt (tw T n 4)))

/-- The ring before row `n`: free before the first, and else as the row before left it. -/
def ringPre (c : Dev nD) (w : Wts F c) (T : TblShape.Idx → BitVec 32) : Nat → sProp 𝕄
  | 0 => iprop(idleS c w 0 ∗ idleS c w 1)
  | n + 1 => ringPost c w T n

/-- The ring once row `n` has seen to the first fetches: its own slot with its expert if the row moves to one. -/
def ringMid (c : Dev nD) (w : Wts F c) (T : TblShape.Idx → BitVec 32) (n : Nat) : sProp 𝕄 :=
  iprop(slotS c w (slotAt T n) (if tw T n 2 = 1#32 then opt (tw T n 0) else opt (tw T n 5)) ∗ slotS c w (otherAt T n) (opt (tw T n 4)))

/-- Row `n + 1` finds the ring as it needs it. -/
theorem ringMid_succ (c : Dev nD) (w : Wts F c) {T : TblShape.Idx → BitVec 32} (hT : Planned T) (n : Nat) (hn : n + 1 < 96) :
    ringPost c w T n ⊢ ringMid c w T (n + 1) := by
  have ho := hT.ord_succ n (by omega)
  unfold ringPost ringMid
  rcases hT.move n (by omega) with ⟨h2, h0, h4, h5⟩ | ⟨h2, h0, h4⟩
  · rw [h2, if_neg (by decide), h4, h5]
    rw [h2] at ho
    have e1 : slotAt T (n + 1) = slotAt T n := by unfold slotAt; rw [Fin.mk.injEq, ho]; rfl
    have e2 : otherAt T (n + 1) = otherAt T n := by unfold otherAt; rw [Fin.mk.injEq, ho]; rfl
    rw [e1, e2]
  · rw [h2, if_pos rfl, h0, h4]
    rw [h2] at ho
    have e1 : slotAt T (n + 1) = otherAt T n := by unfold slotAt otherAt; rw [Fin.mk.injEq, ho]; rfl
    have e2 : otherAt T (n + 1) = slotAt T n := by
      unfold slotAt otherAt; rw [Fin.mk.injEq, ho, show (1#32 : BitVec 32).toNat = 1 from rfl, Nat.add_assoc, Nat.add_mod_right]
    rw [e1, e2]
    iintro ⟨Ha, Hb⟩
    isplitl [Hb]; · iexact Hb
    iexact Ha

theorem amount_gate (s : Fin 2) : 0 < (gateSlot s).view.amount (.dma (ringSem s 0)) := by revert s; decide
theorem amount_up (s : Fin 2) : 0 < (upSlot s).view.amount (.dma (ringSem s 1)) := by revert s; decide
theorem amount_down (s : Fin 2) : 0 < (downSlot s).view.amount (.dma (ringSem s 2)) := by revert s; decide

/-! ### What a slot holds once its copies have landed -/

/-- Copying one window's contents into another of the same shape, both seen without their unit axes: the second then reads what
    the first holds. -/
theorem read_landed {sp sp' : Space} {S S' : Shape} (d : Memref sig .tc sp S .f32) (m : Memref sig .tc sp' S .f32) (hs : S.Squeezes S')
    (f : d.view.ty.Contents (Elt F)) (g : m.view.ty.Contents (Elt F)) :
    d.view.read (Elt F) ((d.squeeze S' hs).view.write (Elt F) f ((m.squeeze S' hs).view.read (Elt F) g) Finset.univ) = m.view.read (Elt F) g := by
  funext x
  have h := congrFun (View.read_write_univ (v := (d.squeeze S' hs).view) (Val := Elt F) f ((m.squeeze S' hs).view.read (Elt F) g)) ((Shape.reshapeEquiv hs.numel_eq).symm x)
  have e : ∀ (M : Memref sig .tc sp S .f32) (f' : M.view.ty.Contents (Elt F)), (M.squeeze S' hs).view.read (Elt F) f' ((Shape.reshapeEquiv hs.numel_eq).symm x) = M.view.read (Elt F) f' x := by
    intro M f'
    show M.view.read (Elt F) f' (Shape.reshapeEquiv hs.numel_eq ((Shape.reshapeEquiv hs.numel_eq).symm x)) = _
    rw [Equiv.apply_symm_apply]
  have e' : ∀ (M : Memref sig .tc sp' S .f32) (f' : M.view.ty.Contents (Elt F)), (M.squeeze S' hs).view.read (Elt F) f' ((Shape.reshapeEquiv hs.numel_eq).symm x) = M.view.read (Elt F) f' x := by
    intro M f'
    show M.view.read (Elt F) f' (Shape.reshapeEquiv hs.numel_eq ((Shape.reshapeEquiv hs.numel_eq).symm x)) = _
    rw [Equiv.apply_symm_apply]
  exact ((e d _).symm.trans h).trans (e' m g)

/-- Expert `e`'s block of the three weight arrays. -/
def gateBlk (c : Dev nD) (w : Wts F c) (e : Fin 32) : Vec F S1x2048x512 .f32 :=
  View.readAt (Elt F) (Memref.whole main_arg2).view (Rect.unit (s := S32x2048x512) ![e.val, 0, 0] S1x2048x512.size (exp_inb e)).toLoadRect w.gate
def upBlk (c : Dev nD) (w : Wts F c) (e : Fin 32) : Vec F S1x2048x512 .f32 :=
  View.readAt (Elt F) (Memref.whole main_arg3).view (Rect.unit (s := S32x2048x512) ![e.val, 0, 0] S1x2048x512.size (exp_inb e)).toLoadRect w.up
def downBlk (c : Dev nD) (w : Wts F c) (e : Fin 32) : Vec F S1x512x2048 .f32 :=
  View.readAt (Elt F) (Memref.whole main_arg4).view (Rect.unit (s := S32x512x2048) ![e.val, 0, 0] S1x512x2048.size (dexp_inb e)).toLoadRect w.down

/-- Loading a landed slot of the gate ring reads the expert's block. -/
theorem load_gate (c : Dev nD) (w : Wts F c) (s : Fin 2) (e : Fin 32) {off : Fin 3 → Nat} (ho : off = ![s.val, 0, 0])
    {h : ∀ a, off a + S1x2048x512.size a ≤ S2x2048x512.size a}
    {hl : (Memref.whole cc0_scratch3).view.LoadsAt (Rect.unit (s := S2x2048x512) off S1x2048x512.size h).toLoadRect}
    {α : Type} {k : (S1x2048x512.Idx → Elt F .f32) → Prog (TpuEff nD τ sig (Elt F) Λ₀ .tc) α} {Q : α → sProp 𝕄} :
    landC c (gateOf e) (gateSlot s) w.gate ⊢ iprop((landC c (gateOf e) (gateSlot s) w.gate -∗ wp frame (wpE (defs₀ (F := F)) Variants.none c none) Set.univ (k (gateBlk c w e)) Q)
      -∗ wp frame (wpE (defs₀ (F := F)) Variants.none c none) Set.univ (.op (.load (Memref.whole cc0_scratch3) (Rect.unit (s := S2x2048x512) off S1x2048x512.size h).toLoadRect hl) k) Q) := by
  subst ho
  unfold landC
  iintro ⟨%f, H⟩ Hk
  have hS : (Memref.whole cc0_scratch3).view.setOn (Rect.unit (s := S2x2048x512) ![s.val, 0, 0] S1x2048x512.size h).toLoadRect.set ⊆ (gateSlot s).view.set := by
    rw [show (gateSlot s).view.set = _ from View.set_reshape _ _, show ((Memref.whole cc0_scratch3).slice (Rect.unit (s := S2x2048x512) ![s.val, 0, 0] S1x2048x512.size h) (fun _ => rfl)).view.set = _ from View.set_slice _ _]
    exact Finset.Subset.refl _
  iapply (wp_load Variants.none (c : Thread nD τ) none Set.univ (m := Memref.whole cc0_scratch3) (r := (Rect.unit (s := S2x2048x512) ![s.val, 0, 0] S1x2048x512.size h).toLoadRect) hS) $$ H
  iintro H
  rw [show View.readAt (Elt F) (Memref.whole cc0_scratch3).view (Rect.unit (s := S2x2048x512) ![s.val, 0, 0] S1x2048x512.size h).toLoadRect
      ((gateSlot s).view.write (Elt F) f ((gateOf e).view.read (Elt F) w.gate) Finset.univ) = gateBlk c w e from
    read_landed ((Memref.whole cc0_scratch3).slice (Rect.unit (s := S2x2048x512) ![s.val, 0, 0] S1x2048x512.size h) (fun _ => rfl)) ((Memref.whole main_arg2).slice (Rect.unit (s := S32x2048x512) ![e.val, 0, 0] S1x2048x512.size (exp_inb e)) (fun _ => rfl)) squeezes_S1x2048x512_S2048x512 f w.gate]
  iapply Hk
  iexists f
  iexact H

/-- Loading a landed slot of the up ring reads the expert's block. -/
theorem load_up (c : Dev nD) (w : Wts F c) (s : Fin 2) (e : Fin 32) {off : Fin 3 → Nat} (ho : off = ![s.val, 0, 0])
    {h : ∀ a, off a + S1x2048x512.size a ≤ S2x2048x512.size a}
    {hl : (Memref.whole cc0_scratch4).view.LoadsAt (Rect.unit (s := S2x2048x512) off S1x2048x512.size h).toLoadRect}
    {α : Type} {k : (S1x2048x512.Idx → Elt F .f32) → Prog (TpuEff nD τ sig (Elt F) Λ₀ .tc) α} {Q : α → sProp 𝕄} :
    landC c (upOf e) (upSlot s) w.up ⊢ iprop((landC c (upOf e) (upSlot s) w.up -∗ wp frame (wpE (defs₀ (F := F)) Variants.none c none) Set.univ (k (upBlk c w e)) Q)
      -∗ wp frame (wpE (defs₀ (F := F)) Variants.none c none) Set.univ (.op (.load (Memref.whole cc0_scratch4) (Rect.unit (s := S2x2048x512) off S1x2048x512.size h).toLoadRect hl) k) Q) := by
  subst ho
  unfold landC
  iintro ⟨%f, H⟩ Hk
  have hS : (Memref.whole cc0_scratch4).view.setOn (Rect.unit (s := S2x2048x512) ![s.val, 0, 0] S1x2048x512.size h).toLoadRect.set ⊆ (upSlot s).view.set := by
    rw [show (upSlot s).view.set = _ from View.set_reshape _ _, show ((Memref.whole cc0_scratch4).slice (Rect.unit (s := S2x2048x512) ![s.val, 0, 0] S1x2048x512.size h) (fun _ => rfl)).view.set = _ from View.set_slice _ _]
    exact Finset.Subset.refl _
  iapply (wp_load Variants.none (c : Thread nD τ) none Set.univ (m := Memref.whole cc0_scratch4) (r := (Rect.unit (s := S2x2048x512) ![s.val, 0, 0] S1x2048x512.size h).toLoadRect) hS) $$ H
  iintro H
  rw [show View.readAt (Elt F) (Memref.whole cc0_scratch4).view (Rect.unit (s := S2x2048x512) ![s.val, 0, 0] S1x2048x512.size h).toLoadRect
      ((upSlot s).view.write (Elt F) f ((upOf e).view.read (Elt F) w.up) Finset.univ) = upBlk c w e from
    read_landed ((Memref.whole cc0_scratch4).slice (Rect.unit (s := S2x2048x512) ![s.val, 0, 0] S1x2048x512.size h) (fun _ => rfl)) ((Memref.whole main_arg3).slice (Rect.unit (s := S32x2048x512) ![e.val, 0, 0] S1x2048x512.size (exp_inb e)) (fun _ => rfl)) squeezes_S1x2048x512_S2048x512 f w.up]
  iapply Hk
  iexists f
  iexact H

/-- Loading a landed slot of the down ring reads the expert's block. -/
theorem load_down (c : Dev nD) (w : Wts F c) (s : Fin 2) (e : Fin 32) {off : Fin 3 → Nat} (ho : off = ![s.val, 0, 0])
    {h : ∀ a, off a + S1x512x2048.size a ≤ S2x512x2048.size a}
    {hl : (Memref.whole cc0_scratch5).view.LoadsAt (Rect.unit (s := S2x512x2048) off S1x512x2048.size h).toLoadRect}
    {α : Type} {k : (S1x512x2048.Idx → Elt F .f32) → Prog (TpuEff nD τ sig (Elt F) Λ₀ .tc) α} {Q : α → sProp 𝕄} :
    landC c (downOf e) (downSlot s) w.down ⊢ iprop((landC c (downOf e) (downSlot s) w.down -∗ wp frame (wpE (defs₀ (F := F)) Variants.none c none) Set.univ (k (downBlk c w e)) Q)
      -∗ wp frame (wpE (defs₀ (F := F)) Variants.none c none) Set.univ (.op (.load (Memref.whole cc0_scratch5) (Rect.unit (s := S2x512x2048) off S1x512x2048.size h).toLoadRect hl) k) Q) := by
  subst ho
  unfold landC
  iintro ⟨%f, H⟩ Hk
  have hS : (Memref.whole cc0_scratch5).view.setOn (Rect.unit (s := S2x512x2048) ![s.val, 0, 0] S1x512x2048.size h).toLoadRect.set ⊆ (downSlot s).view.set := by
    rw [show (downSlot s).view.set = _ from View.set_reshape _ _, show ((Memref.whole cc0_scratch5).slice (Rect.unit (s := S2x512x2048) ![s.val, 0, 0] S1x512x2048.size h) (fun _ => rfl)).view.set = _ from View.set_slice _ _]
    exact Finset.Subset.refl _
  iapply (wp_load Variants.none (c : Thread nD τ) none Set.univ (m := Memref.whole cc0_scratch5) (r := (Rect.unit (s := S2x512x2048) ![s.val, 0, 0] S1x512x2048.size h).toLoadRect) hS) $$ H
  iintro H
  rw [show View.readAt (Elt F) (Memref.whole cc0_scratch5).view (Rect.unit (s := S2x512x2048) ![s.val, 0, 0] S1x512x2048.size h).toLoadRect
      ((downSlot s).view.write (Elt F) f ((downOf e).view.read (Elt F) w.down) Finset.univ) = downBlk c w e from
    read_landed ((Memref.whole cc0_scratch5).slice (Rect.unit (s := S2x512x2048) ![s.val, 0, 0] S1x512x2048.size h) (fun _ => rfl)) ((Memref.whole main_arg4).slice (Rect.unit (s := S32x512x2048) ![e.val, 0, 0] S1x512x2048.size (dexp_inb e)) (fun _ => rfl)) squeezes_S1x512x2048_S512x2048 f w.down]
  iapply Hk
  iexists f
  iexact H

/-- A slot landed is a slot free. -/
theorem idleS_of_landS (c : Dev nD) (w : Wts F c) (s : Fin 2) (e : Fin 32) : landS c w s e ⊢ idleS c w s := by
  unfold landS idleS idleC landC
  iintro ⟨⟨⟨%f, Hg⟩, ⟨%g, Hu⟩, ⟨%h, Hd⟩⟩, ⟨Sg, Wg⟩, ⟨Su, Wu⟩, Sd, Wd⟩
  isplitl [Hg Sg Wg]
  · isplitl [Hg]; · iexists _; iexact Hg
    isplitl [Sg]; · iexact Sg
    iexact Wg
  isplitl [Hu Su Wu]
  · isplitl [Hu]; · iexists _; iexact Hu
    isplitl [Su]; · iexact Su
    iexact Wu
  isplitl [Hd]; · iexists _; iexact Hd
  isplitl [Sd]; · iexact Sd
  iexact Wd

/-! ### The values -/

/-- The three scratch arrays' contents once expert `e` is in them. -/
def castG (c : Dev nD) (w : Wts F c) (e : Fin 32) : Bf (F := F) c (Memref.whole cc0_scratch0) := k0_pay1 (F := F) (gateBlk c w e)
def castU (c : Dev nD) (w : Wts F c) (e : Fin 32) : Bf (F := F) c (Memref.whole cc0_scratch1) := k0_pay2 (F := F) (upBlk c w e)
def castD (c : Dev nD) (w : Wts F c) (e : Fin 32) : Bf (F := F) c (Memref.whole cc0_scratch2) := k0_pay3 (F := F) (downBlk c w e)

/-- The expert row `n` runs. -/
def exAt (T : TblShape.Idx → BitVec 32) (n : Nat) : Fin 32 := ⟨(tw T n 0).toNat % 32, Nat.mod_lt _ (by decide)⟩

/-- The expert's feed-forward of a block of packed rows, by the scratch arrays' contents. -/
def ffnOf (x : S2048x128.Idx → BitVec 32) (g u : S2048x512.Idx → F .bf16) (d : S512x2048.Idx → F .bf16) : FVec F S256x2048 .f32 :=
  k0_pay14 (F := F)
    (fun j => x ((⟨![0, 0], S256x128.size, ![8, 1], inb_S2048x128_S256x128_0_0_s_8_1⟩ : LoadRect S2048x128).idx j))
    (fun j => x ((⟨![1, 0], S256x128.size, ![8, 1], inb_S2048x128_S256x128_1_0_s_8_1⟩ : LoadRect S2048x128).idx j))
    (fun j => x ((⟨![2, 0], S256x128.size, ![8, 1], inb_S2048x128_S256x128_2_0_s_8_1⟩ : LoadRect S2048x128).idx j))
    (fun j => x ((⟨![3, 0], S256x128.size, ![8, 1], inb_S2048x128_S256x128_3_0_s_8_1⟩ : LoadRect S2048x128).idx j))
    (fun j => x ((⟨![4, 0], S256x128.size, ![8, 1], inb_S2048x128_S256x128_4_0_s_8_1⟩ : LoadRect S2048x128).idx j))
    (fun j => x ((⟨![5, 0], S256x128.size, ![8, 1], inb_S2048x128_S256x128_5_0_s_8_1⟩ : LoadRect S2048x128).idx j))
    (fun j => x ((⟨![6, 0], S256x128.size, ![8, 1], inb_S2048x128_S256x128_6_0_s_8_1⟩ : LoadRect S2048x128).idx j))
    (fun j => x ((⟨![7, 0], S256x128.size, ![8, 1], inb_S2048x128_S256x128_7_0_s_8_1⟩ : LoadRect S2048x128).idx j))
    (fun j => g ((Rect.unit (s := S2048x512) ![0, 0] S1024x512.size inb_S2048x512_S1024x512_0_0).toLoadRect.idx j))
    (fun j => g ((Rect.unit (s := S2048x512) ![1024, 0] S1024x512.size inb_S2048x512_S1024x512_1024_0).toLoadRect.idx j))
    (fun j => u ((Rect.unit (s := S2048x512) ![0, 0] S1024x512.size inb_S2048x512_S1024x512_0_0).toLoadRect.idx j))
    (fun j => u ((Rect.unit (s := S2048x512) ![1024, 0] S1024x512.size inb_S2048x512_S1024x512_1024_0).toLoadRect.idx j))
    (fun j => d ((Rect.unit (s := S512x2048) ![0, 0] S512x2048.size inb_S512x2048_S512x2048_0_0).toLoadRect.idx j))

/-- The packed words of a tile of rows, eight rows of words to a token's row. -/
def yPack (v : FVec F S256x2048 .f32) : S2048x128.Idx → BitVec 32 := fun y =>
  k0_pay4 v (ix2 (n0 := 256) (n1 := 1024) ⟨(y 0).val / 8, by have := (y 0).isLt; change (y 0).val < 2048 at this; show _ < 256; omega⟩
    ⟨(y 0).val % 8 * 128 + (y 1).val, by have := (y 1).isLt; change (y 1).val < 128 at this; show _ < 1024; omega⟩)

/-- The eight strided stores of a tile's packed words fill the block. -/
theorem read_stores {M6 : Memref sig .tc .vmem S2048x128 .i32} (f : M6.view.ty.Contents (Elt F)) (v : FVec F S256x2048 .f32) :
    M6.view.read (Elt F) (M6.view.writes (Elt F) f
      [⟨{ off := ![7, 0], size := S256x128.size, stride := ![8, 1], inb := inb_S2048x128_S256x128_7_0_s_8_1, stride_pos := spos_8_1 }, k0_pay12 v⟩,
       ⟨{ off := ![6, 0], size := S256x128.size, stride := ![8, 1], inb := inb_S2048x128_S256x128_6_0_s_8_1, stride_pos := spos_8_1 }, k0_pay11 v⟩,
       ⟨{ off := ![5, 0], size := S256x128.size, stride := ![8, 1], inb := inb_S2048x128_S256x128_5_0_s_8_1, stride_pos := spos_8_1 }, k0_pay10 v⟩,
       ⟨{ off := ![4, 0], size := S256x128.size, stride := ![8, 1], inb := inb_S2048x128_S256x128_4_0_s_8_1, stride_pos := spos_8_1 }, k0_pay9 v⟩,
       ⟨{ off := ![3, 0], size := S256x128.size, stride := ![8, 1], inb := inb_S2048x128_S256x128_3_0_s_8_1, stride_pos := spos_8_1 }, k0_pay8 v⟩,
       ⟨{ off := ![2, 0], size := S256x128.size, stride := ![8, 1], inb := inb_S2048x128_S256x128_2_0_s_8_1, stride_pos := spos_8_1 }, k0_pay7 v⟩,
       ⟨{ off := ![1, 0], size := S256x128.size, stride := ![8, 1], inb := inb_S2048x128_S256x128_1_0_s_8_1, stride_pos := spos_8_1 }, k0_pay6 v⟩,
       ⟨{ off := ![0, 0], size := S256x128.size, stride := ![8, 1], inb := inb_S2048x128_S256x128_0_0_s_8_1, stride_pos := spos_8_1 }, k0_pay5 v⟩]) = yPack v := by
  funext y
  refine View.read_writes_apply_of_pieces (v := M6.view) (f := f) (yPack v) _ ?_ y ?_
  · have key : ∀ (k : Nat) (hk : k < 8) (inb : ∀ a, S256x128.size a = 0 ∨ (![k, 0] : Fin 2 → Nat) a + (![8, 1] : Fin 2 → Nat) a * (S256x128.size a - 1) < S2048x128.size a)
        (sl : S256x1024.Slices ![0, k * 128] S256x128) (x : S256x128.Idx),
        extractStridedSlice S256x128 ![0, k * 128] (k0_pay4 v) sl x
          = yPack v ((⟨⟨![k, 0], S256x128.size, ![8, 1], inb⟩, spos_8_1⟩ : Rect S2048x128).emb x) := by
      intro k hk inb sl x
      unfold yPack
      show k0_pay4 v _ = k0_pay4 v _
      congr 1
      have h0 := (x 0).isLt
      have h1 := (x 1).isLt
      change (x 0).val < 256 at h0
      change (x 1).val < 128 at h1
      funext a
      apply Fin.ext
      fin_cases a
      · show 0 + (x 0).val = (k + 8 * (x 0).val) / 8
        omega
      · show k * 128 + (x 1).val = (k + 8 * (x 0).val) % 8 * 128 + (0 + 1 * (x 1).val)
        omega
    intro p hp
    simp only [List.mem_cons, List.not_mem_nil, _root_.or_false] at hp
    rcases hp with rfl | rfl | rfl | rfl | rfl | rfl | rfl | rfl
    · exact key 7 (by decide) _ slices_S256x1024_o0_896_S256x128
    · exact key 6 (by decide) _ slices_S256x1024_o0_768_S256x128
    · exact key 5 (by decide) _ slices_S256x1024_o0_640_S256x128
    · exact key 4 (by decide) _ slices_S256x1024_o0_512_S256x128
    · exact key 3 (by decide) _ slices_S256x1024_o0_384_S256x128
    · exact key 2 (by decide) _ slices_S256x1024_o0_256_S256x128
    · exact key 1 (by decide) _ slices_S256x1024_o0_128_S256x128
    · exact key 0 (by decide) _ slices_S256x1024_o0_0_S256x128
  · have hy0 := (y 0).isLt
    change (y 0).val < 2048 at hy0
    have key : ∀ (k : Nat) (hk : (y 0).val % 8 = k) (inb : ∀ a, S256x128.size a = 0 ∨ (![k, 0] : Fin 2 → Nat) a + (![8, 1] : Fin 2 → Nat) a * (S256x128.size a - 1) < S2048x128.size a),
        y ∈ (⟨⟨![k, 0], S256x128.size, ![8, 1], inb⟩, spos_8_1⟩ : Rect S2048x128).set := by
      intro k hk inb
      have e : y = (⟨⟨![k, 0], S256x128.size, ![8, 1], inb⟩, spos_8_1⟩ : Rect S2048x128).idx (ix2 (n0 := 256) (n1 := 128) ⟨(y 0).val / 8, by show _ < 256; omega⟩ (y 1)) := by
        funext a
        apply Fin.ext
        fin_cases a
        · show (y 0).val = k + 8 * ((y 0).val / 8)
          omega
        · show (y 1).val = 0 + 1 * (y 1).val
          omega
      rw [e]
      exact LoadRect.idx_mem _ _
    simp only [List.mem_cons, List.not_mem_nil, _root_.or_false, exists_eq_or_imp, exists_eq_left]
    have hm : (y 0).val % 8 < 8 := Nat.mod_lt _ (by decide)
    rcases (show (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 by omega) with h | h | h | h | h | h | h | h
    · exact Or.inl (key _ h _)
    · exact Or.inr (Or.inl (key _ h _))
    · exact Or.inr (Or.inr (Or.inl (key _ h _)))
    · exact Or.inr (Or.inr (Or.inr (Or.inl (key _ h _))))
    · exact Or.inr (Or.inr (Or.inr (Or.inr (Or.inl (key _ h _)))))
    · exact Or.inr (Or.inr (Or.inr (Or.inr (Or.inr (Or.inl (key _ h _))))))
    · exact Or.inr (Or.inr (Or.inr (Or.inr (Or.inr (Or.inr (Or.inl (key _ h _)))))))
    · exact Or.inr (Or.inr (Or.inr (Or.inr (Or.inr (Or.inr (Or.inr (key _ h _)))))))

/-- The words the body leaves in the result's block at row `n`, of the block `x` of rows. -/
def yTile (c : Dev nD) (w : Wts F c) (T : TblShape.Idx → BitVec 32) (n : Nat) (x : S2048x128.Idx → BitVec 32) : S2048x128.Idx → BitVec 32 :=
  if 0 < (tw T n 1).toNat then yPack (ffnOf x (castG c w (exAt T n)) (castU c w (exAt T n)) (castD c w (exAt T n))) else k0_pay13 (F := F)

/-- The scratch arrays holding expert `e`'s weights. -/
def castS (c : Dev nD) (w : Wts F c) (e : Fin 32) : sProp 𝕄 :=
  iprop(ptq c (Memref.whole cc0_scratch0) fullShare (castG c w e) ∗ ptq c (Memref.whole cc0_scratch1) fullShare (castU c w e)
    ∗ ptq c (Memref.whole cc0_scratch2) fullShare (castD c w e))

/-- The scratch arrays before row `n`: anything before the first, and else as the row before left them. -/
def castPre (c : Dev nD) (w : Wts F c) (T : TblShape.Idx → BitVec 32) : Nat → sProp 𝕄
  | 0 => iprop((∃ f, ptq c (Memref.whole cc0_scratch0) fullShare f) ∗ (∃ f, ptq c (Memref.whole cc0_scratch1) fullShare f) ∗ ∃ f, ptq c (Memref.whole cc0_scratch2) fullShare f)
  | n + 1 => castS c w (exAt T n)

theorem castPre_any (c : Dev nD) (w : Wts F c) (T : TblShape.Idx → BitVec 32) (n : Nat) :
    castPre c w T n ⊢ iprop((∃ f, ptq c (Memref.whole cc0_scratch0) fullShare f) ∗ (∃ f, ptq c (Memref.whole cc0_scratch1) fullShare f) ∗ ∃ f, ptq c (Memref.whole cc0_scratch2) fullShare f) := by
  cases n with
  | zero => exact .rfl
  | succ n =>
    unfold castPre castS
    iintro ⟨H0, H1, H2⟩
    isplitl [H0]; · iexists _; iexact H0
    isplitl [H1]; · iexists _; iexact H1
    iexists _; iexact H2

/-- A row that continues the expert of the row before finds its weights in the scratch arrays. -/
theorem castPre_same (c : Dev nD) (w : Wts F c) {T : TblShape.Idx → BitVec 32} (hT : Planned T) (n : Nat) (hn : n < 96) (h : tw T n 2 = 0#32) :
    castPre c w T n ⊢ castS c w (exAt T n) := by
  cases n with
  | zero => exact absurd (h.symm.trans hT.start.1) (by decide)
  | succ n =>
    rcases hT.move n (by omega) with ⟨-, h0, -⟩ | ⟨h2, -⟩
    · have e : exAt T (n + 1) = exAt T n := by unfold exAt; rw [Fin.mk.injEq, h0]
      rw [e]
      exact .rfl
    · exact absurd (h.symm.trans h2) (by decide)

/-- A free slot, as the three copies of expert `e` find it. -/
theorem idleS_at (c : Dev nD) (w : Wts F c) (s : Fin 2) (e : Fin 32) : idleS c w s
    ⊢ iprop(idleC c (gateOf e) (gateSlot s) (.dma (ringSem s 0)) (qS s) w.gate ∗ idleC c (upOf e) (upSlot s) (.dma (ringSem s 1)) (qS s) w.up
      ∗ idleC c (downOf e) (downSlot s) (.dma (ringSem s 2)) (qS s) w.down) := by
  unfold idleS; exact .rfl

/-- A whole array stored whole is what was stored. -/
theorem writes_whole {κ : Kind} (b : Ref sig κ) (f : b.ty.Contents (Elt F)) {off : Fin b.ty.shape.rank → Nat} (inb : ∀ a, off a + b.ty.shape.size a ≤ b.ty.shape.size a)
    (p : (Rect.unit off b.ty.shape.size inb).shape.Idx → Elt F b.ty.elt) :
    (Memref.whole b).view.writes (Elt F) f [⟨Rect.unit off b.ty.shape.size inb, p⟩] = p :=
  View.read_writes_full (Memref.whole b).view f inb p []

theorem stored_whole (c : Dev nD) (b : Ref sig Kind.tc) (f : b.ty.Contents (Elt F)) {off : Fin b.ty.shape.rank → Nat} (inb : ∀ a, off a + b.ty.shape.size a ≤ b.ty.shape.size a)
    (p : (Rect.unit off b.ty.shape.size inb).shape.Idx → Elt F b.ty.elt) :
    ((Memref.whole b).view.loc (c : Thread nD τ) ↦{fullShare} (Memref.whole b).view.writes (Elt F) f [⟨Rect.unit off b.ty.shape.size inb, p⟩] : sProp 𝕄)
      ⊢ (Memref.whole b).view.loc (c : Thread nD τ) ↦{fullShare} p := by
  rw [writes_whole]

theorem ret_then {E : Type → Type} {α β : Type} (a : α) (k : α → Prog E β) : (Prog.ret a).bind k = k a := rfl

set_option maxHeartbeats 1000000 in
/-- ONE POINT OF THE EXPERT LAYER: from the ring, the scratch arrays and the two blocks as row `n` finds them to those of the row after. -/
theorem moe_run (c : Dev nD) (i : grid0.Coords) (M2 M6 : Memref sig .tc .vmem S2048x128 .i32) (h2 : M2.IsWhole) (h6 : M6.IsWhole)
    (q : PosShare TreeShare) (T : Bf (F := F) c (Memref.whole main_arg0)) (hT : Planned T) (w : Wts F c)
    (x y : S2048x128.Idx → BitVec 32) (W : Waits sig Unit) (Q : PUnit → sProp 𝕄) :
    iprop((ptq c (Memref.whole main_arg0) q T ∗ owes (c : Thread nD τ) 0 W ∗ ringPre c w T (i 0).val ∗ castPre c w T (i 0).val
      ∗ owns (c : Thread nD τ) M2 fullShare x ∗ owns (c : Thread nD τ) M6 fullShare y)
      ∗ (iprop(ptq c (Memref.whole main_arg0) q T ∗ (∃ W, owes (c : Thread nD τ) 0 W) ∗ ringPost c w T (i 0).val ∗ castS c w (exAt T (i 0).val)
          ∗ owns (c : Thread nD τ) M2 fullShare x ∗ owns (c : Thread nD τ) M6 fullShare (yTile c w T (i 0).val x)) -∗ Q ⟨⟩))
    ⊢ wp frame (wpE (defs₀ (F := F)) Variants.none c none) Set.univ (moeBody i M2 M6 h2 h6) Q := by
  have hi : (i 0).val < 96 := (i 0).isLt
  generalize hK : iprop(iprop(ptq c (Memref.whole main_arg0) q T ∗ (∃ W, owes (c : Thread nD τ) 0 W) ∗ ringPost c w T (i 0).val ∗ castS c w (exAt T (i 0).val)
          ∗ owns (c : Thread nD τ) M2 fullShare x ∗ owns (c : Thread nD τ) M6 fullShare (yTile c w T (i 0).val x)) -∗ Q ⟨⟩) = K
  unfold moeBody
  rw [cc0_moe_eq_skeleton]
  unfold cc0_moe_skel
  extract_lets +lift a0 jE jD jC jC' _ _ _ _ _ _ _ _ _ jB jB' s1 s2 s3 s4 s5 s6 s7 s8 s9 s10 s11 s12 s13 s14 s15 s16 s17 s18 s19 s20 s21 s22 s23 s24 s25 s26 s27 s28 s29 s30 s31 s32
  have hD : ∀ y, iprop((ptq c (Memref.whole main_arg0) q T ∗ (∃ W, owes (c : Thread nD τ) 0 W) ∗ ringPost c w T (i 0).val ∗ castS c w (exAt T (i 0).val)
      ∗ owns (c : Thread nD τ) M2 fullShare x ∗ owns (c : Thread nD τ) M6 fullShare y)
      ∗ ⌜0 < (tw T (i 0).val 1).toNat → y = yTile c w T (i 0).val x⌝ ∗ K) ⊢ wp frame (wpE (defs₀ (F := F)) Variants.none c none) Set.univ (jD ()) Q := by
    intro y
    dsimp only [jD]
    subst hK
    iintro ⟨⟨HT, HO, HR, HC, HX, HY⟩, %hy, HK⟩
    unfold owns ptq
    icases HY with ⟨%f6, %hf6, HY⟩
    set_option sl_exec.stopBefore "k0_cond7" in
    sl_exec
    have e1 : moe_run.sl.r c i T = tw T (i 0).val 1 := read_word T _ _ _ (k0_off29_eq i) (by omega) (by decide) _ _
    rw [e1]
    by_cases hv : (tw T (i 0).val 1).toNat = 0
    · rw [dif_pos ((cond7_iff _).2 hv)]
      dsimp only [jE]
      sl_exec
      sl_step
      iapply HK
      isplitl [HT]; · iexact HT
      isplitl [HO]; · iexact HO
      isplitl [HR]; · iexact HR
      isplitl [HC]; · iexact HC
      isplitl [HX]; · iexact HX
      iexists _; isplitr; swap; (· iexact HY); ipureintro
      unfold yTile
      rw [if_neg (by omega)]
      exact View.read_writes_full _ _ _ _ _
    · rw [dif_neg (fun h => hv ((cond7_iff _).1 h))]
      dsimp only [jE]
      sl_step
      iapply HK
      isplitl [HT]; · iexact HT
      isplitl [HO]; · iexact HO
      isplitl [HR]; · iexact HR
      isplitl [HC]; · iexact HC
      isplitl [HX]; · iexact HX
      iexists _; isplitr; swap; (· iexact HY); ipureintro
      exact hf6.trans (hy (by omega))
  clear_value jD
  have hC : iprop((ptq c (Memref.whole main_arg0) q T ∗ (∃ W, owes (c : Thread nD τ) 0 W) ∗ ringPost c w T (i 0).val ∗ castS c w (exAt T (i 0).val)
      ∗ owns (c : Thread nD τ) M2 fullShare x ∗ owns (c : Thread nD τ) M6 fullShare y) ∗ K) ⊢ wp frame (wpE (defs₀ (F := F)) Variants.none c none) Set.univ (jC ()) Q := by
    dsimp only [jC]
    iintro ⟨⟨HT, HO, HR, HC, HX, HY⟩, HK⟩
    unfold ptq
    set_option sl_exec.stopBefore "k0_cond6" in
    sl_exec
    have e1 : moe_run.sl.r_1 c i T = tw T (i 0).val 1 := read_word T _ _ _ (k0_off28_eq i) (by omega) (by decide) _ _
    rw [e1]
    by_cases hv : 0 < (tw T (i 0).val 1).toNat
    · rw [dif_pos ((cond6_iff _ (hT.valid _ hi)).2 hv), k0_part2_eq_skeleton]
      unfold k0_part2_skel castS owns ptq
      icases HX with ⟨%f2, %hf2, HX⟩
      icases HY with ⟨%f6, %hf6, HY⟩
      icases HC with ⟨Hg, Hu, Hd⟩
      sl_exec
      iapply (hD (yTile c w T (i 0).val x))
      unfold castS owns ptq
      isplitr [HK]
      · isplitl [HT]; · iexact HT
        isplitl [HO]; · iexact HO
        isplitl [HR]; · iexact HR
        isplitl [Hg Hu Hd]
        · isplitl [Hg]; · iexact Hg
          isplitl [Hu]; · iexact Hu
          iexact Hd
        isplitl [HX]
        · iexists _; isplitr; swap; (· iexact HX); ipureintro; exact hf2
        iexists _; isplitr; swap; (· iexact HY); ipureintro
        subst hf2
        unfold yTile
        rw [if_pos hv]
        exact read_stores f6 _
      isplitr; · ipureintro; exact fun _ => rfl
      iexact HK
    · rw [dif_neg (fun h => hv ((cond6_iff _ (hT.valid _ hi)).1 h))]
      iapply (hD y)
      isplitr [HK]
      · isplitl [HT]; · iexact HT
        isplitl [HO]; · iexact HO
        isplitl [HR]; · iexact HR
        isplitl [HC]; · iexact HC
        isplitl [HX]; · iexact HX
        iexact HY
      isplitr; · ipureintro; exact fun h => absurd h hv
      iexact HK
  clear_value jC
  have hB : iprop((ptq c (Memref.whole main_arg0) q T ∗ owes (c : Thread nD τ) 0 W ∗ ringMid c w T (i 0).val ∗ castPre c w T (i 0).val
      ∗ owns (c : Thread nD τ) M2 fullShare x ∗ owns (c : Thread nD τ) M6 fullShare y) ∗ K) ⊢ wp frame (wpE (defs₀ (F := F)) Variants.none c none) Set.univ (jB ()) Q := by
    dsimp only [jB]
    iintro ⟨⟨HT, HO, HR, HC, HX, HY⟩, HK⟩
    unfold ptq
    set_option sl_exec.stopBefore "k0_cond4" in
    sl_exec
    have e1 : moe_run.sl.r_2 c i T = tw T (i 0).val 2 := read_word T _ _ _ (k0_off5_eq i) (by omega) (by decide) _ _
    rw [e1]
    rcases hT.first _ hi with h0 | h1
    · rw [dif_neg (by rw [h0]; decide)]
      ihave HC := (castPre_same c w hT _ hi h0) $$ HC
      unfold ringMid
      rw [if_neg (by rw [h0]; decide)]
      iapply hC
      isplitr [HK]
      · isplitl [HT]; · iexact HT
        isplitl [HO]; · iexists _; iexact HO
        isplitl [HR]; · unfold ringPost; iexact HR
        isplitl [HC]; · iexact HC
        isplitl [HX]; · iexact HX
        iexact HY
      iexact HK
    · have h4 : k0_cond4 (tw T (i 0).val 2) = 1#1 := by rw [h1]; decide
      rw [dif_pos h4, wp_bind]
      unfold ringMid
      rw [if_pos h1, opt_some (hT.exp _ hi), slotS_some]
      icases HR with ⟨Hs, Ho⟩
      have hle := hT.ord_le _ hi
      have hs : SlotWord (tw T (i 0).val 7) (slotAt T (i 0).val) := slotWord _ (by omega)
      iapply (waits_run c i M2 M6 h2 h6 q T hT w (tw T (i 0).val 2) h4 (slotAt T (i 0).val) hs ⟨_, hT.exp _ hi⟩ W)
      isplitl [HT]; · iexact HT
      isplitl [Hs]; · iexact Hs
      isplitl [HO]; · iexact HO
      iintro %hw %v29 ⟨HT, Hl, HO⟩
      dsimp only
      ihave HC := (castPre_any c w T _) $$ HC
      icases HC with ⟨⟨%g0, Hg⟩, ⟨%g1, Hu⟩, ⟨%g2, Hd⟩⟩
      unfold landS
      icases Hl with ⟨⟨Lg, Lu, Ld⟩, ⟨Sg, Wg⟩, ⟨Su, Wu⟩, Sd, Wd⟩
      icases HO with ⟨%W', HO⟩
      rw [Prog.bind_lift]
      iapply (load_gate c w (slotAt T (i 0).val) ⟨_, hT.exp _ hi⟩ hs.o16) $$ Lg
      iintro Lg
      sl_exec
      iapply (load_up c w (slotAt T (i 0).val) ⟨_, hT.exp _ hi⟩ hs.o16) $$ Lu
      iintro Lu
      sl_exec
      iapply (load_down c w (slotAt T (i 0).val) ⟨_, hT.exp _ hi⟩ hs.o17) $$ Ld
      iintro Ld
      sl_exec
      have e5 : moe_run.sl.r_3 c i T = tw T (i 0).val 5 := read_word T _ _ _ (k0_off18_eq i) (by omega) (by decide) _ _
      have hk5 : k0_chk5 (tw T (i 0).val 2) (tw T (i 0).val 7) (tw T (i 0).val 5) := chk5_of _ _ _ hs
      have hex : (⟨_, hT.exp _ hi⟩ : Fin 32) = exAt T (i 0).val := Fin.ext (Nat.mod_eq_of_lt (hT.exp _ hi)).symm
      rw [e5, hex]
      ihave Hg := (stored_whole c cc0_scratch0 g0 inb_S2048x512_S2048x512_0_0 (k0_pay1 (gateBlk c w (exAt T (i 0).val)))) $$ Hg
      ihave Hu := (stored_whole c cc0_scratch1 g1 inb_S2048x512_S2048x512_0_0 (k0_pay2 (upBlk c w (exAt T (i 0).val)))) $$ Hu
      ihave Hd := (stored_whole c cc0_scratch2 g2 inb_S512x2048_S512x2048_0_0 (k0_pay3 (downBlk c w (exAt T (i 0).val)))) $$ Hd
      ihave HS := (idleS_of_landS c w (slotAt T (i 0).val) (exAt T (i 0).val)) $$ [Lg Lu Ld Sg Wg Su Wu Sd Wd]
      · unfold landS
        isplitl [Lg Lu Ld]
        · isplitl [Lg]; · iexact Lg
          isplitl [Lu]; · iexact Lu
          iexact Ld
        isplitl [Sg Wg]
        · isplitl [Sg]; · iexact Sg
          iexact Wg
        isplitl [Su Wu]
        · isplitl [Su]; · iexact Su
          iexact Wu
        isplitl [Sd]; · iexact Sd
        iexact Wd
      ihave HC := (show iprop(ptq c (Memref.whole cc0_scratch0) fullShare (castG c w (exAt T (i 0).val)) ∗ ptq c (Memref.whole cc0_scratch1) fullShare (castU c w (exAt T (i 0).val))
          ∗ ptq c (Memref.whole cc0_scratch2) fullShare (castD c w (exAt T (i 0).val))) ⊢ castS c w (exAt T (i 0).val) from .rfl) $$ [Hg Hu Hd]
      · isplitl [Hg]; · iexact Hg
        isplitl [Hu]; · iexact Hu
        iexact Hd
      set_option sl_exec.stopBefore "k0_cond5" in
      sl_exec
      beta_reduce
      by_cases hn : (tw T (i 0).val 5).toNat < 32
      · rw [dif_pos ((cond5_iff _ (hT.nxt2 _ hi)).2 hn)]
        ihave HS := (idleS_at c w (slotAt T (i 0).val) ⟨_, hn⟩) $$ HS
        icases HS with ⟨Hg, Hu, Hd⟩
        sl_exec
        have e6 : moe_run.sl.r_4 c i T = tw T (i 0).val 5 := read_word T _ _ _ (k0_off19_eq i) (by omega) (by decide) _ _
        rw [e6]
        have hk6 : k0_chk6 (tw T (i 0).val 2) (tw T (i 0).val 5) (tw T (i 0).val 5) := chk6_of _ _ _ hn
        sl_exec
        iapply (issueC_at c (src := gateOf ⟨_, hn⟩) rfl (gateSlotAt_eq hs.o21 _) (semAt_eq hs.o20 _) (qS (slotAt T (i 0).val)) w.gate (amount_gate _)) $$ Hg
        iintro Hg
        try sl_exec
        iapply (issueC_at c (src := upOf ⟨_, hn⟩) rfl (upSlotAt_eq hs.o24 _) (semAt_eq hs.o23 _) (qS (slotAt T (i 0).val)) w.up (amount_up _)) $$ Hu
        iintro Hu
        try sl_exec
        iapply (issueC_at c (src := downOf ⟨_, hn⟩) rfl (downSlotAt_eq hs.o26 _) (semAt_eq hs.o25 _) (qS (slotAt T (i 0).val)) w.down (amount_down _)) $$ Hd
        iintro Hd
        dsimp only [jC', Prog.bind]
        iapply hC
        isplitr [HK]
        · isplitl [HT]; · iexact HT
          isplitl [HO]; · iexists _; iexact HO
          isplitl [Hg Hu Hd Ho]
          · unfold ringPost
            rw [opt_some hn, slotS_some]
            isplitl [Hg Hu Hd]
            · unfold busyS
              isplitl [Hg]; · iexact Hg
              isplitl [Hu]; · iexact Hu
              iexact Hd
            iexact Ho
          isplitl [HC]; · iexact HC
          isplitl [HX]; · iexact HX
          iexact HY
        iexact HK
      · rw [dif_neg (fun h => hn ((cond5_iff _ (hT.nxt2 _ hi)).1 h))]
        dsimp only [jC', Prog.bind]
        iapply hC
        isplitr [HK]
        · isplitl [HT]; · iexact HT
          isplitl [HO]; · iexists _; iexact HO
          isplitl [HS Ho]
          · unfold ringPost
            rw [opt_none hn, slotS_none]
            isplitl [HS]; · iexact HS
            iexact Ho
          isplitl [HC]; · iexact HC
          isplitl [HX]; · iexact HX
          iexact HY
        iexact HK
  clear_value jB
  subst hK
  by_cases h0 : (i 0).val = 0
  · rw [dif_pos ((cond1_iff i).2 h0)]
    have hord : tw T 0 7 = 0#32 := hT.start.2
    have hsl : slotAt T 0 = 0 := Fin.ext (by show (tw T 0 7).toNat % 2 = 0; rw [hord]; rfl)
    have hso : otherAt T 0 = 1 := Fin.ext (by show ((tw T 0 7).toNat + 1) % 2 = 1; rw [hord]; rfl)
    rw [show ringPre c w T (i 0).val = iprop(idleS c w 0 ∗ idleS c w 1) by rw [h0]; rfl]
    have hx0 : (tw T 0 0).toNat < 32 := hT.exp 0 (by decide)
    iintro ⟨⟨HT, HO, ⟨H0, H1⟩, HC, HX, HY⟩, HK⟩
    ihave H0 := (idleS_at c w 0 ⟨_, hx0⟩) $$ H0
    icases H0 with ⟨Hg, Hu, Hd⟩
    dsimp only [s1, s2, s3, s4, s6, s7, s8, s9, s11, s12, s13, s14, s16, s17, s18, s19, s21, s22, s23, s24, s26, s27, s28, s29]
    unfold ptq
    set_option sl_exec.stopBefore "k0_cond2" in
    sl_exec
    have e0 : moe_run.sl.r_5 c T = tw T 0 0 := read_word T _ 0 0 rfl (by decide) (by decide) _ _
    rw [e0, dif_pos ((cond2_iff _ (by omega)).2 hx0)]
    sl_exec
    have e7 : moe_run.sl.r_6 c T = tw T 0 0 := read_word T _ 0 0 rfl (by decide) (by decide) _ _
    rw [e7]
    have hk1 : k0_chk1 i (tw T 0 0) (tw T 0 0) := chk1_of _ _ _ hx0
    sl_exec
    iapply (issueC_at c (src := gateOf ⟨_, hx0⟩) (dst := gateSlot 0) (sem := ringSem 0 0) rfl rfl rfl (qS 0) w.gate (amount_gate _)) $$ Hg
    iintro Hg
    try sl_exec
    iapply (issueC_at c (src := upOf ⟨_, hx0⟩) (dst := upSlot 0) (sem := ringSem 0 1) rfl rfl rfl (qS 0) w.up (amount_up _)) $$ Hu
    iintro Hu
    try sl_exec
    iapply (issueC_at c (src := downOf ⟨_, hx0⟩) (dst := downSlot 0) (sem := ringSem 0 2) rfl rfl rfl (qS 0) w.down (amount_down _)) $$ Hd
    iintro Hd
    rw [ret_then]
    set_option sl_exec.stopBefore "k0_cond3" in
    sl_exec
    have e8 : moe_run.sl.r_7 c T = tw T 0 4 := read_word T _ 0 4 rfl (by decide) (by decide) _ _
    rw [e8]
    by_cases hn : (tw T 0 4).toNat < 32
    · rw [dif_pos ((cond3_iff _ (hT.nxt 0 (by decide))).2 hn)]
      ihave H1 := (idleS_at c w 1 ⟨_, hn⟩) $$ H1
      icases H1 with ⟨Ig, Iu, Id⟩
      sl_exec
      have e9 : moe_run.sl.r_8 c T = tw T 0 4 := read_word T _ 0 4 rfl (by decide) (by decide) _ _
      rw [e9]
      have hk2 : k0_chk2 i (tw T 0 4) (tw T 0 4) := chk2_of _ _ _ hn
      sl_exec
      iapply (issueC_at c (src := gateOf ⟨_, hn⟩) (dst := gateSlot 1) (sem := ringSem 1 0) rfl rfl rfl (qS 1) w.gate (amount_gate _)) $$ Ig
      iintro Ig
      try sl_exec
      iapply (issueC_at c (src := upOf ⟨_, hn⟩) (dst := upSlot 1) (sem := ringSem 1 1) rfl rfl rfl (qS 1) w.up (amount_up _)) $$ Iu
      iintro Iu
      try sl_exec
      iapply (issueC_at c (src := downOf ⟨_, hn⟩) (dst := downSlot 1) (sem := ringSem 1 2) rfl rfl rfl (qS 1) w.down (amount_down _)) $$ Id
      iintro Id
      dsimp only [jB', Prog.bind]
      iapply hB
      isplitr [HK]
      · isplitl [HT]; · iexact HT
        isplitl [HO]; · iexact HO
        isplitl [Hg Hu Hd Ig Iu Id]
        · rw [h0]
          unfold ringMid
          rw [hsl, hso, if_pos hT.start.1, opt_some hx0, opt_some hn, slotS_some, slotS_some]
          unfold busyS
          isplitl [Hg Hu Hd]
          · isplitl [Hg]; · iexact Hg
            isplitl [Hu]; · iexact Hu
            iexact Hd
          isplitl [Ig]; · iexact Ig
          isplitl [Iu]; · iexact Iu
          iexact Id
        isplitl [HC]; · iexact HC
        isplitl [HX]; · iexact HX
        iexact HY
      iexact HK
    · rw [dif_neg (fun h => hn ((cond3_iff _ (hT.nxt 0 (by decide))).1 h))]
      dsimp only [jB', Prog.bind]
      iapply hB
      isplitr [HK]
      · isplitl [HT]; · iexact HT
        isplitl [HO]; · iexact HO
        isplitl [Hg Hu Hd H1]
        · rw [h0]
          unfold ringMid
          rw [hsl, hso, if_pos hT.start.1, opt_some hx0, opt_none hn, slotS_some, slotS_none]
          unfold busyS
          isplitl [Hg Hu Hd]
          · isplitl [Hg]; · iexact Hg
            isplitl [Hu]; · iexact Hu
            iexact Hd
          iexact H1
        isplitl [HC]; · iexact HC
        isplitl [HX]; · iexact HX
        iexact HY
      iexact HK
  · rw [dif_neg (fun h => h0 ((cond1_iff i).1 h))]
    have hR : ringPre c w T (i 0).val ⊢ ringMid c w T (i 0).val := by
      obtain ⟨n, hn⟩ : ∃ n, (i 0).val = n + 1 := ⟨(i 0).val - 1, by omega⟩
      rw [hn]
      exact ringMid_succ c w hT n (by omega)
    iintro ⟨⟨HT, HO, HR, HC, HX, HY⟩, HK⟩
    iapply hB
    isplitr [HK]
    · isplitl [HT]; · iexact HT
      isplitl [HO]; · iexact HO
      isplitl [HR]
      · iapply hR
        iexact HR
      isplitl [HC]; · iexact HC
      isplitl [HX]; · iexact HX
      iexact HY
    iexact HK
end Cert.Proof.K
-- ==== Proof.Decode.lean ====
module

public import proofs.«01_k».proof.Proof.MoeRegion
public import proofs.«01_k».proof.Proof.Gen.Kernel.Points

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ UU ℕ

/-- A block of packed rows spelt out as floats. -/
def decOf (x : S2048x128.Idx → BitVec 32) : S256x2048.Idx → F .f32 :=
  k1_pay1 (F := F)
    (fun j => x ((⟨![0, 0], S256x128.size, ![8, 1], inb_S2048x128_S256x128_0_0_s_8_1⟩ : LoadRect S2048x128).idx j))
    (fun j => x ((⟨![1, 0], S256x128.size, ![8, 1], inb_S2048x128_S256x128_1_0_s_8_1⟩ : LoadRect S2048x128).idx j))
    (fun j => x ((⟨![2, 0], S256x128.size, ![8, 1], inb_S2048x128_S256x128_2_0_s_8_1⟩ : LoadRect S2048x128).idx j))
    (fun j => x ((⟨![3, 0], S256x128.size, ![8, 1], inb_S2048x128_S256x128_3_0_s_8_1⟩ : LoadRect S2048x128).idx j))
    (fun j => x ((⟨![4, 0], S256x128.size, ![8, 1], inb_S2048x128_S256x128_4_0_s_8_1⟩ : LoadRect S2048x128).idx j))
    (fun j => x ((⟨![5, 0], S256x128.size, ![8, 1], inb_S2048x128_S256x128_5_0_s_8_1⟩ : LoadRect S2048x128).idx j))
    (fun j => x ((⟨![6, 0], S256x128.size, ![8, 1], inb_S2048x128_S256x128_6_0_s_8_1⟩ : LoadRect S2048x128).idx j))
    (fun j => x ((⟨![7, 0], S256x128.size, ![8, 1], inb_S2048x128_S256x128_7_0_s_8_1⟩ : LoadRect S2048x128).idx j))

/-- The second kernel's body: it stores its block spelt out. -/
theorem dec_run (c : Dev nD) (i : grid1.Coords) (M1 : Memref sig .tc .vmem S2048x128 .i32) (h1 : M1.IsWhole) (M2 : Memref sig .tc .vmem S256x2048 .f32) (h2 : M2.IsWhole)
    (x : S2048x128.Idx → BitVec 32) (y : S256x2048.Idx → F .f32) (W : Waits sig Unit) (Q : PUnit → sProp 𝕄) :
    iprop((owes (c : Thread nD τ) 0 W ∗ owns (c : Thread nD τ) M1 fullShare x ∗ owns (c : Thread nD τ) M2 fullShare y)
      ∗ (iprop((∃ W, owes (c : Thread nD τ) 0 W) ∗ owns (c : Thread nD τ) M1 fullShare x ∗ owns (c : Thread nD τ) M2 fullShare (decOf x)) -∗ Q ⟨⟩))
    ⊢ wp frame (wpE (defs₀ (F := F)) Variants.none c none) Set.univ (cc1_decode (F := F) i M1 h1 M2 h2) Q := by
  rw [cc1_decode_eq_skeleton]
  unfold cc1_decode_skel owns
  iintro ⟨⟨HO, ⟨%f1, %hf1, H1⟩, ⟨%f2, %hf2, H2⟩⟩, HK⟩
  sl_exec
  sl_step
  iapply HK
  isplitl [HO]; · iexists _; iexact HO
  isplitl [H1]
  · iexists _; isplitr; swap; (· iexact H1); ipureintro; exact hf1
  iexists _; isplitr; swap; (· iexact H2); ipureintro
  subst hf1
  exact View.read_writes_full _ _ _ _ _

variable (V : Dev nD → Valuation τ sig (Elt F))

/-- The block of packed rows point `t` of the second launch reads. -/
def pBlk (c : Dev nD) (t : Fin grid1.N) : S2048x128.Idx → BitVec 32 :=
  ((cfg1.win 0).blk t).view.read (Elt F) (V c main_v0)

/-- The second launch's proof data on core `c`. -/
def decDat (c : Dev nD) : Dat τ (Elt F) Unit ℕ UU ℕ cfg1 c where
  A w := V c (Pipeline.arrRef spec1 w)
  after w t := match w with
    | ⟨0, _⟩ => pBlk V c t
    | ⟨1, _⟩ => decOf (pBlk V c t)
    | ⟨_ + 2, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

theorem dec_before (c : Dev nD) (t : Fin grid1.N) (d) : (decDat V c).before 0 t d = pBlk V c t :=
  (decDat V c).before_in_eq_fetched 0 rfl (fun _ => rfl) (fun _ _ _ => rfl) (fun _ => rfl) t d

set_option backward.isDefEq.respectTransparency.types false in
/-- Its body at a point. -/
theorem dec_body (c : Dev nD) : BodyObligation (decDat V c) (defs₀ (F := F)) Variants.none () Set.univ := fun t => by
  rw [bigSep_W1, bigSep_W1]
  unfold Dat.owesAt Pipeline.owesWithin
  rw [show (decDat V c).owed t.castSucc = 0 from rfl, show (decDat V c).owed t.succ = 0 from rfl,
    show (decDat V c).Φ t.succ = (decDat V c).Φ t.castSucc from rfl]
  iintro ⟨HI, ⟨%W, %hW, HO⟩, ⟨%d0, H0⟩, ⟨%d1, H1⟩⟩
  rw [dec_before]
  iapply (dec_run c (grid1.coords t) _ (hstage1_0 ((cfg1.slots t 0).cast nbuf1_0)) _ (hstage1_1 ((cfg1.slots t 1).cast nbuf1_1)) (pBlk V c t) _ W _)
  isplitl [HO H0 H1]
  · isplitl [HO]; · iexact HO
    isplitl [H0]; · iexact H0
    iexact H1
  iintro ⟨⟨%W', HO⟩, H0, H1⟩
  isplitl [HI]; · iexact HI
  isplitl [HO]
  · iexists W'; isplitr; · ipureintro; exact fun _ _ => Or.inl trivial
    iexact HO
  isplitl [H0]; · iexact H0
  iexact H1

theorem dec_arrays (c : Dev nD) (G) : ((decDat V c).arrays G : sProp 𝕄)
    = iprop((((c : Thread nD τ).loc main_v0) ↦{fullShare} G 0) ∗ (((c : Thread nD τ).loc main_v1) ↦{fullShare} G 1)) := by
  unfold Dat.arrays
  rw [bigSep_W1]
  rw [(arr_whole1 0).set_eq_univ, (arr_whole1 1).set_eq_univ, (decDat V c).share_full (fun _ => rfl), (decDat V c).share_full (fun _ => rfl)]

/-! ### The two launches as regions of the program -/

variable (m : (ℓ : Loc nD τ sig) → Buf (Elt F) ℓ)

/-- What the expert layer leaves in its result. -/
def moeOut {T : TblShape.Idx → BitVec 32} (hT : Planned T) (c : Dev nD) : Buf (Elt F) ((c : Thread nD τ).loc main_v0) := (moeDat m hT c).arrAt 1 grid0.N

/-- The unscoped buffers between the two launches. -/
def Vmid {T : TblShape.Idx → BitVec 32} (hT : Planned T) (c : Dev nD) : Valuation τ sig (Elt F) :=
  Function.update (V0 m c) main_v0 (moeOut m hT c)

/-- What the second launch leaves in its result. -/
def decOut {T : TblShape.Idx → BitVec 32} (hT : Planned T) (c : Dev nD) : Buf (Elt F) ((c : Thread nD τ).loc main_v1) := (decDat (Vmid m hT) c).arrAt 1 grid1.N

/-- The proof data of both. -/
def dats {T : TblShape.Idx → BitVec 32} (hT : Planned T) : (p : Fin 2) → (c : Dev nD) → Dat τ (Elt F) Unit ℕ UU ℕ (Pipeline.pin (pcfgs (F := F)) (adms hT) p) c
  | ⟨0, _⟩ => moeDat m hT
  | ⟨1, _⟩ => decDat (Vmid m hT)
  | ⟨_ + 2, h⟩ => absurd h (Nat.not_lt.2 (Nat.le_add_left _ _))

/-- What the launches leave. -/
def outs {T : TblShape.Idx → BitVec 32} (hT : Planned T) : Outs (F := F) := fun J r c =>
  if J = 1 then Function.update (fun r : Ref sig .tc => m ((c : Thread nD τ).loc r)) main_v0 (moeOut m hT c) r
  else Function.update (fun r : Ref sig .tc => m ((c : Thread nD τ).loc r)) main_v1 (decOut m hT c) r

theorem outs_v0 {T : TblShape.Idx → BitVec 32} (hT : Planned T) (c : Dev nD) : outs m hT 1 main_v0 c = moeOut m hT c := by
  unfold outs; rw [if_pos rfl]; exact Function.update_self ..
theorem outs_v1 {T : TblShape.Idx → BitVec 32} (hT : Planned T) (c : Dev nD) : outs m hT 2 main_v1 c = decOut m hT c := by
  unfold outs; rw [if_neg (by decide)]; exact Function.update_self ..

theorem V1_eq {T : TblShape.Idx → BitVec 32} (hT : Planned T) (c : Dev nD) : V1 m (outs m hT) c = Vmid m hT c := by
  unfold V1 Vmid; rw [outs_v0]

/-- The buffers the program works over, one by one. -/
theorem held_list (c : Dev nD) (V : Valuation τ sig (Elt F)) :
    (StableHlo.held (c : Thread nD τ) (Pipeline.ucRefs τ sig) V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_arg4) ↦{fullShare} V main_arg4) ∗ (((c : Thread nD τ).loc main_v0) ↦{fullShare} V main_v0)
        ∗ (((c : Thread nD τ).loc main_v1) ↦{fullShare} V main_v1)) := by
  rw [← Pipeline.unscopedBufs_held]
  unfold unscopedBufs
  exact bigSep_eq_bigSepL_of_eq [main_arg0, main_arg1, main_arg2, main_arg3, main_arg4, main_v0, main_v1] (by decide) (by decide) _

theorem moe_arrays {T : TblShape.Idx → BitVec 32} (hT : Planned T) (c : Dev nD) (G) : ((moeDat m hT c).arrays G : sProp 𝕄)
    = iprop((((c : Thread nD τ).loc main_arg1) ↦{fullShare} G 0) ∗ (((c : Thread nD τ).loc main_v0) ↦{fullShare} G 1)) := by
  unfold Dat.arrays
  rw [bigSep_W0]
  rw [(arr_whole0 0).set_eq_univ, (arr_whole0 1).set_eq_univ, (moeDat m hT c).share_full (fun _ => rfl), (moeDat m hT c).share_full (fun _ => rfl)]

end Cert.Proof.K

end
-- ==== Proof.IdealRing.lean ====
module

public import proofs.«01_k».proof.Proof.Gen.KernelIdeal.Skeleton
public import proofs.«01_k».proof.Proof.Gen.KernelIdeal.Launch
public import proofs.«01_k».proof.Proof.Plan
public import Idealize.ShloMosaic.Lib.Tactic
public import Idealize.ShloMosaic.Lib.Pipeline.Kit

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's rounds beside the counters the kernel's own transfers take tokens from. -/
abbrev UU : Type := UR sig nD τ × Counters

local notation "𝕄" => MT nD τ sig Unit (Elt F) ℕ UU ℕ

/-- A memref's buffer on core `c`. -/
abbrev Bf (c : Dev nD) {sp : Space} {S : Shape} {e : EltTy} (M : Memref sig .tc sp S e) : Type := Buf (Elt F) (M.view.loc (c : Thread nD τ))

/-- A memref's buffer on core `c` held whole at `f`, with share `q`. -/
abbrev ptq (c : Dev nD) {sp : Space} {S : Shape} {e : EltTy} (M : Memref sig .tc sp S e) (q : PosShare TreeShare) (f : Bf (F := F) c M) : sProp 𝕄 :=
  M.view.loc (c : Thread nD τ) ↦{q} f

/-- A copy not under way: the destination window free, its semaphore at zero, the source readable. -/
def idleC (c : Dev nD) {S : Shape} (src : Memref sig .tc .hbm S .f32) (dst : Memref sig .tc .vmem S .f32) (sm : SemLoc sig)
    (q : PosShare TreeShare) (w : Bf (F := F) c src) : sProp 𝕄 :=
  iprop((∃ f : Bf (F := F) c dst, dst.view.loc (c : Thread nD τ) ↦[dst.view.set]{fullShare} f) ∗ semVal ((c : Thread nD τ), sm) 0 ∗ ptq c src q w)

/-- The destination window holding what `src` holds. -/
def landC (c : Dev nD) {S : Shape} (src : Memref sig .tc .hbm S .f32) (dst : Memref sig .tc .vmem S .f32)
    (w : Bf (F := F) c src) : sProp 𝕄 :=
  iprop(∃ f : Bf (F := F) c dst, dst.view.loc (c : Thread nD τ) ↦[dst.view.set]{fullShare}
    (dst.view.write (Elt F) f (src.view.read (Elt F) w) Finset.univ))

/-- A copy of `src` into `dst` under way on the semaphore `sm`. -/
def busyC (c : Dev nD) {S : Shape} (src : Memref sig .tc .hbm S .f32) (dst : Memref sig .tc .vmem S .f32) (sm : SemLoc sig)
    (q : PosShare TreeShare) (w : Bf (F := F) c src) : sProp 𝕄 :=
  iprop(Transfers.Flight (countersEmb (U := UU)) (c : Thread nD τ) sm () (dst.view.amount sm)
      iprop(landC c src dst w ∗ src.view.loc (c : Thread nD τ) ↦[src.view.set]{q} w)
    ∗ src.view.loc (c : Thread nD τ) ↦[Finset.univ \ src.view.set]{q} w)

/-- Starting a copy: an idle one becomes one under way. -/
theorem issueC (c : Dev nD) {S : Shape} (src : Memref sig .tc .hbm S .f32) (dst : Memref sig .tc .vmem S .f32) (sm : SemLoc sig)
    (q : PosShare TreeShare) (w : Bf (F := F) c src) (hN0 : 0 < dst.view.amount sm)
    {hsrc : src.view.WordExact} {hdst : dst.view.WordExact}
    {hsem : (DmaTarget.here dst : DmaTarget nD τ sig (.tc : Proc τ) .vmem S .f32).Typed .hbm sm}
    {α : Type} {k : PUnit.{1} → Prog (TpuEff nD τ sig (Elt F) Λ₀ .tc) α} {Q : α → sProp 𝕄} :
    idleC c src dst sm q w ⊢ iprop((busyC c src dst sm q w -∗ wp frame (wpE (defs₀ (F := F)) Variants.none c none) Set.univ (k ⟨⟩) Q)
      -∗ wp frame (wpE (defs₀ (F := F)) Variants.none c none) Set.univ (.op (.enqueueDma src (.here dst) sm hsrc hdst hsem) k) Q) := by
  unfold idleC busyC ptq
  iintro ⟨⟨%f, Hd⟩, Hs, Hw⟩ Hk
  ihave Hw2 := (pointsTo_split_subset (Finset.subset_univ src.view.set)).1 $$ Hw
  icases Hw2 with ⟨Hw, Hr⟩
  iapply (Transfers.wp_dmaLocal (countersEmb (U := UU)) Variants.none (c : Thread nD τ) none (src := src) (dst := dst) (sm := sm) () _ rfl hN0 (Finset.Subset.refl _)) $$ [Hd Hs Hw]
  · isplitl [Hw]; · iexact Hw
    isplitl [Hd]; · iexact Hd
    iexact Hs
  iintro HF
  iapply Hk
  isplitl [HF]
  · iapply (Transfers.Flight_mono (countersEmb (U := UU)) (c : Thread nD τ) (D := _) ?_) $$ HF
    unfold landC
    iintro ⟨H, Hs⟩
    isplitl [H]; · iexists _; iexact H
    iexact Hs
  iexact Hr

/-- Waiting for a copy: the destination holds what the source holds, and the semaphore and the source are back. -/
theorem collectC (c : Dev nD) {S : Shape} (src : Memref sig .tc .hbm S .f32) (dst : Memref sig .tc .vmem S .f32) (sem : DmaSem sig)
    (q : PosShare TreeShare) (w : Bf (F := F) c src) (W : Waits sig Unit)
    {srcw : Memref sig .tc .hbm S .f32} {hsrc : srcw.view.WordExact} {hdst : dst.view.WordExact}
    {α : Type} {k : PUnit.{1} → Prog (TpuEff nD τ sig (Elt F) Λ₀ .tc) α} {Q : α → sProp 𝕄} :
    iprop(busyC c src dst (.dma sem) q w ∗ owes (c : Thread nD τ) 0 W)
      ⊢ iprop((iprop(landC c src dst w ∗ semVal ((c : Thread nD τ), SemLoc.dma sem) 0 ∗ ptq c src q w
            ∗ ∃ W', owes (c : Thread nD τ) 0 W') -∗ wp frame (wpE (defs₀ (F := F)) Variants.none c none) Set.univ (k ⟨⟩) Q)
      -∗ wp frame (wpE (defs₀ (F := F)) Variants.none c none) Set.univ (.op (.waitDma2 sem srcw dst hsrc hdst) k) Q) := by
  unfold busyC ptq
  iintro ⟨⟨HF, Hr⟩, HO⟩ Hk
  iapply (Transfers.wp_waitLocal (countersEmb (U := UU)) Variants.none (c : Thread nD τ) none (sem := sem) (dstw := dst) () rfl (W := W)) $$ [HF HO]
  · isplitl [HF]; · iexact HF
    iexact HO
  iintro ⟨⟨Hl, Hs⟩, Hv, HO⟩
  iapply Hk
  isplitl [Hl]; · iexact Hl
  isplitl [Hv]; · iexact Hv
  isplitl [Hs Hr]
  · iapply (pointsTo_split_subset (Finset.subset_univ src.view.set)).2
    isplitl [Hs] <;> iassumption
  iexists _; iexact HO

/-! ### The ring's slots, its semaphores and the experts' blocks, at any spelling of their offsets -/

abbrev gateSlotAt (off : Fin 3 → Nat) (h : ∀ a, off a + S1x2048x512.size a ≤ S2x2048x512.size a) : Memref sig .tc .vmem S2048x512 .f32 :=
  ((Memref.whole cc0_scratch3).slice (Rect.unit (s := S2x2048x512) off S1x2048x512.size h) (fun _ => rfl)).squeeze S2048x512 squeezes_S1x2048x512_S2048x512
abbrev upSlotAt (off : Fin 3 → Nat) (h : ∀ a, off a + S1x2048x512.size a ≤ S2x2048x512.size a) : Memref sig .tc .vmem S2048x512 .f32 :=
  ((Memref.whole cc0_scratch4).slice (Rect.unit (s := S2x2048x512) off S1x2048x512.size h) (fun _ => rfl)).squeeze S2048x512 squeezes_S1x2048x512_S2048x512
abbrev downSlotAt (off : Fin 3 → Nat) (h : ∀ a, off a + S1x512x2048.size a ≤ S2x512x2048.size a) : Memref sig .tc .vmem S512x2048 .f32 :=
  ((Memref.whole cc0_scratch5).slice (Rect.unit (s := S2x512x2048) off S1x512x2048.size h) (fun _ => rfl)).squeeze S512x2048 squeezes_S1x512x2048_S512x2048
abbrev gateAt (off : Fin 3 → Nat) (h : ∀ a, off a + S1x2048x512.size a ≤ S32x2048x512.size a) : Memref sig .tc .hbm S2048x512 .f32 :=
  ((Memref.whole main_arg2).slice (Rect.unit (s := S32x2048x512) off S1x2048x512.size h) (fun _ => rfl)).squeeze S2048x512 squeezes_S1x2048x512_S2048x512
abbrev upAt (off : Fin 3 → Nat) (h : ∀ a, off a + S1x2048x512.size a ≤ S32x2048x512.size a) : Memref sig .tc .hbm S2048x512 .f32 :=
  ((Memref.whole main_arg3).slice (Rect.unit (s := S32x2048x512) off S1x2048x512.size h) (fun _ => rfl)).squeeze S2048x512 squeezes_S1x2048x512_S2048x512
abbrev downAt (off : Fin 3 → Nat) (h : ∀ a, off a + S1x512x2048.size a ≤ S32x512x2048.size a) : Memref sig .tc .hbm S512x2048 .f32 :=
  ((Memref.whole main_arg4).slice (Rect.unit (s := S32x512x2048) off S1x512x2048.size h) (fun _ => rfl)).squeeze S512x2048 squeezes_S1x512x2048_S512x2048
abbrev semAt (off : Fin 2 → Nat) (h : ∀ a, off a + S1x1.size a ≤ S2x3.size a) : DmaSem sig :=
  ((cc0_scratch6.slice (Rect.unit (s := S2x3) off S1x1.size h)).squeeze S_ squeezes_S1x1_S_).sem

theorem slot_inb (s : Fin 2) : ∀ a, (![s.val, 0, 0] : Fin 3 → Nat) a + S1x2048x512.size a ≤ S2x2048x512.size a := by revert s; decide
theorem dslot_inb (s : Fin 2) : ∀ a, (![s.val, 0, 0] : Fin 3 → Nat) a + S1x512x2048.size a ≤ S2x512x2048.size a := by revert s; decide
theorem exp_inb (e : Fin 32) : ∀ a, (![e.val, 0, 0] : Fin 3 → Nat) a + S1x2048x512.size a ≤ S32x2048x512.size a := by revert e; decide
theorem dexp_inb (e : Fin 32) : ∀ a, (![e.val, 0, 0] : Fin 3 → Nat) a + S1x512x2048.size a ≤ S32x512x2048.size a := by revert e; decide
theorem sem_inb (s : Fin 2) (k : Fin 3) : ∀ a, (![s.val, k.val] : Fin 2 → Nat) a + S1x1.size a ≤ S2x3.size a := by revert s k; decide

abbrev gateSlot (s : Fin 2) := gateSlotAt ![s.val, 0, 0] (slot_inb s)
abbrev upSlot (s : Fin 2) := upSlotAt ![s.val, 0, 0] (slot_inb s)
abbrev downSlot (s : Fin 2) := downSlotAt ![s.val, 0, 0] (dslot_inb s)
abbrev gateOf (e : Fin 32) := gateAt ![e.val, 0, 0] (exp_inb e)
abbrev upOf (e : Fin 32) := upAt ![e.val, 0, 0] (exp_inb e)
abbrev downOf (e : Fin 32) := downAt ![e.val, 0, 0] (dexp_inb e)

/-- The ring's semaphore of slot `s` and array `k`, by number. -/
def ringSem (s : Fin 2) (k : Fin 3) : DmaSem sig := semAt ![s.val, k.val] (sem_inb s k)

theorem ringSem_list : (ringSem 0 0, ringSem 0 1, ringSem 0 2, ringSem 1 0, ringSem 1 1, ringSem 1 2) = (4, 5, 6, 7, 8, 9) := by decide

/-! ### The words the kernel computes from the table's -/

/-- The element of the table a one-word access reads. -/
theorem read_word {c : Dev nD} (T : Bf (F := F) c (Memref.whole main_arg0)) (off : Fin 2 → Nat) (r k : Nat) (hoff : off = ![r, k])
    (hr : r < 128) (hk : k < 128) (h : ∀ a, off a + S1x1.size a ≤ S128x128.size a) (x : (Rect.unit (s := S128x128) off S1x1.size h).toLoadRect.shape.Idx) :
    View.readAt (Elt F) (Memref.whole main_arg0).view (Rect.unit (s := S128x128) off S1x1.size h).toLoadRect T x = tw T r k := by
  subst hoff
  show T _ = T _
  congr 1
  funext a
  have hx : ∀ a, (x a).val = 0 := by
    intro a
    have := (x a).isLt
    fin_cases a <;> exact Nat.lt_one_iff.mp this
  apply Fin.ext
  fin_cases a
  · show r + _ * (x 0).val = r % 128
    rw [hx 0, Nat.mod_eq_of_lt hr]; simp
  · show k + _ * (x 1).val = k % 128
    rw [hx 1, Nat.mod_eq_of_lt hk]; simp

theorem cond1_iff : ∀ i : grid0.Coords, k0_cond1 i = 1#1 ↔ (i 0).val = 0 := by decide +kernel

theorem bit_of (b : Bool) : Scalar.cmpi .ne (Scalar.extui (BitVec.ofBool b) : BitVec 32) 0#32 = 1#1 ↔ b = true := by
  cases b <;> decide

theorem cond2_iff (w : BitVec 32) (h : w.toNat < 2 ^ 31) : k0_cond2 w = 1#1 ↔ w.toNat < 32 := by
  rw [show k0_cond2 w = Scalar.cmpi .ne (Scalar.extui (BitVec.ofBool (w.slt 32#32)) : BitVec 32) 0#32 from rfl, bit_of,
    slt_small w 32 (by decide) h, decide_eq_true_eq]
theorem cond3_iff (w : BitVec 32) (h : w.toNat < 2 ^ 31) : k0_cond3 w = 1#1 ↔ w.toNat < 32 := cond2_iff w h
theorem cond5_iff (w : BitVec 32) (h : w.toNat < 2 ^ 31) : k0_cond5 w = 1#1 ↔ w.toNat < 32 := cond2_iff w h
theorem cond4_iff (w : BitVec 32) (h : w.toNat < 2 ^ 31) : k0_cond4 w = 1#1 ↔ 0 < w.toNat := by
  rw [show k0_cond4 w = Scalar.cmpi .ne (Scalar.extui (BitVec.ofBool ((0#32).slt w)) : BitVec 32) 0#32 from rfl, bit_of,
    small_slt w 0 (by decide) h, decide_eq_true_eq]
theorem cond6_iff (w : BitVec 32) (h : w.toNat < 2 ^ 31) : k0_cond6 w = 1#1 ↔ 0 < w.toNat := cond4_iff w h
theorem cond7_iff (w : BitVec 32) : k0_cond7 w = 1#1 ↔ w.toNat = 0 := by
  rw [show k0_cond7 w = Scalar.cmpi .ne (Scalar.extui (BitVec.ofBool (w == 0#32)) : BitVec 32) 0#32 from rfl, bit_of, beq_iff_eq,
    ← BitVec.toNat_inj]; rfl

/-- The ring's offsets at the `n`-th expert: slot `n % 2`. -/
theorem ring_offs : ∀ n : Fin 96,
    k0_off8 (BitVec.ofNat 32 n.val) = ![n.val % 2, 0] ∧ k0_off11 (BitVec.ofNat 32 n.val) = ![n.val % 2, 1] ∧ k0_off13 (BitVec.ofNat 32 n.val) = ![n.val % 2, 2]
    ∧ k0_off20 (BitVec.ofNat 32 n.val) = ![n.val % 2, 0] ∧ k0_off23 (BitVec.ofNat 32 n.val) = ![n.val % 2, 1] ∧ k0_off25 (BitVec.ofNat 32 n.val) = ![n.val % 2, 2]
    ∧ k0_off9 (BitVec.ofNat 32 n.val) = ![n.val % 2, 0, 0] ∧ k0_off12 (BitVec.ofNat 32 n.val) = ![n.val % 2, 0, 0] ∧ k0_off14 (BitVec.ofNat 32 n.val) = ![n.val % 2, 0, 0]
    ∧ k0_off16 (BitVec.ofNat 32 n.val) = ![n.val % 2, 0, 0] ∧ k0_off17 (BitVec.ofNat 32 n.val) = ![n.val % 2, 0, 0]
    ∧ k0_off21 (BitVec.ofNat 32 n.val) = ![n.val % 2, 0, 0] ∧ k0_off24 (BitVec.ofNat 32 n.val) = ![n.val % 2, 0, 0] ∧ k0_off26 (BitVec.ofNat 32 n.val) = ![n.val % 2, 0, 0] := by
  decide +kernel

/-- A word that names a slot: every offset computed from it is that slot's. -/
structure SlotWord (w : BitVec 32) (s : Fin 2) : Prop where
  o8 : k0_off8 w = ![s.val, (0 : Fin 3).val]
  o11 : k0_off11 w = ![s.val, (1 : Fin 3).val]
  o13 : k0_off13 w = ![s.val, (2 : Fin 3).val]
  o20 : k0_off20 w = ![s.val, (0 : Fin 3).val]
  o23 : k0_off23 w = ![s.val, (1 : Fin 3).val]
  o25 : k0_off25 w = ![s.val, (2 : Fin 3).val]
  o9 : k0_off9 w = ![s.val, 0, 0]
  o12 : k0_off12 w = ![s.val, 0, 0]
  o14 : k0_off14 w = ![s.val, 0, 0]
  o16 : k0_off16 w = ![s.val, 0, 0]
  o17 : k0_off17 w = ![s.val, 0, 0]
  o21 : k0_off21 w = ![s.val, 0, 0]
  o24 : k0_off24 w = ![s.val, 0, 0]
  o26 : k0_off26 w = ![s.val, 0, 0]

theorem slotWord (w : BitVec 32) (h : w.toNat < 96) : SlotWord w ⟨w.toNat % 2, Nat.mod_lt _ (by decide)⟩ := by
  have hw : w = BitVec.ofNat 32 w.toNat := by simp
  obtain ⟨a1, a2, a3, a4, a5, a6, a7, a8, a9, a10, a11, a12, a13, a14⟩ := ring_offs ⟨w.toNat, h⟩
  simp only [← hw] at a1 a2 a3 a4 a5 a6 a7 a8 a9 a10 a11 a12 a13 a14
  exact ⟨a1, a2, a3, a4, a5, a6, a7, a8, a9, a10, a11, a12, a13, a14⟩

theorem chk1_of (i : grid0.Coords) (a b : BitVec 32) (h : b.toNat < 32) : k0_chk1 i a b :=
  ⟨fun _ _ => exp_inb ⟨_, h⟩, fun _ _ => dexp_inb ⟨_, h⟩⟩
theorem chk2_of (i : grid0.Coords) (a b : BitVec 32) (h : b.toNat < 32) : k0_chk2 i a b :=
  ⟨fun _ _ => exp_inb ⟨_, h⟩, fun _ _ => dexp_inb ⟨_, h⟩⟩
theorem chk3_of (a w : BitVec 32) {s : Fin 2} (h : SlotWord w s) : k0_chk3 a w :=
  ⟨fun _ => h.o8 ▸ sem_inb s 0, fun _ => h.o9 ▸ slot_inb s, fun _ => h.o11 ▸ sem_inb s 1, fun _ => h.o12 ▸ slot_inb s, fun _ => h.o13 ▸ sem_inb s 2,
    fun _ => h.o14 ▸ dslot_inb s, fun _ => h.o16 ▸ slot_inb s, fun _ => h.o17 ▸ dslot_inb s⟩
theorem chk4_of (a b : BitVec 32) (h : b.toNat < 32) : k0_chk4 a b := ⟨fun _ => exp_inb ⟨_, h⟩, fun _ => dexp_inb ⟨_, h⟩⟩
theorem chk5_of (a w b : BitVec 32) {s : Fin 2} (h : SlotWord w s) : k0_chk5 a w b :=
  ⟨fun _ _ => h.o20 ▸ sem_inb s 0, fun _ _ => h.o21 ▸ slot_inb s, fun _ _ => h.o23 ▸ sem_inb s 1, fun _ _ => h.o24 ▸ slot_inb s, fun _ _ => h.o25 ▸ sem_inb s 2,
    fun _ _ => h.o26 ▸ dslot_inb s⟩
theorem chk6_of (a b d : BitVec 32) (h : d.toNat < 32) : k0_chk6 a b d := ⟨fun _ _ => exp_inb ⟨_, h⟩, fun _ _ => dexp_inb ⟨_, h⟩⟩

/-! ### A slot's three copies -/

/-- The weights: the three arrays' contents. -/
structure Wts (F : FTy → Type) [FloatOps F] (c : Dev nD) where
  gate : Bf (F := F) c (Memref.whole main_arg2)
  up : Bf (F := F) c (Memref.whole main_arg3)
  down : Bf (F := F) c (Memref.whole main_arg4)

/-- The share of the weights slot `s` reads through. -/
abbrev qS (s : Fin 2) : PosShare TreeShare := Transfers.shareTok fullShare 2 s

/-- Slot `s` free: nothing under way, its windows at anything. -/
def idleS (c : Dev nD) (w : Wts F c) (s : Fin 2) : sProp 𝕄 :=
  iprop(idleC c (gateOf 0) (gateSlot s) (.dma (ringSem s 0)) (qS s) w.gate ∗ idleC c (upOf 0) (upSlot s) (.dma (ringSem s 1)) (qS s) w.up
    ∗ idleC c (downOf 0) (downSlot s) (.dma (ringSem s 2)) (qS s) w.down)

/-- Slot `s` being filled with expert `e`'s weights. -/
def busyS (c : Dev nD) (w : Wts F c) (s : Fin 2) (e : Fin 32) : sProp 𝕄 :=
  iprop(busyC c (gateOf e) (gateSlot s) (.dma (ringSem s 0)) (qS s) w.gate ∗ busyC c (upOf e) (upSlot s) (.dma (ringSem s 1)) (qS s) w.up
    ∗ busyC c (downOf e) (downSlot s) (.dma (ringSem s 2)) (qS s) w.down)

/-- Slot `s` filled with expert `e`'s weights, its semaphores at zero and its share of the weights back. -/
def landS (c : Dev nD) (w : Wts F c) (s : Fin 2) (e : Fin 32) : sProp 𝕄 :=
  iprop((landC c (gateOf e) (gateSlot s) w.gate ∗ landC c (upOf e) (upSlot s) w.up ∗ landC c (downOf e) (downSlot s) w.down)
    ∗ (semVal ((c : Thread nD τ), SemLoc.dma (ringSem s 0)) 0 ∗ ptq c (Memref.whole main_arg2) (qS s) w.gate)
    ∗ (semVal ((c : Thread nD τ), SemLoc.dma (ringSem s 1)) 0 ∗ ptq c (Memref.whole main_arg3) (qS s) w.up)
    ∗ (semVal ((c : Thread nD τ), SemLoc.dma (ringSem s 2)) 0 ∗ ptq c (Memref.whole main_arg4) (qS s) w.down))

/-- The part of the body that waits for a slot, at the memrefs of the launch. -/
abbrev waitsPart (i : grid0.Coords) (M2 : Memref sig .tc .vmem S2048x128 .i32) (M6 : Memref sig .tc .vmem S2048x2x128 .bf16) (h2 : M2.IsWhole) (h6 : M6.IsWhole) (v4 : BitVec 32) (h4 : k0_cond4 v4 = 1#1) :=
  k0_part1 (F := F) i (Memref.whole main_arg0) (Memref.isWhole_whole _) M2 h2 (Memref.whole main_arg2) (Memref.isWhole_whole _) (Memref.whole main_arg3) (Memref.isWhole_whole _) (Memref.whole main_arg4) (Memref.isWhole_whole _) M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (BitVec.ofNat 32 (i 0).val) v4 h4

theorem gateSlotAt_eq {s : Fin 2} {p : Fin 3 → Nat} (hp : p = ![s.val, 0, 0]) (h) : gateSlotAt p h = gateSlot s := by subst hp; rfl
theorem upSlotAt_eq {s : Fin 2} {p : Fin 3 → Nat} (hp : p = ![s.val, 0, 0]) (h) : upSlotAt p h = upSlot s := by subst hp; rfl
theorem downSlotAt_eq {s : Fin 2} {p : Fin 3 → Nat} (hp : p = ![s.val, 0, 0]) (h) : downSlotAt p h = downSlot s := by subst hp; rfl
theorem gateAt_eq {e : Fin 32} {p : Fin 3 → Nat} (hp : p = ![e.val, 0, 0]) (h) : gateAt p h = gateOf e := by subst hp; rfl
theorem upAt_eq {e : Fin 32} {p : Fin 3 → Nat} (hp : p = ![e.val, 0, 0]) (h) : upAt p h = upOf e := by subst hp; rfl
theorem downAt_eq {e : Fin 32} {p : Fin 3 → Nat} (hp : p = ![e.val, 0, 0]) (h) : downAt p h = downOf e := by subst hp; rfl
theorem semAt_eq {s : Fin 2} {k : Fin 3} {p : Fin 2 → Nat} (hp : p = ![s.val, k.val]) (h) : semAt p h = ringSem s k := by subst hp; rfl

/-- Waiting for a copy, the operands in another spelling. -/
theorem collectC_at (c : Dev nD) {S : Shape} {src : Memref sig .tc .hbm S .f32} {dst dst' : Memref sig .tc .vmem S .f32} {sem sem' : DmaSem sig}
    (hd : dst' = dst) (hs : sem' = sem) (q : PosShare TreeShare) (w : Bf (F := F) c src) {W : Waits sig Unit}
    {srcw : Memref sig .tc .hbm S .f32} {hsrc : srcw.view.WordExact} {hdst : dst'.view.WordExact}
    {α : Type} {k : PUnit.{1} → Prog (TpuEff nD τ sig (Elt F) Λ₀ .tc) α} {Q : α → sProp 𝕄} :
    iprop(busyC c src dst (.dma sem) q w ∗ owes (c : Thread nD τ) 0 W)
      ⊢ iprop((iprop(landC c src dst w ∗ semVal ((c : Thread nD τ), SemLoc.dma sem) 0 ∗ ptq c src q w
            ∗ ∃ W', owes (c : Thread nD τ) 0 W') -∗ wp frame (wpE (defs₀ (F := F)) Variants.none c none) Set.univ (k ⟨⟩) Q)
      -∗ wp frame (wpE (defs₀ (F := F)) Variants.none c none) Set.univ (.op (.waitDma2 sem' srcw dst' hsrc hdst) k) Q) := by
  subst hd hs
  exact collectC c src dst' sem' q w W

/-- Starting a copy, the operands in another spelling. -/
theorem issueC_at (c : Dev nD) {S : Shape} {src src' : Memref sig .tc .hbm S .f32} {dst dst' : Memref sig .tc .vmem S .f32} {sem sem' : DmaSem sig}
    (hr : src' = src) (hd : dst' = dst) (hs : sem' = sem)
    (q : PosShare TreeShare) (w : Bf (F := F) c src) (hN0 : 0 < dst.view.amount (.dma sem))
    {hsrc : src'.view.WordExact} {hdst : dst'.view.WordExact}
    {hsem : (DmaTarget.here dst' : DmaTarget nD τ sig (.tc : Proc τ) .vmem S .f32).Typed .hbm (.dma sem')}
    {α : Type} {k : PUnit.{1} → Prog (TpuEff nD τ sig (Elt F) Λ₀ .tc) α} {Q : α → sProp 𝕄} :
    idleC c src dst (.dma sem) q w ⊢ iprop((busyC c src dst (.dma sem) q w -∗ wp frame (wpE (defs₀ (F := F)) Variants.none c none) Set.univ (k ⟨⟩) Q)
      -∗ wp frame (wpE (defs₀ (F := F)) Variants.none c none) Set.univ (.op (.enqueueDma src' (.here dst') (.dma sem') hsrc hdst hsem) k) Q) := by
  subst hr hd hs
  exact issueC c src' dst' (.dma sem') q w hN0

theorem waits_run (c : Dev nD) (i : grid0.Coords) (M2 : Memref sig .tc .vmem S2048x128 .i32) (M6 : Memref sig .tc .vmem S2048x2x128 .bf16) (h2 : M2.IsWhole) (h6 : M6.IsWhole)
    (q : PosShare TreeShare) (T : Bf (F := F) c (Memref.whole main_arg0)) (hT : Planned T) (w : Wts F c) (v4 : BitVec 32) (h4 : k0_cond4 v4 = 1#1)
    (s : Fin 2) (hs : SlotWord (tw T (i 0).val 7) s) (e : Fin 32) (W : Waits sig Unit)
    (Q : (Σ' (v19 : Elt F .i32) (k0_hw3 : k0_chk3 v4 v19), BitVec 32) → sProp 𝕄)  :
    iprop(ptq c (Memref.whole main_arg0) q T ∗ busyS c w s e ∗ owes (c : Thread nD τ) 0 W
      ∗ (∀ hw x, iprop(ptq c (Memref.whole main_arg0) q T ∗ landS c w s e ∗ (∃ W, owes (c : Thread nD τ) 0 W)) -∗ Q ⟨tw T (i 0).val 7, hw, x⟩))
    ⊢ wp frame (wpE (defs₀ (F := F)) Variants.none c none) Set.univ (waitsPart i M2 M6 h2 h6 v4 h4) Q := by
  have hi : (i 0).val < 96 := (i 0).isLt
  unfold busyS waitsPart
  iintro ⟨HT, ⟨Hg, Hu, Hd⟩, HO, Hk⟩
  rw [k0_part1_eq_skeleton]
  unfold k0_part1_skel
  sl_exec
  have e1 : waits_run.sl.r c i T = tw T (i 0).val 7 := read_word T _ _ _ (k0_off6_eq i) (by omega) (by decide) _ _
  rw [e1]
  have hk3 : k0_chk3 v4 (tw T (i 0).val 7) := chk3_of _ _ hs
  sl_exec
  have e2 : waits_run.sl.r_1 c i T = tw T (i 0).val 0 := read_word T _ _ _ (k0_off7_eq i) (by omega) (by decide) _ _
  have hk4 : k0_chk4 v4 (waits_run.sl.r_1 c i T) := chk4_of _ _ (e2 ▸ hT.exp _ hi)
  sl_exec
  iapply (collectC_at c (src := gateOf e) (gateSlotAt_eq hs.o9 _) (semAt_eq hs.o8 _) (qS s) w.gate) $$ [Hg HO]
  · isplitl [Hg]; · iexact Hg
    iexact HO
  iintro ⟨Lg, Sg, Wg, ⟨%W1, HO⟩⟩
  sl_exec
  iapply (collectC_at c (src := upOf e) (upSlotAt_eq hs.o12 _) (semAt_eq hs.o11 _) (qS s) w.up) $$ [Hu HO]
  · isplitl [Hu]; · iexact Hu
    iexact HO
  iintro ⟨Lu, Su, Wu, ⟨%W2, HO⟩⟩
  sl_exec
  iapply (collectC_at c (src := downOf e) (downSlotAt_eq hs.o14 _) (semAt_eq hs.o13 _) (qS s) w.down) $$ [Hd HO]
  · isplitl [Hd]; · iexact Hd
    iexact HO
  iintro ⟨Ld, Sd, Wd, ⟨%W3, HO⟩⟩
  sl_exec
  sl_step
  iapply Hk
  isplitl [HT]; · iexact HT
  isplitr [HO]
  · unfold landS
    isplitl [Lg Lu Ld]
    · isplitl [Lg]; · iexact Lg
      isplitl [Lu]; · iexact Lu
      iexact Ld
    isplitl [Sg Wg]
    · isplitl [Sg]; · iexact Sg
      iexact Wg
    isplitl [Su Wu]
    · isplitl [Su]; · iexact Su
      iexact Wu
    isplitl [Sd]; · iexact Sd
    iexact Wd
  iexists _; iexact HO

end Cert.Proof.KI
-- ==== Proof.IdealBody.lean ====
module

public import proofs.«01_k».proof.Proof.IdealRing
public import Idealize.ShloMosaic.Lib.Pointwise
public import Idealize.ShloMosaic.Lib.VecWindow

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The expert layer's body at the memrefs of the launch. -/
abbrev moeBody (i : grid0.Coords) (M2 : Memref sig .tc .vmem S2048x128 .i32) (M6 : Memref sig .tc .vmem S2048x2x128 .bf16) (h2 : M2.IsWhole) (h6 : M6.IsWhole) :=
  cc0_moe (F := F) i (Memref.whole main_arg0) (Memref.isWhole_whole _) M2 h2 (Memref.whole main_arg2) (Memref.isWhole_whole _) (Memref.whole main_arg3) (Memref.isWhole_whole _) (Memref.whole main_arg4) (Memref.isWhole_whole _) M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6

/-- The expert a word names, if it names one. -/
def opt (w : BitVec 32) : Option (Fin 32) := if h : w.toNat < 32 then some ⟨w.toNat, h⟩ else none

theorem opt_some {w : BitVec 32} (h : w.toNat < 32) : opt w = some ⟨w.toNat, h⟩ := dif_pos h
theorem opt_none {w : BitVec 32} (h : ¬ w.toNat < 32) : opt w = none := dif_neg h

/-- Slot `s`: being filled with an expert's weights, or free. -/
def slotS (c : Dev nD) (w : Wts F c) (s : Fin 2) : Option (Fin 32) → sProp 𝕄
  | none => idleS c w s
  | some e => busyS c w s e

theorem slotS_some (c : Dev nD) (w : Wts F c) (s : Fin 2) (e : Fin 32) : slotS c w s (some e) = busyS c w s e := rfl
theorem slotS_none (c : Dev nD) (w : Wts F c) (s : Fin 2) : slotS c w s none = idleS c w s := rfl

/-- The slot of the expert row `n` counts. -/
def slotAt (T : TblShape.Idx → BitVec 32) (n : Nat) : Fin 2 := ⟨(tw T n 7).toNat % 2, Nat.mod_lt _ (by decide)⟩
/-- The other slot. -/
def otherAt (T : TblShape.Idx → BitVec 32) (n : Nat) : Fin 2 := ⟨((tw T n 7).toNat + 1) % 2, Nat.mod_lt _ (by decide)⟩

/-- The ring after row `n`: the row's slot with the expert after the next, the other with the next. -/
def ringPost (c : Dev nD) (w : Wts F c) (T : TblShape.Idx → BitVec 32) (n : Nat) : sProp 𝕄 :=
  iprop(slotS c w (slotAt T n) (opt (tw T n 5)) ∗ slotS c w (otherAt T n) (opt (tw T n 4)))

/-- The ring before row `n`: free before the first, and else as the row before left it. -/
def ringPre (c : Dev nD) (w : Wts F c) (T : TblShape.Idx → BitVec 32) : Nat → sProp 𝕄
  | 0 => iprop(idleS c w 0 ∗ idleS c w 1)
  | n + 1 => ringPost c w T n

/-- The ring once row `n` has seen to the first fetches: its own slot with its expert if the row moves to one. -/
def ringMid (c : Dev nD) (w : Wts F c) (T : TblShape.Idx → BitVec 32) (n : Nat) : sProp 𝕄 :=
  iprop(slotS c w (slotAt T n) (if tw T n 2 = 1#32 then opt (tw T n 0) else opt (tw T n 5)) ∗ slotS c w (otherAt T n) (opt (tw T n 4)))

/-- Row `n + 1` finds the ring as it needs it. -/
theorem ringMid_succ (c : Dev nD) (w : Wts F c) {T : TblShape.Idx → BitVec 32} (hT : Planned T) (n : Nat) (hn : n + 1 < 96) :
    ringPost c w T n ⊢ ringMid c w T (n + 1) := by
  have ho := hT.ord_succ n (by omega)
  unfold ringPost ringMid
  rcases hT.move n (by omega) with ⟨h2, h0, h4, h5⟩ | ⟨h2, h0, h4⟩
  · rw [h2, if_neg (by decide), h4, h5]
    rw [h2] at ho
    have e1 : slotAt T (n + 1) = slotAt T n := by unfold slotAt; rw [Fin.mk.injEq, ho]; rfl
    have e2 : otherAt T (n + 1) = otherAt T n := by unfold otherAt; rw [Fin.mk.injEq, ho]; rfl
    rw [e1, e2]
  · rw [h2, if_pos rfl, h0, h4]
    rw [h2] at ho
    have e1 : slotAt T (n + 1) = otherAt T n := by unfold slotAt otherAt; rw [Fin.mk.injEq, ho]; rfl
    have e2 : otherAt T (n + 1) = slotAt T n := by
      unfold slotAt otherAt; rw [Fin.mk.injEq, ho, show (1#32 : BitVec 32).toNat = 1 from rfl, Nat.add_assoc, Nat.add_mod_right]
    rw [e1, e2]
    iintro ⟨Ha, Hb⟩
    isplitl [Hb]; · iexact Hb
    iexact Ha

theorem amount_gate (s : Fin 2) : 0 < (gateSlot s).view.amount (.dma (ringSem s 0)) := by revert s; decide
theorem amount_up (s : Fin 2) : 0 < (upSlot s).view.amount (.dma (ringSem s 1)) := by revert s; decide
theorem amount_down (s : Fin 2) : 0 < (downSlot s).view.amount (.dma (ringSem s 2)) := by revert s; decide

/-! ### What a slot holds once its copies have landed -/

/-- Copying one window's contents into another of the same shape, both seen without their unit axes: the second then reads what
    the first holds. -/
theorem read_landed {sp sp' : Space} {S S' : Shape} (d : Memref sig .tc sp S .f32) (m : Memref sig .tc sp' S .f32) (hs : S.Squeezes S')
    (f : d.view.ty.Contents (Elt F)) (g : m.view.ty.Contents (Elt F)) :
    d.view.read (Elt F) ((d.squeeze S' hs).view.write (Elt F) f ((m.squeeze S' hs).view.read (Elt F) g) Finset.univ) = m.view.read (Elt F) g := by
  funext x
  have h := congrFun (View.read_write_univ (v := (d.squeeze S' hs).view) (Val := Elt F) f ((m.squeeze S' hs).view.read (Elt F) g)) ((Shape.reshapeEquiv hs.numel_eq).symm x)
  have e : ∀ (M : Memref sig .tc sp S .f32) (f' : M.view.ty.Contents (Elt F)), (M.squeeze S' hs).view.read (Elt F) f' ((Shape.reshapeEquiv hs.numel_eq).symm x) = M.view.read (Elt F) f' x := by
    intro M f'
    show M.view.read (Elt F) f' (Shape.reshapeEquiv hs.numel_eq ((Shape.reshapeEquiv hs.numel_eq).symm x)) = _
    rw [Equiv.apply_symm_apply]
  have e' : ∀ (M : Memref sig .tc sp' S .f32) (f' : M.view.ty.Contents (Elt F)), (M.squeeze S' hs).view.read (Elt F) f' ((Shape.reshapeEquiv hs.numel_eq).symm x) = M.view.read (Elt F) f' x := by
    intro M f'
    show M.view.read (Elt F) f' (Shape.reshapeEquiv hs.numel_eq ((Shape.reshapeEquiv hs.numel_eq).symm x)) = _
    rw [Equiv.apply_symm_apply]
  exact ((e d _).symm.trans h).trans (e' m g)

/-- Expert `e`'s block of the three weight arrays. -/
def gateBlk (c : Dev nD) (w : Wts F c) (e : Fin 32) : Vec F S1x2048x512 .f32 :=
  View.readAt (Elt F) (Memref.whole main_arg2).view (Rect.unit (s := S32x2048x512) ![e.val, 0, 0] S1x2048x512.size (exp_inb e)).toLoadRect w.gate
def upBlk (c : Dev nD) (w : Wts F c) (e : Fin 32) : Vec F S1x2048x512 .f32 :=
  View.readAt (Elt F) (Memref.whole main_arg3).view (Rect.unit (s := S32x2048x512) ![e.val, 0, 0] S1x2048x512.size (exp_inb e)).toLoadRect w.up
def downBlk (c : Dev nD) (w : Wts F c) (e : Fin 32) : Vec F S1x512x2048 .f32 :=
  View.readAt (Elt F) (Memref.whole main_arg4).view (Rect.unit (s := S32x512x2048) ![e.val, 0, 0] S1x512x2048.size (dexp_inb e)).toLoadRect w.down

/-- Loading a landed slot of the gate ring reads the expert's block. -/
theorem load_gate (c : Dev nD) (w : Wts F c) (s : Fin 2) (e : Fin 32) {off : Fin 3 → Nat} (ho : off = ![s.val, 0, 0])
    {h : ∀ a, off a + S1x2048x512.size a ≤ S2x2048x512.size a}
    {hl : (Memref.whole cc0_scratch3).view.LoadsAt (Rect.unit (s := S2x2048x512) off S1x2048x512.size h).toLoadRect}
    {α : Type} {k : (S1x2048x512.Idx → Elt F .f32) → Prog (TpuEff nD τ sig (Elt F) Λ₀ .tc) α} {Q : α → sProp 𝕄} :
    landC c (gateOf e) (gateSlot s) w.gate ⊢ iprop((landC c (gateOf e) (gateSlot s) w.gate -∗ wp frame (wpE (defs₀ (F := F)) Variants.none c none) Set.univ (k (gateBlk c w e)) Q)
      -∗ wp frame (wpE (defs₀ (F := F)) Variants.none c none) Set.univ (.op (.load (Memref.whole cc0_scratch3) (Rect.unit (s := S2x2048x512) off S1x2048x512.size h).toLoadRect hl) k) Q) := by
  subst ho
  unfold landC
  iintro ⟨%f, H⟩ Hk
  have hS : (Memref.whole cc0_scratch3).view.setOn (Rect.unit (s := S2x2048x512) ![s.val, 0, 0] S1x2048x512.size h).toLoadRect.set ⊆ (gateSlot s).view.set := by
    rw [show (gateSlot s).view.set = _ from View.set_reshape _ _, show ((Memref.whole cc0_scratch3).slice (Rect.unit (s := S2x2048x512) ![s.val, 0, 0] S1x2048x512.size h) (fun _ => rfl)).view.set = _ from View.set_slice _ _]
    exact Finset.Subset.refl _
  iapply (wp_load Variants.none (c : Thread nD τ) none Set.univ (m := Memref.whole cc0_scratch3) (r := (Rect.unit (s := S2x2048x512) ![s.val, 0, 0] S1x2048x512.size h).toLoadRect) hS) $$ H
  iintro H
  rw [show View.readAt (Elt F) (Memref.whole cc0_scratch3).view (Rect.unit (s := S2x2048x512) ![s.val, 0, 0] S1x2048x512.size h).toLoadRect
      ((gateSlot s).view.write (Elt F) f ((gateOf e).view.read (Elt F) w.gate) Finset.univ) = gateBlk c w e from
    read_landed ((Memref.whole cc0_scratch3).slice (Rect.unit (s := S2x2048x512) ![s.val, 0, 0] S1x2048x512.size h) (fun _ => rfl)) ((Memref.whole main_arg2).slice (Rect.unit (s := S32x2048x512) ![e.val, 0, 0] S1x2048x512.size (exp_inb e)) (fun _ => rfl)) squeezes_S1x2048x512_S2048x512 f w.gate]
  iapply Hk
  iexists f
  iexact H

/-- Loading a landed slot of the up ring reads the expert's block. -/
theorem load_up (c : Dev nD) (w : Wts F c) (s : Fin 2) (e : Fin 32) {off : Fin 3 → Nat} (ho : off = ![s.val, 0, 0])
    {h : ∀ a, off a + S1x2048x512.size a ≤ S2x2048x512.size a}
    {hl : (Memref.whole cc0_scratch4).view.LoadsAt (Rect.unit (s := S2x2048x512) off S1x2048x512.size h).toLoadRect}
    {α : Type} {k : (S1x2048x512.Idx → Elt F .f32) → Prog (TpuEff nD τ sig (Elt F) Λ₀ .tc) α} {Q : α → sProp 𝕄} :
    landC c (upOf e) (upSlot s) w.up ⊢ iprop((landC c (upOf e) (upSlot s) w.up -∗ wp frame (wpE (defs₀ (F := F)) Variants.none c none) Set.univ (k (upBlk c w e)) Q)
      -∗ wp frame (wpE (defs₀ (F := F)) Variants.none c none) Set.univ (.op (.load (Memref.whole cc0_scratch4) (Rect.unit (s := S2x2048x512) off S1x2048x512.size h).toLoadRect hl) k) Q) := by
  subst ho
  unfold landC
  iintro ⟨%f, H⟩ Hk
  have hS : (Memref.whole cc0_scratch4).view.setOn (Rect.unit (s := S2x2048x512) ![s.val, 0, 0] S1x2048x512.size h).toLoadRect.set ⊆ (upSlot s).view.set := by
    rw [show (upSlot s).view.set = _ from View.set_reshape _ _, show ((Memref.whole cc0_scratch4).slice (Rect.unit (s := S2x2048x512) ![s.val, 0, 0] S1x2048x512.size h) (fun _ => rfl)).view.set = _ from View.set_slice _ _]
    exact Finset.Subset.refl _
  iapply (wp_load Variants.none (c : Thread nD τ) none Set.univ (m := Memref.whole cc0_scratch4) (r := (Rect.unit (s := S2x2048x512) ![s.val, 0, 0] S1x2048x512.size h).toLoadRect) hS) $$ H
  iintro H
  rw [show View.readAt (Elt F) (Memref.whole cc0_scratch4).view (Rect.unit (s := S2x2048x512) ![s.val, 0, 0] S1x2048x512.size h).toLoadRect
      ((upSlot s).view.write (Elt F) f ((upOf e).view.read (Elt F) w.up) Finset.univ) = upBlk c w e from
    read_landed ((Memref.whole cc0_scratch4).slice (Rect.unit (s := S2x2048x512) ![s.val, 0, 0] S1x2048x512.size h) (fun _ => rfl)) ((Memref.whole main_arg3).slice (Rect.unit (s := S32x2048x512) ![e.val, 0, 0] S1x2048x512.size (exp_inb e)) (fun _ => rfl)) squeezes_S1x2048x512_S2048x512 f w.up]
  iapply Hk
  iexists f
  iexact H

/-- Loading a landed slot of the down ring reads the expert's block. -/
theorem load_down (c : Dev nD) (w : Wts F c) (s : Fin 2) (e : Fin 32) {off : Fin 3 → Nat} (ho : off = ![s.val, 0, 0])
    {h : ∀ a, off a + S1x512x2048.size a ≤ S2x512x2048.size a}
    {hl : (Memref.whole cc0_scratch5).view.LoadsAt (Rect.unit (s := S2x512x2048) off S1x512x2048.size h).toLoadRect}
    {α : Type} {k : (S1x512x2048.Idx → Elt F .f32) → Prog (TpuEff nD τ sig (Elt F) Λ₀ .tc) α} {Q : α → sProp 𝕄} :
    landC c (downOf e) (downSlot s) w.down ⊢ iprop((landC c (downOf e) (downSlot s) w.down -∗ wp frame (wpE (defs₀ (F := F)) Variants.none c none) Set.univ (k (downBlk c w e)) Q)
      -∗ wp frame (wpE (defs₀ (F := F)) Variants.none c none) Set.univ (.op (.load (Memref.whole cc0_scratch5) (Rect.unit (s := S2x512x2048) off S1x512x2048.size h).toLoadRect hl) k) Q) := by
  subst ho
  unfold landC
  iintro ⟨%f, H⟩ Hk
  have hS : (Memref.whole cc0_scratch5).view.setOn (Rect.unit (s := S2x512x2048) ![s.val, 0, 0] S1x512x2048.size h).toLoadRect.set ⊆ (downSlot s).view.set := by
    rw [show (downSlot s).view.set = _ from View.set_reshape _ _, show ((Memref.whole cc0_scratch5).slice (Rect.unit (s := S2x512x2048) ![s.val, 0, 0] S1x512x2048.size h) (fun _ => rfl)).view.set = _ from View.set_slice _ _]
    exact Finset.Subset.refl _
  iapply (wp_load Variants.none (c : Thread nD τ) none Set.univ (m := Memref.whole cc0_scratch5) (r := (Rect.unit (s := S2x512x2048) ![s.val, 0, 0] S1x512x2048.size h).toLoadRect) hS) $$ H
  iintro H
  rw [show View.readAt (Elt F) (Memref.whole cc0_scratch5).view (Rect.unit (s := S2x512x2048) ![s.val, 0, 0] S1x512x2048.size h).toLoadRect
      ((downSlot s).view.write (Elt F) f ((downOf e).view.read (Elt F) w.down) Finset.univ) = downBlk c w e from
    read_landed ((Memref.whole cc0_scratch5).slice (Rect.unit (s := S2x512x2048) ![s.val, 0, 0] S1x512x2048.size h) (fun _ => rfl)) ((Memref.whole main_arg4).slice (Rect.unit (s := S32x512x2048) ![e.val, 0, 0] S1x512x2048.size (dexp_inb e)) (fun _ => rfl)) squeezes_S1x512x2048_S512x2048 f w.down]
  iapply Hk
  iexists f
  iexact H

/-- A slot landed is a slot free. -/
theorem idleS_of_landS (c : Dev nD) (w : Wts F c) (s : Fin 2) (e : Fin 32) : landS c w s e ⊢ idleS c w s := by
  unfold landS idleS idleC landC
  iintro ⟨⟨⟨%f, Hg⟩, ⟨%g, Hu⟩, ⟨%h, Hd⟩⟩, ⟨Sg, Wg⟩, ⟨Su, Wu⟩, Sd, Wd⟩
  isplitl [Hg Sg Wg]
  · isplitl [Hg]; · iexists _; iexact Hg
    isplitl [Sg]; · iexact Sg
    iexact Wg
  isplitl [Hu Su Wu]
  · isplitl [Hu]; · iexists _; iexact Hu
    isplitl [Su]; · iexact Su
    iexact Wu
  isplitl [Hd]; · iexists _; iexact Hd
  isplitl [Sd]; · iexact Sd
  iexact Wd

/-! ### The values -/

/-- The three scratch arrays' contents once expert `e` is in them. -/
def castG (c : Dev nD) (w : Wts F c) (e : Fin 32) : Bf (F := F) c (Memref.whole cc0_scratch0) := k0_pay1 (F := F) (gateBlk c w e)
def castU (c : Dev nD) (w : Wts F c) (e : Fin 32) : Bf (F := F) c (Memref.whole cc0_scratch1) := k0_pay2 (F := F) (upBlk c w e)
def castD (c : Dev nD) (w : Wts F c) (e : Fin 32) : Bf (F := F) c (Memref.whole cc0_scratch2) := k0_pay3 (F := F) (downBlk c w e)

/-- The expert row `n` runs. -/
def exAt (T : TblShape.Idx → BitVec 32) (n : Nat) : Fin 32 := ⟨(tw T n 0).toNat % 32, Nat.mod_lt _ (by decide)⟩

/-- The expert's feed-forward of a block of packed rows, by the scratch arrays' contents. -/
def ffnOf (x : S2048x128.Idx → BitVec 32) (g u : S2048x512.Idx → F .bf16) (d : S512x2048.Idx → F .bf16) : FVec F S256x2048 .f32 :=
  k0_pay5 (F := F)
    (fun j => x ((⟨![0, 0], S256x128.size, ![8, 1], inb_S2048x128_S256x128_0_0_s_8_1⟩ : LoadRect S2048x128).idx j))
    (fun j => x ((⟨![1, 0], S256x128.size, ![8, 1], inb_S2048x128_S256x128_1_0_s_8_1⟩ : LoadRect S2048x128).idx j))
    (fun j => x ((⟨![2, 0], S256x128.size, ![8, 1], inb_S2048x128_S256x128_2_0_s_8_1⟩ : LoadRect S2048x128).idx j))
    (fun j => x ((⟨![3, 0], S256x128.size, ![8, 1], inb_S2048x128_S256x128_3_0_s_8_1⟩ : LoadRect S2048x128).idx j))
    (fun j => x ((⟨![4, 0], S256x128.size, ![8, 1], inb_S2048x128_S256x128_4_0_s_8_1⟩ : LoadRect S2048x128).idx j))
    (fun j => x ((⟨![5, 0], S256x128.size, ![8, 1], inb_S2048x128_S256x128_5_0_s_8_1⟩ : LoadRect S2048x128).idx j))
    (fun j => x ((⟨![6, 0], S256x128.size, ![8, 1], inb_S2048x128_S256x128_6_0_s_8_1⟩ : LoadRect S2048x128).idx j))
    (fun j => x ((⟨![7, 0], S256x128.size, ![8, 1], inb_S2048x128_S256x128_7_0_s_8_1⟩ : LoadRect S2048x128).idx j))
    (fun j => g ((Rect.unit (s := S2048x512) ![0, 0] S1024x512.size inb_S2048x512_S1024x512_0_0).toLoadRect.idx j))
    (fun j => g ((Rect.unit (s := S2048x512) ![1024, 0] S1024x512.size inb_S2048x512_S1024x512_1024_0).toLoadRect.idx j))
    (fun j => u ((Rect.unit (s := S2048x512) ![0, 0] S1024x512.size inb_S2048x512_S1024x512_0_0).toLoadRect.idx j))
    (fun j => u ((Rect.unit (s := S2048x512) ![1024, 0] S1024x512.size inb_S2048x512_S1024x512_1024_0).toLoadRect.idx j))
    (fun j => d ((Rect.unit (s := S512x2048) ![0, 0] S512x2048.size inb_S512x2048_S512x2048_0_0).toLoadRect.idx j))

/-- The packed pairs of a tile of rows, eight rows of pairs to a token's row: the low half the first half of the token's row, the
    high half its second. -/
def yPack (v : FVec F S256x2048 .f32) : S2048x2x128.Idx → F .bf16 := fun y =>
  if (y 1).val = 0 then
    k0_pay6 v (ix2 (n0 := 256) (n1 := 1024) ⟨(y 0).val / 8, by have := (y 0).isLt; change (y 0).val < 2048 at this; show _ < 256; omega⟩
      ⟨(y 0).val % 8 * 128 + (y 2).val, by have := (y 2).isLt; change (y 2).val < 128 at this; show _ < 1024; omega⟩)
  else
    k0_pay7 v (ix2 (n0 := 256) (n1 := 1024) ⟨(y 0).val / 8, by have := (y 0).isLt; change (y 0).val < 2048 at this; show _ < 256; omega⟩
      ⟨(y 0).val % 8 * 128 + (y 2).val, by have := (y 2).isLt; change (y 2).val < 128 at this; show _ < 1024; omega⟩)

/-- Two arrays of rows paired, read at an index. -/
theorem paired_at {α : Type} (lo hi : S256x128.Idx → α) (h1 h2 : S256x128.ShapeCasts S256x1x128) (h : S256x2x128.Bitcasts 16 S256x1x128 32) (x : S256x2x128.Idx) :
    interleaveRows S256x2x128 (shapeCast S256x1x128 lo h1) (shapeCast S256x1x128 hi h2) h x
      = if (x 1).val = 0 then lo (ix2 (n0 := 256) (n1 := 128) (x 0) (x 2)) else hi (ix2 (n0 := 256) (n1 := 128) (x 0) (x 2)) := by
  have h1 : (x 1).val < 2 := (x 1).isLt
  unfold interleaveRows
  have hr : S256x2x128.row x = (x 1).val := rfl
  dsimp only
  rw [hr]
  have key : ∀ (z : S256x128.Idx → α) (hz : S256x128.ShapeCasts S256x1x128) (j : S256x1x128.Idx), (j 0).val = (x 0).val → (j 2).val = (x 2).val →
      shapeCast S256x1x128 z hz j = z (ix2 (n0 := 256) (n1 := 128) (x 0) (x 2)) := by
    intro z hz j e0 e2
    refine shapeCast_apply z hz j _ ?_
    rw [Shape.rowMajor_val_two, Shape.rowMajor_val_three]
    have j1 : (j 1).val < 1 := (j 1).isLt
    show (x 0).val * 128 + (x 2).val = ((j 0).val * 1 + (j 1).val) * 128 + (j 2).val
    omega
  by_cases e : (x 1).val = 0
  · rw [if_pos (by omega), if_pos e]
    exact key _ _ _ rfl rfl
  · rw [if_neg (by omega), if_neg e]
    exact key _ _ _ rfl rfl

/-- Eight rows apart: the strided block of a block of pairs starting at row `k`. -/
abbrev strip (k : Nat) (inb : ∀ a, S256x2x128.size a = 0 ∨ (![k, 0, 0] : Fin 3 → Nat) a + (![8, 1, 1] : Fin 3 → Nat) a * (S256x2x128.size a - 1) < S2048x2x128.size a) : Rect S2048x2x128 :=
  ⟨⟨![k, 0, 0], S256x2x128.size, ![8, 1, 1], inb⟩, spos_8_1_1⟩

/-- One strided store's values are the packed pairs at its place. -/
theorem strip_pairs (v : FVec F S256x2048 .f32) (k : Nat) (hk : k < 8)
    (inb : ∀ a, S256x2x128.size a = 0 ∨ (![k, 0, 0] : Fin 3 → Nat) a + (![8, 1, 1] : Fin 3 → Nat) a * (S256x2x128.size a - 1) < S2048x2x128.size a)
    (sl : S256x1024.Slices ![0, k * 128] S256x128) (h : S256x2x128.Bitcasts 16 S256x1x128 32) (x : S256x2x128.Idx) :
    interleaveRows S256x2x128 (shapeCast S256x1x128 (extractStridedSlice S256x128 ![0, k * 128] (k0_pay6 v) sl) shapeCasts_S256x128_S256x1x128)
        (shapeCast S256x1x128 (extractStridedSlice S256x128 ![0, k * 128] (k0_pay7 v) sl) shapeCasts_S256x128_S256x1x128) h x
      = yPack v ((strip k inb).emb x) := by
  rw [paired_at]
  unfold yPack
  have h0 := (x 0).isLt
  have h1 := (x 1).isLt
  have h2 := (x 2).isLt
  change (x 0).val < 256 at h0
  change (x 1).val < 2 at h1
  change (x 2).val < 128 at h2
  have e0 : ((strip k inb).emb x 0).val = k + 8 * (x 0).val := rfl
  have e1 : ((strip k inb).emb x 1).val = (x 1).val := by
    show 0 + 1 * (x 1).val = _
    omega
  have e2 : ((strip k inb).emb x 2).val = (x 2).val := by
    show 0 + 1 * (x 2).val = _
    omega
  have key : ∀ (z : S256x1024.Idx → F .bf16) (p q : Nat) (hp : p < 256) (hq : q < 1024), p = (x 0).val → q = k * 128 + (x 2).val →
      extractStridedSlice S256x128 ![0, k * 128] z sl (ix2 (n0 := 256) (n1 := 128) (x 0) (x 2)) = z (ix2 (n0 := 256) (n1 := 1024) ⟨p, hp⟩ ⟨q, hq⟩) := by
    intro z p q hp hq ep eq
    refine extractStridedSlice_apply _ z sl _ _ fun a => ?_
    fin_cases a
    · show p = 0 + (x 0).val
      omega
    · show q = k * 128 + (x 2).val
      omega
  by_cases e : (x 1).val = 0
  · rw [if_pos e, if_pos (e1.trans e)]
    exact key _ _ _ _ _ (by rw [e0]; omega) (by rw [e0, e2]; omega)
  · rw [if_neg e, if_neg (fun hh => e (e1.symm.trans hh))]
    exact key _ _ _ _ _ (by rw [e0]; omega) (by rw [e0, e2]; omega)

/-- An index of the block lies in the strided block its row's remainder names. -/
theorem mem_strip (y : S2048x2x128.Idx) (k : Nat) (hk : (y 0).val % 8 = k)
    (inb : ∀ a, S256x2x128.size a = 0 ∨ (![k, 0, 0] : Fin 3 → Nat) a + (![8, 1, 1] : Fin 3 → Nat) a * (S256x2x128.size a - 1) < S2048x2x128.size a) :
    y ∈ (strip k inb).set := by
  have hy0 := (y 0).isLt
  change (y 0).val < 2048 at hy0
  have e : y = (strip k inb).idx (ix3 (n0 := 256) (n1 := 2) (n2 := 128) ⟨(y 0).val / 8, by show _ < 256; omega⟩ (y 1) (y 2)) := by
    funext a
    apply Fin.ext
    fin_cases a
    · show (y 0).val = k + 8 * ((y 0).val / 8)
      omega
    · show (y 1).val = 0 + 1 * (y 1).val
      omega
    · show (y 2).val = 0 + 1 * (y 2).val
      omega
  rw [e]
  exact LoadRect.idx_mem _ _

/-- The eight strided stores of a tile's packed pairs fill the block. -/
theorem read_stores {M6 : Memref sig .tc .vmem S2048x2x128 .bf16} (f : M6.view.ty.Contents (Elt F)) (v : FVec F S256x2048 .f32) :
    M6.view.read (Elt F) (M6.view.writes (Elt F) f
      [⟨{ off := ![7, 0, 0], size := S256x2x128.size, stride := ![8, 1, 1], inb := inb_S2048x2x128_S256x2x128_7_0_0_s_8_1_1, stride_pos := spos_8_1_1 }, k0_pay15 v⟩,
       ⟨{ off := ![6, 0, 0], size := S256x2x128.size, stride := ![8, 1, 1], inb := inb_S2048x2x128_S256x2x128_6_0_0_s_8_1_1, stride_pos := spos_8_1_1 }, k0_pay14 v⟩,
       ⟨{ off := ![5, 0, 0], size := S256x2x128.size, stride := ![8, 1, 1], inb := inb_S2048x2x128_S256x2x128_5_0_0_s_8_1_1, stride_pos := spos_8_1_1 }, k0_pay13 v⟩,
       ⟨{ off := ![4, 0, 0], size := S256x2x128.size, stride := ![8, 1, 1], inb := inb_S2048x2x128_S256x2x128_4_0_0_s_8_1_1, stride_pos := spos_8_1_1 }, k0_pay12 v⟩,
       ⟨{ off := ![3, 0, 0], size := S256x2x128.size, stride := ![8, 1, 1], inb := inb_S2048x2x128_S256x2x128_3_0_0_s_8_1_1, stride_pos := spos_8_1_1 }, k0_pay11 v⟩,
       ⟨{ off := ![2, 0, 0], size := S256x2x128.size, stride := ![8, 1, 1], inb := inb_S2048x2x128_S256x2x128_2_0_0_s_8_1_1, stride_pos := spos_8_1_1 }, k0_pay10 v⟩,
       ⟨{ off := ![1, 0, 0], size := S256x2x128.size, stride := ![8, 1, 1], inb := inb_S2048x2x128_S256x2x128_1_0_0_s_8_1_1, stride_pos := spos_8_1_1 }, k0_pay9 v⟩,
       ⟨{ off := ![0, 0, 0], size := S256x2x128.size, stride := ![8, 1, 1], inb := inb_S2048x2x128_S256x2x128_0_0_0_s_8_1_1, stride_pos := spos_8_1_1 }, k0_pay8 v⟩]) = yPack v := by
  funext y
  refine View.read_writes_apply_of_pieces (v := M6.view) (f := f) (yPack v) _ ?_ y ?_
  · intro p hp
    simp only [List.mem_cons, List.not_mem_nil, _root_.or_false] at hp
    rcases hp with rfl | rfl | rfl | rfl | rfl | rfl | rfl | rfl
    · exact strip_pairs v 7 (by decide) _ slices_S256x1024_o0_896_S256x128 bitcasts_S256x2x128_w16_S256x1x128_w32
    · exact strip_pairs v 6 (by decide) _ slices_S256x1024_o0_768_S256x128 bitcasts_S256x2x128_w16_S256x1x128_w32
    · exact strip_pairs v 5 (by decide) _ slices_S256x1024_o0_640_S256x128 bitcasts_S256x2x128_w16_S256x1x128_w32
    · exact strip_pairs v 4 (by decide) _ slices_S256x1024_o0_512_S256x128 bitcasts_S256x2x128_w16_S256x1x128_w32
    · exact strip_pairs v 3 (by decide) _ slices_S256x1024_o0_384_S256x128 bitcasts_S256x2x128_w16_S256x1x128_w32
    · exact strip_pairs v 2 (by decide) _ slices_S256x1024_o0_256_S256x128 bitcasts_S256x2x128_w16_S256x1x128_w32
    · exact strip_pairs v 1 (by decide) _ slices_S256x1024_o0_128_S256x128 bitcasts_S256x2x128_w16_S256x1x128_w32
    · exact strip_pairs v 0 (by decide) _ slices_S256x1024_o0_0_S256x128 bitcasts_S256x2x128_w16_S256x1x128_w32
  · have key : ∀ (k : Nat) (hk : (y 0).val % 8 = k) (inb : ∀ a, S256x2x128.size a = 0 ∨ (![k, 0, 0] : Fin 3 → Nat) a + (![8, 1, 1] : Fin 3 → Nat) a * (S256x2x128.size a - 1) < S2048x2x128.size a),
        y ∈ (⟨⟨![k, 0, 0], S256x2x128.size, ![8, 1, 1], inb⟩, spos_8_1_1⟩ : Rect S2048x2x128).set := mem_strip y
    simp only [List.mem_cons, List.not_mem_nil, _root_.or_false, exists_eq_or_imp, exists_eq_left]
    have hm : (y 0).val % 8 < 8 := Nat.mod_lt _ (by decide)
    rcases (show (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 by omega) with h | h | h | h | h | h | h | h
    · exact Or.inl (key _ h _)
    · exact Or.inr (Or.inl (key _ h _))
    · exact Or.inr (Or.inr (Or.inl (key _ h _)))
    · exact Or.inr (Or.inr (Or.inr (Or.inl (key _ h _))))
    · exact Or.inr (Or.inr (Or.inr (Or.inr (Or.inl (key _ h _)))))
    · exact Or.inr (Or.inr (Or.inr (Or.inr (Or.inr (Or.inl (key _ h _))))))
    · exact Or.inr (Or.inr (Or.inr (Or.inr (Or.inr (Or.inr (Or.inl (key _ h _)))))))
    · exact Or.inr (Or.inr (Or.inr (Or.inr (Or.inr (Or.inr (Or.inr (key _ h _)))))))

/-- The pairs the body leaves in the result's block at row `n`, of the block `x` of rows. -/
def yTile (c : Dev nD) (w : Wts F c) (T : TblShape.Idx → BitVec 32) (n : Nat) (x : S2048x128.Idx → BitVec 32) : S2048x2x128.Idx → F .bf16 :=
  if 0 < (tw T n 1).toNat then yPack (ffnOf x (castG c w (exAt T n)) (castU c w (exAt T n)) (castD c w (exAt T n))) else k0_pay4 (F := F)

/-- The scratch arrays holding expert `e`'s weights. -/
def castS (c : Dev nD) (w : Wts F c) (e : Fin 32) : sProp 𝕄 :=
  iprop(ptq c (Memref.whole cc0_scratch0) fullShare (castG c w e) ∗ ptq c (Memref.whole cc0_scratch1) fullShare (castU c w e)
    ∗ ptq c (Memref.whole cc0_scratch2) fullShare (castD c w e))

/-- The scratch arrays before row `n`: anything before the first, and else as the row before left them. -/
def castPre (c : Dev nD) (w : Wts F c) (T : TblShape.Idx → BitVec 32) : Nat → sProp 𝕄
  | 0 => iprop((∃ f, ptq c (Memref.whole cc0_scratch0) fullShare f) ∗ (∃ f, ptq c (Memref.whole cc0_scratch1) fullShare f) ∗ ∃ f, ptq c (Memref.whole cc0_scratch2) fullShare f)
  | n + 1 => castS c w (exAt T n)

theorem castPre_any (c : Dev nD) (w : Wts F c) (T : TblShape.Idx → BitVec 32) (n : Nat) :
    castPre c w T n ⊢ iprop((∃ f, ptq c (Memref.whole cc0_scratch0) fullShare f) ∗ (∃ f, ptq c (Memref.whole cc0_scratch1) fullShare f) ∗ ∃ f, ptq c (Memref.whole cc0_scratch2) fullShare f) := by
  cases n with
  | zero => exact .rfl
  | succ n =>
    unfold castPre castS
    iintro ⟨H0, H1, H2⟩
    isplitl [H0]; · iexists _; iexact H0
    isplitl [H1]; · iexists _; iexact H1
    iexists _; iexact H2

/-- A row that continues the expert of the row before finds its weights in the scratch arrays. -/
theorem castPre_same (c : Dev nD) (w : Wts F c) {T : TblShape.Idx → BitVec 32} (hT : Planned T) (n : Nat) (hn : n < 96) (h : tw T n 2 = 0#32) :
    castPre c w T n ⊢ castS c w (exAt T n) := by
  cases n with
  | zero => exact absurd (h.symm.trans hT.start.1) (by decide)
  | succ n =>
    rcases hT.move n (by omega) with ⟨-, h0, -⟩ | ⟨h2, -⟩
    · have e : exAt T (n + 1) = exAt T n := by unfold exAt; rw [Fin.mk.injEq, h0]
      rw [e]
      exact .rfl
    · exact absurd (h.symm.trans h2) (by decide)

/-- A free slot, as the three copies of expert `e` find it. -/
theorem idleS_at (c : Dev nD) (w : Wts F c) (s : Fin 2) (e : Fin 32) : idleS c w s
    ⊢ iprop(idleC c (gateOf e) (gateSlot s) (.dma (ringSem s 0)) (qS s) w.gate ∗ idleC c (upOf e) (upSlot s) (.dma (ringSem s 1)) (qS s) w.up
      ∗ idleC c (downOf e) (downSlot s) (.dma (ringSem s 2)) (qS s) w.down) := by
  unfold idleS; exact .rfl

/-- A whole array stored whole is what was stored. -/
theorem writes_whole {κ : Kind} (b : Ref sig κ) (f : b.ty.Contents (Elt F)) {off : Fin b.ty.shape.rank → Nat} (inb : ∀ a, off a + b.ty.shape.size a ≤ b.ty.shape.size a)
    (p : (Rect.unit off b.ty.shape.size inb).shape.Idx → Elt F b.ty.elt) :
    (Memref.whole b).view.writes (Elt F) f [⟨Rect.unit off b.ty.shape.size inb, p⟩] = p :=
  View.read_writes_full (Memref.whole b).view f inb p []

theorem stored_whole (c : Dev nD) (b : Ref sig Kind.tc) (f : b.ty.Contents (Elt F)) {off : Fin b.ty.shape.rank → Nat} (inb : ∀ a, off a + b.ty.shape.size a ≤ b.ty.shape.size a)
    (p : (Rect.unit off b.ty.shape.size inb).shape.Idx → Elt F b.ty.elt) :
    ((Memref.whole b).view.loc (c : Thread nD τ) ↦{fullShare} (Memref.whole b).view.writes (Elt F) f [⟨Rect.unit off b.ty.shape.size inb, p⟩] : sProp 𝕄)
      ⊢ (Memref.whole b).view.loc (c : Thread nD τ) ↦{fullShare} p := by
  rw [writes_whole]

theorem ret_then {E : Type → Type} {α β : Type} (a : α) (k : α → Prog E β) : (Prog.ret a).bind k = k a := rfl

set_option maxHeartbeats 1000000 in
/-- ONE POINT OF THE EXPERT LAYER: from the ring, the scratch arrays and the two blocks as row `n` finds them to those of the row after. -/
theorem moe_run (c : Dev nD) (i : grid0.Coords) (M2 : Memref sig .tc .vmem S2048x128 .i32) (M6 : Memref sig .tc .vmem S2048x2x128 .bf16) (h2 : M2.IsWhole) (h6 : M6.IsWhole)
    (q : PosShare TreeShare) (T : Bf (F := F) c (Memref.whole main_arg0)) (hT : Planned T) (w : Wts F c)
    (x : S2048x128.Idx → BitVec 32) (y : S2048x2x128.Idx → F .bf16) (W : Waits sig Unit) (Q : PUnit → sProp 𝕄) :
    iprop((ptq c (Memref.whole main_arg0) q T ∗ owes (c : Thread nD τ) 0 W ∗ ringPre c w T (i 0).val ∗ castPre c w T (i 0).val
      ∗ owns (c : Thread nD τ) M2 fullShare x ∗ owns (c : Thread nD τ) M6 fullShare y)
      ∗ (iprop(ptq c (Memref.whole main_arg0) q T ∗ (∃ W, owes (c : Thread nD τ) 0 W) ∗ ringPost c w T (i 0).val ∗ castS c w (exAt T (i 0).val)
          ∗ owns (c : Thread nD τ) M2 fullShare x ∗ owns (c : Thread nD τ) M6 fullShare (yTile c w T (i 0).val x)) -∗ Q ⟨⟩))
    ⊢ wp frame (wpE (defs₀ (F := F)) Variants.none c none) Set.univ (moeBody i M2 M6 h2 h6) Q := by
  have hi : (i 0).val < 96 := (i 0).isLt
  generalize hK : iprop(iprop(ptq c (Memref.whole main_arg0) q T ∗ (∃ W, owes (c : Thread nD τ) 0 W) ∗ ringPost c w T (i 0).val ∗ castS c w (exAt T (i 0).val)
          ∗ owns (c : Thread nD τ) M2 fullShare x ∗ owns (c : Thread nD τ) M6 fullShare (yTile c w T (i 0).val x)) -∗ Q ⟨⟩) = K
  unfold moeBody
  rw [cc0_moe_eq_skeleton]
  unfold cc0_moe_skel
  extract_lets +lift a0 jE jD jC jC' _ _ _ _ _ _ _ _ _ jB jB' s1 s2 s3 s4 s5 s6 s7 s8 s9 s10 s11 s12 s13 s14 s15 s16 s17 s18 s19 s20 s21 s22 s23 s24 s25 s26 s27 s28 s29 s30 s31 s32
  have hD : ∀ y, iprop((ptq c (Memref.whole main_arg0) q T ∗ (∃ W, owes (c : Thread nD τ) 0 W) ∗ ringPost c w T (i 0).val ∗ castS c w (exAt T (i 0).val)
      ∗ owns (c : Thread nD τ) M2 fullShare x ∗ owns (c : Thread nD τ) M6 fullShare y)
      ∗ ⌜0 < (tw T (i 0).val 1).toNat → y = yTile c w T (i 0).val x⌝ ∗ K) ⊢ wp frame (wpE (defs₀ (F := F)) Variants.none c none) Set.univ (jD ()) Q := by
    intro y
    dsimp only [jD]
    subst hK
    iintro ⟨⟨HT, HO, HR, HC, HX, HY⟩, %hy, HK⟩
    unfold owns ptq
    icases HY with ⟨%f6, %hf6, HY⟩
    set_option sl_exec.stopBefore "k0_cond7" in
    sl_exec
    have e1 : moe_run.sl.r c i T = tw T (i 0).val 1 := read_word T _ _ _ (k0_off29_eq i) (by omega) (by decide) _ _
    rw [e1]
    by_cases hv : (tw T (i 0).val 1).toNat = 0
    · rw [dif_pos ((cond7_iff _).2 hv)]
      dsimp only [jE]
      sl_exec
      sl_step
      iapply HK
      isplitl [HT]; · iexact HT
      isplitl [HO]; · iexact HO
      isplitl [HR]; · iexact HR
      isplitl [HC]; · iexact HC
      isplitl [HX]; · iexact HX
      iexists _; isplitr; swap; (· iexact HY); ipureintro
      unfold yTile
      rw [if_neg (by omega)]
      exact View.read_writes_full _ _ _ _ _
    · rw [dif_neg (fun h => hv ((cond7_iff _).1 h))]
      dsimp only [jE]
      sl_step
      iapply HK
      isplitl [HT]; · iexact HT
      isplitl [HO]; · iexact HO
      isplitl [HR]; · iexact HR
      isplitl [HC]; · iexact HC
      isplitl [HX]; · iexact HX
      iexists _; isplitr; swap; (· iexact HY); ipureintro
      exact hf6.trans (hy (by omega))
  clear_value jD
  have hC : iprop((ptq c (Memref.whole main_arg0) q T ∗ (∃ W, owes (c : Thread nD τ) 0 W) ∗ ringPost c w T (i 0).val ∗ castS c w (exAt T (i 0).val)
      ∗ owns (c : Thread nD τ) M2 fullShare x ∗ owns (c : Thread nD τ) M6 fullShare y) ∗ K) ⊢ wp frame (wpE (defs₀ (F := F)) Variants.none c none) Set.univ (jC ()) Q := by
    dsimp only [jC]
    iintro ⟨⟨HT, HO, HR, HC, HX, HY⟩, HK⟩
    unfold ptq
    set_option sl_exec.stopBefore "k0_cond6" in
    sl_exec
    have e1 : moe_run.sl.r_1 c i T = tw T (i 0).val 1 := read_word T _ _ _ (k0_off28_eq i) (by omega) (by decide) _ _
    rw [e1]
    by_cases hv : 0 < (tw T (i 0).val 1).toNat
    · rw [dif_pos ((cond6_iff _ (hT.valid _ hi)).2 hv), k0_part2_eq_skeleton]
      unfold k0_part2_skel castS owns ptq
      icases HX with ⟨%f2, %hf2, HX⟩
      icases HY with ⟨%f6, %hf6, HY⟩
      icases HC with ⟨Hg, Hu, Hd⟩
      sl_exec
      iapply (hD (yTile c w T (i 0).val x))
      unfold castS owns ptq
      isplitr [HK]
      · isplitl [HT]; · iexact HT
        isplitl [HO]; · iexact HO
        isplitl [HR]; · iexact HR
        isplitl [Hg Hu Hd]
        · isplitl [Hg]; · iexact Hg
          isplitl [Hu]; · iexact Hu
          iexact Hd
        isplitl [HX]
        · iexists _; isplitr; swap; (· iexact HX); ipureintro; exact hf2
        iexists _; isplitr; swap; (· iexact HY); ipureintro
        subst hf2
        unfold yTile
        rw [if_pos hv]
        exact read_stores f6 _
      isplitr; · ipureintro; exact fun _ => rfl
      iexact HK
    · rw [dif_neg (fun h => hv ((cond6_iff _ (hT.valid _ hi)).1 h))]
      iapply (hD y)
      isplitr [HK]
      · isplitl [HT]; · iexact HT
        isplitl [HO]; · iexact HO
        isplitl [HR]; · iexact HR
        isplitl [HC]; · iexact HC
        isplitl [HX]; · iexact HX
        iexact HY
      isplitr; · ipureintro; exact fun h => absurd h hv
      iexact HK
  clear_value jC
  have hB : iprop((ptq c (Memref.whole main_arg0) q T ∗ owes (c : Thread nD τ) 0 W ∗ ringMid c w T (i 0).val ∗ castPre c w T (i 0).val
      ∗ owns (c : Thread nD τ) M2 fullShare x ∗ owns (c : Thread nD τ) M6 fullShare y) ∗ K) ⊢ wp frame (wpE (defs₀ (F := F)) Variants.none c none) Set.univ (jB ()) Q := by
    dsimp only [jB]
    iintro ⟨⟨HT, HO, HR, HC, HX, HY⟩, HK⟩
    unfold ptq
    set_option sl_exec.stopBefore "k0_cond4" in
    sl_exec
    have e1 : moe_run.sl.r_2 c i T = tw T (i 0).val 2 := read_word T _ _ _ (k0_off5_eq i) (by omega) (by decide) _ _
    rw [e1]
    rcases hT.first _ hi with h0 | h1
    · rw [dif_neg (by rw [h0]; decide)]
      ihave HC := (castPre_same c w hT _ hi h0) $$ HC
      unfold ringMid
      rw [if_neg (by rw [h0]; decide)]
      iapply hC
      isplitr [HK]
      · isplitl [HT]; · iexact HT
        isplitl [HO]; · iexists _; iexact HO
        isplitl [HR]; · unfold ringPost; iexact HR
        isplitl [HC]; · iexact HC
        isplitl [HX]; · iexact HX
        iexact HY
      iexact HK
    · have h4 : k0_cond4 (tw T (i 0).val 2) = 1#1 := by rw [h1]; decide
      rw [dif_pos h4, wp_bind]
      unfold ringMid
      rw [if_pos h1, opt_some (hT.exp _ hi), slotS_some]
      icases HR with ⟨Hs, Ho⟩
      have hle := hT.ord_le _ hi
      have hs : SlotWord (tw T (i 0).val 7) (slotAt T (i 0).val) := slotWord _ (by omega)
      iapply (waits_run c i M2 M6 h2 h6 q T hT w (tw T (i 0).val 2) h4 (slotAt T (i 0).val) hs ⟨_, hT.exp _ hi⟩ W)
      isplitl [HT]; · iexact HT
      isplitl [Hs]; · iexact Hs
      isplitl [HO]; · iexact HO
      iintro %hw %v29 ⟨HT, Hl, HO⟩
      dsimp only
      ihave HC := (castPre_any c w T _) $$ HC
      icases HC with ⟨⟨%g0, Hg⟩, ⟨%g1, Hu⟩, ⟨%g2, Hd⟩⟩
      unfold landS
      icases Hl with ⟨⟨Lg, Lu, Ld⟩, ⟨Sg, Wg⟩, ⟨Su, Wu⟩, Sd, Wd⟩
      icases HO with ⟨%W', HO⟩
      rw [Prog.bind_lift]
      iapply (load_gate c w (slotAt T (i 0).val) ⟨_, hT.exp _ hi⟩ hs.o16) $$ Lg
      iintro Lg
      sl_exec
      iapply (load_up c w (slotAt T (i 0).val) ⟨_, hT.exp _ hi⟩ hs.o16) $$ Lu
      iintro Lu
      sl_exec
      iapply (load_down c w (slotAt T (i 0).val) ⟨_, hT.exp _ hi⟩ hs.o17) $$ Ld
      iintro Ld
      sl_exec
      have e5 : moe_run.sl.r_3 c i T = tw T (i 0).val 5 := read_word T _ _ _ (k0_off18_eq i) (by omega) (by decide) _ _
      have hk5 : k0_chk5 (tw T (i 0).val 2) (tw T (i 0).val 7) (tw T (i 0).val 5) := chk5_of _ _ _ hs
      have hex : (⟨_, hT.exp _ hi⟩ : Fin 32) = exAt T (i 0).val := Fin.ext (Nat.mod_eq_of_lt (hT.exp _ hi)).symm
      rw [e5, hex]
      ihave Hg := (stored_whole c cc0_scratch0 g0 inb_S2048x512_S2048x512_0_0 (k0_pay1 (gateBlk c w (exAt T (i 0).val)))) $$ Hg
      ihave Hu := (stored_whole c cc0_scratch1 g1 inb_S2048x512_S2048x512_0_0 (k0_pay2 (upBlk c w (exAt T (i 0).val)))) $$ Hu
      ihave Hd := (stored_whole c cc0_scratch2 g2 inb_S512x2048_S512x2048_0_0 (k0_pay3 (downBlk c w (exAt T (i 0).val)))) $$ Hd
      ihave HS := (idleS_of_landS c w (slotAt T (i 0).val) (exAt T (i 0).val)) $$ [Lg Lu Ld Sg Wg Su Wu Sd Wd]
      · unfold landS
        isplitl [Lg Lu Ld]
        · isplitl [Lg]; · iexact Lg
          isplitl [Lu]; · iexact Lu
          iexact Ld
        isplitl [Sg Wg]
        · isplitl [Sg]; · iexact Sg
          iexact Wg
        isplitl [Su Wu]
        · isplitl [Su]; · iexact Su
          iexact Wu
        isplitl [Sd]; · iexact Sd
        iexact Wd
      ihave HC := (show iprop(ptq c (Memref.whole cc0_scratch0) fullShare (castG c w (exAt T (i 0).val)) ∗ ptq c (Memref.whole cc0_scratch1) fullShare (castU c w (exAt T (i 0).val))
          ∗ ptq c (Memref.whole cc0_scratch2) fullShare (castD c w (exAt T (i 0).val))) ⊢ castS c w (exAt T (i 0).val) from .rfl) $$ [Hg Hu Hd]
      · isplitl [Hg]; · iexact Hg
        isplitl [Hu]; · iexact Hu
        iexact Hd
      set_option sl_exec.stopBefore "k0_cond5" in
      sl_exec
      beta_reduce
      by_cases hn : (tw T (i 0).val 5).toNat < 32
      · rw [dif_pos ((cond5_iff _ (hT.nxt2 _ hi)).2 hn)]
        ihave HS := (idleS_at c w (slotAt T (i 0).val) ⟨_, hn⟩) $$ HS
        icases HS with ⟨Hg, Hu, Hd⟩
        sl_exec
        have e6 : moe_run.sl.r_4 c i T = tw T (i 0).val 5 := read_word T _ _ _ (k0_off19_eq i) (by omega) (by decide) _ _
        rw [e6]
        have hk6 : k0_chk6 (tw T (i 0).val 2) (tw T (i 0).val 5) (tw T (i 0).val 5) := chk6_of _ _ _ hn
        sl_exec
        iapply (issueC_at c (src := gateOf ⟨_, hn⟩) rfl (gateSlotAt_eq hs.o21 _) (semAt_eq hs.o20 _) (qS (slotAt T (i 0).val)) w.gate (amount_gate _)) $$ Hg
        iintro Hg
        try sl_exec
        iapply (issueC_at c (src := upOf ⟨_, hn⟩) rfl (upSlotAt_eq hs.o24 _) (semAt_eq hs.o23 _) (qS (slotAt T (i 0).val)) w.up (amount_up _)) $$ Hu
        iintro Hu
        try sl_exec
        iapply (issueC_at c (src := downOf ⟨_, hn⟩) rfl (downSlotAt_eq hs.o26 _) (semAt_eq hs.o25 _) (qS (slotAt T (i 0).val)) w.down (amount_down _)) $$ Hd
        iintro Hd
        dsimp only [jC', Prog.bind]
        iapply hC
        isplitr [HK]
        · isplitl [HT]; · iexact HT
          isplitl [HO]; · iexists _; iexact HO
          isplitl [Hg Hu Hd Ho]
          · unfold ringPost
            rw [opt_some hn, slotS_some]
            isplitl [Hg Hu Hd]
            · unfold busyS
              isplitl [Hg]; · iexact Hg
              isplitl [Hu]; · iexact Hu
              iexact Hd
            iexact Ho
          isplitl [HC]; · iexact HC
          isplitl [HX]; · iexact HX
          iexact HY
        iexact HK
      · rw [dif_neg (fun h => hn ((cond5_iff _ (hT.nxt2 _ hi)).1 h))]
        dsimp only [jC', Prog.bind]
        iapply hC
        isplitr [HK]
        · isplitl [HT]; · iexact HT
          isplitl [HO]; · iexists _; iexact HO
          isplitl [HS Ho]
          · unfold ringPost
            rw [opt_none hn, slotS_none]
            isplitl [HS]; · iexact HS
            iexact Ho
          isplitl [HC]; · iexact HC
          isplitl [HX]; · iexact HX
          iexact HY
        iexact HK
  clear_value jB
  subst hK
  by_cases h0 : (i 0).val = 0
  · rw [dif_pos ((cond1_iff i).2 h0)]
    have hord : tw T 0 7 = 0#32 := hT.start.2
    have hsl : slotAt T 0 = 0 := Fin.ext (by show (tw T 0 7).toNat % 2 = 0; rw [hord]; rfl)
    have hso : otherAt T 0 = 1 := Fin.ext (by show ((tw T 0 7).toNat + 1) % 2 = 1; rw [hord]; rfl)
    rw [show ringPre c w T (i 0).val = iprop(idleS c w 0 ∗ idleS c w 1) by rw [h0]; rfl]
    have hx0 : (tw T 0 0).toNat < 32 := hT.exp 0 (by decide)
    iintro ⟨⟨HT, HO, ⟨H0, H1⟩, HC, HX, HY⟩, HK⟩
    ihave H0 := (idleS_at c w 0 ⟨_, hx0⟩) $$ H0
    icases H0 with ⟨Hg, Hu, Hd⟩
    dsimp only [s1, s2, s3, s4, s6, s7, s8, s9, s11, s12, s13, s14, s16, s17, s18, s19, s21, s22, s23, s24, s26, s27, s28, s29]
    unfold ptq
    set_option sl_exec.stopBefore "k0_cond2" in
    sl_exec
    have e0 : moe_run.sl.r_5 c T = tw T 0 0 := read_word T _ 0 0 rfl (by decide) (by decide) _ _
    rw [e0, dif_pos ((cond2_iff _ (by omega)).2 hx0)]
    sl_exec
    have e7 : moe_run.sl.r_6 c T = tw T 0 0 := read_word T _ 0 0 rfl (by decide) (by decide) _ _
    rw [e7]
    have hk1 : k0_chk1 i (tw T 0 0) (tw T 0 0) := chk1_of _ _ _ hx0
    sl_exec
    iapply (issueC_at c (src := gateOf ⟨_, hx0⟩) (dst := gateSlot 0) (sem := ringSem 0 0) rfl rfl rfl (qS 0) w.gate (amount_gate _)) $$ Hg
    iintro Hg
    try sl_exec
    iapply (issueC_at c (src := upOf ⟨_, hx0⟩) (dst := upSlot 0) (sem := ringSem 0 1) rfl rfl rfl (qS 0) w.up (amount_up _)) $$ Hu
    iintro Hu
    try sl_exec
    iapply (issueC_at c (src := downOf ⟨_, hx0⟩) (dst := downSlot 0) (sem := ringSem 0 2) rfl rfl rfl (qS 0) w.down (amount_down _)) $$ Hd
    iintro Hd
    rw [ret_then]
    set_option sl_exec.stopBefore "k0_cond3" in
    sl_exec
    have e8 : moe_run.sl.r_7 c T = tw T 0 4 := read_word T _ 0 4 rfl (by decide) (by decide) _ _
    rw [e8]
    by_cases hn : (tw T 0 4).toNat < 32
    · rw [dif_pos ((cond3_iff _ (hT.nxt 0 (by decide))).2 hn)]
      ihave H1 := (idleS_at c w 1 ⟨_, hn⟩) $$ H1
      icases H1 with ⟨Ig, Iu, Id⟩
      sl_exec
      have e9 : moe_run.sl.r_8 c T = tw T 0 4 := read_word T _ 0 4 rfl (by decide) (by decide) _ _
      rw [e9]
      have hk2 : k0_chk2 i (tw T 0 4) (tw T 0 4) := chk2_of _ _ _ hn
      sl_exec
      iapply (issueC_at c (src := gateOf ⟨_, hn⟩) (dst := gateSlot 1) (sem := ringSem 1 0) rfl rfl rfl (qS 1) w.gate (amount_gate _)) $$ Ig
      iintro Ig
      try sl_exec
      iapply (issueC_at c (src := upOf ⟨_, hn⟩) (dst := upSlot 1) (sem := ringSem 1 1) rfl rfl rfl (qS 1) w.up (amount_up _)) $$ Iu
      iintro Iu
      try sl_exec
      iapply (issueC_at c (src := downOf ⟨_, hn⟩) (dst := downSlot 1) (sem := ringSem 1 2) rfl rfl rfl (qS 1) w.down (amount_down _)) $$ Id
      iintro Id
      dsimp only [jB', Prog.bind]
      iapply hB
      isplitr [HK]
      · isplitl [HT]; · iexact HT
        isplitl [HO]; · iexact HO
        isplitl [Hg Hu Hd Ig Iu Id]
        · rw [h0]
          unfold ringMid
          rw [hsl, hso, if_pos hT.start.1, opt_some hx0, opt_some hn, slotS_some, slotS_some]
          unfold busyS
          isplitl [Hg Hu Hd]
          · isplitl [Hg]; · iexact Hg
            isplitl [Hu]; · iexact Hu
            iexact Hd
          isplitl [Ig]; · iexact Ig
          isplitl [Iu]; · iexact Iu
          iexact Id
        isplitl [HC]; · iexact HC
        isplitl [HX]; · iexact HX
        iexact HY
      iexact HK
    · rw [dif_neg (fun h => hn ((cond3_iff _ (hT.nxt 0 (by decide))).1 h))]
      dsimp only [jB', Prog.bind]
      iapply hB
      isplitr [HK]
      · isplitl [HT]; · iexact HT
        isplitl [HO]; · iexact HO
        isplitl [Hg Hu Hd H1]
        · rw [h0]
          unfold ringMid
          rw [hsl, hso, if_pos hT.start.1, opt_some hx0, opt_none hn, slotS_some, slotS_none]
          unfold busyS
          isplitl [Hg Hu Hd]
          · isplitl [Hg]; · iexact Hg
            isplitl [Hu]; · iexact Hu
            iexact Hd
          iexact H1
        isplitl [HC]; · iexact HC
        isplitl [HX]; · iexact HX
        iexact HY
      iexact HK
  · rw [dif_neg (fun h => h0 ((cond1_iff i).1 h))]
    have hR : ringPre c w T (i 0).val ⊢ ringMid c w T (i 0).val := by
      obtain ⟨n, hn⟩ : ∃ n, (i 0).val = n + 1 := ⟨(i 0).val - 1, by omega⟩
      rw [hn]
      exact ringMid_succ c w hT n (by omega)
    iintro ⟨⟨HT, HO, HR, HC, HX, HY⟩, HK⟩
    iapply hB
    isplitr [HK]
    · isplitl [HT]; · iexact HT
      isplitl [HO]; · iexact HO
      isplitl [HR]
      · iapply hR
        iexact HR
      isplitl [HC]; · iexact HC
      isplitl [HX]; · iexact HX
      iexact HY
    iexact HK
end Cert.Proof.KI
-- ==== Proof.IdealSlots.lean ====
module

public import proofs.«01_k».proof.Proof.IdealBody
public import Idealize.ShloMosaic.Lib.Pipeline.ValueKit.Geometry

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### The two slots of a ring make up its array -/

theorem mem_gateSlot (s : Fin 2) (i : S2x2048x512.Idx) : i ∈ (gateSlot s).view.set ↔ (i 0).val = s.val := by
  rw [show (gateSlot s).view.set = ((View.whole cc0_scratch3).slice (Rect.unit (s := S2x2048x512) ![s.val, 0, 0] S1x2048x512.size (slot_inb s))).set from View.set_reshape _ _]
  refine ValueKit.mem_set_slice_whole_iff cc0_scratch3 _ i ?_
  rw [Rect.mem_set_unit]
  have h1 : (i 1).val < 2048 := (i 1).isLt
  have h2 : (i 2).val < 512 := (i 2).isLt
  constructor
  · intro h; have := h 0; simp at this; omega
  · intro h a
    fin_cases a
    · simp; omega
    · simpa using h1
    · simpa using h2

theorem mem_upSlot (s : Fin 2) (i : S2x2048x512.Idx) : i ∈ (upSlot s).view.set ↔ (i 0).val = s.val := by
  rw [show (upSlot s).view.set = ((View.whole cc0_scratch4).slice (Rect.unit (s := S2x2048x512) ![s.val, 0, 0] S1x2048x512.size (slot_inb s))).set from View.set_reshape _ _]
  refine ValueKit.mem_set_slice_whole_iff cc0_scratch4 _ i ?_
  rw [Rect.mem_set_unit]
  have h1 : (i 1).val < 2048 := (i 1).isLt
  have h2 : (i 2).val < 512 := (i 2).isLt
  constructor
  · intro h; have := h 0; simp at this; omega
  · intro h a
    fin_cases a
    · simp; omega
    · simpa using h1
    · simpa using h2

theorem mem_downSlot (s : Fin 2) (i : S2x512x2048.Idx) : i ∈ (downSlot s).view.set ↔ (i 0).val = s.val := by
  rw [show (downSlot s).view.set = ((View.whole cc0_scratch5).slice (Rect.unit (s := S2x512x2048) ![s.val, 0, 0] S1x512x2048.size (dslot_inb s))).set from View.set_reshape _ _]
  refine ValueKit.mem_set_slice_whole_iff cc0_scratch5 _ i ?_
  rw [Rect.mem_set_unit]
  have h1 : (i 1).val < 512 := (i 1).isLt
  have h2 : (i 2).val < 2048 := (i 2).isLt
  constructor
  · intro h; have := h 0; simp at this; omega
  · intro h a
    fin_cases a
    · simp; omega
    · simpa using h1
    · simpa using h2

/-- Two sets of the indices of a buffer, told apart by a first coordinate below two, make it up. -/
theorem halves_union {α : Type} [Fintype α] [DecidableEq α] (A B : Finset α) (p : α → Nat) (hp : ∀ i, p i < 2) (hA : ∀ i, i ∈ A ↔ p i = 0) (hB : ∀ i, i ∈ B ↔ p i = 1) :
    A ∪ B = Finset.univ ∧ Disjoint A B := by
  constructor
  · ext i
    have := hp i
    simp only [Finset.mem_union, hA, hB, Finset.mem_univ, iff_true]; omega
  · rw [Finset.disjoint_left]
    intro i h h'
    rw [hA] at h; rw [hB] at h'; omega

theorem gate_halves : (gateSlot 0).view.set ∪ (gateSlot 1).view.set = Finset.univ ∧ Disjoint (gateSlot 0).view.set (gateSlot 1).view.set :=
  halves_union (α := S2x2048x512.Idx) _ _ (fun i => (i 0).val) (fun i => (i 0).isLt) (mem_gateSlot 0) (mem_gateSlot 1)
theorem up_halves : (upSlot 0).view.set ∪ (upSlot 1).view.set = Finset.univ ∧ Disjoint (upSlot 0).view.set (upSlot 1).view.set :=
  halves_union (α := S2x2048x512.Idx) _ _ (fun i => (i 0).val) (fun i => (i 0).isLt) (mem_upSlot 0) (mem_upSlot 1)
theorem down_halves : (downSlot 0).view.set ∪ (downSlot 1).view.set = Finset.univ ∧ Disjoint (downSlot 0).view.set (downSlot 1).view.set :=
  halves_union (α := S2x512x2048.Idx) _ _ (fun i => (i 0).val) (fun i => (i 0).isLt) (mem_downSlot 0) (mem_downSlot 1)

/-- A buffer taken apart along two sets that make it up. -/
theorem split_halves {ℓ : Loc nD τ sig} {A B : Finset (Idx ℓ)} (h : A ∪ B = Finset.univ ∧ Disjoint A B) (f : Buf (Elt F) ℓ) :
    (ℓ ↦{fullShare} f : sProp 𝕄) ⊢ iprop((ℓ ↦[A]{fullShare} f) ∗ ℓ ↦[B]{fullShare} f) := by
  have : (ℓ ↦[A ∪ B]{fullShare} f : sProp 𝕄) ⊢ iprop((ℓ ↦[A]{fullShare} f) ∗ ℓ ↦[B]{fullShare} f) := (pointsTo_union h.2).1
  rwa [h.1] at this

/-- And put together. -/
theorem join_halves {ℓ : Loc nD τ sig} {A B : Finset (Idx ℓ)} (h : A ∪ B = Finset.univ ∧ Disjoint A B) (f g : Buf (Elt F) ℓ) :
    iprop((ℓ ↦[A]{fullShare} f) ∗ ℓ ↦[B]{fullShare} g) ⊢ (iprop(∃ k, ℓ ↦{fullShare} k) : sProp 𝕄) := by
  have : iprop((ℓ ↦[A]{fullShare} f) ∗ ℓ ↦[B]{fullShare} g) ⊢ (ℓ ↦[A ∪ B]{fullShare} (B.piecewise g f) : sProp 𝕄) := pointsTo_join h.2
  rw [h.1] at this
  refine this.trans ?_
  iintro H; iexists _; iexact H

/-- A buffer's share dealt to the two slots, with what is left over. -/
theorem deal (ℓ : Loc nD τ sig) (f : Buf (Elt F) ℓ) :
    (ℓ ↦{fullShare} f : sProp 𝕄) ⊢ iprop((ℓ ↦{Transfers.shareDrop fullShare 2} f) ∗ (ℓ ↦{qS 0} f) ∗ ℓ ↦{qS 1} f) := by
  have h := Transfers.pointsTo_toks_split (Ix := Unit) (Name := ℕ) (U := UU) (Lvl := ℕ) (S := Finset.univ) (ℓ := ℓ) (f := f) fullShare 2
  rwa [bigSep_univ_eq_bigSepL [(0 : Fin 2), (1 : Fin 2)] (by decide) (by decide)] at h

theorem undeal (ℓ : Loc nD τ sig) (f : Buf (Elt F) ℓ) :
    iprop((ℓ ↦{Transfers.shareDrop fullShare 2} f) ∗ (ℓ ↦{qS 0} f) ∗ ℓ ↦{qS 1} f) ⊢ (ℓ ↦{fullShare} f : sProp 𝕄) := by
  have h := Transfers.pointsTo_toks_join (Ix := Unit) (Name := ℕ) (U := UU) (Lvl := ℕ) (S := Finset.univ) (ℓ := ℓ) (f := f) fullShare 2
  rwa [bigSep_univ_eq_bigSepL [(0 : Fin 2), (1 : Fin 2)] (by decide) (by decide)] at h

/-- What is left over of the weights. -/
def restW (c : Dev nD) (w : Wts F c) : sProp 𝕄 :=
  iprop(ptq c (Memref.whole main_arg2) (Transfers.shareDrop fullShare 2) w.gate ∗ ptq c (Memref.whole main_arg3) (Transfers.shareDrop fullShare 2) w.up
    ∗ ptq c (Memref.whole main_arg4) (Transfers.shareDrop fullShare 2) w.down)

/-- The weights held whole. -/
def wholeW (c : Dev nD) (w : Wts F c) : sProp 𝕄 :=
  iprop(ptq c (Memref.whole main_arg2) fullShare w.gate ∗ ptq c (Memref.whole main_arg3) fullShare w.up ∗ ptq c (Memref.whole main_arg4) fullShare w.down)

/-- The ring's arrays at anything. -/
def ringArr (c : Dev nD) : sProp 𝕄 :=
  iprop((∃ f, ptq (F := F) c (Memref.whole cc0_scratch3) fullShare f) ∗ (∃ f, ptq (F := F) c (Memref.whole cc0_scratch4) fullShare f) ∗ ∃ f, ptq (F := F) c (Memref.whole cc0_scratch5) fullShare f)

/-- The ring's semaphores at zero. -/
def ringZero (c : Dev nD) : sProp 𝕄 :=
  iprop(semVal ((c : Thread nD τ), SemLoc.dma (ringSem 0 0)) 0 ∗ semVal ((c : Thread nD τ), SemLoc.dma (ringSem 0 1)) 0 ∗ semVal ((c : Thread nD τ), SemLoc.dma (ringSem 0 2)) 0
    ∗ semVal ((c : Thread nD τ), SemLoc.dma (ringSem 1 0)) 0 ∗ semVal ((c : Thread nD τ), SemLoc.dma (ringSem 1 1)) 0 ∗ semVal ((c : Thread nD τ), SemLoc.dma (ringSem 1 2)) 0)

/-- The ring opened: both slots free. -/
theorem open_ring (c : Dev nD) (w : Wts F c) :
    iprop(wholeW c w ∗ ringArr c ∗ ringZero c) ⊢ iprop((idleS c w 0 ∗ idleS c w 1) ∗ restW c w) := by
  unfold wholeW ringArr ringZero idleS restW idleC
  iintro ⟨⟨Wg, Wu, Wd⟩, ⟨⟨%f3, A3⟩, ⟨%f4, A4⟩, ⟨%f5, A5⟩⟩, S0, S1, S2, S3, S4, S5⟩
  ihave Wg := (deal _ _) $$ Wg
  ihave Wu := (deal _ _) $$ Wu
  ihave Wd := (deal _ _) $$ Wd
  ihave A3 := (split_halves gate_halves _) $$ A3
  ihave A4 := (split_halves up_halves _) $$ A4
  ihave A5 := (split_halves down_halves _) $$ A5
  icases Wg with ⟨Wg, Wg0, Wg1⟩
  icases Wu with ⟨Wu, Wu0, Wu1⟩
  icases Wd with ⟨Wd, Wd0, Wd1⟩
  icases A3 with ⟨A30, A31⟩
  icases A4 with ⟨A40, A41⟩
  icases A5 with ⟨A50, A51⟩
  isplitr [Wg Wu Wd]
  · isplitl [A30 A40 A50 S0 S1 S2 Wg0 Wu0 Wd0]
    · isplitl [A30 S0 Wg0]
      · isplitl [A30]; · iexists _; iexact A30
        isplitl [S0] <;> iassumption
      isplitl [A40 S1 Wu0]
      · isplitl [A40]; · iexists _; iexact A40
        isplitl [S1] <;> iassumption
      isplitl [A50]; · iexists _; iexact A50
      isplitl [S2] <;> iassumption
    · isplitl [A31 S3 Wg1]
      · isplitl [A31]; · iexists _; iexact A31
        isplitl [S3] <;> iassumption
      isplitl [A41 S4 Wu1]
      · isplitl [A41]; · iexists _; iexact A41
        isplitl [S4] <;> iassumption
      isplitl [A51]; · iexists _; iexact A51
      isplitl [S5] <;> iassumption
  · isplitl [Wg]; · iexact Wg
    isplitl [Wu]; · iexact Wu
    iexact Wd

/-- The ring closed: both slots free again. -/
theorem close_ring (c : Dev nD) (w : Wts F c) :
    iprop((idleS c w 0 ∗ idleS c w 1) ∗ restW c w) ⊢ iprop(wholeW c w ∗ ringArr c ∗ ringZero c) := by
  unfold wholeW ringArr ringZero idleS restW idleC
  iintro ⟨⟨⟨⟨⟨%f0, A30⟩, S0, Wg0⟩, ⟨⟨%f1, A40⟩, S1, Wu0⟩, ⟨%f2, A50⟩, S2, Wd0⟩, ⟨⟨%f3, A31⟩, S3, Wg1⟩, ⟨⟨%f4, A41⟩, S4, Wu1⟩, ⟨%f5, A51⟩, S5, Wd1⟩, Wg, Wu, Wd⟩
  isplitl [Wg Wu Wd Wg0 Wg1 Wu0 Wu1 Wd0 Wd1]
  · isplitl [Wg Wg0 Wg1]
    · iapply (undeal _ _) $$ [Wg Wg0 Wg1]
      isplitl [Wg]; · iexact Wg
      isplitl [Wg0] <;> iassumption
    isplitl [Wu Wu0 Wu1]
    · iapply (undeal _ _) $$ [Wu Wu0 Wu1]
      isplitl [Wu]; · iexact Wu
      isplitl [Wu0] <;> iassumption
    iapply (undeal _ _) $$ [Wd Wd0 Wd1]
    isplitl [Wd]; · iexact Wd
    isplitl [Wd0] <;> iassumption
  isplitl [A30 A31 A40 A41 A50 A51]
  · isplitl [A30 A31]
    · iapply (join_halves gate_halves _ _) $$ [A30 A31]
      isplitl [A30] <;> iassumption
    isplitl [A40 A41]
    · iapply (join_halves up_halves _ _) $$ [A40 A41]
      isplitl [A40] <;> iassumption
    iapply (join_halves down_halves _ _) $$ [A50 A51]
    isplitl [A50] <;> iassumption
  isplitl [S0]; · iexact S0
  isplitl [S1]; · iexact S1
  isplitl [S2]; · iexact S2
  isplitl [S3]; · iexact S3
  isplitl [S4] <;> iassumption

/-- After the last row both slots are free. -/
theorem ring_last (c : Dev nD) (w : Wts F c) {T : TblShape.Idx → BitVec 32} (hT : Planned T) : ringPost c w T 95 ⊢ iprop(idleS c w 0 ∗ idleS c w 1) := by
  unfold ringPost
  rw [opt_none (w := tw T 95 5) (by have := hT.done.2; omega), opt_none (w := tw T 95 4) (by have := hT.done.1; omega), slotS_none, slotS_none]
  rcases Nat.mod_two_eq_zero_or_one (tw T 95 7).toNat with h | h
  · rw [show slotAt T 95 = 0 from Fin.ext h, show otherAt T 95 = 1 from Fin.ext (by unfold otherAt; simp; omega)]
  · rw [show slotAt T 95 = 1 from Fin.ext h, show otherAt T 95 = 0 from Fin.ext (by unfold otherAt; simp; omega)]
    iintro ⟨A, B⟩; isplitl [B] <;> iassumption

end Cert.Proof.KI

end
-- ==== Proof.IdealRegion.lean ====
module

public import proofs.«01_k».proof.Proof.IdealSlots
public import proofs.«01_k».proof.Proof.Gen.KernelIdeal.Regions
public import Idealize.ShloMosaic.Lib.Pipeline.FrameBody

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ### The tile table as the launch's prefetched contents -/

/-- The table, as the contents of the one prefetched array. -/
def tbl (T : TblShape.Idx → BitVec 32) : pre0.Contents (Elt F)
  | ⟨0, _⟩ => T
  | ⟨_ + 1, h⟩ => absurd h (Nat.not_lt.2 (Nat.le_add_left _ _))

/-- The row of the table's block a point reads: its own, up to the last. -/
theorem trans_row {T : TblShape.Idx → BitVec 32} (hT : Planned T) (i : grid0.Coords) :
    cc0_transform_0 inb_S128x128_S1x1_0_8 numel1_S1x1 (tbl (F := F) T) i = ![min (i 0).val (tw T 0 8).toNat, 0] := by
  have hi : (i 0).val < 96 := (i 0).isLt
  have hl := hT.last
  have e : (tbl (F := F) T).at 0 (Rect.unit (s := S128x128) ![0, 8] S1x1.size inb_S128x128_S1x1_0_8) numel1_S1x1 = tw T 0 8 := by
    show T _ = T _
    congr 1
    funext a
    fin_cases a <;> rfl
  unfold cc0_transform_0
  dsimp only
  rw [e]
  have e2 : (Scalar.minsi (BitVec.ofNat 32 (i 0).val) (tw T 0 8)).toNat = min (i 0).val (tw T 0 8).toNat := by
    show (if (BitVec.ofNat 32 (i 0).val).slt (tw T 0 8) then _ else _ : BitVec 32).toNat = _
    rw [small_slt _ _ (by omega) (by omega)]
    by_cases h : (i 0).val < (tw T 0 8).toNat
    · simp [h]; omega
    · simp [h]; omega
  rw [e2]
  rfl

/-- Every block a point names is inside its array. -/
theorem ok_tbl {T : TblShape.Idx → BitVec 32} (hT : Planned T) : ok0 (tbl (F := F) T) := by
  intro i
  refine ⟨fun a => ?_, Or.inl rfl⟩
  rw [trans_row hT]
  have hi : (i 0).val < 96 := (i 0).isLt
  fin_cases a
  · show (min (i 0).val (tw T 0 8).toNat + 1) * 2048 ≤ 196608
    omega
  · show (0 + 1) * 128 ≤ 128
    omega

/-- The launches' tables: the first's is the tile table, the second has none. -/
def adms {T : TblShape.Idx → BitVec 32} (hT : Planned T) : (p : Fin 2) → (pcfgs (F := F) p).Adm
  | ⟨0, _⟩ => ⟨tbl T, ok_tbl hT⟩
  | ⟨1, _⟩ => cfg1.toPCfg_adm
  | ⟨_ + 2, h⟩ => absurd h (Nat.not_lt.2 (Nat.le_add_left _ _))

abbrev moeCfg {T : TblShape.Idx → BitVec 32} (hT : Planned T) := cfg0 (F := F) ⟨tbl T, ok_tbl hT⟩

theorem coord0 (t : Fin grid0.N) : (grid0.coords t 0).val = t.val := by
  have h := Pipeline.Grid.coords_val (G := grid0) t 0 (S := 1) (B := 96) (by decide) (by decide)
  have ht : t.val < 96 := N_0 ▸ t.isLt
  rw [h]; omega

/-- Every tile is stored, whether it has rows or not. -/
theorem moe_live (T : TblShape.Idx → BitVec 32) (i : grid0.Coords) (hv : (tw T (i 0).val 1).toNat < 2 ^ 31) : idle0 (tbl (F := F) T) 1 i = false := by
  have hi : (i 0).val < 96 := (i 0).isLt
  have e : ∀ off : Fin 2 → Nat, off = ![(i 0).val, 1] → (tbl (F := F) T).atD 0 off = tw T (i 0).val 1 := by
    rintro off rfl
    unfold Pipeline.Prefetch.Contents.atD
    refine (dif_pos (show ∀ a : Fin 2, (![(i 0).val, 1] : Fin 2 → Nat) a + 1 ≤ (![128, 128] : Fin 2 → Nat) a from ?_)).trans ?_
    · intro a
      fin_cases a
      · show (i 0).val + 1 ≤ 128
        omega
      · show 1 + 1 ≤ 128
        omega
    show T _ = T _
    congr 1
    funext a
    fin_cases a
    · exact Fin.ext (by show (i 0).val = (i 0).val % 128; omega)
    · rfl
  have o : ((BitVec.ofNat 32 (i 0).val).toNat) = (i 0).val := by simp; omega
  show (!(k0_cond6 ((tbl (F := F) T).atD 0 (k0_off28 i)) == 1#1) && !(k0_cond7 ((tbl (F := F) T).atD 0 (k0_off29 i)) == 1#1)) = false
  rw [e _ (by unfold k0_off28; show ![(BitVec.ofNat 32 (i 0).val).toNat, 1] = _; rw [o]), e _ (by unfold k0_off29; show ![(BitVec.ofNat 32 (i 0).val).toNat, 1] = _; rw [o])]
  by_cases h : (tw T (i 0).val 1).toNat = 0
  · rw [(cond7_iff _).2 h]; simp
  · rw [(cond6_iff _ hv).2 (by omega)]; rfl

/-! ### The proof data -/

variable (m : (ℓ : Loc nD τ sig) → Buf (Elt F) ℓ)

/-- The experts' weights, as launched. -/
def wts (c : Dev nD) : Wts F c := ⟨m ((c : Thread nD τ).loc main_arg2), m ((c : Thread nD τ).loc main_arg3), m ((c : Thread nD τ).loc main_arg4)⟩

/-- The block of rows point `t` reads. -/
def xBlk {T : TblShape.Idx → BitVec 32} (hT : Planned T) (c : Dev nD) (t : Fin grid0.N) : S2048x128.Idx → BitVec 32 :=
  (((moeCfg (F := F) hT).win 0).blk t).view.read (Elt F) (m ((c : Thread nD τ).loc main_arg1))

/-- The staging buffers of the second launch, at anything. -/
def stg1Any (c : Dev nD) : sProp 𝕄 :=
  iprop((∃ f, ptq (F := F) c (Memref.whole cc1_stg0_0) fullShare f) ∗ (∃ f, ptq (F := F) c (Memref.whole cc1_stg0_1) fullShare f)
    ∗ (∃ f, ptq (F := F) c (Memref.whole cc1_stg1_0) fullShare f) ∗ ∃ f, ptq (F := F) c (Memref.whole cc1_stg1_1) fullShare f)

/-- What the expert layer keeps between points: the ring, the scratch arrays, the table, and what it does not touch. -/
def moeInv (T : TblShape.Idx → BitVec 32) (c : Dev nD) (n : Nat) : sProp 𝕄 :=
  iprop(ptq (F := F) c (Memref.whole main_arg0) fullShare T ∗ ringPre c (wts m c) T n ∗ castPre c (wts m c) T n ∗ restW c (wts m c) ∗ stg1Any (F := F) c)

/-- The expert layer's proof data on core `c`. -/
def moeDat {T : TblShape.Idx → BitVec 32} (hT : Planned T) (c : Dev nD) : Dat τ (Elt F) Unit ℕ UU ℕ (moeCfg (F := F) hT) c where
  A w := V0 m c (Pipeline.arrRef spec0 w)
  after w t := match w with
    | ⟨0, _⟩ => xBlk m hT c t
    | ⟨1, _⟩ => yTile c (wts m c) T t.val (xBlk m hT c t)
    | ⟨_ + 2, h⟩ => absurd h (Nat.not_lt.2 (Nat.le_add_left _ _))
  Φ t := moeInv m T c t.val
  q _ := fullShare
  owed _ := 0

theorem moe_before {T : TblShape.Idx → BitVec 32} (hT : Planned T) (c : Dev nD) (t : Fin grid0.N) (d) : (moeDat m hT c).before 0 t d = xBlk m hT c t :=
  (moeDat m hT c).before_in_eq_fetched 0 rfl (fun _ => rfl) (fun _ _ _ => rfl) (fun _ => rfl) t d

set_option backward.isDefEq.respectTransparency.types false in
/-- The body at a point: from what the pipeline hands it to what it takes back. -/
theorem moe_body {T : TblShape.Idx → BitVec 32} (hT : Planned T) (c : Dev nD) : BodyObligation (moeDat m hT c) (defs₀ (F := F)) Variants.none () Set.univ := fun t => by
  have hl := moe_live (F := F) T (grid0.coords t) (hT.valid _ (grid0.coords t 0).isLt)
  have ht := coord0 t
  rw [bigSep_W0, bigSep_W0]
  simp only [hl]
  rw [show (moeDat m hT c).Φ t.castSucc = moeInv m T c t.val from rfl, show (moeDat m hT c).Φ t.succ = moeInv m T c (t.val + 1) from rfl]
  unfold moeInv Dat.owesAt Pipeline.owesWithin
  rw [show ringPre c (wts m c) T (t.val + 1) = ringPost c (wts m c) T t.val from rfl, show castPre c (wts m c) T (t.val + 1) = castS c (wts m c) (exAt T t.val) from rfl]
  rw [show (moeDat m hT c).owed t.castSucc = 0 from rfl, show (moeDat m hT c).owed t.succ = 0 from rfl]
  iintro ⟨⟨HT, HR, HC, HW, HS⟩, ⟨%W, %hW, HO⟩, ⟨%d0, H0⟩, ⟨%d1, H1⟩⟩
  rw [moe_before]
  iapply (moe_run c (grid0.coords t) _ _ (hstage0_0 (((moeCfg hT).slots t 0).cast nbuf0_0)) (hstage0_1 (((moeCfg hT).slots t 1).cast nbuf0_1)) fullShare T hT (wts m c) (xBlk m hT c t) _ W _)
  rw [ht]
  isplitl [HT HR HC HO H0 H1]
  · isplitl [HT]; · iexact HT
    isplitl [HO]; · iexact HO
    isplitl [HR]; · iexact HR
    isplitl [HC]; · iexact HC
    isplitl [H0]; · iexact H0
    iexact H1
  iintro ⟨HT, ⟨%W', HO⟩, HR, HC, H0, H1⟩
  isplitl [HT HR HC HW HS]
  · isplitl [HT]; · iexact HT
    isplitl [HR]; · iexact HR
    isplitl [HC]; · iexact HC
    isplitl [HW] <;> iassumption
  isplitl [HO]
  · iexists W'; isplitr; · ipureintro; exact fun _ _ => Or.inl trivial
    iexact HO
  isplitl [H0]; · iexact H0
  iexact H1

end Cert.Proof.KI

end
-- ==== Proof.IdealDecode.lean ====
module

public import proofs.«01_k».proof.Proof.IdealRegion

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The strided block of a block of packed pairs starting at row `k`, read. -/
def pStrip (k : Nat) (inb : ∀ a, S256x2x128.size a = 0 ∨ (![k, 0, 0] : Fin 3 → Nat) a + (![8, 1, 1] : Fin 3 → Nat) a * (S256x2x128.size a - 1) < S2048x2x128.size a)
    (x : S2048x2x128.Idx → F .bf16) : Vec F S256x2x128 .bf16 :=
  fun j => x ((⟨![k, 0, 0], S256x2x128.size, ![8, 1, 1], inb⟩ : LoadRect S2048x2x128).idx j)

/-- A block of packed pairs spelt out as floats. -/
def decOf (x : S2048x2x128.Idx → F .bf16) : S256x2048.Idx → F .f32 :=
  k1_pay1 (F := F)
    (k1_pay2 (F := F) (pStrip 0 inb_S2048x2x128_S256x2x128_0_0_0_s_8_1_1 x) (pStrip 1 inb_S2048x2x128_S256x2x128_1_0_0_s_8_1_1 x) (pStrip 2 inb_S2048x2x128_S256x2x128_2_0_0_s_8_1_1 x) (pStrip 3 inb_S2048x2x128_S256x2x128_3_0_0_s_8_1_1 x) (pStrip 4 inb_S2048x2x128_S256x2x128_4_0_0_s_8_1_1 x) (pStrip 5 inb_S2048x2x128_S256x2x128_5_0_0_s_8_1_1 x) (pStrip 6 inb_S2048x2x128_S256x2x128_6_0_0_s_8_1_1 x) (pStrip 7 inb_S2048x2x128_S256x2x128_7_0_0_s_8_1_1 x))
    (k1_pay3 (F := F) (pStrip 0 inb_S2048x2x128_S256x2x128_0_0_0_s_8_1_1 x) (pStrip 1 inb_S2048x2x128_S256x2x128_1_0_0_s_8_1_1 x) (pStrip 2 inb_S2048x2x128_S256x2x128_2_0_0_s_8_1_1 x) (pStrip 3 inb_S2048x2x128_S256x2x128_3_0_0_s_8_1_1 x) (pStrip 4 inb_S2048x2x128_S256x2x128_4_0_0_s_8_1_1 x) (pStrip 5 inb_S2048x2x128_S256x2x128_5_0_0_s_8_1_1 x) (pStrip 6 inb_S2048x2x128_S256x2x128_6_0_0_s_8_1_1 x) (pStrip 7 inb_S2048x2x128_S256x2x128_7_0_0_s_8_1_1 x))

/-- The second kernel's body: it stores its block spelt out. -/
theorem dec_run (c : Dev nD) (i : grid1.Coords) (M1 : Memref sig .tc .vmem S2048x2x128 .bf16) (h1 : M1.IsWhole) (M2 : Memref sig .tc .vmem S256x2048 .f32) (h2 : M2.IsWhole)
    (x : S2048x2x128.Idx → F .bf16) (y : S256x2048.Idx → F .f32) (W : Waits sig Unit) (Q : PUnit → sProp 𝕄) :
    iprop((owes (c : Thread nD τ) 0 W ∗ owns (c : Thread nD τ) M1 fullShare x ∗ owns (c : Thread nD τ) M2 fullShare y)
      ∗ (iprop((∃ W, owes (c : Thread nD τ) 0 W) ∗ owns (c : Thread nD τ) M1 fullShare x ∗ owns (c : Thread nD τ) M2 fullShare (decOf x)) -∗ Q ⟨⟩))
    ⊢ wp frame (wpE (defs₀ (F := F)) Variants.none c none) Set.univ (cc1_decode (F := F) i M1 h1 M2 h2) Q := by
  rw [cc1_decode_eq_skeleton]
  unfold cc1_decode_skel
  rw [k1_part1_eq_skeleton]
  unfold k1_part1_skel owns
  iintro ⟨⟨HO, ⟨%f1, %hf1, H1⟩, ⟨%f2, %hf2, H2⟩⟩, HK⟩
  sl_exec
  sl_step
  iapply HK
  isplitl [HO]; · iexists _; iexact HO
  isplitl [H1]
  · iexists _; isplitr; swap; (· iexact H1); ipureintro; exact hf1
  iexists _; isplitr; swap; (· iexact H2); ipureintro
  subst hf1
  exact View.read_writes_full _ _ _ _ _

variable (V : Dev nD → Valuation τ sig (Elt F))

/-- The block of packed rows point `t` of the second launch reads. -/
def pBlk (c : Dev nD) (t : Fin grid1.N) : S2048x2x128.Idx → F .bf16 :=
  ((cfg1.win 0).blk t).view.read (Elt F) (V c main_v0)

/-- The second launch's proof data on core `c`. -/
def decDat (c : Dev nD) : Dat τ (Elt F) Unit ℕ UU ℕ cfg1 c where
  A w := V c (Pipeline.arrRef spec1 w)
  after w t := match w with
    | ⟨0, _⟩ => pBlk V c t
    | ⟨1, _⟩ => decOf (pBlk V c t)
    | ⟨_ + 2, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

theorem dec_before (c : Dev nD) (t : Fin grid1.N) (d) : (decDat V c).before 0 t d = pBlk V c t :=
  (decDat V c).before_in_eq_fetched 0 rfl (fun _ => rfl) (fun _ _ _ => rfl) (fun _ => rfl) t d

set_option backward.isDefEq.respectTransparency.types false in
/-- Its body at a point. -/
theorem dec_body (c : Dev nD) : BodyObligation (decDat V c) (defs₀ (F := F)) Variants.none () Set.univ := fun t => by
  rw [bigSep_W1, bigSep_W1]
  unfold Dat.owesAt Pipeline.owesWithin
  rw [show (decDat V c).owed t.castSucc = 0 from rfl, show (decDat V c).owed t.succ = 0 from rfl,
    show (decDat V c).Φ t.succ = (decDat V c).Φ t.castSucc from rfl]
  iintro ⟨HI, ⟨%W, %hW, HO⟩, ⟨%d0, H0⟩, ⟨%d1, H1⟩⟩
  rw [dec_before]
  iapply (dec_run c (grid1.coords t) _ (hstage1_0 ((cfg1.slots t 0).cast nbuf1_0)) _ (hstage1_1 ((cfg1.slots t 1).cast nbuf1_1)) (pBlk V c t) _ W _)
  isplitl [HO H0 H1]
  · isplitl [HO]; · iexact HO
    isplitl [H0]; · iexact H0
    iexact H1
  iintro ⟨⟨%W', HO⟩, H0, H1⟩
  isplitl [HI]; · iexact HI
  isplitl [HO]
  · iexists W'; isplitr; · ipureintro; exact fun _ _ => Or.inl trivial
    iexact HO
  isplitl [H0]; · iexact H0
  iexact H1

theorem dec_arrays (c : Dev nD) (G) : ((decDat V c).arrays G : sProp 𝕄)
    = iprop((((c : Thread nD τ).loc main_v0) ↦{fullShare} G 0) ∗ (((c : Thread nD τ).loc main_v1) ↦{fullShare} G 1)) := by
  unfold Dat.arrays
  rw [bigSep_W1]
  rw [(arr_whole1 0).set_eq_univ, (arr_whole1 1).set_eq_univ, (decDat V c).share_full (fun _ => rfl), (decDat V c).share_full (fun _ => rfl)]

/-! ### The two launches as regions of the program -/

variable (m : (ℓ : Loc nD τ sig) → Buf (Elt F) ℓ)

/-- What the expert layer leaves in its result. -/
def moeOut {T : TblShape.Idx → BitVec 32} (hT : Planned T) (c : Dev nD) : Buf (Elt F) ((c : Thread nD τ).loc main_v0) := (moeDat m hT c).arrAt 1 grid0.N

/-- The unscoped buffers between the two launches. -/
def Vmid {T : TblShape.Idx → BitVec 32} (hT : Planned T) (c : Dev nD) : Valuation τ sig (Elt F) :=
  Function.update (V0 m c) main_v0 (moeOut m hT c)

/-- What the second launch leaves in its result. -/
def decOut {T : TblShape.Idx → BitVec 32} (hT : Planned T) (c : Dev nD) : Buf (Elt F) ((c : Thread nD τ).loc main_v1) := (decDat (Vmid m hT) c).arrAt 1 grid1.N

/-- The proof data of both. -/
def dats {T : TblShape.Idx → BitVec 32} (hT : Planned T) : (p : Fin 2) → (c : Dev nD) → Dat τ (Elt F) Unit ℕ UU ℕ (Pipeline.pin (pcfgs (F := F)) (adms hT) p) c
  | ⟨0, _⟩ => moeDat m hT
  | ⟨1, _⟩ => decDat (Vmid m hT)
  | ⟨_ + 2, h⟩ => absurd h (Nat.not_lt.2 (Nat.le_add_left _ _))

/-- What the launches leave. -/
def outs {T : TblShape.Idx → BitVec 32} (hT : Planned T) : Outs (F := F) := fun J r c =>
  if J = 1 then Function.update (fun r : Ref sig .tc => m ((c : Thread nD τ).loc r)) main_v0 (moeOut m hT c) r
  else Function.update (fun r : Ref sig .tc => m ((c : Thread nD τ).loc r)) main_v1 (decOut m hT c) r

theorem outs_v0 {T : TblShape.Idx → BitVec 32} (hT : Planned T) (c : Dev nD) : outs m hT 1 main_v0 c = moeOut m hT c := by
  unfold outs; rw [if_pos rfl]; exact Function.update_self ..
theorem outs_v1 {T : TblShape.Idx → BitVec 32} (hT : Planned T) (c : Dev nD) : outs m hT 2 main_v1 c = decOut m hT c := by
  unfold outs; rw [if_neg (by decide)]; exact Function.update_self ..

theorem V1_eq {T : TblShape.Idx → BitVec 32} (hT : Planned T) (c : Dev nD) : V1 m (outs m hT) c = Vmid m hT c := by
  unfold V1 Vmid; rw [outs_v0]

/-- The buffers the program works over, one by one. -/
theorem held_list (c : Dev nD) (V : Valuation τ sig (Elt F)) :
    (StableHlo.held (c : Thread nD τ) (Pipeline.ucRefs τ sig) V : sProp 𝕄)
      = iprop((((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_arg3) ↦{fullShare} V main_arg3)
        ∗ (((c : Thread nD τ).loc main_arg4) ↦{fullShare} V main_arg4) ∗ (((c : Thread nD τ).loc main_v0) ↦{fullShare} V main_v0)
        ∗ (((c : Thread nD τ).loc main_v1) ↦{fullShare} V main_v1)) := by
  rw [← Pipeline.unscopedBufs_held]
  unfold unscopedBufs
  exact bigSep_eq_bigSepL_of_eq [main_arg0, main_arg1, main_arg2, main_arg3, main_arg4, main_v0, main_v1] (by decide) (by decide) _

theorem moe_arrays {T : TblShape.Idx → BitVec 32} (hT : Planned T) (c : Dev nD) (G) : ((moeDat m hT c).arrays G : sProp 𝕄)
    = iprop((((c : Thread nD τ).loc main_arg1) ↦{fullShare} G 0) ∗ (((c : Thread nD τ).loc main_v0) ↦{fullShare} G 1)) := by
  unfold Dat.arrays
  rw [bigSep_W0]
  rw [(arr_whole0 0).set_eq_univ, (arr_whole0 1).set_eq_univ, (moeDat m hT c).share_full (fun _ => rfl), (moeDat m hT c).share_full (fun _ => rfl)]

end Cert.Proof.KI

end
-- ==== Proof.IdealRun.lean ====
module

public import proofs.«01_k».proof.Proof.IdealDecode

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The pipelines' algebra, as the left component of the proof's. -/
abbrev EP : Emb (UR sig nD τ) (MT nD τ sig Unit (Elt F) ℕ UU ℕ) := embL
/-- No core owes another anything. -/
abbrev Lv : GSem nD τ sig → Finset Unit := fun _ => ∅
abbrev lvl : GSem nD τ sig → Unit → ℕ := fun _ _ => 0

/-- The ring's semaphores, as the expert layer's own. -/
def ownSem (p : Fin 2 × Fin 3) : SemLoc sig := .dma (ringSem p.1 p.2)

theorem ownSem_facts : Pipeline.OwnSemFacts spec0 ownSem := by decide

theorem ownSems0_ring (c : Dev nD) :
    (Pipeline.ownSems0 (Ix := Unit) (Name := ℕ) (U := UU) (Lvl := ℕ) (Val := Elt F) (τ := τ) ownSem c : sProp 𝕄) = ringZero (F := F) c :=
  Pipeline.ownSems0_eq_of_list c ownSem [(0, 0), (0, 1), (0, 2), (1, 0), (1, 1), (1, 2)] (by decide) (by decide)

variable (m : (ℓ : Loc nD τ sig) → Buf (Elt F) ℓ)

/-- What rides beside the buffers: the core owes nothing. -/
abbrev R0 (c : Dev nD) : sProp 𝕄 := iprop(∃ W, owes (c : Thread nD τ) (0 : CellTallies nD τ sig Unit) W)

theorem pref_tbl (c : Dev nD) (T : TblShape.Idx → BitVec 32) :
    (Pipeline.prefHeld pre0 c (fun _ => fullShare) (tbl (F := F) T) : sProp 𝕄) = ptq (F := F) c (Memref.whole main_arg0) fullShare T := by
  unfold Pipeline.prefHeld
  exact bigSep_univ_eq_bigSepL [(0 : Fin 1)] (by decide) (by decide) _

/-- What of the launch enters the invariant, what leaves it, and what passes it by. -/
def moeX (c : Dev nD) : sProp 𝕄 := iprop(wholeW c (wts m c) ∗ ringZero (F := F) c)
def moeY (T : TblShape.Idx → BitVec 32) (c : Dev nD) : sProp 𝕄 := iprop(wholeW c (wts m c) ∗ ptq (F := F) c (Memref.whole main_arg0) fullShare T)
def moeZ (c : Dev nD) : sProp 𝕄 := ((c : Thread nD τ).loc main_v1) ↦{fullShare} m ((c : Thread nD τ).loc main_v1)

theorem moe_hentry {T : TblShape.Idx → BitVec 32} (hT : Planned T) (hm : ∀ c : Dev nD, m ((c : Thread nD τ).loc main_arg0) = T) (c : Dev nD) :
    iprop(iprop(StableHlo.held (c : Thread nD τ) (Pipeline.ucRefs τ sig) (V0 m c) ∗ R0 c) ∗ Pipeline.ownSems0 (Ix := Unit) (Name := ℕ) (U := UU) (Lvl := ℕ) (Val := Elt F) (τ := τ) ownSem c ∗ levAts Lv lvl)
    ⊢ |={Set.univ}=> iprop((moeDat m hT c).arrays ((moeDat m hT c).arrAt · 0) ∗ Pipeline.prefHeld pre0 c (fun _ => fullShare) (tbl (F := F) T)
        ∗ (moeDat m hT c).owesAt () 0 ∗ moeX m c ∗ moeZ m c) := by
  unfold moeX moeZ
  rw [held_list, ownSems0_ring, moe_arrays, pref_tbl]
  iintro ⟨⟨⟨A0, A1, A2, A3, A4, H0, H1⟩, HO⟩, Hos, -⟩
  imodintro
  isplitl [A1 H0]
  · isplitl [A1]; · iexact A1
    iexact H0
  isplitl [A0]
  · rw [show V0 m c main_arg0 = T from hm c]
    iexact A0
  isplitl [HO]
  · unfold Pipeline.Dat.owesAt Pipeline.owesWithin
    icases HO with ⟨%W, HO⟩; iexists W; isplitr; · ipureintro; exact fun _ _ => Or.inl trivial
    iexact HO
  isplitr [H1]
  · isplitr [Hos]
    · unfold wholeW
      isplitl [A2]; · iexact A2
      isplitl [A3]; · iexact A3
      iexact A4
    iexact Hos
  iexact H1

theorem moe_hin (T : TblShape.Idx → BitVec 32) (c : Dev nD) :
    iprop(moeX m c ∗ Pipeline.prefHeld pre0 c (fun _ => fullShare) (tbl (F := F) T) ∗ Pipeline.scopedRest (Ix := Unit) (Name := ℕ) (U := UU) (Lvl := ℕ) (Val := Elt F) spec0 c) ⊢ moeInv m T c 0 := by
  unfold moeX
  rw [scopedRest0_eq, pref_tbl]
  unfold moeInv stg1Any
  rw [show ringPre c (wts m c) T 0 = iprop(idleS c (wts m c) 0 ∗ idleS c (wts m c) 1) from rfl,
    show castPre c (wts m c) T 0 = iprop((∃ f, ptq c (Memref.whole cc0_scratch0) fullShare f) ∗ (∃ f, ptq c (Memref.whole cc0_scratch1) fullShare f) ∗ ∃ f, ptq c (Memref.whole cc0_scratch2) fullShare f) from rfl]
  iintro ⟨⟨HW, HZ⟩, HT, S0, S1, S2, S3, S4, S5, G0, G1, G2, G3⟩
  ihave H := (open_ring c (wts m c)) $$ [HW HZ S3 S4 S5]
  · isplitl [HW]; · iexact HW
    isplitr [HZ]
    · unfold ringArr
      isplitl [S3]; · iexact S3
      isplitl [S4] <;> iassumption
    iexact HZ
  icases H with ⟨HR, HW⟩
  isplitl [HT]; · iexact HT
  isplitl [HR]; · iexact HR
  isplitl [S0 S1 S2]
  · isplitl [S0]; · iexact S0
    isplitl [S1] <;> iassumption
  isplitl [HW]; · iexact HW
  isplitl [G0]; · iexact G0
  isplitl [G1]; · iexact G1
  isplitl [G2] <;> iassumption

theorem moe_hout {T : TblShape.Idx → BitVec 32} (hT : Planned T) (c : Dev nD) : moeInv m T c 96 ⊢ iprop(moeY m T c ∗ Pipeline.ownSems0 (Ix := Unit) (Name := ℕ) (U := UU) (Lvl := ℕ) (Val := Elt F) (τ := τ) ownSem c ∗ Pipeline.scopedRest (Ix := Unit) (Name := ℕ) (U := UU) (Lvl := ℕ) (Val := Elt F) spec0 c) := by
  unfold moeY
  rw [scopedRest0_eq, ownSems0_ring]
  have hR := ring_last c (wts m c) hT
  have hC := castPre_any c (wts m c) T 96
  unfold moeInv stg1Any
  rw [show ringPre c (wts m c) T 96 = ringPost c (wts m c) T 95 from rfl]
  iintro ⟨HT, HR, HC, HW, G0, G1, G2, G3⟩
  ihave HR := hR $$ HR
  ihave HC := hC $$ HC
  icases HC with ⟨S0, S1, S2⟩
  ihave H := (close_ring c (wts m c)) $$ [HR HW]
  · isplitl [HR] <;> iassumption
  unfold ringArr
  icases H with ⟨HW, ⟨S3, S4, S5⟩, HZ⟩
  isplitl [HW HT]
  · isplitl [HW] <;> iassumption
  isplitl [HZ]; · iexact HZ
  isplitl [S0]; · iexact S0
  isplitl [S1]; · iexact S1
  isplitl [S2]; · iexact S2
  isplitl [S3]; · iexact S3
  isplitl [S4]; · iexact S4
  isplitl [S5]; · iexact S5
  isplitl [G0]; · iexact G0
  isplitl [G1]; · iexact G1
  isplitl [G2] <;> iassumption

theorem moe_hexit {T : TblShape.Idx → BitVec 32} (hT : Planned T) (hm : ∀ c : Dev nD, m ((c : Thread nD τ).loc main_arg0) = T) (c : Dev nD) :
    iprop((moeDat m hT c).arrays ((moeDat m hT c).arrAt · grid0.N) ∗ (moeDat m hT c).owesAt () (Fin.last grid0.N) ∗ moeY m T c ∗ moeZ m c)
    ⊢ |={Set.univ}=> iprop(StableHlo.held (c : Thread nD τ) (Pipeline.ucRefs τ sig) (Vmid m hT c) ∗ R0 c) := by
  unfold moeY moeZ
  rw [held_list, moe_arrays]
  rw [show (moeDat m hT c).arrAt 0 grid0.N = m ((c : Thread nD τ).loc main_arg1) from (moeDat m hT c).arrAt_in 0 rfl _,
    show (moeDat m hT c).arrAt 1 grid0.N = moeOut m hT c from rfl]
  have e : ∀ b : Ref sig .tc, b ≠ main_v0 → Vmid m hT c b = m ((c : Thread nD τ).loc b) := fun b hb => by
    unfold Vmid; exact Function.update_of_ne (StableHlo.devRef_ne_of_ne hb) ..
  rw [e main_arg0 (by decide), e main_arg1 (by decide), e main_arg2 (by decide), e main_arg3 (by decide), e main_arg4 (by decide), e main_v1 (by decide),
    show Vmid m hT c main_v0 = moeOut m hT c from Function.update_self .., hm c]
  unfold wholeW
  iintro ⟨⟨A1, H0⟩, HO, ⟨⟨A2, A3, A4⟩, A0⟩, H1⟩
  imodintro
  isplitr [HO]
  · isplitl [A0]; · iexact A0
    isplitl [A1]; · iexact A1
    isplitl [A2]; · iexact A2
    isplitl [A3]; · iexact A3
    isplitl [A4]; · iexact A4
    isplitl [H0] <;> iassumption
  · unfold Pipeline.Dat.owesAt Pipeline.owesWithin
    icases HO with ⟨%W, -, HO⟩; iexists W; iexact HO

/-- What passes the second launch by. -/
def decZ (V : Dev nD → Valuation τ sig (Elt F)) (c : Dev nD) : sProp 𝕄 := iprop((((c : Thread nD τ).loc main_arg0) ↦{fullShare} V c main_arg0) ∗ (((c : Thread nD τ).loc main_arg1) ↦{fullShare} V c main_arg1)
        ∗ (((c : Thread nD τ).loc main_arg2) ↦{fullShare} V c main_arg2) ∗ (((c : Thread nD τ).loc main_arg3) ↦{fullShare} V c main_arg3)
        ∗ (((c : Thread nD τ).loc main_arg4) ↦{fullShare} V c main_arg4))

theorem dec_hentry (V : Dev nD → Valuation τ sig (Elt F)) (c : Dev nD) :
    iprop(iprop(StableHlo.held (c : Thread nD τ) (Pipeline.ucRefs τ sig) (V c) ∗ R0 c) ∗ Pipeline.ownSems0 (Ix := Unit) (Name := ℕ) (U := UU) (Lvl := ℕ) (Val := Elt F) (τ := τ) (fun k : PEmpty => k.elim) c ∗ levAts Lv lvl)
    ⊢ |={Set.univ}=> iprop((decDat V c).arrays ((decDat V c).arrAt · 0) ∗ Pipeline.prefHeld Pipeline.Prefetch.none c (fun _ => fullShare) (Pipeline.Prefetch.Contents.none (Val := Elt F))
        ∗ (decDat V c).owesAt () 0 ∗ iprop(emp) ∗ decZ V c) := by
  unfold decZ
  rw [held_list, dec_arrays, show (decDat V c).arrAt 0 0 = V c main_v0 from rfl, show (decDat V c).arrAt 1 0 = V c main_v1 from rfl]
  iintro ⟨⟨⟨A0, A1, A2, A3, A4, H0, H1⟩, HO⟩, -, -⟩
  imodintro
  isplitl [H0 H1]
  · isplitl [H0]; · iexact H0
    iexact H1
  isplitr
  · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitr; · iempintro
  isplitl [A0]; · iexact A0
  isplitl [A1]; · iexact A1
  isplitl [A2]; · iexact A2
  isplitl [A3] <;> iassumption

theorem dec_hexit (V V' : Dev nD → Valuation τ sig (Elt F)) (c : Dev nD) (e : ∀ b : Ref sig .tc, b ≠ main_v1 → V' c b = V c b)
    (e1 : V' c main_v1 = (decDat V c).arrAt 1 grid1.N) :
    iprop((decDat V c).arrays ((decDat V c).arrAt · grid1.N) ∗ (decDat V c).owesAt () (Fin.last grid1.N) ∗ iprop(emp) ∗ decZ V c)
    ⊢ |={Set.univ}=> iprop(StableHlo.held (c : Thread nD τ) (Pipeline.ucRefs τ sig) (V' c) ∗ R0 c) := by
  unfold decZ
  rw [held_list, dec_arrays]
  rw [show (decDat V c).arrAt 0 grid1.N = V c main_v0 from (decDat V c).arrAt_in 0 rfl _]
  rw [e main_arg0 (by decide), e main_arg1 (by decide), e main_arg2 (by decide), e main_arg3 (by decide), e main_arg4 (by decide), e main_v0 (by decide), e1]
  iintro ⟨⟨H0, H1⟩, HO, -, A0, A1, A2, A3, A4⟩
  imodintro
  isplitr [HO]
  · isplitl [A0]; · iexact A0
    isplitl [A1]; · iexact A1
    isplitl [A2]; · iexact A2
    isplitl [A3]; · iexact A3
    isplitl [A4]; · iexact A4
    isplitl [H0] <;> iassumption
  · unfold Pipeline.Dat.owesAt Pipeline.owesWithin
    icases HO with ⟨%W, -, HO⟩; iexists W; iexact HO

theorem V2_eq {T : TblShape.Idx → BitVec 32} (hT : Planned T) (c : Dev nD) (b : Ref sig .tc) (hb : b ≠ main_v1) : V2 m (outs m hT) c b = Vmid m hT c b := by
  rw [← V1_eq]; exact Function.update_of_ne (StableHlo.devRef_ne_of_ne hb) ..
theorem V2_v1 {T : TblShape.Idx → BitVec 32} (hT : Planned T) (c : Dev nD) : V2 m (outs m hT) c main_v1 = decOut m hT c :=
  (Function.update_self ..).trans (outs_v1 m hT c)

theorem decOut_def {T : TblShape.Idx → BitVec 32} (hT : Planned T) (c : Dev nD) : decOut m hT c = (decDat (Vmid m hT) c).arrAt 1 grid1.N := by
  unfold decOut; rfl

theorem dec_hexit_run {T : TblShape.Idx → BitVec 32} (hT : Planned T) (c : Dev nD) :
    iprop((decDat (Vmid m hT) c).arrays ((decDat (Vmid m hT) c).arrAt · grid1.N) ∗ (decDat (Vmid m hT) c).owesAt () (Fin.last grid1.N) ∗ iprop(emp) ∗ decZ (Vmid m hT) c)
    ⊢ |={Set.univ}=> iprop(StableHlo.held (c : Thread nD τ) (Pipeline.ucRefs τ sig) (V2 m (outs m hT) c) ∗ R0 c) :=
  dec_hexit (Vmid m hT) (V2 m (outs m hT)) c (V2_eq m hT c) ((V2_v1 m hT c).trans (decOut_def m hT c))

theorem dec_hout (V : Dev nD → Valuation τ sig (Elt F)) (c : Dev nD) :
    (decDat V c).Φ (Fin.last grid1.N) ⊢ iprop(iprop(emp) ∗ Pipeline.ownSems0 (Ix := Unit) (Name := ℕ) (U := UU) (Lvl := ℕ) (Val := Elt F) (τ := τ) (fun k : PEmpty => k.elim) c
      ∗ Pipeline.scopedRest (Ix := Unit) (Name := ℕ) (U := UU) (Lvl := ℕ) (Val := Elt F) spec1 c) := by
  rw [Pipeline.ownSems0_none, show (decDat V c).Φ (Fin.last grid1.N) = Pipeline.scopedRest (Ix := Unit) (Name := ℕ) (U := UU) (Lvl := ℕ) (Val := Elt F) spec1 c from rfl]
  iintro Hr
  isplitr; · iempintro
  isplitr; · iempintro
  iexact Hr

theorem dec_hin (V : Dev nD → Valuation τ sig (Elt F)) (c : Dev nD) :
    iprop(iprop(emp) ∗ Pipeline.prefHeld Pipeline.Prefetch.none c (fun _ => fullShare) (Pipeline.Prefetch.Contents.none (Val := Elt F)) ∗ Pipeline.scopedRest (Ix := Unit) (Name := ℕ) (U := UU) (Lvl := ℕ) (Val := Elt F) spec1 c) ⊢ (decDat V c).Φ 0 := by
  rw [show (decDat V c).Φ 0 = Pipeline.scopedRest (Ix := Unit) (Name := ℕ) (U := UU) (Lvl := ℕ) (Val := Elt F) spec1 c from rfl]
  iintro ⟨-, -, Hr⟩
  iexact Hr

set_option backward.isDefEq.respectTransparency.types false in
/-- The expert layer's launch: the tile table and the weights go in through the invariant and come back by it. -/
def moeSeg {T : TblShape.Idx → BitVec 32} (hT : Planned T) (hm : ∀ c : Dev nD, m ((c : Thread nD τ).loc main_arg0) = T) :
    Pipeline.RegionSeg (pcfgs (F := F)) (adms hT) (dats m hT) () defs₀ Variants.none Lv lvl 0 where
  win := launch0.win.to₀
  block_pos := block_pos0
  stage_whole := stage_whole0
  K := Fin 2 × Fin 3
  osem := ownSem
  ho := ownSem_facts
  hbody c := (moe_body m hT c).loose
  hwaits := Pipeline.hwaits_of_owed_zero _ _ _ _ Lv lvl 0 fun _ _ => rfl
  pre c := iprop(StableHlo.held (c : Thread nD τ) (Pipeline.ucRefs τ sig) (V0 m c) ∗ R0 c)
  post c := iprop(StableHlo.held (c : Thread nD τ) (Pipeline.ucRefs τ sig) (Vmid m hT c) ∗ R0 c)
  X c := moeX m c
  Y c := moeY m T c
  Z c := moeZ m c
  hentry c := moe_hentry m hT hm c
  hin c := moe_hin m T c
  hout c := (Entails.of_eq (congrArg (moeInv m T c) N_0)).trans (moe_hout m hT c)
  hexit c := moe_hexit m hT hm c

set_option backward.isDefEq.respectTransparency.types false in
/-- The second launch: everything but its two arrays passes it by. -/
def decSeg {T : TblShape.Idx → BitVec 32} (hT : Planned T) :
    Pipeline.RegionSeg (pcfgs (F := F)) (adms hT) (dats m hT) () defs₀ Variants.none Lv lvl 1 where
  win := launch1.win.to₀
  block_pos := block_pos1
  stage_whole := stage_whole1
  K := PEmpty
  osem := fun k => k.elim
  ho := Pipeline.OwnSemFacts.none _
  hbody c := (dec_body (Vmid m hT) c).loose
  hwaits := Pipeline.hwaits_of_owed_zero _ _ _ _ Lv lvl 1 fun _ _ => rfl
  pre c := iprop(StableHlo.held (c : Thread nD τ) (Pipeline.ucRefs τ sig) (Vmid m hT c) ∗ R0 c)
  post c := iprop(StableHlo.held (c : Thread nD τ) (Pipeline.ucRefs τ sig) (V2 m (outs m hT) c) ∗ R0 c)
  X c := iprop(emp)
  Y c := iprop(emp)
  Z c := decZ (Vmid m hT) c
  hentry c := dec_hentry (Vmid m hT) c
  hin c := dec_hin (Vmid m hT) c
  hout c := dec_hout (Vmid m hT) c
  hexit c := dec_hexit_run m hT c

/-! ## The launch -/

/-- The launch element: the pipelines' cells and their tokens. -/
def u₀ {T : TblShape.Idx → BitVec 32} (hT : Planned T) : UU :=
  (initOf (Pipeline.cells (Pipeline.pin (pcfgs (F := F)) (adms hT)) (Gen.cellOf_inj (adms hT)))
    (Pipeline.launchToks (Pipeline.pin (pcfgs (F := F)) (adms hT)) (Gen.cellOf_inj (adms hT))), 1)

theorem hu₀ {T : TblShape.Idx → BitVec 32} (hT : Planned T) :
    (ownU (u₀ (F := F) hT) : sProp 𝕄) ⊢ |={Set.univ}=> iprop(BI.own (EP (F := F) (initOf (Pipeline.cells (Pipeline.pin (pcfgs (F := F)) (adms hT)) (Gen.cellOf_inj (adms hT)))
      (Pipeline.launchToks (Pipeline.pin (pcfgs (F := F)) (adms hT)) (Gen.cellOf_inj (adms hT))))) ∗ bigSep Finset.univ fun _ : Dev nD => (iprop(emp) : sProp 𝕄)) := by
  unfold u₀
  iintro Hu
  ihave H := (ownU_pair _ _) $$ Hu
  icases H with ⟨HP, -⟩
  imodintro
  isplitl [HP]
  · iexact HP
  iapply (show (BI.emp : sProp 𝕄) ⊢ bigSep Finset.univ (fun _ : Dev nD => (BI.emp : sProp 𝕄)) from by rw [BI.bigSep_emp_const])
  iempintro

theorem hE0 (ρ : Dev nD → PrngReg) :
    (iprop((bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ iprop(emp))) ∗ levAts Lv lvl) : sProp 𝕄)
      ⊢ |={Set.univ}=> bigSep Finset.univ (fun c => R0 (F := F) c) := by
  refine Pipeline.initEach Lv lvl fun c => ?_
  iintro ⟨⟨-, Ho, -⟩, -⟩
  imodintro
  iexists _
  iexact Ho

set_option backward.isDefEq.respectTransparency.types false in
/-- From a memory whose tile table is planned, @main ends with every argument as launched and every counter at zero. -/
theorem frame_of_plan {T : TblShape.Idx → BitVec 32} (hT : Planned T) (hm : ∀ c : Dev nD, m ((c : Thread nD τ).loc main_arg0) = T) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Gen.frame_cond (m := m) EP () Variants.none Lv lvl (fun _ _ => rfl) ρ (outs m hT) (adms hT) (dats m hT) (fun _ => 0) (fun _ => iprop(emp)) (u₀ (F := F) hT) (hu₀ hT)
    (fun _ c => R0 c) (hE0 ρ) (fun _ => .rfl) (moeSeg m hT hm) (fun _ => .rfl) (fun c => by rw [V1_eq]; exact .rfl)
    (decSeg m hT) (fun c => by rw [V1_eq]; exact .rfl) (fun _ => .rfl)

end Cert.Proof.KI

end
-- ==== Proof.ValueRun.lean ====
module

public import proofs.«01_k».proof.Proof.IdealRun

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

variable (m : (ℓ : Loc nD τ sig) → Buf (Elt F) ℓ) {T : TblShape.Idx → BitVec 32} (hT : Planned T)

/-- What a final state says of core `c`: the result is what the second launch leaves, the arguments are as launched. -/
def Ends (s : MemSt nD τ sig (Elt F)) (c : Dev nD) : Prop :=
  s.mem ((c.tc : Thread nD τ).loc main_v1) = decOut m hT c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

set_option backward.isDefEq.respectTransparency.types false in
/-- The run of @main from a memory whose tile table is planned, with what it leaves in the result. -/
theorem value_of_plan (hm : ∀ c : Dev nD, m ((c : Thread nD τ).loc main_arg0) = T) (ρ : Dev nD → PrngReg) :
    θ_run defs (onTc (τ := τ) (main (F := F))) ⟨m, fun _ => 0, ρ⟩ (fun r => ∀ c : Dev nD, Ends m hT r.2 c) := by
  refine Pipeline.θ_run_regions_kit_dev_sems (pcfgs (F := F)) (adms hT) (dats m hT) () (cellOf_inj (adms hT)) EP defs₀ Variants.none Lv lvl m ρ main
    (segs Variants.none Lv lvl (fun _ c => R0 c) () (adms hT) (dats m hT) (moeSeg m hT hm) (decSeg m hT))
    (fun c Q => ?chain) (fun c => ?pipes) (fun _ => 0) (fun _ _ => rfl) (fun _ => iprop(emp)) (u₀ (F := F) hT) (hu₀ hT)
    (T₀ := fun c => iprop(StableHlo.held (c : Thread nD τ) (Pipeline.ucRefs τ sig) (V0 m c) ∗ R0 c))
    (Tₙ := fun c => StableHlo.held (c : Thread nD τ) (Pipeline.ucRefs τ sig) (V2 m (outs m hT) c))
    (hch := fun c => ⟨.rfl, .rfl, .rfl⟩)
    (hinit := ?init) (QY := fun c s => Ends m hT s c) (hfin := fun c s => ?fin) (hQ := fun _ h _ => h)
  case chain =>
    rw [main_chain c, Seg.run_eq_chain]
    exact .rfl
  case pipes =>
    simp only [Seg.pipes_region, Seg.pipes_nil]
    decide
  case init =>
    have hs : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ iprop(emp)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => 0) c ∗ prngReg c (ρ c) ∗ iprop(emp)))
            : sProp (MT nD τ sig Unit (Elt F) ℕ UU ℕ)) := by
      rw [← bigSep_sep']
      refine bigSep_mono fun c _ => ?_
      rw [← Pipeline.unscopedBufs_held (Ix := Unit) (Name := ℕ) (U := UU) (Lvl := ℕ) c (V0 m c)]
      exact BI.Entails.refl _
    iintro ⟨HB, HL⟩
    ihave HB' := hs $$ HB
    icases HB' with ⟨HA, HR⟩
    imod (hE0 ρ) $$ [HR HL] with HZ
    · isplitl [HR]
      · iexact HR
      · iexact HL
    imodintro
    rw [bigSep_sep']
    isplitl [HA]
    · iexact HA
    · iexact HZ
  case fin =>
    unfold StableHlo.held
    iintro ⟨HA, HS⟩
    ihave HX := (pointsTo_read_all (Pipeline.ucRefs τ sig) (fun b => ((c : Thread nD τ).1, b)) (V2 m (outs m hT) c) s) $$ [HA HS]
    · isplitl [HA]
      · iexact HA
      · iexact HS
    icases HX with ⟨%h, HS⟩
    imodintro
    isplitr
    · ipureintro
      refine ⟨?_, ?_, ?_, ?_, ?_, ?_⟩
      · exact (h (Proc.devRef .tc main_v1) (Finset.mem_filter.mpr ⟨StableHlo.devRef_mem_tcRefs main_v1, by decide⟩)).trans (V2_v1 m hT c)
      · exact (h (Proc.devRef .tc main_arg0) (Finset.mem_filter.mpr ⟨StableHlo.devRef_mem_tcRefs main_arg0, by decide⟩)).trans (V2_main_arg0 m _ c)
      · exact (h (Proc.devRef .tc main_arg1) (Finset.mem_filter.mpr ⟨StableHlo.devRef_mem_tcRefs main_arg1, by decide⟩)).trans (V2_main_arg1 m _ c)
      · exact (h (Proc.devRef .tc main_arg2) (Finset.mem_filter.mpr ⟨StableHlo.devRef_mem_tcRefs main_arg2, by decide⟩)).trans (V2_main_arg2 m _ c)
      · exact (h (Proc.devRef .tc main_arg3) (Finset.mem_filter.mpr ⟨StableHlo.devRef_mem_tcRefs main_arg3, by decide⟩)).trans (V2_main_arg3 m _ c)
      · exact (h (Proc.devRef .tc main_arg4) (Finset.mem_filter.mpr ⟨StableHlo.devRef_mem_tcRefs main_arg4, by decide⟩)).trans (V2_main_arg4 m _ c)
    · iexact HS

end Cert.Proof.KI

end
-- ==== Proof.Value.lean ====
module

public import proofs.«01_k».proof.Proof.IdealRun
public import Idealize.ShloMosaic.Lib.Pointwise

@[expose] public section

noncomputable section

namespace Cert.Proof.KI

open Cert.KernelIdeal Cert.KernelIdeal.Gen

open Idealize.ShloMosaic

/-! # What one tile computes -/

/-- The two halves of a word, as the numbers they stand for. -/
def loOf (w : BitVec 32) : EReal := Ideal.ofBits .bf16 (w.extractLsb' 0 16)
def hiOf (w : BitVec 32) : EReal := Ideal.ofBits .bf16 (w.extractLsb' 16 16)

/-- One projection of a token: its row times the weight's column. -/
def proj (tok : Fin 2048 → EReal) (g : Fin 2048 → Fin 512 → EReal) (f : Fin 512) : EReal := ∑ e : Fin 2048, tok e * g e f

/-- One expert on one token. -/
def mlp (tok : Fin 2048 → EReal) (g u : Fin 2048 → Fin 512 → EReal) (d : Fin 512 → Fin 2048 → EReal) (c : Fin 2048) : EReal :=
  ∑ f : Fin 512, (proj tok g f * Ideal.logistic (proj tok g f) * proj tok u f) * d f c

/-- A sum over a row is the sum over its two halves. -/
theorem proj_halves (tok : Fin 2048 → EReal) (g : Fin 2048 → Fin 512 → EReal) (f : Fin 512) :
    proj tok g f = (∑ e : Fin 1024, tok ⟨e.val, by omega⟩ * g ⟨e.val, by omega⟩ f) + ∑ e : Fin 1024, tok ⟨1024 + e.val, by omega⟩ * g ⟨1024 + e.val, by omega⟩ f := by
  unfold proj
  exact Fin.sum_univ_two_halves 1024 1024 rfl _

set_option maxRecDepth 16384 in
/-- The kernel's products over a tile, of the words `W` of its rows. -/
theorem pay5_at (v18 v19 v20 v21 v22 v23 v24 v25 : Vec Ideal S256x128 .i32) (v31 v33 v36 v38 : Vec Ideal S1024x512 .bf16) (v45 : Vec Ideal S512x2048 .bf16)
    (W : IVec S256x1024 32) (hW : concatenate S256x1024 1 [⟨S256x128, v18⟩, ⟨S256x128, v19⟩, ⟨S256x128, v20⟩, ⟨S256x128, v21⟩, ⟨S256x128, v22⟩, ⟨S256x128, v23⟩, ⟨S256x128, v24⟩, ⟨S256x128, v25⟩]
      concatenates_S256x128_S256x128_S256x128_S256x128_S256x128_S256x128_S256x128_S256x128_S256x1024_d1 = W) (r : Fin 256) (c : Fin 2048) :
    k0_pay5 (F := Ideal) v18 v19 v20 v21 v22 v23 v24 v25 v31 v33 v36 v38 v45 (ix2 r c)
      = ∑ f : Fin 512, (((∑ e : Fin 1024, loOf (W (ix2 r e)) * v31 (ix2 e f)) + ∑ e : Fin 1024, hiOf (W (ix2 r e)) * v33 (ix2 e f))
          * Ideal.logistic ((∑ e : Fin 1024, loOf (W (ix2 r e)) * v31 (ix2 e f)) + ∑ e : Fin 1024, hiOf (W (ix2 r e)) * v33 (ix2 e f))
          * ((∑ e : Fin 1024, loOf (W (ix2 r e)) * v36 (ix2 e f)) + ∑ e : Fin 1024, hiOf (W (ix2 r e)) * v38 (ix2 e f))) * v45 (ix2 f c) := by
  unfold k0_pay5 loOf hiOf
  rw [hW]
  pointwise []

/-- Row `r`'s word `e` of a block of packed rows: a token's row is eight rows of words. -/
def wordAt (x : S2048x128.Idx → BitVec 32) (r : Fin 256) (e : Fin 1024) : BitVec 32 :=
  x (ix2 (n0 := 2048) (n1 := 128) ⟨8 * r.val + e.val / 128, by omega⟩ ⟨e.val % 128, Nat.mod_lt _ (by decide)⟩)

/-- Row `r` of a block of packed rows as numbers: its words' low halves, then their high halves. -/
def tokAt (x : S2048x128.Idx → BitVec 32) (r : Fin 256) (e : Fin 2048) : EReal :=
  if h : e.val < 1024 then loOf (wordAt x r ⟨e.val, h⟩) else hiOf (wordAt x r ⟨e.val - 1024, by omega⟩)

theorem strided_inb (n : Fin 8) : ∀ a, S256x128.size a = 0 ∨ (![n.val, 0] : Fin 2 → Nat) a + (![8, 1] : Fin 2 → Nat) a * (S256x128.size a - 1) < S2048x128.size a := by
  intro a
  have := n.isLt
  fin_cases a
  · right; show n.val + 8 * (256 - 1) < 2048; omega
  · right; show 0 + 1 * (128 - 1) < 128; decide

/-- The eight strided reads side by side are the rows' words. -/
theorem words_at (x : S2048x128.Idx → BitVec 32) (r : Fin 256) (e : Fin 1024) :
    concatenate S256x1024 1 [⟨S256x128, fun j => x ((⟨![0, 0], S256x128.size, ![8, 1], inb_S2048x128_S256x128_0_0_s_8_1⟩ : LoadRect S2048x128).idx j)⟩, ⟨S256x128, fun j => x ((⟨![1, 0], S256x128.size, ![8, 1], inb_S2048x128_S256x128_1_0_s_8_1⟩ : LoadRect S2048x128).idx j)⟩, ⟨S256x128, fun j => x ((⟨![2, 0], S256x128.size, ![8, 1], inb_S2048x128_S256x128_2_0_s_8_1⟩ : LoadRect S2048x128).idx j)⟩, ⟨S256x128, fun j => x ((⟨![3, 0], S256x128.size, ![8, 1], inb_S2048x128_S256x128_3_0_s_8_1⟩ : LoadRect S2048x128).idx j)⟩, ⟨S256x128, fun j => x ((⟨![4, 0], S256x128.size, ![8, 1], inb_S2048x128_S256x128_4_0_s_8_1⟩ : LoadRect S2048x128).idx j)⟩, ⟨S256x128, fun j => x ((⟨![5, 0], S256x128.size, ![8, 1], inb_S2048x128_S256x128_5_0_s_8_1⟩ : LoadRect S2048x128).idx j)⟩, ⟨S256x128, fun j => x ((⟨![6, 0], S256x128.size, ![8, 1], inb_S2048x128_S256x128_6_0_s_8_1⟩ : LoadRect S2048x128).idx j)⟩, ⟨S256x128, fun j => x ((⟨![7, 0], S256x128.size, ![8, 1], inb_S2048x128_S256x128_7_0_s_8_1⟩ : LoadRect S2048x128).idx j)⟩]
      concatenates_S256x128_S256x128_S256x128_S256x128_S256x128_S256x128_S256x128_S256x128_S256x1024_d1 (ix2 (n0 := 256) (n1 := 1024) r e) = wordAt x r e := by
  refine (concatenate_ofFn_apply (t := S256x1024) (s₁ := S256x128) 1
    (fun n : Fin 8 => fun j => x ((⟨![n.val, 0], S256x128.size, ![8, 1], strided_inb n⟩ : LoadRect S2048x128).idx j))
    concatenates_S256x128_S256x128_S256x128_S256x128_S256x128_S256x128_S256x128_S256x128_S256x1024_d1 rfl 128 rfl
    (ix2 (n0 := 256) (n1 := 1024) r e) ⟨e.val / 128, by omega⟩ rfl (ix2 (n0 := 256) (n1 := 128) r ⟨e.val % 128, Nat.mod_lt _ (by decide)⟩) rfl ?_).trans ?_
  · intro b hb
    fin_cases b
    · rfl
    · exact absurd rfl hb
  · unfold wordAt
    refine congrArg x ?_
    funext a
    apply Fin.ext
    fin_cases a
    · show e.val / 128 + 8 * r.val = 8 * r.val + e.val / 128
      omega
    · show 0 + 1 * (e.val % 128) = e.val % 128
      omega

set_option maxRecDepth 16384 in
/-- One tile's feed-forward: each row is the expert on the row's token. -/
theorem ffnOf_at (x : S2048x128.Idx → BitVec 32) (g u : S2048x512.Idx → Ideal .bf16) (d : S512x2048.Idx → Ideal .bf16) (r : Fin 256) (c : Fin 2048) :
    ffnOf (F := Ideal) x g u d (ix2 r c)
      = mlp (tokAt x r) (fun e f => g (ix2 (n0 := 2048) (n1 := 512) e f)) (fun e f => u (ix2 (n0 := 2048) (n1 := 512) e f)) (fun f c => d (ix2 (n0 := 512) (n1 := 2048) f c)) c := by
  unfold ffnOf
  rw [pay5_at _ _ _ _ _ _ _ _ _ _ _ _ _ _ rfl]
  unfold mlp
  have key : ∀ (g : S2048x512.Idx → Ideal .bf16) (f : Fin 512),
      (∑ e : Fin 1024, loOf (concatenate S256x1024 1 [⟨S256x128, fun j => x ((⟨![0, 0], S256x128.size, ![8, 1], inb_S2048x128_S256x128_0_0_s_8_1⟩ : LoadRect S2048x128).idx j)⟩, ⟨S256x128, fun j => x ((⟨![1, 0], S256x128.size, ![8, 1], inb_S2048x128_S256x128_1_0_s_8_1⟩ : LoadRect S2048x128).idx j)⟩, ⟨S256x128, fun j => x ((⟨![2, 0], S256x128.size, ![8, 1], inb_S2048x128_S256x128_2_0_s_8_1⟩ : LoadRect S2048x128).idx j)⟩, ⟨S256x128, fun j => x ((⟨![3, 0], S256x128.size, ![8, 1], inb_S2048x128_S256x128_3_0_s_8_1⟩ : LoadRect S2048x128).idx j)⟩, ⟨S256x128, fun j => x ((⟨![4, 0], S256x128.size, ![8, 1], inb_S2048x128_S256x128_4_0_s_8_1⟩ : LoadRect S2048x128).idx j)⟩, ⟨S256x128, fun j => x ((⟨![5, 0], S256x128.size, ![8, 1], inb_S2048x128_S256x128_5_0_s_8_1⟩ : LoadRect S2048x128).idx j)⟩, ⟨S256x128, fun j => x ((⟨![6, 0], S256x128.size, ![8, 1], inb_S2048x128_S256x128_6_0_s_8_1⟩ : LoadRect S2048x128).idx j)⟩, ⟨S256x128, fun j => x ((⟨![7, 0], S256x128.size, ![8, 1], inb_S2048x128_S256x128_7_0_s_8_1⟩ : LoadRect S2048x128).idx j)⟩]
          concatenates_S256x128_S256x128_S256x128_S256x128_S256x128_S256x128_S256x128_S256x128_S256x1024_d1 (ix2 r e))
            * g ((Rect.unit (s := S2048x512) ![0, 0] S1024x512.size inb_S2048x512_S1024x512_0_0).toLoadRect.idx (ix2 (n0 := 1024) (n1 := 512) e f)))
        + (∑ e : Fin 1024, hiOf (concatenate S256x1024 1 [⟨S256x128, fun j => x ((⟨![0, 0], S256x128.size, ![8, 1], inb_S2048x128_S256x128_0_0_s_8_1⟩ : LoadRect S2048x128).idx j)⟩, ⟨S256x128, fun j => x ((⟨![1, 0], S256x128.size, ![8, 1], inb_S2048x128_S256x128_1_0_s_8_1⟩ : LoadRect S2048x128).idx j)⟩, ⟨S256x128, fun j => x ((⟨![2, 0], S256x128.size, ![8, 1], inb_S2048x128_S256x128_2_0_s_8_1⟩ : LoadRect S2048x128).idx j)⟩, ⟨S256x128, fun j => x ((⟨![3, 0], S256x128.size, ![8, 1], inb_S2048x128_S256x128_3_0_s_8_1⟩ : LoadRect S2048x128).idx j)⟩, ⟨S256x128, fun j => x ((⟨![4, 0], S256x128.size, ![8, 1], inb_S2048x128_S256x128_4_0_s_8_1⟩ : LoadRect S2048x128).idx j)⟩, ⟨S256x128, fun j => x ((⟨![5, 0], S256x128.size, ![8, 1], inb_S2048x128_S256x128_5_0_s_8_1⟩ : LoadRect S2048x128).idx j)⟩, ⟨S256x128, fun j => x ((⟨![6, 0], S256x128.size, ![8, 1], inb_S2048x128_S256x128_6_0_s_8_1⟩ : LoadRect S2048x128).idx j)⟩, ⟨S256x128, fun j => x ((⟨![7, 0], S256x128.size, ![8, 1], inb_S2048x128_S256x128_7_0_s_8_1⟩ : LoadRect S2048x128).idx j)⟩]
          concatenates_S256x128_S256x128_S256x128_S256x128_S256x128_S256x128_S256x128_S256x128_S256x1024_d1 (ix2 r e))
            * g ((Rect.unit (s := S2048x512) ![1024, 0] S1024x512.size inb_S2048x512_S1024x512_1024_0).toLoadRect.idx (ix2 (n0 := 1024) (n1 := 512) e f)))
        = proj (tokAt x r) (fun e f => g (ix2 (n0 := 2048) (n1 := 512) e f)) f := by
    intro g f
    rw [proj_halves]
    refine congrArg₂ (· + ·) (Finset.sum_congr rfl fun e _ => ?_) (Finset.sum_congr rfl fun e _ => ?_)
    · rw [words_at]
      unfold tokAt
      rw [dif_pos e.isLt]
      refine congrArg (loOf (wordAt x r e) * ·) (congrArg g ?_)
      funext a
      apply Fin.ext
      fin_cases a
      · show 0 + 1 * e.val = e.val
        omega
      · show 0 + 1 * f.val = f.val
        omega
    · rw [words_at]
      unfold tokAt
      rw [dif_neg (by show ¬ 1024 + e.val < 1024; omega)]
      refine congrArg₂ (· * ·) (congrArg hiOf (congrArg (wordAt x r) ?_)) (congrArg g ?_)
      · apply Fin.ext
        show e.val = 1024 + e.val - 1024
        omega
      funext a
      apply Fin.ext
      fin_cases a
      · show 1024 + 1 * e.val = 1024 + e.val
        omega
      · show 0 + 1 * f.val = f.val
        omega
  refine Finset.sum_congr rfl fun f _ => ?_
  rw [key g f, key u f]
  refine congrArg (_ * ·) (congrArg d ?_)
  funext a
  apply Fin.ext
  fin_cases a
  · show 0 + 1 * f.val = f.val
    omega
  · show 0 + 1 * c.val = c.val
    omega

/-! ## The scratch arrays -/

theorem gateBlk_at (c : Dev nD) (w : Wts Ideal c) (x : Fin 32) (a : Fin 2048) (b : Fin 512) :
    gateBlk c w x (ix3 (n0 := 1) (n1 := 2048) (n2 := 512) 0 a b) = w.gate (ix3 (n0 := 32) (n1 := 2048) (n2 := 512) x a b) := by
  refine congrArg w.gate ?_
  funext k
  apply Fin.ext
  fin_cases k
  · show x.val + 1 * 0 = x.val
    omega
  · show 0 + 1 * a.val = a.val
    omega
  · show 0 + 1 * b.val = b.val
    omega

theorem upBlk_at (c : Dev nD) (w : Wts Ideal c) (x : Fin 32) (a : Fin 2048) (b : Fin 512) :
    upBlk c w x (ix3 (n0 := 1) (n1 := 2048) (n2 := 512) 0 a b) = w.up (ix3 (n0 := 32) (n1 := 2048) (n2 := 512) x a b) := by
  refine congrArg w.up ?_
  funext k
  apply Fin.ext
  fin_cases k
  · show x.val + 1 * 0 = x.val
    omega
  · show 0 + 1 * a.val = a.val
    omega
  · show 0 + 1 * b.val = b.val
    omega

theorem downBlk_at (c : Dev nD) (w : Wts Ideal c) (x : Fin 32) (a : Fin 512) (b : Fin 2048) :
    downBlk c w x (ix3 (n0 := 1) (n1 := 512) (n2 := 2048) 0 a b) = w.down (ix3 (n0 := 32) (n1 := 512) (n2 := 2048) x a b) := by
  refine congrArg w.down ?_
  funext k
  apply Fin.ext
  fin_cases k
  · show x.val + 1 * 0 = x.val
    omega
  · show 0 + 1 * a.val = a.val
    omega
  · show 0 + 1 * b.val = b.val
    omega

theorem castG_at (c : Dev nD) (w : Wts Ideal c) (x : Fin 32) (a : Fin 2048) (b : Fin 512) :
    castG c w x (ix2 (n0 := 2048) (n1 := 512) a b) = w.gate (ix3 (n0 := 32) (n1 := 2048) (n2 := 512) x a b) := by
  rw [← gateBlk_at]
  unfold castG
  generalize gateBlk c w x = v
  show k0_pay1 (F := Ideal) v (ix2 (n0 := 2048) (n1 := 512) a b) = v (ix3 (n0 := 1) (n1 := 2048) (n2 := 512) 0 a b)
  pointwise [k0_pay1]

theorem castU_at (c : Dev nD) (w : Wts Ideal c) (x : Fin 32) (a : Fin 2048) (b : Fin 512) :
    castU c w x (ix2 (n0 := 2048) (n1 := 512) a b) = w.up (ix3 (n0 := 32) (n1 := 2048) (n2 := 512) x a b) := by
  rw [← upBlk_at]
  unfold castU
  generalize upBlk c w x = v
  show k0_pay2 (F := Ideal) v (ix2 (n0 := 2048) (n1 := 512) a b) = v (ix3 (n0 := 1) (n1 := 2048) (n2 := 512) 0 a b)
  pointwise [k0_pay2]

theorem castD_at (c : Dev nD) (w : Wts Ideal c) (x : Fin 32) (a : Fin 512) (b : Fin 2048) :
    castD c w x (ix2 (n0 := 512) (n1 := 2048) a b) = w.down (ix3 (n0 := 32) (n1 := 512) (n2 := 2048) x a b) := by
  rw [← downBlk_at]
  unfold castD
  generalize downBlk c w x = v
  show k0_pay3 (F := Ideal) v (ix2 (n0 := 512) (n1 := 2048) a b) = v (ix3 (n0 := 1) (n1 := 512) (n2 := 2048) 0 a b)
  pointwise [k0_pay3]

/-! ## The packed pairs, and what the second kernel makes of them -/

theorem strip_inb (n : Fin 8) : ∀ a, S256x2x128.size a = 0 ∨ (![n.val, 0, 0] : Fin 3 → Nat) a + (![8, 1, 1] : Fin 3 → Nat) a * (S256x2x128.size a - 1) < S2048x2x128.size a := by
  intro a
  have := n.isLt
  fin_cases a
  · right; show n.val + 8 * (256 - 1) < 2048; omega
  · right; show 0 + 1 * (2 - 1) < 2; decide
  · right; show 0 + 1 * (128 - 1) < 128; decide

/-- The halves `p` of the eight strided reads side by side. -/
def halvesOf (p : Fin 2) (x : S2048x2x128.Idx → Ideal .bf16) (n : Fin 8) : S256x128.Idx → Ideal .bf16 :=
  shapeCast S256x128 (rowsOfParity p S256x1x128 (pStrip (F := Ideal) n.val (strip_inb n) x) bitcasts_S256x2x128_w16_S256x1x128_w32) shapeCasts_S256x1x128_S256x128

theorem halvesOf_at (p : Fin 2) (x : S2048x2x128.Idx → Ideal .bf16) (n : Fin 8) (r : Fin 256) (l : Fin 128) :
    halvesOf p x n (ix2 r l) = x (ix3 (n0 := 2048) (n1 := 2) (n2 := 128) ⟨8 * r.val + n.val, by omega⟩ p l) := by
  unfold halvesOf
  have e : shapeCast S256x128 (rowsOfParity p S256x1x128 (pStrip (F := Ideal) n.val (strip_inb n) x) bitcasts_S256x2x128_w16_S256x1x128_w32) shapeCasts_S256x1x128_S256x128 (ix2 r l)
      = pStrip (F := Ideal) n.val (strip_inb n) x (ix3 (n0 := 256) (n1 := 2) (n2 := 128) r p l) := by
    pointwise []
  rw [e]
  unfold pStrip
  refine congrArg x ?_
  funext a
  apply Fin.ext
  fin_cases a
  · show n.val + 8 * r.val = 8 * r.val + n.val
    omega
  · show 0 + 1 * p.val = p.val
    omega
  · show 0 + 1 * l.val = l.val
    omega

theorem halves_at (p : Fin 2) (x : S2048x2x128.Idx → Ideal .bf16) (r : Fin 256) (e : Fin 1024) :
    concatenate S256x1024 1 (List.ofFn fun n : Fin 8 => (⟨S256x128, halvesOf p x n⟩ : (s : Shape) × (s.Idx → Ideal .bf16)))
      concatenates_S256x128_S256x128_S256x128_S256x128_S256x128_S256x128_S256x128_S256x128_S256x1024_d1 (ix2 (n0 := 256) (n1 := 1024) r e)
      = x (ix3 (n0 := 2048) (n1 := 2) (n2 := 128) ⟨8 * r.val + e.val / 128, by omega⟩ p ⟨e.val % 128, Nat.mod_lt _ (by decide)⟩) := by
  refine (concatenate_ofFn_apply (t := S256x1024) (s₁ := S256x128) 1 (halvesOf p x)
    concatenates_S256x128_S256x128_S256x128_S256x128_S256x128_S256x128_S256x128_S256x128_S256x1024_d1 rfl 128 rfl
    (ix2 (n0 := 256) (n1 := 1024) r e) ⟨e.val / 128, by omega⟩ rfl (ix2 (n0 := 256) (n1 := 128) r ⟨e.val % 128, Nat.mod_lt _ (by decide)⟩) rfl ?_).trans ?_
  · intro b hb
    fin_cases b
    · rfl
    · exact absurd rfl hb
  · rw [halvesOf_at]

/-- A block of pairs spelt out: its low halves, then its high halves. -/
theorem decOf_at (x : S2048x2x128.Idx → Ideal .bf16) (r : Fin 256) (c : Fin 2048) :
    decOf (F := Ideal) x (ix2 (n0 := 256) (n1 := 2048) r c)
      = if h : c.val < 1024 then x (ix3 (n0 := 2048) (n1 := 2) (n2 := 128) ⟨8 * r.val + c.val / 128, by omega⟩ 0 ⟨c.val % 128, Nat.mod_lt _ (by decide)⟩)
        else x (ix3 (n0 := 2048) (n1 := 2) (n2 := 128) ⟨8 * r.val + (c.val - 1024) / 128, by omega⟩ 1 ⟨(c.val - 1024) % 128, Nat.mod_lt _ (by decide)⟩) := by
  unfold decOf
  have e0 : ∀ (lo hi : FVec Ideal S256x1024 .bf16), k1_pay1 (F := Ideal) lo hi (ix2 (n0 := 256) (n1 := 2048) r c)
      = if h : c.val < 1024 then lo (ix2 (n0 := 256) (n1 := 1024) r ⟨c.val, h⟩) else hi (ix2 (n0 := 256) (n1 := 1024) r ⟨c.val - 1024, by omega⟩) := by
    intro lo hi
    pointwise [k1_pay1]
  rw [e0]
  by_cases h : c.val < 1024
  · rw [dif_pos h, dif_pos h]
    exact halves_at 0 x r ⟨c.val, h⟩
  · rw [dif_neg h, dif_neg h]
    exact halves_at 1 x r ⟨c.val - 1024, by omega⟩

/-- Packing a tile's row and spelling it out again is the identity. -/
theorem decOf_yPack (v : FVec Ideal S256x2048 .f32) (r : Fin 256) (c : Fin 2048) :
    decOf (F := Ideal) (yPack v) (ix2 (n0 := 256) (n1 := 2048) r c) = v (ix2 (n0 := 256) (n1 := 2048) r c) := by
  have e6 : ∀ (r : Fin 256) (e : Fin 1024), k0_pay6 (F := Ideal) v (ix2 (n0 := 256) (n1 := 1024) r e) = v (ix2 (n0 := 256) (n1 := 2048) r ⟨e.val, by omega⟩) := by
    intro r e
    pointwise [k0_pay6]
  have e7 : ∀ (r : Fin 256) (e : Fin 1024), k0_pay7 (F := Ideal) v (ix2 (n0 := 256) (n1 := 1024) r e) = v (ix2 (n0 := 256) (n1 := 2048) r ⟨1024 + e.val, by omega⟩) := by
    intro r e
    pointwise [k0_pay7]
  rw [decOf_at]
  by_cases h : c.val < 1024
  · rw [dif_pos h]
    unfold yPack
    refine (if_pos rfl).trans ?_
    rw [e6]
    refine congrArg v ?_
    funext a
    apply Fin.ext
    fin_cases a
    · show (8 * r.val + c.val / 128) / 8 = r.val
      omega
    · show (8 * r.val + c.val / 128) % 8 * 128 + c.val % 128 = c.val
      omega
  · rw [dif_neg h]
    unfold yPack
    refine (if_neg (show ¬ (1 : Nat) = 0 by decide)).trans ?_
    rw [e7]
    refine congrArg v ?_
    funext a
    apply Fin.ext
    fin_cases a
    · show (8 * r.val + (c.val - 1024) / 128) / 8 = r.val
      omega
    · show 1024 + ((8 * r.val + (c.val - 1024) / 128) % 8 * 128 + (c.val - 1024) % 128) = c.val
      omega

/-- The block of a tile nobody uses spells out to zero. -/
theorem decOf_zero (r : Fin 256) (c : Fin 2048) : decOf (F := Ideal) (k0_pay4 (F := Ideal)) (ix2 (n0 := 256) (n1 := 2048) r c) = (0 : EReal) := by
  have e : ∀ (a : Fin 2048) (p : Fin 2) (l : Fin 128), k0_pay4 (F := Ideal) (ix3 (n0 := 2048) (n1 := 2) (n2 := 128) a p l) = (0 : EReal) := by
    intro a p l
    pointwise [k0_pay4]
    exact ite_self _
  rw [decOf_at]
  split
  · exact e _ _ _
  · exact e _ _ _

/-- What one tile computes, spelt out: the tile's expert on each of its rows, or zero of a tile nobody uses. -/
theorem yTile_at (c : Dev nD) (w : Wts Ideal c) (T : TblShape.Idx → BitVec 32) (n : Nat) (x : S2048x128.Idx → BitVec 32) (r : Fin 256) (k : Fin 2048) :
    decOf (F := Ideal) (yTile c w T n x) (ix2 (n0 := 256) (n1 := 2048) r k)
      = if 0 < (tw T n 1).toNat then
          mlp (tokAt x r) (fun e f => w.gate (ix3 (n0 := 32) (n1 := 2048) (n2 := 512) (exAt T n) e f)) (fun e f => w.up (ix3 (n0 := 32) (n1 := 2048) (n2 := 512) (exAt T n) e f))
            (fun f k => w.down (ix3 (n0 := 32) (n1 := 512) (n2 := 2048) (exAt T n) f k)) k
        else 0 := by
  unfold yTile
  by_cases h : 0 < (tw T n 1).toNat
  · rw [if_pos h, if_pos h, decOf_yPack, ffnOf_at]
    simp only [castG_at, castU_at, castD_at]
  · rw [if_neg h, if_neg h, decOf_zero]

end Cert.Proof.KI

end
-- ==== Proof.ValueArr.lean ====
module

public import proofs.«01_k».proof.Proof.Value
public import Idealize.ShloMosaic.Lib.Pipeline.Value

@[expose] public section

noncomputable section

namespace Cert.Proof.KI

open Cert.KernelIdeal Cert.KernelIdeal.Gen

open Idealize.ShloMosaic
open Idealize.ShloMosaic.TcCoe Idealize.ShloMosaic.Tactic
open Idealize.SL
open Idealize.ShloMosaic.Pipeline (Dat Cfg Window BodyObligation cellOf)

variable (m : (ℓ : Loc nD τ sig) → Buf (Elt Ideal) ℓ) {T : TblShape.Idx → BitVec 32} (hT : Planned T) (c : Dev nD)

/-- An element a view's embedding reaches is in the view. -/
theorem mem_of_emb {sig : RefSig} {κ : Kind} {sp : Space} {s : Shape} {e : EltTy} (v : View sig κ sp s e) (x : s.Idx) (i) (h : v.emb x = i) : i ∈ v.set := by
  rw [← h]; exact v.emb_mem_set x

theorem coord1 (t : Fin grid1.N) : (grid1.coords t 0).val = t.val := by
  have h := Pipeline.Grid.coords_val (G := grid1) t 0 (S := 1) (B := 96) (by decide) (by decide)
  have ht : t.val < 96 := N_1 ▸ t.isLt
  rw [h]; omega

/-! ### Where a block's elements lie in its array -/

theorem emb_moe_in (t : Fin grid0.N) (y : S2048x128.Idx) :
    (((moeCfg (F := Ideal) hT).win 0).blk t).view.emb y = ix2 ⟨min t.val (tw T 0 8).toNat * 2048 + (y 0).val, by
      have := hT.last; have := (y 0).isLt; have : (y 0).val < 2048 := this; omega⟩ ⟨(y 1).val, (y 1).isLt⟩ := by
  have e := trans_row (F := Ideal) hT (grid0.coords t)
  have e0 : cc0_transform_0 inb_S128x128_S1x1_0_8 numel1_S1x1 (tbl (F := Ideal) T) (grid0.coords t) 0 = min (grid0.coords t 0).val (tw T 0 8).toNat := by rw [e]; rfl
  have e1 : cc0_transform_0 inb_S128x128_S1x1_0_8 numel1_S1x1 (tbl (F := Ideal) T) (grid0.coords t) 1 = 0 := by rw [e]; rfl
  rw [coord0] at e0
  funext a
  match a with
  | ⟨0, _⟩ =>
    refine Fin.ext ?_
    show cc0_transform_0 inb_S128x128_S1x1_0_8 numel1_S1x1 (tbl (F := Ideal) T) (grid0.coords t) 0 * 2048 + 1 * (y 0).val = min t.val (tw T 0 8).toNat * 2048 + (y 0).val
    rw [e0, Nat.one_mul]
  | ⟨1, _⟩ =>
    refine Fin.ext ?_
    show cc0_transform_0 inb_S128x128_S1x1_0_8 numel1_S1x1 (tbl (F := Ideal) T) (grid0.coords t) 1 * 128 + 1 * (y 1).val = (y 1).val
    rw [e1]; omega

theorem emb_moe_out (t : Fin grid0.N) (y : S2048x2x128.Idx) :
    (((moeCfg (F := Ideal) hT).win 1).blk t).view.emb y = ix3 ⟨t.val * 2048 + (y 0).val, by
      have ht : t.val < 96 := N_0 ▸ t.isLt
      have : (y 0).val < 2048 := (y 0).isLt; omega⟩ ⟨(y 1).val, (y 1).isLt⟩ ⟨(y 2).val, (y 2).isLt⟩ := by
  have ht : t.val < 96 := N_0 ▸ t.isLt
  have e0 : cc0_transform_4 (grid0.coords t) 0 = t.val := by
    show (BitVec.ofNat 32 (grid0.coords t 0).val).toNat = t.val
    rw [coord0, BitVec.toNat_ofNat]; omega
  funext a
  match a with
  | ⟨0, _⟩ =>
    refine Fin.ext ?_
    show cc0_transform_4 (grid0.coords t) 0 * 2048 + 1 * (y 0).val = t.val * 2048 + (y 0).val
    rw [e0, Nat.one_mul]
  | ⟨1, _⟩ =>
    refine Fin.ext ?_
    show 0 * 2 + 1 * (y 1).val = (y 1).val
    omega
  | ⟨2, _⟩ =>
    refine Fin.ext ?_
    show 0 * 128 + 1 * (y 2).val = (y 2).val
    omega

theorem emb_dec_in (t : Fin grid1.N) (y : S2048x2x128.Idx) :
    ((cfg1.win 0).blk t).view.emb y = ix3 ⟨t.val * 2048 + (y 0).val, by
      have ht : t.val < 96 := N_1 ▸ t.isLt
      have : (y 0).val < 2048 := (y 0).isLt; omega⟩ ⟨(y 1).val, (y 1).isLt⟩ ⟨(y 2).val, (y 2).isLt⟩ := by
  have ht : t.val < 96 := N_1 ▸ t.isLt
  have e0 : cc1_transform_0 (grid1.coords t) 0 = t.val := by
    show (BitVec.ofNat 32 (grid1.coords t 0).val).toNat = t.val
    rw [coord1, BitVec.toNat_ofNat]; omega
  funext a
  match a with
  | ⟨0, _⟩ =>
    refine Fin.ext ?_
    show cc1_transform_0 (grid1.coords t) 0 * 2048 + 1 * (y 0).val = t.val * 2048 + (y 0).val
    rw [e0, Nat.one_mul]
  | ⟨1, _⟩ =>
    refine Fin.ext ?_
    show 0 * 2 + 1 * (y 1).val = (y 1).val
    omega
  | ⟨2, _⟩ =>
    refine Fin.ext ?_
    show 0 * 128 + 1 * (y 2).val = (y 2).val
    omega

theorem emb_dec_out (t : Fin grid1.N) (y : S256x2048.Idx) :
    ((cfg1.win 1).blk t).view.emb y = ix2 ⟨t.val * 256 + (y 0).val, by
      have ht : t.val < 96 := N_1 ▸ t.isLt
      have : (y 0).val < 256 := (y 0).isLt; omega⟩ ⟨(y 1).val, (y 1).isLt⟩ := by
  have ht : t.val < 96 := N_1 ▸ t.isLt
  have e0 : cc1_transform_1 (grid1.coords t) 0 = t.val := by
    show (BitVec.ofNat 32 (grid1.coords t 0).val).toNat = t.val
    rw [coord1, BitVec.toNat_ofNat]; omega
  funext a
  match a with
  | ⟨0, _⟩ =>
    refine Fin.ext ?_
    show cc1_transform_1 (grid1.coords t) 0 * 256 + 1 * (y 0).val = t.val * 256 + (y 0).val
    rw [e0, Nat.one_mul]
  | ⟨1, _⟩ =>
    refine Fin.ext ?_
    show 0 * 2048 + 1 * (y 1).val = (y 1).val
    omega

theorem ix_moe (t : Fin grid0.N) : cc0_transform_4 (grid0.coords t) 0 = t.val := by
  have ht : t.val < 96 := N_0 ▸ t.isLt
  show (BitVec.ofNat 32 (grid0.coords t 0).val).toNat = t.val
  rw [coord0, BitVec.toNat_ofNat]; omega

theorem ix_dec (t : Fin grid1.N) : cc1_transform_1 (grid1.coords t) 0 = t.val := by
  have ht : t.val < 96 := N_1 ▸ t.isLt
  show (BitVec.ofNat 32 (grid1.coords t 0).val).toNat = t.val
  rw [coord1, BitVec.toNat_ofNat]; omega

/-- Every point writes its tile of packed rows back. -/
theorem flush_moe (t : Fin grid0.N) : ((moeCfg (F := Ideal) hT).win 1).flush t = true := by
  show (true && (decide (t.val + 1 = grid0.N) || decide (∃ h : t.val + 1 < grid0.N, cc0_transform_4 (grid0.coords ⟨t.val + 1, h⟩) ≠ cc0_transform_4 (grid0.coords t)))) = true
  rw [Bool.true_and, Bool.or_eq_true, decide_eq_true_eq, decide_eq_true_eq]
  by_cases h : t.val + 1 = grid0.N
  · exact Or.inl h
  · refine Or.inr ⟨by have := t.isLt; omega, fun e => ?_⟩
    have e0 := congrFun e 0
    rw [ix_moe, ix_moe] at e0
    exact absurd e0 (by simp)

/-- Every point writes its block of rows back. -/
theorem flush_dec (t : Fin grid1.N) : (cfg1.win 1).flush t = true := by
  show (true && (decide (t.val + 1 = grid1.N) || decide (∃ h : t.val + 1 < grid1.N, cc1_transform_1 (grid1.coords ⟨t.val + 1, h⟩) ≠ cc1_transform_1 (grid1.coords t)))) = true
  rw [Bool.true_and, Bool.or_eq_true, decide_eq_true_eq, decide_eq_true_eq]
  by_cases h : t.val + 1 = grid1.N
  · exact Or.inl h
  · refine Or.inr ⟨by have := t.isLt; omega, fun e => ?_⟩
    have e0 := congrFun e 0
    rw [ix_dec, ix_dec] at e0
    exact absurd e0 (by simp)

/-! ### The blocks of an array, read -/

theorem read_moe_in (X : S196608x128.Idx → BitVec 32) (t : Fin grid0.N) (y : S2048x128.Idx) :
    (((moeCfg (F := Ideal) hT).win 0).blk t).view.read (Elt Ideal) X y = X (ix2 ⟨min t.val (tw T 0 8).toNat * 2048 + (y 0).val, by
      have := hT.last; have := (y 0).isLt; have : (y 0).val < 2048 := this; omega⟩ ⟨(y 1).val, (y 1).isLt⟩) :=
  congrArg X (emb_moe_in hT t y)

theorem read_moe_out (X : S196608x2x128.Idx → EReal) (t : Fin grid0.N) (y : S2048x2x128.Idx) :
    (((moeCfg (F := Ideal) hT).win 1).blk t).view.read (Elt Ideal) X y = X (ix3 ⟨t.val * 2048 + (y 0).val, by
      have ht : t.val < 96 := N_0 ▸ t.isLt
      have : (y 0).val < 2048 := (y 0).isLt; omega⟩ ⟨(y 1).val, (y 1).isLt⟩ ⟨(y 2).val, (y 2).isLt⟩) :=
  congrArg X (emb_moe_out hT t y)

theorem read_dec_in (X : S196608x2x128.Idx → EReal) (t : Fin grid1.N) (y : S2048x2x128.Idx) :
    ((cfg1.win 0).blk t).view.read (Elt Ideal) X y = X (ix3 ⟨t.val * 2048 + (y 0).val, by
      have ht : t.val < 96 := N_1 ▸ t.isLt
      have : (y 0).val < 2048 := (y 0).isLt; omega⟩ ⟨(y 1).val, (y 1).isLt⟩ ⟨(y 2).val, (y 2).isLt⟩) :=
  congrArg X (emb_dec_in t y)

theorem read_dec_out (X : S24576x2048.Idx → EReal) (t : Fin grid1.N) (y : S256x2048.Idx) :
    ((cfg1.win 1).blk t).view.read (Elt Ideal) X y = X (ix2 ⟨t.val * 256 + (y 0).val, by
      have ht : t.val < 96 := N_1 ▸ t.isLt
      have : (y 0).val < 256 := (y 0).isLt; omega⟩ ⟨(y 1).val, (y 1).isLt⟩) :=
  congrArg X (emb_dec_out t y)

/-! ### The final arrays -/

/-- The packed result, row by row: row `2048 t + a` is row `a` of tile `t`. -/
def moeG : S196608x2x128.Idx → EReal := fun i =>
  yTile c (wts m c) T ((i 0).val / 2048) (xBlk m hT c ⟨(i 0).val / 2048, by
    have : (i 0).val < 196608 := (i 0).isLt
    rw [N_0]; omega⟩) (ix3 ⟨(i 0).val % 2048, Nat.mod_lt _ (by decide)⟩ ⟨(i 1).val, (i 1).isLt⟩ ⟨(i 2).val, (i 2).isLt⟩)

theorem moeG_at (t : Fin grid0.N) (y : S2048x2x128.Idx) (h) :
    moeG m hT c (ix3 ⟨t.val * 2048 + (y 0).val, h⟩ ⟨(y 1).val, (y 1).isLt⟩ ⟨(y 2).val, (y 2).isLt⟩) = yTile c (wts m c) T t.val (xBlk m hT c t) y := by
  have h0 : (y 0).val < 2048 := (y 0).isLt
  have e1 : (t.val * 2048 + (y 0).val) / 2048 = t.val := by omega
  have e2 : (t.val * 2048 + (y 0).val) % 2048 = (y 0).val := by omega
  have e4 : ∀ h, (ix3 ⟨(t.val * 2048 + (y 0).val) % 2048, h⟩ ⟨(y 1).val, (y 1).isLt⟩ ⟨(y 2).val, (y 2).isLt⟩ : S2048x2x128.Idx) = y := fun h => by
    funext a
    match a with
    | ⟨0, _⟩ => exact Fin.ext e2
    | ⟨1, _⟩ => rfl
    | ⟨2, _⟩ => rfl
  have key : ∀ (n : Nat) (hn : n < grid0.N) (z : S2048x2x128.Idx), n = t.val → z = y →
      yTile c (wts m c) T n (xBlk m hT c ⟨n, hn⟩) z = yTile c (wts m c) T t.val (xBlk m hT c t) y := by
    rintro n hn z rfl rfl; rfl
  exact key _ _ _ e1 (e4 _)

theorem moeOut_eq : moeOut m hT c = moeG m hT c := by
  refine (moeDat m hT c).arrAt_eq_of_cover 1 (moeG m hT c) (fun t _ => ?_) (fun (i : S196608x2x128.Idx) => ?_)
  · funext y
    exact ((read_moe_out hT (moeG m hT c) t y).trans (moeG_at m hT c t y _)).symm
  · have h0 : (i 0).val < 196608 := (i 0).isLt
    have hN : (i 0).val / 2048 < grid0.N := by rw [N_0]; omega
    refine ⟨⟨(i 0).val / 2048, hN⟩, flush_moe hT _, ?_⟩
    exact mem_of_emb _ _ _ ((emb_moe_out hT ⟨(i 0).val / 2048, hN⟩ (ix3 ⟨(i 0).val % 2048, Nat.mod_lt _ (by decide)⟩ ⟨(i 1).val, (i 1).isLt⟩ ⟨(i 2).val, (i 2).isLt⟩)).trans (by
      funext a
      match a with
      | ⟨0, _⟩ => exact Fin.ext (show (i 0).val / 2048 * 2048 + (i 0).val % 2048 = (i 0).val by omega)
      | ⟨1, _⟩ => rfl
      | ⟨2, _⟩ => rfl))

theorem moe_pBlk (t : Fin grid1.N) (t' : Fin grid0.N) (ht : t'.val = t.val) :
    pBlk (Vmid m hT) c t = yTile c (wts m c) T t'.val (xBlk m hT c t') := by
  have e : Vmid m hT c main_v0 = moeG m hT c := by
    unfold Vmid
    rw [Function.update_self, moeOut_eq]
  funext y
  unfold pBlk
  rw [e]
  refine (read_dec_in (moeG m hT c) t y).trans ?_
  refine Eq.trans ?_ (moeG_at m hT c t' y (by
    have ht : t'.val < 96 := N_0 ▸ t'.isLt
    have : (y 0).val < 2048 := (y 0).isLt; omega))
  congr 2
  exact Fin.ext (show t.val * 2048 + (y 0).val = t'.val * 2048 + (y 0).val by rw [ht])

/-- The spelt-out result, row by row. -/
def decG : S24576x2048.Idx → EReal := fun i =>
  decOf (pBlk (Vmid m hT) c ⟨(i 0).val / 256, by
    have : (i 0).val < 24576 := (i 0).isLt
    rw [N_1]; omega⟩) (ix2 ⟨(i 0).val % 256, Nat.mod_lt _ (by decide)⟩ ⟨(i 1).val, (i 1).isLt⟩)

theorem decG_at (t : Fin grid1.N) (y : S256x2048.Idx) (h) :
    decG m hT c (ix2 ⟨t.val * 256 + (y 0).val, h⟩ ⟨(y 1).val, (y 1).isLt⟩) = decOf (pBlk (Vmid m hT) c t) y := by
  have h0 : (y 0).val < 256 := (y 0).isLt
  have e1 : (t.val * 256 + (y 0).val) / 256 = t.val := by omega
  have e2 : (t.val * 256 + (y 0).val) % 256 = (y 0).val := by omega
  have e4 : ∀ h, (ix2 ⟨(t.val * 256 + (y 0).val) % 256, h⟩ ⟨(y 1).val, (y 1).isLt⟩ : S256x2048.Idx) = y := fun h => by
    funext a
    match a with
    | ⟨0, _⟩ => exact Fin.ext e2
    | ⟨1, _⟩ => rfl
  have key : ∀ (n : Nat) (hn : n < grid1.N) (z : S256x2048.Idx), n = t.val → z = y →
      decOf (pBlk (Vmid m hT) c ⟨n, hn⟩) z = decOf (pBlk (Vmid m hT) c t) y := by
    rintro n hn z rfl rfl; rfl
  exact key _ _ _ e1 (e4 _)

theorem decOut_eq : decOut m hT c = decG m hT c := by
  refine (decDat (Vmid m hT) c).arrAt_eq_of_cover 1 (decG m hT c) (fun t _ => ?_) (fun (i : S24576x2048.Idx) => ?_)
  · funext y
    exact ((read_dec_out (decG m hT c) t y).trans (decG_at m hT c t y _)).symm
  · have h0 : (i 0).val < 24576 := (i 0).isLt
    have hN : (i 0).val / 256 < grid1.N := by rw [N_1]; omega
    refine ⟨⟨(i 0).val / 256, hN⟩, flush_dec _, ?_⟩
    exact mem_of_emb _ _ _ (
      (emb_dec_out ⟨(i 0).val / 256, hN⟩ (ix2 ⟨(i 0).val % 256, Nat.mod_lt _ (by decide)⟩ ⟨(i 1).val, (i 1).isLt⟩)).trans (by
      funext a
      match a with
      | ⟨0, _⟩ => exact Fin.ext (show (i 0).val / 256 * 256 + (i 0).val % 256 = (i 0).val by omega)
      | ⟨1, _⟩ => rfl))

/-! ### The result at an index -/

/-- Word `e` of row `n` of the tokens. -/
def argWord (X : S196608x128.Idx → BitVec 32) (n : Fin 24576) (e : Fin 1024) : BitVec 32 :=
  X (ix2 ⟨8 * n.val + e.val / 128, by have := n.isLt; have := e.isLt; omega⟩ ⟨e.val % 128, Nat.mod_lt _ (by decide)⟩)

/-- Number `e` of row `n` of the tokens: the low halves of the words, then the high ones. -/
def argTok (X : S196608x128.Idx → BitVec 32) (n : Fin 24576) (e : Fin 2048) : EReal :=
  if h : e.val < 1024 then loOf (argWord X n ⟨e.val, h⟩) else hiOf (argWord X n ⟨e.val - 1024, by have := e.isLt; omega⟩)

theorem tok_arg (t : Fin grid0.N) (hl : t.val ≤ (tw T 0 8).toNat) (r : Fin 256) (n : Fin 24576) (hn : n.val = t.val * 256 + r.val) (e : Fin 2048) :
    tokAt (xBlk m hT c t) r e = argTok (m ((c : Thread nD τ).loc main_arg1)) n e := by
  have w : ∀ k : Fin 1024, wordAt (xBlk m hT c t) r k = argWord (m ((c : Thread nD τ).loc main_arg1)) n k := fun k => by
    refine (read_moe_in hT (m ((c : Thread nD τ).loc main_arg1)) t _).trans ?_
    unfold argWord
    congr 2
    refine Fin.ext ?_
    show min t.val (tw T 0 8).toNat * 2048 + (8 * r.val + k.val / 128) = 8 * n.val + k.val / 128
    rw [Nat.min_eq_left hl, hn]; omega
  unfold tokAt argTok
  split
  · rw [w]
  · rw [w]

/-- What the two launches leave: the expert's own output for a row of a tile with rows, zero for the others. -/
theorem decOut_at (n : Fin 24576) (k : Fin 2048) :
    decOut m hT c (ix2 n k) = if 0 < (tw T (n.val / 256) 1).toNat then
      mlp (argTok (m ((c : Thread nD τ).loc main_arg1)) n) (fun e f => m ((c : Thread nD τ).loc main_arg2) (ix3 (exAt T (n.val / 256)) e f))
        (fun e f => m ((c : Thread nD τ).loc main_arg3) (ix3 (exAt T (n.val / 256)) e f)) (fun f k => m ((c : Thread nD τ).loc main_arg4) (ix3 (exAt T (n.val / 256)) f k)) k
    else 0 := by
  have hn := n.isLt
  have hN : n.val / 256 < grid0.N := by rw [N_0]; omega
  rw [decOut_eq]
  show decOf (pBlk (Vmid m hT) c ⟨n.val / 256, _⟩) (ix2 ⟨n.val % 256, _⟩ k) = _
  rw [moe_pBlk m hT c _ ⟨n.val / 256, hN⟩ rfl, yTile_at]
  by_cases hv : 0 < (tw T (n.val / 256) 1).toNat
  · rw [if_pos hv, if_pos hv]
    have hl : n.val / 256 ≤ (tw T 0 8).toNat := hT.reach _ (by omega) hv
    rw [show tokAt (xBlk m hT c ⟨n.val / 256, hN⟩) ⟨n.val % 256, Nat.mod_lt _ (by decide)⟩ = argTok (m ((c : Thread nD τ).loc main_arg1)) n from
      funext fun e => tok_arg m hT c ⟨n.val / 256, hN⟩ hl _ n (show n.val = n.val / 256 * 256 + n.val % 256 by omega) e]
    rfl
  · rw [if_neg hv, if_neg hv]

end Cert.Proof.KI
-- ==== Proof.ValueBits.lean ====
module

public import proofs.«01_k».proof.Proof.ValueArr

@[expose] public section

noncomputable section

namespace Cert.Proof.KI

open Idealize.ShloMosaic

/-! # A half of a word as a number, and the same half moved to the top of a word -/

/-- A float of 8 exponent bits and 7 fraction bits, with 16 zeros after it, is the same number in the longer format. -/
theorem ieee_wide (b : BitVec 16) (B : BitVec 32) (hs : B.extractLsb' 31 1 = b.extractLsb' 15 1) (he : B.extractLsb' 23 8 = b.extractLsb' 7 8)
    (hf : (B.extractLsb' 0 23).toNat = (b.extractLsb' 0 7).toNat * 2 ^ 16) : Ideal.ieee 8 23 B = Ideal.ieee 8 7 b := by
  unfold Ideal.ieee
  simp only [show (8 + 23 : Nat) = 31 from rfl, show (8 + 7 : Nat) = 15 from rfl, hs, he, hf]
  generalize hx : (b.extractLsb' 7 8).toNat = ex
  generalize hr : (b.extractLsb' 0 7).toNat = fr
  generalize hn : (b.extractLsb' 15 1 == 1#1) = neg
  by_cases h1 : ex = 2 ^ 8 - 1
  · rw [if_pos h1, if_pos h1]
    by_cases h2 : fr = 0
    · rw [if_pos (by rw [h2, Nat.zero_mul]), if_pos h2]
    · rw [if_neg (by omega), if_neg h2]
  · rw [if_neg h1, if_neg h1]
    have p : (2 : ℝ) ^ (16 : ℕ) * (2 : ℝ) ^ (-(16 : ℤ)) = 1 := by norm_num
    by_cases h2 : ex = 0
    · rw [if_pos h2, if_pos h2]
      congr 1
      rw [show ((1 : ℤ) - (2 ^ (8 - 1) - 1) - ((23 : ℕ) : ℤ)) = (1 - (2 ^ (8 - 1) - 1) - ((7 : ℕ) : ℤ)) + -(16 : ℤ) by norm_num]
      rw [zpow_add₀ (by norm_num : (2 : ℝ) ≠ 0)]
      push_cast
      linear_combination (if neg then (-1 : ℝ) else 1) * fr * (2 : ℝ) ^ ((1 : ℤ) - (2 ^ (8 - 1) - 1) - 7) * p
    · rw [if_neg h2, if_neg h2]
      congr 1
      rw [show ((ex : ℤ) - (2 ^ (8 - 1) - 1) - ((23 : ℕ) : ℤ)) = ((ex : ℤ) - (2 ^ (8 - 1) - 1) - ((7 : ℕ) : ℤ)) + -(16 : ℤ) by push_cast; ring]
      rw [zpow_add₀ (by norm_num : (2 : ℝ) ≠ 0)]
      push_cast
      linear_combination (if neg then (-1 : ℝ) else 1) * (2 ^ 7 + fr) * (2 : ℝ) ^ ((ex : ℤ) - (2 ^ (8 - 1) - 1) - 7) * p

/-- The low half of a word, shifted up, is the number the low half stands for. -/
theorem shl_lo (w : BitVec 32) : Ideal.ofBits .f32 (w <<< 16) = loOf w := by
  refine ieee_wide (w.extractLsb' 0 16) (w <<< 16) ?_ ?_ ?_
  · ext i hi
    have : i = 0 := by omega
    subst this
    simp
  · ext i hi
    simp
    have a1 : 23 + i < 32 := by omega
    have a2 : ¬ 23 + i < 16 := by omega
    have a3 : 23 + i - 16 = 7 + i := by omega
    rw [decide_eq_true a1, decide_eq_false a2, a3]
    rfl
  · simp [BitVec.extractLsb'_toNat, Nat.shiftRight_eq_div_pow, Nat.shiftLeft_eq]; omega

/-- The high half of a word, kept where it is, is the number the high half stands for. -/
theorem and_hi (w : BitVec 32) : Ideal.ofBits .f32 (w &&& 4294901760#32) = hiOf w := by
  have e : w &&& 4294901760#32 = (w >>> 16) <<< 16 := by
    exact (IdealRules.bf16_pack.hi_of_shifts w).symm
  rw [e]
  refine ieee_wide (w.extractLsb' 16 16) ((w >>> 16) <<< 16) ?_ ?_ ?_
  · ext i hi
    have : i = 0 := by omega
    subst this
    simp
  · ext i hi
    simp
    have a1 : 23 + i < 32 := by omega
    have a2 : ¬ 23 + i < 16 := by omega
    have a3 : 23 + i - 16 = 7 + i := by omega
    have a4 : 7 + i < 16 := by omega
    rw [decide_eq_true a1, decide_eq_false a2, decide_eq_true a4, a3]
    rfl
  · simp [BitVec.extractLsb'_toNat, Nat.shiftRight_eq_div_pow, Nat.shiftLeft_eq]; omega

end Cert.Proof.KI

end
-- ==== Proof.ValueRef.lean ====
module

public import proofs.«01_k».proof.Proof.Gen.ReferenceIdeal.Run
public import Idealize.ShloMosaic.Lib.Pointwise

@[expose] public section

noncomputable section

namespace Cert.Proof.RI

open Cert.ReferenceIdeal Cert.ReferenceIdeal.Gen

open Idealize.ShloMosaic

/-! # The reference at an index -/

/-- The tokens as floats. -/
def rTok (X : S196608x128.Idx → BitVec 32) : S24576x2048.Idx → Ideal .f32 :=
  concatenate S24576x2048 1 [⟨S24576x1024, (bitcastToFloat (F := Ideal) .f32 (Host.shli (shapeCast _ X shapeCasts_S196608x128_S24576x1024) (broadcastInDim S24576x1024 ![] bcast_S_S24576x1024 (constantI S_ 32 16#32))))⟩, ⟨S24576x1024, (bitcastToFloat (F := Ideal) .f32 (andi (shapeCast _ X shapeCasts_S196608x128_S24576x1024) (broadcastInDim S24576x1024 ![] bcast_S_S24576x1024 (constantI S_ 32 4294901760#32))))⟩] concatenates_S24576x1024_S24576x1024_S24576x2048_d1

set_option maxRecDepth 16384 in
theorem rTok_at (X : S196608x128.Idx → BitVec 32) (n : Fin 24576) (e : Fin 2048) :
    rTok X (ix2 (n0 := 24576) (n1 := 2048) n e) = if h : e.val < 1024 then
        Ideal.ofBits .f32 (X (ix2 (n0 := 196608) (n1 := 128) ⟨n.val * 8 + e.val / 128, by omega⟩ ⟨e.val % 128, Nat.mod_lt _ (by decide)⟩) <<< 16)
      else Ideal.ofBits .f32 (X (ix2 (n0 := 196608) (n1 := 128) ⟨n.val * 8 + (e.val - 1024) / 128, by omega⟩ ⟨(e.val - 1024) % 128, Nat.mod_lt _ (by decide)⟩) &&& 4294901760#32) := by
  pointwise [rTok]
  rfl

/-- Every expert's projection of every token. -/
def rProj (g : S32x2048x512.Idx → Ideal .f32) (x : S24576x2048.Idx → Ideal .f32) : S32x24576x512.Idx → Ideal .f32 :=
  transpose S32x24576x512 [0, 2, 1] (Host.dotGeneral (F := Ideal) (φ₁ := .f32) (φ₂ := .f32) dot_S32x2048x512_S24576x2048_S32x512x24576_1_1_02_0_n_n none g x) transposes_S32x512x24576_S32x24576x512_0_2_1

set_option maxRecDepth 16384 in
theorem rProj_at (g : S32x2048x512.Idx → Ideal .f32) (x : S24576x2048.Idx → Ideal .f32) (a : Fin 32) (n : Fin 24576) (f : Fin 512) :
    rProj g x (ix3 (n0 := 32) (n1 := 24576) (n2 := 512) a n f) = (∑ e : Fin 2048, g (ix3 (n0 := 32) (n1 := 2048) (n2 := 512) a e f) * x (ix2 (n0 := 24576) (n1 := 2048) n e) : EReal) := by
  pointwise [rProj]

/-- Every expert's hidden layer of every token. -/
def rHid (g u : S32x24576x512.Idx → Ideal .f32) : S32x24576x512.Idx → Ideal .f32 :=
  mulf (F := Ideal) (φ := .f32) (mulf (F := Ideal) (φ := .f32) g (Host.divf (F := Ideal) (φ := .f32) (broadcastInDim S32x24576x512 ![] bcast_S_S32x24576x512 (constant (F := Ideal) S_ .f32 0x3F800000#32)) (addf (broadcastInDim S32x24576x512 ![] bcast_S_S32x24576x512 (constant (F := Ideal) S_ .f32 0x3F800000#32)) (Host.exp (Host.negf g))))) u

theorem rHid_at (g u : S32x24576x512.Idx → Ideal .f32) (j : S32x24576x512.Idx) :
    rHid g u j = (g j * Ideal.logistic (g j) * u j : EReal) := by
  show (g j * Ideal.div (Ideal.ofBits .f32 0x3F800000#32) (Ideal.ofBits .f32 0x3F800000#32 + _) * u j : EReal) = _
  rw [Ideal.ofBits_one_f32]
  rfl

/-- Which expert each row takes. -/
def rCmb (T : S128x128.Idx → BitVec 32) : S32x24576.Idx → BitVec 1 :=
  andi (cmpi .eq (broadcastInDim S32x24576 ![0, 1] bcast_S32x1_S32x24576_0_1 (broadcastInDim S32x1 ![0] bcast_S32_S32x1_0 (iotaInDim S32 32 0))) (broadcastInDim S32x24576 ![0, 1] bcast_S1x24576_S32x24576_0_1 (broadcastInDim S1x24576 ![1] bcast_S24576_S1x24576_1 (shapeCast _ (broadcastInDim S96x256 ![0, 1] bcast_S96x1_S96x256_0_1 (extractStridedSlice S96x1 ![0, 0] T slices_S128x128_S96x1_0_0)) shapeCasts_S96x256_S24576)))) (broadcastInDim S32x24576 ![0, 1] bcast_S1x24576_S32x24576_0_1 (cmpi .sgt (broadcastInDim S1x24576 ![1] bcast_S24576_S1x24576_1 (shapeCast _ (broadcastInDim S96x256 ![0, 1] bcast_S96x1_S96x256_0_1 (extractStridedSlice S96x1 ![0, 1] T slices_S128x128_S96x1_0_1)) shapeCasts_S96x256_S24576)) (broadcastInDim S1x24576 ![] bcast_S_S1x24576 (constantI S_ 32 0#32))))

set_option maxRecDepth 16384 in
theorem rCmb_at (T : S128x128.Idx → BitVec 32) (a : Fin 32) (n : Fin 24576) :
    rCmb T (ix2 (n0 := 32) (n1 := 24576) a n) = IntOp.andi (IntOp.cmpi .eq (BitVec.ofNat 32 a.val) (T (ix2 (n0 := 128) (n1 := 128) ⟨n.val / 256, by omega⟩ 0)))
      (IntOp.cmpi .sgt (T (ix2 (n0 := 128) (n1 := 128) ⟨n.val / 256, by omega⟩ 1)) 0#32) := by
  pointwise [rCmb]

/-- The reference's result. -/
def rOut (cmb : S32x24576.Idx → BitVec 1) (h : S32x24576x512.Idx → Ideal .f32) (d : S32x512x2048.Idx → Ideal .f32) : S24576x2048.Idx → Ideal .f32 :=
  Host.reduceAdd (F := Ideal) (φ := .f32) (mulf (F := Ideal) (φ := .f32) (broadcastInDim S32x24576x2048 ![0, 1, 2] bcast_S32x24576x1_S32x24576x2048_0_1_2 (broadcastInDim S32x24576x1 ![0, 1] bcast_S32x24576_S32x24576x1_0_1 (uitofp (F := Ideal) .f32 cmb)))
    (Host.dotGeneral (F := Ideal) (φ₁ := .f32) (φ₂ := .f32) dot_S32x24576x512_S32x512x2048_S32x24576x2048_2_1_1_2_0_0 none h d)) (constant (F := Ideal) S_ .f32 0x00000000#32) reducesTo_S32x24576x2048_S24576x2048_d0 h_S_

set_option maxRecDepth 16384 in
theorem rOut_at (cmb : S32x24576.Idx → BitVec 1) (h : S32x24576x512.Idx → Ideal .f32) (d : S32x512x2048.Idx → Ideal .f32) (n : Fin 24576) (k : Fin 2048) :
    rOut cmb h d (ix2 (n0 := 24576) (n1 := 2048) n k) = (∑ a : Fin 32, FloatOps.uitofp (F := Ideal) .f32 (cmb (ix2 (n0 := 32) (n1 := 24576) a n)) *
      ∑ f : Fin 512, h (ix3 (n0 := 32) (n1 := 24576) (n2 := 512) a n f) * d (ix3 (n0 := 32) (n1 := 512) (n2 := 2048) a f k) : EReal) := by
  pointwise [rOut]

end Cert.Proof.RI

end
-- ==== Proof.ValueEq.lean ====
module

public import proofs.«01_k».proof.Proof.ValueBits
public import proofs.«01_k».proof.Proof.ValueRef
public import Idealize.ShloMosaic.Lib.WordCmp

@[expose] public section

noncomputable section

namespace Cert.Proof.KI

open Idealize.ShloMosaic
open Idealize.ShloMosaic.WordCmp

/-! # The reference and the kernel, index by index -/

/-- The two ways of reading a token agree. -/
theorem rTok_eq (X : Cert.ReferenceIdeal.S196608x128.Idx → BitVec 32) (n : Fin 24576) (e : Fin 2048) : RI.rTok X (ix2 (n0 := 24576) (n1 := 2048) n e) = argTok X n e := by
  rw [RI.rTok_at]
  unfold argTok argWord
  by_cases h : e.val < 1024
  · rw [dif_pos h, dif_pos h, shl_lo]
    congr 3
    exact Fin.ext (show n.val * 8 + e.val / 128 = 8 * n.val + e.val / 128 by omega)
  · rw [dif_neg h, dif_neg h, and_hi]
    congr 3
    exact Fin.ext (show n.val * 8 + (e.val - 1024) / 128 = 8 * n.val + (e.val - 1024) / 128 by omega)

/-- The two ways of projecting a token agree. -/
theorem rProj_eq (g : Cert.ReferenceIdeal.S32x2048x512.Idx → EReal) (X : Cert.ReferenceIdeal.S196608x128.Idx → BitVec 32) (a : Fin 32) (n : Fin 24576) (f : Fin 512) :
    RI.rProj g (RI.rTok X) (ix3 (n0 := 32) (n1 := 24576) (n2 := 512) a n f) = proj (argTok X n) (fun e f => g (ix3 (n0 := 32) (n1 := 2048) (n2 := 512) a e f)) f := by
  rw [RI.rProj_at]
  unfold proj
  refine Finset.sum_congr rfl fun e _ => ?_
  rw [rTok_eq, mul_comm]

/-- Which expert a row takes: its tile's, if the tile has rows. -/
theorem rCmb_eq {T : TblShape.Idx → BitVec 32} (hT : Planned T) (a : Fin 32) (n : Fin 24576) :
    (FloatOps.uitofp (F := Ideal) .f32 (RI.rCmb T (ix2 (n0 := 32) (n1 := 24576) a n)) : EReal)
      = if 0 < (tw T (n.val / 256) 1).toNat ∧ a = exAt T (n.val / 256) then 1 else 0 := by
  have hn : n.val / 256 < 96 := by omega
  have e0 : (ix2 (n0 := 128) (n1 := 128) ⟨n.val / 256, by omega⟩ 0 : TblShape.Idx) = tix (n.val / 256) 0 := by
    funext b
    match b with
    | ⟨0, _⟩ => exact Fin.ext (show n.val / 256 = n.val / 256 % 128 by omega)
    | ⟨1, _⟩ => rfl
  have e1 : (ix2 (n0 := 128) (n1 := 128) ⟨n.val / 256, by omega⟩ 1 : TblShape.Idx) = tix (n.val / 256) 1 := by
    funext b
    match b with
    | ⟨0, _⟩ => exact Fin.ext (show n.val / 256 = n.val / 256 % 128 by omega)
    | ⟨1, _⟩ => rfl
  rw [RI.rCmb_at, show T (ix2 (n0 := 128) (n1 := 128) ⟨n.val / 256, by omega⟩ 0) = tw T (n.val / 256) 0 from congrArg T e0,
    show T (ix2 (n0 := 128) (n1 := 128) ⟨n.val / 256, by omega⟩ 1) = tw T (n.val / 256) 1 from congrArg T e1,
    cmpi_eq_eq_toNat, cmpi_sgt_eq, andi_ofBool]
  have hx := hT.exp _ hn
  have hv := hT.valid _ hn
  have i1 : (tw T (n.val / 256) 1).toInt = (tw T (n.val / 256) 1).toNat := by
    rw [BitVec.toInt_eq_toNat_cond]; rw [if_pos (by omega)]
  have i0 : (0#32 : BitVec 32).toInt = 0 := by decide
  have ea : (BitVec.ofNat 32 a.val).toNat = a.val := by
    rw [BitVec.toNat_ofNat]; have := a.isLt; omega
  have ex : a = exAt T (n.val / 256) ↔ a.val = (tw T (n.val / 256) 0).toNat := by
    rw [Fin.ext_iff]
    show a.val = (tw T (n.val / 256) 0).toNat % 32 ↔ _
    rw [Nat.mod_eq_of_lt hx]
  rw [i1, i0, ea]
  by_cases h : 0 < (tw T (n.val / 256) 1).toNat ∧ a = exAt T (n.val / 256)
  · rw [if_pos h, decide_eq_true (ex.1 h.2), decide_eq_true (show (0 : ℤ) < _ by omega)]
    show (((1 : ℕ) : ℝ) : EReal) = 1
    norm_num
  · rw [if_neg h]
    have : (decide (a.val = (tw T (n.val / 256) 0).toNat) && decide ((0 : ℤ) < ((tw T (n.val / 256) 1).toNat : ℤ))) = false := by
      rw [Bool.and_eq_false_iff, decide_eq_false_iff_not, decide_eq_false_iff_not]
      by_cases hp : 0 < (tw T (n.val / 256) 1).toNat
      · exact Or.inl fun h' => h ⟨hp, ex.2 h'⟩
      · exact Or.inr (by omega)
    rw [this]
    show (((0 : ℕ) : ℝ) : EReal) = 0
    norm_num

/-- The reference's result, of the program's arguments. -/
def refOf (T : Cert.ReferenceIdeal.S128x128.Idx → BitVec 32) (X : Cert.ReferenceIdeal.S196608x128.Idx → BitVec 32) (g u : Cert.ReferenceIdeal.S32x2048x512.Idx → EReal)
    (d : Cert.ReferenceIdeal.S32x512x2048.Idx → EReal) : Cert.ReferenceIdeal.S24576x2048.Idx → EReal :=
  RI.rOut (RI.rCmb T) (RI.rHid (RI.rProj g (RI.rTok X)) (RI.rProj u (RI.rTok X))) d

theorem refOf_congr {T T' : Cert.ReferenceIdeal.S128x128.Idx → BitVec 32} {X X' : Cert.ReferenceIdeal.S196608x128.Idx → BitVec 32} {g g' u u' : Cert.ReferenceIdeal.S32x2048x512.Idx → EReal}
    {d d' : Cert.ReferenceIdeal.S32x512x2048.Idx → EReal} (hT : T = T') (hX : X = X') (hg : g = g') (hu : u = u') (hd : d = d') : refOf T X g u d = refOf T' X' g' u' d' := by
  rw [hT, hX, hg, hu, hd]

/-- The reference at an index: of all the experts only the row's own counts. -/
theorem refOf_at {T : TblShape.Idx → BitVec 32} (hT : Planned T) (X : Cert.ReferenceIdeal.S196608x128.Idx → BitVec 32) (g u : Cert.ReferenceIdeal.S32x2048x512.Idx → EReal)
    (d : Cert.ReferenceIdeal.S32x512x2048.Idx → EReal) (n : Fin 24576) (k : Fin 2048) :
    refOf T X g u d (ix2 (n0 := 24576) (n1 := 2048) n k) = if 0 < (tw T (n.val / 256) 1).toNat then
      mlp (argTok X n) (fun e f => g (ix3 (n0 := 32) (n1 := 2048) (n2 := 512) (exAt T (n.val / 256)) e f)) (fun e f => u (ix3 (n0 := 32) (n1 := 2048) (n2 := 512) (exAt T (n.val / 256)) e f))
        (fun f k => d (ix3 (n0 := 32) (n1 := 512) (n2 := 2048) (exAt T (n.val / 256)) f k)) k
    else 0 := by
  unfold refOf
  rw [RI.rOut_at]
  have step : ∀ a : Fin 32, (FloatOps.uitofp (F := Ideal) .f32 (RI.rCmb T (ix2 (n0 := 32) (n1 := 24576) a n)) *
      ∑ f : Fin 512, RI.rHid (RI.rProj g (RI.rTok X)) (RI.rProj u (RI.rTok X)) (ix3 (n0 := 32) (n1 := 24576) (n2 := 512) a n f) * d (ix3 (n0 := 32) (n1 := 512) (n2 := 2048) a f k) : EReal)
      = if a = exAt T (n.val / 256) then (if 0 < (tw T (n.val / 256) 1).toNat then
          mlp (argTok X n) (fun e f => g (ix3 (n0 := 32) (n1 := 2048) (n2 := 512) a e f)) (fun e f => u (ix3 (n0 := 32) (n1 := 2048) (n2 := 512) a e f))
            (fun f k => d (ix3 (n0 := 32) (n1 := 512) (n2 := 2048) a f k)) k else 0) else 0 := fun a => by
    rw [rCmb_eq hT]
    by_cases ha : a = exAt T (n.val / 256)
    · by_cases hv : 0 < (tw T (n.val / 256) 1).toNat
      · rw [if_pos ⟨hv, ha⟩, if_pos ha, if_pos hv, one_mul]
        unfold mlp
        refine Finset.sum_congr rfl fun f _ => ?_
        rw [RI.rHid_at, rProj_eq, rProj_eq]
      · rw [if_neg (fun h => hv h.1), if_pos ha, if_neg hv, zero_mul]
    · rw [if_neg (fun h => ha h.2), if_neg ha, zero_mul]
  rw [Finset.sum_congr rfl fun a _ => step a, Finset.sum_ite_eq' Finset.univ (exAt T (n.val / 256)), if_pos (Finset.mem_univ _)]

/-- What the two launches leave is the reference's result of the same arguments. -/
theorem decOut_ref (m : (ℓ : Loc Cert.KernelIdeal.nD Cert.KernelIdeal.τ Cert.KernelIdeal.sig) → Buf (Elt Ideal) ℓ) {T : TblShape.Idx → BitVec 32} (hT : Planned T) (c : Dev Cert.KernelIdeal.nD) :
    decOut m hT c = refOf T (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  refine funext fun (i : Cert.ReferenceIdeal.S24576x2048.Idx) => ?_
  have e : i = ix2 (n0 := 24576) (n1 := 2048) ⟨(i 0).val, (i 0).isLt⟩ ⟨(i 1).val, (i 1).isLt⟩ := by
    funext b
    match b with
    | ⟨0, _⟩ => rfl
    | ⟨1, _⟩ => rfl
  rw [e]
  exact (decOut_at m hT c _ _).trans (refOf_at hT _ _ _ _ _ _).symm

end Cert.Proof.KI

end
-- ==== Proof.PlanOf.lean ====
module

public import proofs.«01_k».proof.Proof.Plan
public import proofs.«01_k».proof.Pre_tiles_planned
public import Idealize.ShloMosaic.Lib.WordCmp
public import Idealize.ShloMosaic.Lib.ValueLayout

@[expose] public section

noncomputable section

namespace Cert.Proof

open Idealize.ShloMosaic Idealize.ShloMosaic.WordCmp Cert.Pre_tiles_planned

/-- Row `r` of the rows the tiles are read from. -/
def row (r : Nat) (h : r < 96) : S96.Idx := fun a => match a with | ⟨0, _⟩ => ⟨r, h⟩
def row' (r : Nat) (h : r < 95) : S95.Idx := fun a => match a with | ⟨0, _⟩ => ⟨r, h⟩

/-- A column of the table, read at a row. -/
theorem col_at (T : TblShape.Idx → BitVec 32) (k : Nat) (hk : k < 128) (h1 : S128x128.Slices ![0, k] S96x1) (h2 : S96x1.ShapeCasts S96)
    (i : S96.Idx) : shapeCast S96 (extractStridedSlice S96x1 ![0, k] T h1) h2 i = tw T (i 0).val k := by
  rw [shapeCast_apply _ h2 i (fun a => match a with | ⟨0, _⟩ => i 0 | ⟨1, _⟩ => ⟨0, Nat.one_pos⟩) (by
    rw [Shape.rowMajor_val_two, Shape.rowMajor_val_one]
    show (i 0).val * 1 + 0 = (i 0).val
    omega)]
  refine extractStridedSlice_apply _ T h1 _ (tix (i 0).val k) fun a => ?_
  have hi : (i 0).val < 96 := (i 0).isLt
  match a with
  | ⟨0, _⟩ => show (i 0).val % 128 = 0 + (i 0).val; omega
  | ⟨1, _⟩ => show k % 128 = k + 0; omega

theorem corner_at (T : TblShape.Idx → BitVec 32) (h1 : S128x128.Slices ![0, 8] S1x1) (h2 : S1x1.ShapeCasts S_)
    (i : S_.Idx) : shapeCast S_ (extractStridedSlice S1x1 ![0, 8] T h1) h2 i = tw T 0 8 := by
  rw [shapeCast_apply _ h2 i (fun a => match a with | ⟨0, _⟩ => ⟨0, Nat.one_pos⟩ | ⟨1, _⟩ => ⟨0, Nat.one_pos⟩) (by
    rw [Shape.rowMajor_val_two]
    have := (S_.rowMajor i).isLt
    have e : S_.numel = 1 := by decide
    show 0 * 1 + 0 = _
    omega)]
  refine extractStridedSlice_apply _ T h1 _ (tix 0 8) fun a => ?_
  match a with
  | ⟨0, _⟩ => rfl
  | ⟨1, _⟩ => rfl

theorem slice_one {α : Type} (v : S96.Idx → α) (h : S96.Slices ![1] S95) (r : Nat) (hr : r < 95) :
    extractStridedSlice S95 ![1] v h (row' r hr) = v (row (r + 1) (by omega)) :=
  extractStridedSlice_apply _ v h _ _ fun a => by
    match a with
    | ⟨0, _⟩ => show r + 1 = 1 + r; omega

theorem slice_zero {α : Type} (v : S96.Idx → α) (h : S96.Slices ![0] S95) (r : Nat) (hr : r < 95) :
    extractStridedSlice S95 ![0] v h (row' r hr) = v (row r (by omega)) :=
  extractStridedSlice_apply _ v h _ _ fun a => by
    match a with
    | ⟨0, _⟩ => show r = 0 + r; omega

theorem nat_of_nonneg (w : BitVec 32) (h : 0 ≤ w.toInt) : w.toInt = w.toNat ∧ w.toNat < 2 ^ 31 := by
  have hw := w.isLt
  rw [BitVec.toInt] at h ⊢
  split at h
  · rw [if_pos ‹_›]; exact ⟨rfl, by omega⟩
  · exfalso; omega

theorem ofNat_toInt (r : Nat) (h : r < 96) : (BitVec.ofNat 32 r).toInt = r := by
  rw [BitVec.toInt_eq_toNat_of_lt (by simp; omega)]
  simp only [BitVec.toNat_ofNat]
  rw [Nat.mod_eq_of_lt (by omega)]

variable {F : FTy → Type} [FloatOps F] [Cert.Pre_tiles_planned.Facts]

/-- The table the precondition admits is a planned one. -/
theorem planned_of_pre (T : TblShape.Idx → BitVec 32) (x : IVec S196608x128 32) (g u : FVec F S32x2048x512 .f32) (d : FVec F S32x512x2048 .f32)
    (h : (Cert.Pre_tiles_planned.fn (F := F) T x g u d).1 = (fun _ => 1#1) ∧ (Cert.Pre_tiles_planned.fn (F := F) T x g u d).2.1 = (fun _ => 1#1)
      ∧ (Cert.Pre_tiles_planned.fn (F := F) T x g u d).2.2.1 = (fun _ => 1#1) ∧ (Cert.Pre_tiles_planned.fn (F := F) T x g u d).2.2.2 = (fun _ => 1#1)) :
    Planned T := by
  obtain ⟨h1, h2, h3, h4⟩ := h
  have A := fun (r : Nat) (hr : r < 96) => congrFun h1 (row r hr)
  have B := congrFun h2 (row 0 (by decide))
  have C := congrFun h3 (row 95 (by decide))
  have D := fun (r : Nat) (hr : r < 95) => congrFun h4 (row' r hr)
  simp only [fn, fn_part1, fn_part2, fn_part3, fn_part4, andi, ori, addi, cmpi, iotaInDim_at, broadcastInDim, constantI, corner_at, slice_one, slice_zero,
    col_at T 0 (by decide), col_at T 1 (by decide), col_at T 2 (by decide), col_at T 4 (by decide), col_at T 5 (by decide), col_at T 7 (by decide),
    cmpi_slt_eq, cmpi_sle_eq, cmpi_sgt_eq, cmpi_sge_eq, cmpi_eq_eq, andi_ofBool, ori_ofBool, ofBool_eq_one_iff,
    Bool.and_eq_true, Bool.or_eq_true, decide_eq_true_eq, row, row'] at A B C D
  have exp : ∀ i, i < 96 → (tw T i 0).toNat < 32 := fun i hi => by
    obtain ⟨⟨⟨⟨⟨⟨⟨⟨⟨a0, a1⟩, -⟩, -⟩, -⟩, -⟩, -⟩, -⟩, -⟩, -⟩ := A i hi
    obtain ⟨e, -⟩ := nat_of_nonneg _ a0
    have a1 : (tw T i 0).toInt < 32 := a1
    omega
  have lastp : (tw T 0 8).toInt = (tw T 0 8).toNat ∧ (tw T 0 8).toNat < 96 := by
    obtain ⟨⟨⟨-, b0⟩, b1⟩, -⟩ := A 0 (by decide)
    obtain ⟨e, -⟩ := nat_of_nonneg _ b0
    have b1 : (tw T 0 8).toInt < 96 := b1
    exact ⟨e, by omega⟩
  refine ⟨exp, fun i hi => ?_, fun i hi => ?_, fun i hi => ?_, fun i hi => ?_, lastp.2, fun i hi hv => ?_, ?_, ?_, fun i hi => (D i hi).1, fun i hi => ?_⟩
  · obtain ⟨⟨⟨⟨-, a⟩, -⟩, -⟩, -⟩ := A i hi
    exact (nat_of_nonneg _ a).2
  · obtain ⟨⟨⟨⟨⟨⟨-, a⟩, b⟩, -⟩, -⟩, -⟩, -⟩ := A i hi
    obtain ⟨e, -⟩ := nat_of_nonneg _ a
    have b : (tw T i 2).toInt ≤ 1 := b
    rcases (by omega : (tw T i 2).toNat = 0 ∨ (tw T i 2).toNat = 1) with e | e
    · exact .inl (BitVec.eq_of_toNat_eq e)
    · exact .inr (BitVec.eq_of_toNat_eq e)
  · obtain ⟨⟨⟨⟨⟨⟨⟨⟨-, a⟩, -⟩, -⟩, -⟩, -⟩, -⟩, -⟩, -⟩ := A i hi
    exact (nat_of_nonneg _ a).2
  · obtain ⟨⟨⟨⟨⟨⟨⟨-, a⟩, -⟩, -⟩, -⟩, -⟩, -⟩, -⟩ := A i hi
    exact (nat_of_nonneg _ a).2
  · obtain ⟨⟨⟨⟨-, a⟩, -⟩, -⟩, r⟩ := A i hi
    obtain ⟨e, -⟩ := nat_of_nonneg _ a
    rcases r with r | r
    · have r : (tw T i 1).toInt ≤ 0 := r
      exfalso; omega
    · have r : (BitVec.ofNat 32 i).toInt ≤ (tw T 0 8).toInt := r
      rw [ofNat_toInt i hi, lastp.1] at r
      omega
  · rcases B with b | b
    · exact b
    · have b : (0 : Int) < (BitVec.ofNat 32 0).toInt := b
      rw [ofNat_toInt 0 (by decide)] at b
      exact absurd b (by decide)
  · rcases C with ⟨c, c'⟩ | c
    · have c : (32 : Int) ≤ (tw T 95 4).toInt := c
      have c' : (32 : Int) ≤ (tw T 95 5).toInt := c'
      have := nat_of_nonneg _ (by omega : 0 ≤ (tw T 95 4).toInt)
      have := nat_of_nonneg _ (by omega : 0 ≤ (tw T 95 5).toInt)
      omega
    · have c : (BitVec.ofNat 32 95).toInt < (95 : Int) := c
      rw [ofNat_toInt 95 (by decide)] at c
      exact absurd c (by decide)
  · rcases (D i hi).2 with ⟨⟨⟨a, b⟩, c⟩, d⟩ | ⟨⟨a, b⟩, c⟩
    · exact .inl ⟨d, a, b, c⟩
    · exact .inr ⟨c, a, b⟩

end Cert.Proof

end
-- ==== Proof.InprojSpec.lean ====
module

public import Idealize.ShloMosaic.Lib.Pipeline.ValueKit
public import Idealize.ShloMosaic.Lib.Pointwise

@[expose] public section

noncomputable section

namespace Cert.Proof.Inp

open Idealize.ShloMosaic

/-! # The input projection of one token

Both programs are read, index by index, to these functions of one token's row. -/

/-- The layer's epsilon, as both programs spell it. -/
def eps : EReal := Ideal.ofBits .f32 0x358637BD#32

/-- The mean of a row, `N` its length. -/
def mean {n : ℕ} (N : EReal) (x : Fin n → EReal) : EReal := Ideal.div (∑ k, x k) N

/-- The row less its mean, over its standard deviation. -/
def ln {n : ℕ} (N : EReal) (x : Fin n → EReal) (j : Fin n) : EReal :=
  (x j - mean N x) * Ideal.rsqrt (mean N (fun k => (x k - mean N x) * (x k - mean N x)) + eps)

/-- The row over its root mean square. -/
def rms {n : ℕ} (N : EReal) (x : Fin n → EReal) (j : Fin n) : EReal :=
  x j * Ideal.rsqrt (mean N (fun k => x k * x k) + eps)

/-- The gelu, by its tanh form. -/
def gelu (z : EReal) : EReal :=
  Ideal.ofBits .f32 0x3F000000#32 * z * (1 + Ideal.tanh (Ideal.ofBits .f32 0x3F4C422A#32 * (z + Ideal.ofBits .f32 0x3D372713#32 * (z * z * z))))

/-- The reference groups the gelu's products the other way. -/
theorem gelu_eq (z : EReal) : z * (Ideal.ofBits .f32 0x3F000000#32 * (1 + Ideal.tanh (Ideal.ofBits .f32 0x3F4C422A#32 * (z + Ideal.ofBits .f32 0x3D372713#32 * (z * z * z))))) = gelu z := by
  unfold gelu
  rw [← mul_assoc, mul_comm z]

/-- The modulated, normalized row. -/
def hid (x sh sc : Fin 2048 → EReal) (j : Fin 2048) : EReal :=
  ln (Ideal.ofBits .f32 0x45000000#32) x j * (1 + sc j) + sh j

/-- A column of the projection. -/
def proj (h w : Fin 2048 → EReal) : EReal := ∑ k, h k * w k

end Cert.Proof.Inp

end
-- ==== Proof.InprojPay.lean ====
module

public import proofs.«01_k».proof.Proof.Gen.Kernel2Ideal.Frame
public import proofs.«01_k».proof.Proof.InprojSpec

@[expose] public section

noncomputable section

namespace Cert.Proof.K2

open Cert.Kernel2Ideal Cert.Kernel2Ideal.Gen
open Idealize.ShloMosaic
open Cert.Proof.Inp

/-! # What the input projection's body computes at an index -/

set_option maxRecDepth 16384 in
theorem pay1_at (v0 v2 : Vec Ideal S1x1x2048 .f32) (v4 : Vec Ideal S512x2048 .f32) (r : Fin 512) (j : Fin 2048) :
    k0_pay1 v0 v2 v4 (ix2 (n0 := 512) (n1 := 2048) r j) = hid (fun k => v4 (ix2 (n0 := 512) (n1 := 2048) r k)) (fun k => v0 (ix3 (n0 := 1) (n1 := 1) (n2 := 2048) 0 0 k)) (fun k => v2 (ix3 (n0 := 1) (n1 := 1) (n2 := 2048) 0 0 k)) j := by
  pointwise [k0_pay1]
  rfl

set_option maxRecDepth 16384 in
theorem pay2_at (v0 v2 : Vec Ideal S1x1x2048 .f32) (v4 : Vec Ideal S512x2048 .f32) (v29 : Vec Ideal S768x2048 .bf16) (r : Fin 512) (j : Fin 768) :
    k0_pay2 v0 v2 v4 v29 (ix2 (n0 := 512) (n1 := 768) r j) = proj (fun k => k0_pay1 v0 v2 v4 (ix2 (n0 := 512) (n1 := 2048) r k)) (fun k => v29 (ix2 (n0 := 768) (n1 := 2048) j k)) := by
  unfold k0_pay2
  generalize k0_pay1 v0 v2 v4 = P
  pointwise
  rfl

set_option maxRecDepth 16384 in
theorem pay4_at (v0 v2 : Vec Ideal S1x1x2048 .f32) (v4 : Vec Ideal S512x2048 .f32) (v29 : Vec Ideal S768x2048 .bf16) (g : Vec Ideal S1x768 .f32) (r : Fin 512) (j : Fin 768) :
    k0_pay4 (k0_pay2 v0 v2 v4 v29) (k0_pay3 v0 v2 v4 v29) g (ix2 (n0 := 512) (n1 := 768) r j) =
      rms (Ideal.ofBits .f32 0x44400000#32) (fun j => k0_pay2 v0 v2 v4 v29 (ix2 (n0 := 512) (n1 := 768) r j)) j * g (ix2 (n0 := 1) (n1 := 768) 0 j) := by
  unfold k0_pay3 k0_pay4
  generalize k0_pay2 v0 v2 v4 v29 = P
  pointwise
  rfl

set_option maxRecDepth 16384 in
theorem pay5_at (v28 : FVec Ideal S512x2048 .bf16) (w : Vec Ideal S512x2048 .bf16) (g : Vec Ideal S1x512 .f32) (r : Fin 512) (j : Fin 512) :
    k0_pay5 v28 w g (ix2 (n0 := 512) (n1 := 512) r j) =
      rms (Ideal.ofBits .f32 0x44000000#32) (fun j : Fin 512 => proj (fun k => v28 (ix2 (n0 := 512) (n1 := 2048) r k)) (fun k => w (ix2 (n0 := 512) (n1 := 2048) j k))) j * g (ix2 (n0 := 1) (n1 := 512) 0 j) := by
  unfold k0_pay5
  pointwise
  rfl

set_option maxRecDepth 16384 in
theorem pay6_at (v28 : FVec Ideal S512x2048 .bf16) (w : Vec Ideal S128x2048 .bf16) (r : Fin 512) (j : Fin 128) :
    k0_pay6 v28 w (ix2 (n0 := 512) (n1 := 128) r j) = proj (fun k => v28 (ix2 (n0 := 512) (n1 := 2048) r k)) (fun k => w (ix2 (n0 := 128) (n1 := 2048) j k)) := by
  unfold k0_pay6
  pointwise
  rfl

set_option maxRecDepth 16384 in
theorem pay7_at (v28 : FVec Ideal S512x2048 .bf16) (w : Vec Ideal S2048x2048 .bf16) (r : Fin 512) (j : Fin 2048) :
    k0_pay7 v28 w (ix2 (n0 := 512) (n1 := 2048) r j) = proj (fun k => v28 (ix2 (n0 := 512) (n1 := 2048) r k)) (fun k => w (ix2 (n0 := 2048) (n1 := 2048) j k)) := by
  unfold k0_pay7
  pointwise
  rfl

set_option maxRecDepth 16384 in
theorem pay8_at (v73 : FVec Ideal S512x2048 .f32) (r : Fin 512) (j : Fin 2048) :
    k0_pay8 v73 (ix2 (n0 := 512) (n1 := 2048) r j) = gelu (v73 (ix2 (n0 := 512) (n1 := 2048) r j)) := by
  unfold k0_pay8
  pointwise
  rfl

set_option maxRecDepth 16384 in
theorem pay9_at (v73 : FVec Ideal S512x2048 .f32) (r : Fin 512) (j : Fin 1024) :
    k0_pay9 v73 (ix2 (n0 := 512) (n1 := 1024) r j) = gelu (v73 (ix2 (n0 := 512) (n1 := 2048) r ⟨j.val, by omega⟩)) := by
  rw [← pay8_at]
  unfold k0_pay9
  generalize k0_pay8 v73 = P
  pointwise

set_option maxRecDepth 16384 in
theorem pay10_at (v73 : FVec Ideal S512x2048 .f32) (a b : Vec Ideal S1x1024 .f32) (r : Fin 512) (j : Fin 1024) :
    k0_pay10 v73 a b (ix2 (n0 := 512) (n1 := 1024) r j) =
      ln (Ideal.ofBits .f32 0x44800000#32) (fun j : Fin 1024 => gelu (v73 (ix2 (n0 := 512) (n1 := 2048) r ⟨1024 + j.val, by omega⟩))) j * a (ix2 (n0 := 1) (n1 := 1024) 0 j) + b (ix2 (n0 := 1) (n1 := 1024) 0 j) := by
  simp only [← pay8_at]
  unfold k0_pay10
  generalize k0_pay8 v73 = P
  pointwise
  rfl

/-! ## The stores, over the input blocks -/

section
variable (x0 : Vec Ideal S512x2048 .f32) (x1 : Vec Ideal S1x6x2048 .f32) (x2 : Vec Ideal S3392x2048 .bf16) (x3 : Vec Ideal S1x768 .f32) (x4 : Vec Ideal S1x512 .f32) (x5 x6 : Vec Ideal S1x1024 .f32)

/-- The block's modulated rows. -/
def bHid (r : Fin 512) : Fin 2048 → EReal :=
  hid (fun k => x0 (ix2 (n0 := 512) (n1 := 2048) r k)) (fun k => x1 (ix3 (n0 := 1) (n1 := 6) (n2 := 2048) 0 0 k)) (fun k => x1 (ix3 (n0 := 1) (n1 := 6) (n2 := 2048) 0 1 k))

/-- The block's projected rows. -/
def bProj (r : Fin 512) (c : Fin 3392) : EReal := proj (bHid x0 x1 r) (fun k => x2 (ix2 (n0 := 3392) (n1 := 2048) c k))

theorem ld1_0 (k : Fin 2048) : View.ld x1 r0_0 (ix3 (n0 := 1) (n1 := 1) (n2 := 2048) 0 0 k) = x1 (ix3 (n0 := 1) (n1 := 6) (n2 := 2048) 0 0 k) := by
  pointwise
theorem ld1_1 (k : Fin 2048) : View.ld x1 r0_1 (ix3 (n0 := 1) (n1 := 1) (n2 := 2048) 0 0 k) = x1 (ix3 (n0 := 1) (n1 := 6) (n2 := 2048) 0 1 k) := by
  pointwise
theorem ld2_3 (j : Fin 768) (k : Fin 2048) : View.ld x2 r0_3 (ix2 (n0 := 768) (n1 := 2048) j k) = x2 (ix2 (n0 := 3392) (n1 := 2048) ⟨j.val, by omega⟩ k) := by
  pointwise
theorem ld2_6 (j : Fin 512) (k : Fin 2048) : View.ld x2 r0_6 (ix2 (n0 := 512) (n1 := 2048) j k) = x2 (ix2 (n0 := 3392) (n1 := 2048) ⟨768 + j.val, by omega⟩ k) := by
  pointwise
theorem ld2_9 (j : Fin 128) (k : Fin 2048) : View.ld x2 r0_9 (ix2 (n0 := 128) (n1 := 2048) j k) = x2 (ix2 (n0 := 3392) (n1 := 2048) ⟨1280 + j.val, by omega⟩ k) := by
  pointwise
theorem ld2_11 (j : Fin 2048) (k : Fin 2048) : View.ld x2 r0_11 (ix2 (n0 := 2048) (n1 := 2048) j k) = x2 (ix2 (n0 := 3392) (n1 := 2048) ⟨1344 + j.val, by omega⟩ k) := by
  pointwise

theorem pay11_at (r : Fin 512) (k : Fin 2048) : k0_pay11 x0 x1 x2 x3 x4 x5 x6 (ix2 (n0 := 512) (n1 := 2048) r k) = bHid x0 x1 r k := by
  unfold k0_pay11
  rw [pay1_at]
  unfold bHid
  congr 1
  · funext k; pointwise
  · funext k; exact ld1_0 x1 k
  · funext k; exact ld1_1 x1 k

theorem pay12_at (r : Fin 512) (j : Fin 2048) : k0_pay12 x0 x1 x2 x3 x4 x5 x6 (ix2 (n0 := 512) (n1 := 2048) r j) = bProj x0 x1 x2 r ⟨1344 + j.val, by omega⟩ := by
  unfold k0_pay12 bProj
  rw [pay7_at]
  congr 1
  · funext k; exact pay11_at x0 x1 x2 x3 x4 x5 x6 r k
  · funext k; exact ld2_11 x2 j k

theorem out7_at (r : Fin 512) (j : Fin 768) :
    k0_pay4 (k0_pay2 (View.ld x1 r0_0) (View.ld x1 r0_1) x0 (View.ld x2 r0_3)) (k0_pay3 (View.ld x1 r0_0) (View.ld x1 r0_1) x0 (View.ld x2 r0_3)) x3 (ix2 (n0 := 512) (n1 := 768) r j) =
      rms (Ideal.ofBits .f32 0x44400000#32) (fun j : Fin 768 => bProj x0 x1 x2 r ⟨j.val, by omega⟩) j * x3 (ix2 (n0 := 1) (n1 := 768) 0 j) := by
  rw [pay4_at]
  have h : (fun j : Fin 768 => k0_pay2 (View.ld x1 r0_0) (View.ld x1 r0_1) x0 (View.ld x2 r0_3) (ix2 (n0 := 512) (n1 := 768) r j)) = fun j : Fin 768 => bProj x0 x1 x2 r ⟨j.val, by omega⟩ := by
    funext j
    rw [pay2_at]
    unfold bProj
    congr 1
    · funext k
      rw [pay1_at]
      unfold bHid
      congr 1
      · funext k; exact ld1_0 x1 k
      · funext k; exact ld1_1 x1 k
    · funext k; exact ld2_3 x2 j k
  rw [h]

theorem out8_at (r : Fin 512) (j : Fin 512) :
    k0_pay5 (k0_pay11 x0 x1 x2 x3 x4 x5 x6) (View.ld x2 r0_6) x4 (ix2 (n0 := 512) (n1 := 512) r j) =
      rms (Ideal.ofBits .f32 0x44000000#32) (fun j : Fin 512 => bProj x0 x1 x2 r ⟨768 + j.val, by omega⟩) j * x4 (ix2 (n0 := 1) (n1 := 512) 0 j) := by
  rw [pay5_at]
  have h : (fun j : Fin 512 => proj (fun k => k0_pay11 x0 x1 x2 x3 x4 x5 x6 (ix2 (n0 := 512) (n1 := 2048) r k)) (fun k => View.ld x2 r0_6 (ix2 (n0 := 512) (n1 := 2048) j k))) = fun j : Fin 512 => bProj x0 x1 x2 r ⟨768 + j.val, by omega⟩ := by
    funext j
    unfold bProj
    congr 1
    · funext k; exact pay11_at x0 x1 x2 x3 x4 x5 x6 r k
    · funext k; exact ld2_6 x2 j k
  rw [h]

theorem out9_at (r : Fin 512) (j : Fin 128) :
    k0_pay6 (k0_pay11 x0 x1 x2 x3 x4 x5 x6) (View.ld x2 r0_9) (ix2 (n0 := 512) (n1 := 128) r j) = bProj x0 x1 x2 r ⟨1280 + j.val, by omega⟩ := by
  rw [pay6_at]
  unfold bProj
  congr 1
  · funext k; exact pay11_at x0 x1 x2 x3 x4 x5 x6 r k
  · funext k; exact ld2_9 x2 j k

theorem out10_at (r : Fin 512) (j : Fin 1024) :
    k0_pay9 (k0_pay12 x0 x1 x2 x3 x4 x5 x6) (ix2 (n0 := 512) (n1 := 1024) r j) = gelu (bProj x0 x1 x2 r ⟨1344 + j.val, by omega⟩) := by
  rw [pay9_at, pay12_at]

theorem out11_at (r : Fin 512) (j : Fin 1024) :
    k0_pay10 (k0_pay12 x0 x1 x2 x3 x4 x5 x6) x5 x6 (ix2 (n0 := 512) (n1 := 1024) r j) =
      ln (Ideal.ofBits .f32 0x44800000#32) (fun j : Fin 1024 => gelu (bProj x0 x1 x2 r ⟨1344 + (1024 + j.val), by omega⟩)) j * x5 (ix2 (n0 := 1) (n1 := 1024) 0 j) + x6 (ix2 (n0 := 1) (n1 := 1024) 0 j) := by
  rw [pay10_at]
  simp only [pay12_at]

end

end Cert.Proof.K2

end
-- ==== Proof.InprojArr.lean ====
module

public import proofs.«01_k».proof.Proof.InprojPay

@[expose] public section

set_option maxRecDepth 16384

noncomputable section

namespace Cert.Proof.K2

open Cert.Kernel2Ideal Cert.Kernel2Ideal.Gen
open Idealize.ShloMosaic Idealize.ShloMosaic.TcCoe Idealize.SL.Sem
open Idealize.ShloMosaic.Pipeline (Dat)
open Cert.Proof.Inp

/-! # The input projection's result arrays -/

variable (m : (ℓ : Loc nD τ sig) → Buf (Elt Ideal) ℓ) (c : Dev nD)

/-- Every window's block index, at every point. -/
theorem idx : ∀ t : Fin cfg0.N, win0_0.index t = ![t.val, 0] ∧ win0_1.index t = ![t.val / 4, 0, 0] ∧ win0_2.index t = ![0, 0] ∧ win0_3.index t = ![0, 0] ∧ win0_4.index t = ![0, 0]
    ∧ win0_5.index t = ![0, 0] ∧ win0_6.index t = ![0, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)

theorem N_lt (t : Fin cfg0.N) : t.val < 16 := t.isLt

theorem iblk0_at (t : Fin cfg0.N) (r : Fin 512) (k : Fin 2048) :
    iblk m c 0 t (ix2 (n0 := 512) (n1 := 2048) r k) = m ((c : Thread nD τ).loc main_arg0) (ix3 (n0 := 4) (n1 := 2048) (n2 := 2048) ⟨(t.val * 512 + r.val) / 2048, by have := N_lt t; omega⟩ ⟨(t.val * 512 + r.val) % 2048, by omega⟩ k) := by
  have := N_lt t
  blk_ext! [iblk, V, idx t]

theorem iblk1_at (t : Fin cfg0.N) (p : Fin 6) (k : Fin 2048) :
    iblk m c 1 t (ix3 (n0 := 1) (n1 := 6) (n2 := 2048) 0 p k) = m ((c : Thread nD τ).loc main_arg1) (ix2 (n0 := 4) (n1 := 12288) ⟨t.val / 4, by have := N_lt t; omega⟩ ⟨p.val * 2048 + k.val, by omega⟩) := by
  have := N_lt t
  blk_ext! [iblk, V, idx t]

theorem iblk2_at (t : Fin cfg0.N) (j : Fin 3392) (k : Fin 2048) :
    iblk m c 2 t (ix2 (n0 := 3392) (n1 := 2048) j k) = m ((c : Thread nD τ).loc main_arg2) (ix2 (n0 := 2048) (n1 := 3392) k j) := by
  blk_ext! [iblk, V, idx t]

theorem iblk3_at (t : Fin cfg0.N) (j : Fin 768) :
    iblk m c 3 t (ix2 (n0 := 1) (n1 := 768) 0 j) = m ((c : Thread nD τ).loc main_arg3) (ix1 (n0 := 768) j) := by
  blk_ext! [iblk, V, idx t]

theorem iblk4_at (t : Fin cfg0.N) (j : Fin 512) :
    iblk m c 4 t (ix2 (n0 := 1) (n1 := 512) 0 j) = m ((c : Thread nD τ).loc main_arg4) (ix1 (n0 := 512) j) := by
  blk_ext! [iblk, V, idx t]

theorem iblk5_at (t : Fin cfg0.N) (j : Fin 1024) :
    iblk m c 5 t (ix2 (n0 := 1) (n1 := 1024) 0 j) = m ((c : Thread nD τ).loc main_arg5) (ix1 (n0 := 1024) j) := by
  blk_ext! [iblk, V, idx t]

theorem iblk6_at (t : Fin cfg0.N) (j : Fin 1024) :
    iblk m c 6 t (ix2 (n0 := 1) (n1 := 1024) 0 j) = m ((c : Thread nD τ).loc main_arg6) (ix1 (n0 := 1024) j) := by
  blk_ext! [iblk, V, idx t]

/-! ## The projection of the arguments -/

/-- A token's modulated row. -/
def aHid (n : Fin 8192) : Fin 2048 → EReal :=
  hid (fun k => m ((c : Thread nD τ).loc main_arg0) (ix3 (n0 := 4) (n1 := 2048) (n2 := 2048) ⟨n.val / 2048, by omega⟩ ⟨n.val % 2048, by omega⟩ k))
    (fun k => m ((c : Thread nD τ).loc main_arg1) (ix2 (n0 := 4) (n1 := 12288) ⟨n.val / 2048, by omega⟩ ⟨k.val, by omega⟩))
    (fun k => m ((c : Thread nD τ).loc main_arg1) (ix2 (n0 := 4) (n1 := 12288) ⟨n.val / 2048, by omega⟩ ⟨2048 + k.val, by omega⟩))

/-- A token's projection. -/
def aProj (n : Fin 8192) (j : Fin 3392) : EReal :=
  proj (aHid m c n) (fun k => m ((c : Thread nD τ).loc main_arg2) (ix2 (n0 := 2048) (n1 := 3392) k j))

/-- The row of the arrays that point `t`'s block row `r` is. -/
def row (t : Fin cfg0.N) (r : Fin 512) : Fin 8192 := ⟨t.val * 512 + r.val, by have := N_lt t; omega⟩

theorem bHid_blk (t : Fin cfg0.N) (r : Fin 512) : bHid (iblk m c 0 t) (iblk m c 1 t) r = aHid m c (row t r) := by
  have ht := N_lt t
  unfold bHid aHid
  congr 1
  · funext k; exact iblk0_at m c t r k
  · funext k
    refine (iblk1_at m c t 0 k).trans (congrArg (m ((c : Thread nD τ).loc main_arg1)) ?_)
    congr 1 <;> (apply Fin.ext; simp [row] <;> omega)
  · funext k
    refine (iblk1_at m c t 1 k).trans (congrArg (m ((c : Thread nD τ).loc main_arg1)) ?_)
    congr 1 <;> (apply Fin.ext; simp [row] <;> omega)

theorem bProj_blk (t : Fin cfg0.N) (r : Fin 512) (j : Fin 3392) : bProj (iblk m c 0 t) (iblk m c 1 t) (iblk m c 2 t) r j = aProj m c (row t r) j := by
  unfold bProj aProj
  rw [bHid_blk]
  exact congrArg _ (funext fun k => iblk2_at m c t j k)

/-! ## The five arrays -/

/-- The first, at an index. -/
def g0 (n : Fin 8192) (j : Fin 768) : EReal :=
  rms (Ideal.ofBits .f32 0x44400000#32) (fun j : Fin 768 => aProj m c n ⟨j.val, by omega⟩) j * m ((c : Thread nD τ).loc main_arg3) (ix1 (n0 := 768) j)

/-- The second, at an index. -/
def g1 (n : Fin 8192) (j : Fin 512) : EReal :=
  rms (Ideal.ofBits .f32 0x44000000#32) (fun j : Fin 512 => aProj m c n ⟨768 + j.val, by omega⟩) j * m ((c : Thread nD τ).loc main_arg4) (ix1 (n0 := 512) j)

/-- The third, at an index. -/
def g2 (n : Fin 8192) (j : Fin 128) : EReal := aProj m c n ⟨1280 + j.val, by omega⟩

/-- The fourth, at an index. -/
def g3 (n : Fin 8192) (j : Fin 1024) : EReal := gelu (aProj m c n ⟨1344 + j.val, by omega⟩)

/-- The fifth, at an index. -/
def g4 (n : Fin 8192) (j : Fin 1024) : EReal :=
  ln (Ideal.ofBits .f32 0x44800000#32) (fun j : Fin 1024 => gelu (aProj m c n ⟨1344 + (1024 + j.val), by omega⟩)) j * m ((c : Thread nD τ).loc main_arg5) (ix1 (n0 := 1024) j)
    + m ((c : Thread nD τ).loc main_arg6) (ix1 (n0 := 1024) j)

theorem arr7 : (dats m 0 c).arrAt 7 cfg0.N = (fun i => g0 m c (i 0) (i 1) : S8192x768.Idx → EReal) := by
  refine (dats m 0 c).arrAt_eq_of_covers 7 _ (by decide +kernel) fun t hf y => ?_
  obtain ⟨r, j, rfl⟩ : ∃ (r : Fin 512) (j : Fin 768), y = ix2 (n0 := 512) (n1 := 768) r j := ⟨y 0, y 1, by funext a; match a with | ⟨0, _⟩ => rfl | ⟨1, _⟩ => rfl⟩
  have hy : ((cfg0.win 7).blk t).view.emb (ix2 (n0 := 512) (n1 := 768) r j) = ix2 (n0 := 8192) (n1 := 768) (row t r) j := by
    blk_ext [row, idx t]
  rw [hy]
  blk_simp
  rw [after0_7]
  frame_out
  refine (out7_at _ _ _ _ r j).trans ?_
  show _ = g0 m c (row t r) j
  unfold g0
  simp only [bProj_blk, iblk3_at]

theorem arr8 : (dats m 0 c).arrAt 8 cfg0.N = (fun i => g1 m c (i 0) (i 1) : S8192x512.Idx → EReal) := by
  refine (dats m 0 c).arrAt_eq_of_covers 8 _ (by decide +kernel) fun t hf y => ?_
  obtain ⟨r, j, rfl⟩ : ∃ (r : Fin 512) (j : Fin 512), y = ix2 (n0 := 512) (n1 := 512) r j := ⟨y 0, y 1, by funext a; match a with | ⟨0, _⟩ => rfl | ⟨1, _⟩ => rfl⟩
  have hy : ((cfg0.win 8).blk t).view.emb (ix2 (n0 := 512) (n1 := 512) r j) = ix2 (n0 := 8192) (n1 := 512) (row t r) j := by
    blk_ext [row, idx t]
  rw [hy]
  blk_simp
  rw [after0_8]
  frame_out
  refine (out8_at _ _ _ _ _ _ _ r j).trans ?_
  show _ = g1 m c (row t r) j
  unfold g1
  simp only [bProj_blk, iblk4_at]

theorem arr9 : (dats m 0 c).arrAt 9 cfg0.N = (fun i => g2 m c (i 0) (i 1) : S8192x128.Idx → EReal) := by
  refine (dats m 0 c).arrAt_eq_of_covers 9 _ (by decide +kernel) fun t hf y => ?_
  obtain ⟨r, j, rfl⟩ : ∃ (r : Fin 512) (j : Fin 128), y = ix2 (n0 := 512) (n1 := 128) r j := ⟨y 0, y 1, by funext a; match a with | ⟨0, _⟩ => rfl | ⟨1, _⟩ => rfl⟩
  have hy : ((cfg0.win 9).blk t).view.emb (ix2 (n0 := 512) (n1 := 128) r j) = ix2 (n0 := 8192) (n1 := 128) (row t r) j := by
    blk_ext [row, idx t]
  rw [hy]
  blk_simp
  rw [after0_9]
  frame_out
  refine (out9_at _ _ _ _ _ _ _ r j).trans ?_
  show _ = g2 m c (row t r) j
  unfold g2
  simp only [bProj_blk]

theorem arr10 : (dats m 0 c).arrAt 10 cfg0.N = (fun i => g3 m c (i 0) (i 1) : S8192x1024.Idx → EReal) := by
  refine (dats m 0 c).arrAt_eq_of_covers 10 _ (by decide +kernel) fun t hf y => ?_
  obtain ⟨r, j, rfl⟩ : ∃ (r : Fin 512) (j : Fin 1024), y = ix2 (n0 := 512) (n1 := 1024) r j := ⟨y 0, y 1, by funext a; match a with | ⟨0, _⟩ => rfl | ⟨1, _⟩ => rfl⟩
  have hy : ((cfg0.win 10).blk t).view.emb (ix2 (n0 := 512) (n1 := 1024) r j) = ix2 (n0 := 8192) (n1 := 1024) (row t r) j := by
    blk_ext [row, idx t]
  rw [hy]
  blk_simp
  rw [after0_10]
  frame_out
  refine (out10_at _ _ _ _ _ _ _ r j).trans ?_
  show _ = g3 m c (row t r) j
  unfold g3
  simp only [bProj_blk]

theorem arr11 : (dats m 0 c).arrAt 11 cfg0.N = (fun i => g4 m c (i 0) (i 1) : S8192x1024.Idx → EReal) := by
  refine (dats m 0 c).arrAt_eq_of_covers 11 _ (by decide +kernel) fun t hf y => ?_
  obtain ⟨r, j, rfl⟩ : ∃ (r : Fin 512) (j : Fin 1024), y = ix2 (n0 := 512) (n1 := 1024) r j := ⟨y 0, y 1, by funext a; match a with | ⟨0, _⟩ => rfl | ⟨1, _⟩ => rfl⟩
  have hy : ((cfg0.win 11).blk t).view.emb (ix2 (n0 := 512) (n1 := 1024) r j) = ix2 (n0 := 8192) (n1 := 1024) (row t r) j := by
    blk_ext [row, idx t]
  rw [hy]
  blk_simp
  rw [after0_11]
  frame_out
  refine (out11_at _ _ _ _ _ _ _ r j).trans ?_
  show _ = g4 m c (row t r) j
  unfold g4
  simp only [bProj_blk, iblk5_at, iblk6_at]

end Cert.Proof.K2

end
-- ==== Proof.InprojRef.lean ====
module

public import proofs.«01_k».proof.Proof.Gen.Reference2Ideal.Run
public import proofs.«01_k».proof.Proof.InprojSpec

@[expose] public section

noncomputable section

namespace Cert.Proof.R2

open Cert.Reference2Ideal Cert.Reference2Ideal.Gen
open Idealize.ShloMosaic Idealize.ShloMosaic.TcCoe
open Cert.Proof.Inp

/-! # The input projection's reference at an index -/

/-- The modulated tokens. -/
def rHid (X : S4x2048x2048.Idx → Ideal .f32) (M : S4x12288.Idx → Ideal .f32) : S4x2048x2048.Idx → Ideal .f32 :=
  addf (F := Ideal) (φ := .f32) (mulf (F := Ideal) (φ := .f32) (mulf (F := Ideal) (φ := .f32) (subf (F := Ideal) (φ := .f32) X (broadcastInDim S4x2048x2048 ![0, 1, 2] bcast_S4x2048x1_S4x2048x2048_0_1_2 (Host.divf (F := Ideal) (φ := .f32) (broadcastInDim S4x2048x1 ![0, 1] bcast_S4x2048_S4x2048x1_0_1 (Host.reduceAdd (F := Ideal) (φ := .f32) X (constant (F := Ideal) S_ .f32 0x00000000#32) reducesTo_S4x2048x2048_S4x2048_d2 h_S_)) (broadcastInDim S4x2048x1 ![] bcast_S_S4x2048x1 (constant (F := Ideal) S_ .f32 0x45000000#32))))) (broadcastInDim S4x2048x2048 ![0, 1, 2] bcast_S4x2048x1_S4x2048x2048_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (subf (F := Ideal) (φ := .f32) X (broadcastInDim S4x2048x2048 ![0, 1, 2] bcast_S4x2048x1_S4x2048x2048_0_1_2 (Host.divf (F := Ideal) (φ := .f32) (broadcastInDim S4x2048x1 ![0, 1] bcast_S4x2048_S4x2048x1_0_1 (Host.reduceAdd (F := Ideal) (φ := .f32) X (constant (F := Ideal) S_ .f32 0x00000000#32) reducesTo_S4x2048x2048_S4x2048_d2 h_S_)) (broadcastInDim S4x2048x1 ![] bcast_S_S4x2048x1 (constant (F := Ideal) S_ .f32 0x45000000#32))))) (subf (F := Ideal) (φ := .f32) X (broadcastInDim S4x2048x2048 ![0, 1, 2] bcast_S4x2048x1_S4x2048x2048_0_1_2 (Host.divf (F := Ideal) (φ := .f32) (broadcastInDim S4x2048x1 ![0, 1] bcast_S4x2048_S4x2048x1_0_1 (Host.reduceAdd (F := Ideal) (φ := .f32) X (constant (F := Ideal) S_ .f32 0x00000000#32) reducesTo_S4x2048x2048_S4x2048_d2 h_S_)) (broadcastInDim S4x2048x1 ![] bcast_S_S4x2048x1 (constant (F := Ideal) S_ .f32 0x45000000#32)))))) (constant (F := Ideal) S_ .f32 0x00000000#32) reducesTo_S4x2048x2048_S4x2048_d2 h_S_)) (broadcastInDim S4x2048x1 ![] bcast_S_S4x2048x1 (constant (F := Ideal) S_ .f32 0x45000000#32))) (broadcastInDim S4x2048x1 ![] bcast_S_S4x2048x1 (constant (F := Ideal) S_ .f32 0x358637BD#32)))))) (broadcastInDim S4x2048x2048 ![0, 1, 2] bcast_S4x1x2048_S4x2048x2048_0_1_2 (addf (F := Ideal) (φ := .f32) (broadcastInDim S4x1x2048 ![] bcast_S_S4x1x2048 (constant (F := Ideal) S_ .f32 0x3F800000#32)) (broadcastInDim S4x1x2048 ![0, 2] bcast_S4x2048_S4x1x2048_0_2 (extractStridedSlice S4x2048 ![0, 2048] M slices_S4x12288_S4x2048_0_2048))))) (broadcastInDim S4x2048x2048 ![0, 1, 2] bcast_S4x1x2048_S4x2048x2048_0_1_2 (broadcastInDim S4x1x2048 ![0, 2] bcast_S4x2048_S4x1x2048_0_2 (extractStridedSlice S4x2048 ![0, 0] M slices_S4x12288_S4x2048_0_0)))

set_option maxRecDepth 16384 in
theorem rHid_at (X : S4x2048x2048.Idx → Ideal .f32) (M : S4x12288.Idx → Ideal .f32) (b : Fin 4) (s k : Fin 2048) :
    rHid X M (ix3 (n0 := 4) (n1 := 2048) (n2 := 2048) b s k) = hid (fun k => X (ix3 (n0 := 4) (n1 := 2048) (n2 := 2048) b s k)) (fun k => M (ix2 (n0 := 4) (n1 := 12288) b ⟨k.val, by omega⟩)) (fun k => M (ix2 (n0 := 4) (n1 := 12288) b ⟨2048 + k.val, by omega⟩)) k := by
  pointwise [rHid]
  rfl

/-- Their projection. -/
def rProj (h : S4x2048x2048.Idx → Ideal .f32) (W : S2048x3392.Idx → Ideal .f32) : S4x2048x3392.Idx → Ideal .f32 :=
  Host.dotGeneral (F := Ideal) (φ₁ := .f32) (φ₂ := .f32) dot_S4x2048x2048_S2048x3392_S4x2048x3392_2_0_01_1_n_n none h W

set_option maxRecDepth 16384 in
theorem rProj_at (h : S4x2048x2048.Idx → Ideal .f32) (W : S2048x3392.Idx → Ideal .f32) (b : Fin 4) (s : Fin 2048) (c : Fin 3392) :
    rProj h W (ix3 (n0 := 4) (n1 := 2048) (n2 := 3392) b s c) = proj (fun k => h (ix3 (n0 := 4) (n1 := 2048) (n2 := 2048) b s k)) (fun k => W (ix2 (n0 := 2048) (n1 := 3392) k c)) := by
  pointwise [rProj]
  rfl

/-- The gelu of the gating columns. -/
def rGelu (P : S4x2048x3392.Idx → Ideal .f32) : S4x2048x2048.Idx → Ideal .f32 :=
  mulf (F := Ideal) (φ := .f32) (extractStridedSlice S4x2048x2048 ![0, 0, 1344] P slices_S4x2048x3392_S4x2048x2048_0_0_1344) (mulf (F := Ideal) (φ := .f32) (broadcastInDim S4x2048x2048 ![] bcast_S_S4x2048x2048 (constant (F := Ideal) S_ .f32 0x3F000000#32)) (addf (F := Ideal) (φ := .f32) (broadcastInDim S4x2048x2048 ![] bcast_S_S4x2048x2048 (constant (F := Ideal) S_ .f32 0x3F800000#32)) (Host.tanh (F := Ideal) (φ := .f32) (mulf (F := Ideal) (φ := .f32) (broadcastInDim S4x2048x2048 ![] bcast_S_S4x2048x2048 (constant (F := Ideal) S_ .f32 0x3F4C422A#32)) (addf (F := Ideal) (φ := .f32) (extractStridedSlice S4x2048x2048 ![0, 0, 1344] P slices_S4x2048x3392_S4x2048x2048_0_0_1344) (mulf (F := Ideal) (φ := .f32) (broadcastInDim S4x2048x2048 ![] bcast_S_S4x2048x2048 (constant (F := Ideal) S_ .f32 0x3D372713#32)) (mulf (F := Ideal) (φ := .f32) (mulf (F := Ideal) (φ := .f32) (extractStridedSlice S4x2048x2048 ![0, 0, 1344] P slices_S4x2048x3392_S4x2048x2048_0_0_1344) (extractStridedSlice S4x2048x2048 ![0, 0, 1344] P slices_S4x2048x3392_S4x2048x2048_0_0_1344)) (extractStridedSlice S4x2048x2048 ![0, 0, 1344] P slices_S4x2048x3392_S4x2048x2048_0_0_1344))))))))

set_option maxRecDepth 16384 in
theorem rGelu_at (P : S4x2048x3392.Idx → Ideal .f32) (b : Fin 4) (s k : Fin 2048) :
    rGelu P (ix3 (n0 := 4) (n1 := 2048) (n2 := 2048) b s k) = gelu (P (ix3 (n0 := 4) (n1 := 2048) (n2 := 3392) b s ⟨1344 + k.val, by omega⟩)) := by
  rw [← gelu_eq]
  pointwise [rGelu]

/-- The first result: the query columns over their root mean square. -/
def rOut0 (P : S4x2048x3392.Idx → Ideal .f32) (gq : S768.Idx → Ideal .f32) : S8192x768.Idx → Ideal .bf16 :=
  truncf (F := Ideal) (φ := .f32) .bf16 (shapeCast _ (mulf (F := Ideal) (φ := .f32) (mulf (F := Ideal) (φ := .f32) (extractStridedSlice S4x2048x768 ![0, 0, 0] P slices_S4x2048x3392_S4x2048x768_0_0_0) (broadcastInDim S4x2048x768 ![0, 1, 2] bcast_S4x2048x1_S4x2048x768_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (extractStridedSlice S4x2048x768 ![0, 0, 0] P slices_S4x2048x3392_S4x2048x768_0_0_0) (extractStridedSlice S4x2048x768 ![0, 0, 0] P slices_S4x2048x3392_S4x2048x768_0_0_0)) (constant (F := Ideal) S_ .f32 0x00000000#32) reducesTo_S4x2048x768_S4x2048_d2 h_S_)) (broadcastInDim S4x2048x1 ![] bcast_S_S4x2048x1 (constant (F := Ideal) S_ .f32 0x44400000#32))) (broadcastInDim S4x2048x1 ![] bcast_S_S4x2048x1 (constant (F := Ideal) S_ .f32 0x358637BD#32)))))) (broadcastInDim S4x2048x768 ![0, 1, 2] bcast_S1x1x768_S4x2048x768_0_1_2 (broadcastInDim S1x1x768 ![2] bcast_S768_S1x1x768_2 gq))) shapeCasts_S4x2048x768_S8192x768) bitsLt_bf16_f32

set_option maxRecDepth 16384 in
theorem rOut0_at (P : S4x2048x3392.Idx → Ideal .f32) (gq : S768.Idx → Ideal .f32) (n : Fin 8192) (j : Fin 768) :
    rOut0 P gq (ix2 (n0 := 8192) (n1 := 768) n j) = rms (Ideal.ofBits .f32 0x44400000#32) (fun j : Fin 768 => P (ix3 (n0 := 4) (n1 := 2048) (n2 := 3392) ⟨n.val / 2048, by omega⟩ ⟨n.val % 2048, by omega⟩ ⟨j.val, by omega⟩)) j * gq (ix1 (n0 := 768) j) := by
  pointwise [rOut0]
  rfl

/-- The second: the key and value columns over theirs. -/
def rOut1 (P : S4x2048x3392.Idx → Ideal .f32) (gkv : S512.Idx → Ideal .f32) : S8192x512.Idx → Ideal .bf16 :=
  truncf (F := Ideal) (φ := .f32) .bf16 (shapeCast _ (mulf (F := Ideal) (φ := .f32) (mulf (F := Ideal) (φ := .f32) (extractStridedSlice S4x2048x512 ![0, 0, 768] P slices_S4x2048x3392_S4x2048x512_0_0_768) (broadcastInDim S4x2048x512 ![0, 1, 2] bcast_S4x2048x1_S4x2048x512_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (extractStridedSlice S4x2048x512 ![0, 0, 768] P slices_S4x2048x3392_S4x2048x512_0_0_768) (extractStridedSlice S4x2048x512 ![0, 0, 768] P slices_S4x2048x3392_S4x2048x512_0_0_768)) (constant (F := Ideal) S_ .f32 0x00000000#32) reducesTo_S4x2048x512_S4x2048_d2 h_S_)) (broadcastInDim S4x2048x1 ![] bcast_S_S4x2048x1 (constant (F := Ideal) S_ .f32 0x44000000#32))) (broadcastInDim S4x2048x1 ![] bcast_S_S4x2048x1 (constant (F := Ideal) S_ .f32 0x358637BD#32)))))) (broadcastInDim S4x2048x512 ![0, 1, 2] bcast_S1x1x512_S4x2048x512_0_1_2 (broadcastInDim S1x1x512 ![2] bcast_S512_S1x1x512_2 gkv))) shapeCasts_S4x2048x512_S8192x512) bitsLt_bf16_f32

set_option maxRecDepth 16384 in
theorem rOut1_at (P : S4x2048x3392.Idx → Ideal .f32) (gq : S512.Idx → Ideal .f32) (n : Fin 8192) (j : Fin 512) :
    rOut1 P gq (ix2 (n0 := 8192) (n1 := 512) n j) = rms (Ideal.ofBits .f32 0x44000000#32) (fun j : Fin 512 => P (ix3 (n0 := 4) (n1 := 2048) (n2 := 3392) ⟨n.val / 2048, by omega⟩ ⟨n.val % 2048, by omega⟩ ⟨768 + j.val, by omega⟩)) j * gq (ix1 (n0 := 512) j) := by
  pointwise [rOut1]
  rfl

/-- The third: the columns the rotary key starts, up to a lane row. -/
def rOut2 (P : S4x2048x3392.Idx → Ideal .f32) : S8192x128.Idx → Ideal .f32 :=
  shapeCast _ (extractStridedSlice S4x2048x128 ![0, 0, 1280] P slices_S4x2048x3392_S4x2048x128_0_0_1280) shapeCasts_S4x2048x128_S8192x128

set_option maxRecDepth 16384 in
theorem rOut2_at (P : S4x2048x3392.Idx → Ideal .f32) (n : Fin 8192) (j : Fin 128) :
    rOut2 P (ix2 (n0 := 8192) (n1 := 128) n j) = P (ix3 (n0 := 4) (n1 := 2048) (n2 := 3392) ⟨n.val / 2048, by omega⟩ ⟨n.val % 2048, by omega⟩ ⟨1280 + j.val, by omega⟩) := by
  pointwise [rOut2]

/-- The fourth: the first half of the gelu. -/
def rOut3 (Z : S4x2048x2048.Idx → Ideal .f32) : S8192x1024.Idx → Ideal .f32 :=
  shapeCast _ (extractStridedSlice S4x2048x1024 ![0, 0, 0] Z slices_S4x2048x2048_S4x2048x1024_0_0_0) shapeCasts_S4x2048x1024_S8192x1024

set_option maxRecDepth 16384 in
theorem rOut3_at (Z : S4x2048x2048.Idx → Ideal .f32) (n : Fin 8192) (j : Fin 1024) :
    rOut3 Z (ix2 (n0 := 8192) (n1 := 1024) n j) = Z (ix3 (n0 := 4) (n1 := 2048) (n2 := 2048) ⟨n.val / 2048, by omega⟩ ⟨n.val % 2048, by omega⟩ ⟨j.val, by omega⟩) := by
  pointwise [rOut3]

/-- The fifth: the second half, normalized. -/
def rOut4 (V : S4x2048x1024.Idx → Ideal .f32) (sg sb : S1024.Idx → Ideal .f32) : S8192x1024.Idx → Ideal .bf16 :=
  truncf (F := Ideal) (φ := .f32) .bf16 (shapeCast _ (addf (F := Ideal) (φ := .f32) (mulf (F := Ideal) (φ := .f32) (mulf (F := Ideal) (φ := .f32) (subf (F := Ideal) (φ := .f32) V (broadcastInDim S4x2048x1024 ![0, 1, 2] bcast_S4x2048x1_S4x2048x1024_0_1_2 (Host.divf (F := Ideal) (φ := .f32) (broadcastInDim S4x2048x1 ![0, 1] bcast_S4x2048_S4x2048x1_0_1 (Host.reduceAdd (F := Ideal) (φ := .f32) V (constant (F := Ideal) S_ .f32 0x00000000#32) reducesTo_S4x2048x1024_S4x2048_d2 h_S_)) (broadcastInDim S4x2048x1 ![] bcast_S_S4x2048x1 (constant (F := Ideal) S_ .f32 0x44800000#32))))) (broadcastInDim S4x2048x1024 ![0, 1, 2] bcast_S4x2048x1_S4x2048x1024_0_1_2 (Host.rsqrt (F := Ideal) (φ := .f32) (addf (F := Ideal) (φ := .f32) (Host.divf (F := Ideal) (φ := .f32) (broadcastInDim S4x2048x1 ![0, 1] bcast_S4x2048_S4x2048x1_0_1 (Host.reduceAdd (F := Ideal) (φ := .f32) (mulf (F := Ideal) (φ := .f32) (subf (F := Ideal) (φ := .f32) V (broadcastInDim S4x2048x1024 ![0, 1, 2] bcast_S4x2048x1_S4x2048x1024_0_1_2 (Host.divf (F := Ideal) (φ := .f32) (broadcastInDim S4x2048x1 ![0, 1] bcast_S4x2048_S4x2048x1_0_1 (Host.reduceAdd (F := Ideal) (φ := .f32) V (constant (F := Ideal) S_ .f32 0x00000000#32) reducesTo_S4x2048x1024_S4x2048_d2 h_S_)) (broadcastInDim S4x2048x1 ![] bcast_S_S4x2048x1 (constant (F := Ideal) S_ .f32 0x44800000#32))))) (subf (F := Ideal) (φ := .f32) V (broadcastInDim S4x2048x1024 ![0, 1, 2] bcast_S4x2048x1_S4x2048x1024_0_1_2 (Host.divf (F := Ideal) (φ := .f32) (broadcastInDim S4x2048x1 ![0, 1] bcast_S4x2048_S4x2048x1_0_1 (Host.reduceAdd (F := Ideal) (φ := .f32) V (constant (F := Ideal) S_ .f32 0x00000000#32) reducesTo_S4x2048x1024_S4x2048_d2 h_S_)) (broadcastInDim S4x2048x1 ![] bcast_S_S4x2048x1 (constant (F := Ideal) S_ .f32 0x44800000#32)))))) (constant (F := Ideal) S_ .f32 0x00000000#32) reducesTo_S4x2048x1024_S4x2048_d2 h_S_)) (broadcastInDim S4x2048x1 ![] bcast_S_S4x2048x1 (constant (F := Ideal) S_ .f32 0x44800000#32))) (broadcastInDim S4x2048x1 ![] bcast_S_S4x2048x1 (constant (F := Ideal) S_ .f32 0x358637BD#32)))))) (broadcastInDim S4x2048x1024 ![0, 1, 2] bcast_S1x1x1024_S4x2048x1024_0_1_2 (broadcastInDim S1x1x1024 ![2] bcast_S1024_S1x1x1024_2 sg))) (broadcastInDim S4x2048x1024 ![0, 1, 2] bcast_S1x1x1024_S4x2048x1024_0_1_2 (broadcastInDim S1x1x1024 ![2] bcast_S1024_S1x1x1024_2 sb))) shapeCasts_S4x2048x1024_S8192x1024) bitsLt_bf16_f32

set_option maxRecDepth 16384 in
theorem rOut4_at (V : S4x2048x1024.Idx → Ideal .f32) (sg sb : S1024.Idx → Ideal .f32) (n : Fin 8192) (j : Fin 1024) :
    rOut4 V sg sb (ix2 (n0 := 8192) (n1 := 1024) n j) = ln (Ideal.ofBits .f32 0x44800000#32) (fun j : Fin 1024 => V (ix3 (n0 := 4) (n1 := 2048) (n2 := 1024) ⟨n.val / 2048, by omega⟩ ⟨n.val % 2048, by omega⟩ j)) j * sg (ix1 (n0 := 1024) j) + sb (ix1 (n0 := 1024) j) := by
  pointwise [rOut4]
  rfl

/-- The second half of the gelu. -/
def rHalf (Z : S4x2048x2048.Idx → Ideal .f32) : S4x2048x1024.Idx → Ideal .f32 := extractStridedSlice S4x2048x1024 ![0, 0, 1024] Z slices_S4x2048x2048_S4x2048x1024_0_0_1024

set_option maxRecDepth 16384 in
theorem rHalf_at (Z : S4x2048x2048.Idx → Ideal .f32) (b : Fin 4) (s : Fin 2048) (j : Fin 1024) :
    rHalf Z (ix3 (n0 := 4) (n1 := 2048) (n2 := 1024) b s j) = Z (ix3 (n0 := 4) (n1 := 2048) (n2 := 2048) b s ⟨1024 + j.val, by omega⟩) := by
  pointwise [rHalf]

/-! ## The generated run's terms -/

section
variable (m : (ℓ : Loc nD τ sig) → Buf (Elt Ideal) ℓ) (c : Dev nD)

/-- The reference's projection of its arguments. -/
def rP : S4x2048x3392.Idx → Ideal .f32 :=
  rProj (rHid (m ((c.tc : Thread nD τ).loc main_arg0)) (m ((c.tc : Thread nD τ).loc main_arg1))) (m ((c.tc : Thread nD τ).loc main_arg2))

set_option maxRecDepth 16384 in
theorem res0_eq : Value.res_main_v98 m c = rOut0 (rP m c) (m ((c.tc : Thread nD τ).loc main_arg3)) := rfl
set_option maxRecDepth 16384 in
theorem res1_eq : Value.res_main_v100 m c = rOut1 (rP m c) (m ((c.tc : Thread nD τ).loc main_arg4)) := rfl
set_option maxRecDepth 16384 in
theorem res3_eq : Value.res_main_v103 m c = rOut3 (rGelu (rP m c)) := rfl
set_option maxRecDepth 16384 in
theorem res4_eq : Value.res_main_v105 m c = rOut4 (rHalf (rGelu (rP m c))) (m ((c.tc : Thread nD τ).loc main_arg5)) (m ((c.tc : Thread nD τ).loc main_arg6)) := rfl

end

end Cert.Proof.R2

end
-- ==== Proof.InprojEq.lean ====
module

public import proofs.«01_k».proof.Defs
public import proofs.«01_k».proof.Proof.InprojArr
public import proofs.«01_k».proof.Proof.InprojRef
public import proofs.«01_k».proof.Proof.Gen.Kernel2.Frame
public import Idealize.ShloMosaic.Lib.Claim

@[expose] public section

set_option maxRecDepth 16384

noncomputable section

namespace Cert.Proof

open Idealize.ShloMosaic Idealize.ShloMosaic.TcCoe Idealize.SL.Sem
open Cert.Proof.Inp

/-! # The input projection: the two sides meet, and the claims of it -/

section
variable (m : (ℓ : Loc Cert.Kernel2Ideal.nD Cert.Kernel2Ideal.τ Cert.Kernel2Ideal.sig) → Buf (Elt Ideal) ℓ)
  (m' : (ℓ : Loc Cert.Reference2Ideal.nD Cert.Reference2Ideal.τ Cert.Reference2Ideal.sig) → Buf (Elt Ideal) ℓ) (c : Dev Cert.Kernel2Ideal.nD)
  (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
  (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
  (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
  (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
  (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
  (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
  (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))

include h0 h1 h2 in
/-- The reference's projection of a token is the kernel's. -/
theorem rP_at (n : Fin 8192) (j : Fin 3392) :
    R2.rP m' c (ix3 (n0 := 4) (n1 := 2048) (n2 := 3392) ⟨n.val / 2048, by omega⟩ ⟨n.val % 2048, by omega⟩ j) = K2.aProj m c n j := by
  unfold R2.rP K2.aProj
  rw [R2.rProj_at, h0, h1, h2]
  unfold K2.aHid
  congr 1
  funext k
  exact R2.rHid_at _ _ _ _ k

include h0 h1 h2 h3 in
theorem eq0 (n : Fin 8192) (j : Fin 768) : Cert.Reference2Ideal.Value.res_main_v98 m' c (ix2 (n0 := 8192) (n1 := 768) n j) = K2.g0 m c n j := by
  rw [R2.res0_eq, R2.rOut0_at, h3]
  unfold K2.g0
  congr 2
  funext k
  exact rP_at m m' c h0 h1 h2 n _

include h0 h1 h2 h4 in
theorem eq1 (n : Fin 8192) (j : Fin 512) : Cert.Reference2Ideal.Value.res_main_v100 m' c (ix2 (n0 := 8192) (n1 := 512) n j) = K2.g1 m c n j := by
  rw [R2.res1_eq, R2.rOut1_at, h4]
  unfold K2.g1
  congr 2
  funext k
  exact rP_at m m' c h0 h1 h2 n _

include h0 h1 h2 in
theorem eq2 (n : Fin 8192) (j : Fin 128) : R2.rOut2 (R2.rP m' c) (ix2 (n0 := 8192) (n1 := 128) n j) = K2.g2 m c n j := by
  rw [R2.rOut2_at]
  exact rP_at m m' c h0 h1 h2 n _

include h0 h1 h2 in
theorem eq3 (n : Fin 8192) (j : Fin 1024) : Cert.Reference2Ideal.Value.res_main_v103 m' c (ix2 (n0 := 8192) (n1 := 1024) n j) = K2.g3 m c n j := by
  rw [R2.res3_eq, R2.rOut3_at, R2.rGelu_at]
  exact congrArg gelu (rP_at m m' c h0 h1 h2 n _)

include h0 h1 h2 h5 h6 in
theorem eq4 (n : Fin 8192) (j : Fin 1024) : Cert.Reference2Ideal.Value.res_main_v105 m' c (ix2 (n0 := 8192) (n1 := 1024) n j) = K2.g4 m c n j := by
  rw [R2.res4_eq, R2.rOut4_at, h5, h6]
  unfold K2.g4
  congr 3
  funext k
  rw [R2.rHalf_at, R2.rGelu_at]
  exact congrArg gelu (rP_at m m' c h0 h1 h2 n _)

end

/-- Arrays of two axes that agree at every pair of indices agree. -/
theorem ext2 {n0 n1 : ℕ} {α : Type} {u v : Shape.Idx ⟨2, ![n0, n1]⟩ → α} (h : ∀ (a : Fin n0) (b : Fin n1), u (ix2 a b) = v (ix2 a b)) : u = v := by
  funext i
  have : i = ix2 (n0 := n0) (n1 := n1) (i 0) (i 1) := by funext a; match a with | ⟨0, _⟩ => rfl | ⟨1, _⟩ => rfl
  rw [this]
  exact h _ _

/-- The input projection's frame. -/
theorem frame_Kernel2 : haveI := Cert.Kernel2.Gen.facts; Cert.quiescent_Kernel2 := fun m g _ => Cert.Kernel2.Gen.frame m g

/-- Its frame at the exact reals. -/
theorem frame_Kernel2Ideal : haveI := Cert.Kernel2Ideal.Gen.facts; Cert.quiescent_Kernel2Ideal := fun m g _ => Cert.Kernel2Ideal.Gen.frame m g

/-- Its reference's frame: it declares no counter. -/
theorem frame_Reference2Ideal : haveI := Cert.Reference2Ideal.Gen.facts; Cert.quiescent_Reference2Ideal := fun m g _ =>
  (θ_run Cert.Reference2Ideal.defs _ _).mono (fun r h => ⟨fun c => (h c).2.2.2.2.2, Idealize.ShloMosaic.sem_eq_zero_of_no_sems (by decide) r.2⟩)
    (Cert.Reference2Ideal.Value.run (F := Ideal) m g)

/-- The idealization rewrites nothing. -/
theorem preserves2 : Cert.preserves_Kernel2_Kernel2Ideal := trivial

/-- The reference's run, with its third result named. -/
theorem run_Reference2Ideal (m : (ℓ : Loc Cert.Reference2Ideal.nD Cert.Reference2Ideal.τ Cert.Reference2Ideal.sig) → Buf (Elt Ideal) ℓ) (g : Dev Cert.Reference2Ideal.nD → PrngReg) :
    θ_run Cert.Reference2Ideal.defs (onTc (τ := Cert.Reference2Ideal.τ) (Cert.Reference2Ideal.main (F := Ideal))) ⟨m, fun _ => 0, g⟩ fun r => ∀ c : Dev Cert.Reference2Ideal.nD,
      r.2.mem ((c.tc : Thread Cert.Reference2Ideal.nD Cert.Reference2Ideal.τ).loc Cert.Reference2Ideal.main_v98) = Cert.Reference2Ideal.Value.res_main_v98 m c
      ∧ r.2.mem ((c.tc : Thread Cert.Reference2Ideal.nD Cert.Reference2Ideal.τ).loc Cert.Reference2Ideal.main_v100) = Cert.Reference2Ideal.Value.res_main_v100 m c
      ∧ r.2.mem ((c.tc : Thread Cert.Reference2Ideal.nD Cert.Reference2Ideal.τ).loc Cert.Reference2Ideal.main_v102) = R2.rOut2 (R2.rP m c)
      ∧ r.2.mem ((c.tc : Thread Cert.Reference2Ideal.nD Cert.Reference2Ideal.τ).loc Cert.Reference2Ideal.main_v103) = Cert.Reference2Ideal.Value.res_main_v103 m c
      ∧ r.2.mem ((c.tc : Thread Cert.Reference2Ideal.nD Cert.Reference2Ideal.τ).loc Cert.Reference2Ideal.main_v105) = Cert.Reference2Ideal.Value.res_main_v105 m c
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6) :=
  (θ_run Cert.Reference2Ideal.defs _ _).mono (fun _ h c => ⟨(h c).1, (h c).2.1, (h c).2.2.1, (h c).2.2.2⟩) (Cert.Reference2Ideal.Value.run (F := Ideal) m g)

set_option maxHeartbeats 4000000 in
/-- The input projection's five results are the reference's, of the same arguments. -/
theorem algebraic2 : haveI := Cert.Kernel2Ideal.Gen.facts; haveI := Cert.Reference2Ideal.Gen.facts; Cert.algebraic_Kernel2Ideal_Reference2Ideal := by
  pair_intro
  · run_from Cert.Kernel2Ideal.Gen.run_main m g
  · run_from run_Reference2Ideal m' g'
    · exact (ext2 fun a b => eq0 m m' c (hagree c).1 (hagree c).2.1 (hagree c).2.2.1 (hagree c).2.2.2.1 a b).trans (K2.arr7 m c).symm
    · exact (ext2 fun a b => eq1 m m' c (hagree c).1 (hagree c).2.1 (hagree c).2.2.1 (hagree c).2.2.2.2.1 a b).trans (K2.arr8 m c).symm
    · exact (ext2 fun a b => eq2 m m' c (hagree c).1 (hagree c).2.1 (hagree c).2.2.1 a b).trans (K2.arr9 m c).symm
    · exact (ext2 fun a b => eq3 m m' c (hagree c).1 (hagree c).2.1 (hagree c).2.2.1 a b).trans (K2.arr10 m c).symm
    · exact (ext2 fun a b => eq4 m m' c (hagree c).1 (hagree c).2.1 (hagree c).2.2.1 (hagree c).2.2.2.2.2.1 (hagree c).2.2.2.2.2.2 a b).trans (K2.arr11 m c).symm

end Cert.Proof

end
-- ==== Proof.AttnGen.lean ====
module

public import proofs.«01_k».proof.Proof.Gen.Kernel3.Frame
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Pre_finite_queries_keys
public section
-- ==== Proof.AttnRun.lean ====
module

public import proofs.«01_k».proof.Proof.AttnGen

@[expose] public section

set_option maxRecDepth 16384

noncomputable section

namespace Cert.Proof.K3

open Cert.Kernel3Ideal Cert.Kernel3Ideal.Gen
open Idealize.ShloMosaic Idealize.ShloMosaic.TcCoe Idealize.ShloMosaic.Tactic

/-! # What the attention body stores, head by head -/

/-- What the loops carry: of each of four heads the running maximum, the running sum and the weighted values. -/
abbrev Carry : Type := FVec Ideal S1x1024 .f32 × FVec Ideal S1x1024 .f32 × FVec Ideal S128x1024 .f32 × FVec Ideal S1x1024 .f32 × FVec Ideal S1x1024 .f32 × FVec Ideal S128x1024 .f32 × FVec Ideal S1x1024 .f32 × FVec Ideal S1x1024 .f32 × FVec Ideal S128x1024 .f32 × FVec Ideal S1x1024 .f32 × FVec Ideal S1x1024 .f32 × FVec Ideal S128x1024 .f32

variable (c : Dev nD) (i : grid0.Coords) (arg3 : Memref sig .tc .vmem S1x4x1024x192 .bf16) (harg3 : arg3.IsWhole) (arg4 : Memref sig .tc .vmem S1x4x2048x192 .bf16) (harg4 : arg4.IsWhole) (arg5 : Memref sig .tc .vmem S1x4x128x2048 .bf16) (harg5 : arg5.IsWhole) (arg6 : Memref sig .tc .vmem S1x1024x512 .bf16) (harg6 : arg6.IsWhole)
    (x0 : Vec Ideal S1x4x1024x192 .bf16) (x1 : Vec Ideal S1x4x2048x192 .bf16) (x2 : Vec Ideal S1x4x128x2048 .bf16)

/-- One head's state after a block of keys that every query sees. -/
def stepM (m : FVec Ideal S1x1024 .f32) (k q : Vec Ideal S1x1x1024x192 .bf16) : FVec Ideal S1x1024 .f32 := k0_pay6 m k q
def stepL (m l : FVec Ideal S1x1024 .f32) (k q : Vec Ideal S1x1x1024x192 .bf16) : FVec Ideal S1x1024 .f32 := k0_pay9 m l k q
def stepA (m : FVec Ideal S1x1024 .f32) (a : FVec Ideal S128x1024 .f32) (k : Vec Ideal S1x1x1024x192 .bf16) (v : Vec Ideal S1x1x128x1024 .bf16) (q : Vec Ideal S1x1x1024x192 .bf16) : FVec Ideal S128x1024 .f32 := k0_pay10 m a k v q

/-- One head's result from its state before the masked block. -/
def headOut (m l : FVec Ideal S1x1024 .f32) (a : FVec Ideal S128x1024 .f32) (k : Vec Ideal S1x1x1024x192 .bf16) (v : Vec Ideal S1x1x128x1024 .bf16) (q : Vec Ideal S1x1x1024x192 .bf16) : FVec Ideal S1x1024x128 .bf16 :=
  k0_pay4 (k0_pay101 m l k q) (k0_pay102 m a k v q)

/-- A head's queries, and its keys and values from an offset on. -/
def qOf (h : Nat) (hh : h < 4) : Vec Ideal S1x1x1024x192 .bf16 :=
  View.ld x0 (Rect.unit (s := S1x4x1024x192) ![0, h, 0, 0] ![1, 1, 1024, 192] (by intro a; fin_cases a <;> simp [S1x4x1024x192] <;> omega))
def kOf (h : Nat) (hh : h < 4) (o : Nat) (ho : o + 1024 ≤ 2048) : Vec Ideal S1x1x1024x192 .bf16 :=
  View.ld x1 (Rect.unit (s := S1x4x2048x192) ![0, h, o, 0] ![1, 1, 1024, 192] (by intro a; fin_cases a <;> simp [S1x4x2048x192] <;> omega))
def vOf (h : Nat) (hh : h < 4) (o : Nat) (ho : o + 1024 ≤ 2048) : Vec Ideal S1x1x128x1024 .bf16 :=
  View.ld x2 (Rect.unit (s := S1x4x128x2048) ![0, h, 0, o] ![1, 1, 128, 1024] (by intro a; fin_cases a <;> simp [S1x4x128x2048] <;> omega))

/-- What one trip of the loop over whole blocks of keys makes of the carried state. -/
def tripOf (o : Nat) (ho : o + 1024 ≤ 2048) : Carry → Carry :=
  fun (m0, l0, a0, m1, l1, a1, m2, l2, a2, m3, l3, a3) =>
    (stepM m0 (kOf x1 0 (by decide) o ho) (qOf x0 0 (by decide)), stepL m0 l0 (kOf x1 0 (by decide) o ho) (qOf x0 0 (by decide)), stepA m0 a0 (kOf x1 0 (by decide) o ho) (vOf x2 0 (by decide) o ho) (qOf x0 0 (by decide)),
     stepM m1 (kOf x1 1 (by decide) o ho) (qOf x0 1 (by decide)), stepL m1 l1 (kOf x1 1 (by decide) o ho) (qOf x0 1 (by decide)), stepA m1 a1 (kOf x1 1 (by decide) o ho) (vOf x2 1 (by decide) o ho) (qOf x0 1 (by decide)),
     stepM m2 (kOf x1 2 (by decide) o ho) (qOf x0 2 (by decide)), stepL m2 l2 (kOf x1 2 (by decide) o ho) (qOf x0 2 (by decide)), stepA m2 a2 (kOf x1 2 (by decide) o ho) (vOf x2 2 (by decide) o ho) (qOf x0 2 (by decide)),
     stepM m3 (kOf x1 3 (by decide) o ho) (qOf x0 3 (by decide)), stepL m3 l3 (kOf x1 3 (by decide) o ho) (qOf x0 3 (by decide)), stepA m3 a3 (kOf x1 3 (by decide) o ho) (vOf x2 3 (by decide) o ho) (qOf x0 3 (by decide)))

theorem list_congr (r1 r2 r3 r4 : Rect S1x1024x512) {w1 w1' : r1.shape.Idx → Elt Ideal .bf16} {w2 w2' : r2.shape.Idx → Elt Ideal .bf16} {w3 w3' : r3.shape.Idx → Elt Ideal .bf16} {w4 w4' : r4.shape.Idx → Elt Ideal .bf16}
    (h1 : w1 = w1') (h2 : w2 = w2') (h3 : w3 = w3') (h4 : w4 = w4') :
    View.canon ([⟨r1, w1⟩, ⟨r2, w2⟩, ⟨r3, w3⟩, ⟨r4, w4⟩] : List (View.Piece (Elt Ideal) S1x1024x512 .bf16)) = View.canon [⟨r1, w1'⟩, ⟨r2, w2'⟩, ⟨r3, w3'⟩, ⟨r4, w4'⟩] := by
  subst h1 h2 h3 h4; rfl

theorem trip_eq (k : Fin (k0_t1_loop i).trips) (hk : k.val = 0) (acc : Carry) :
    tripR_k0_t1 (F := Ideal) Variants.none c none i arg3 harg3 arg4 harg4 arg5 harg5 arg6 harg6 (harg3.unread x0) (harg4.unread x1) (harg5.unread x2) k acc = tripOf x0 x1 x2 0 (by decide) acc := by
  obtain ⟨k, hlt⟩ := k
  obtain rfl : k = 0 := hk
  unfold tripR_k0_t1 trip_k0_t1
  dsimp only
  simp only [View.readAt_eq_ld, harg3.read_unread, harg4.read_unread, harg5.read_unread]
  sl_unfold_words
  simp only [View.readAt_eq_ld, harg3.read_unread, harg4.read_unread, harg5.read_unread]
  refine Prod.ext ?_ (Prod.ext ?_ (Prod.ext ?_ (Prod.ext ?_ (Prod.ext ?_ (Prod.ext ?_ (Prod.ext ?_ (Prod.ext ?_ (Prod.ext ?_ (Prod.ext ?_ (Prod.ext ?_ ?_))))))))))
  all_goals rfl

theorem st1_zero (init : Carry) (n : Nat) (hn : n = 0) : st_k0_t1 (F := Ideal) Variants.none c none i arg3 harg3 arg4 harg4 arg5 harg5 arg6 harg6 (harg3.unread x0) (harg4.unread x1) (harg5.unread x2) init n = init := by
  subst hn; rfl

theorem st1_one (init : Carry) (n : Nat) (hn : n = 1) (ht : 0 < (k0_t1_loop i).trips) : st_k0_t1 (F := Ideal) Variants.none c none i arg3 harg3 arg4 harg4 arg5 harg5 arg6 harg6 (harg3.unread x0) (harg4.unread x1) (harg5.unread x2) init n = tripOf x0 x1 x2 0 (by decide) init := by
  subst hn
  have h := st_k0_t1_succ (F := Ideal) Variants.none c none i arg3 harg3 arg4 harg4 arg5 harg5 arg6 harg6 (harg3.unread x0) (harg4.unread x1) (harg5.unread x2) init ⟨0, ht⟩
  exact h.trans (trip_eq c i arg3 harg3 arg4 harg4 arg5 harg5 arg6 harg6 x0 x1 x2 ⟨0, ht⟩ rfl init)

theorem st2_zero (v16 : BitVec 32) (init : Carry) (n : Nat) (hn : n = 0) : st_k0_t2 (F := Ideal) Variants.none c none i arg3 harg3 arg4 harg4 arg5 harg5 arg6 harg6 v16 (harg3.unread x0) (harg4.unread x1) (harg5.unread x2) init n = init := by
  subst hn; rfl

/-- The state every head starts from. -/
def init : Carry := (k0_pay45, k0_pay46, k0_pay47, k0_pay48, k0_pay49, k0_pay50, k0_pay51, k0_pay52, k0_pay53, k0_pay54, k0_pay55, k0_pay56)

/-- The four heads' results from the state before the masked block at an offset. -/
def pieces (s : Carry) (o : Nat) (ho : o + 1024 ≤ 2048) : List (View.Piece (Elt Ideal) S1x1024x512 .bf16) :=
  [⟨Rect.unit ![0, 0, 384] ![1, 1024, 128] inb_S1x1024x512_S1x1024x128_0_0_384, headOut s.2.2.2.2.2.2.2.2.2.1 s.2.2.2.2.2.2.2.2.2.2.1 s.2.2.2.2.2.2.2.2.2.2.2 (kOf x1 3 (by decide) o ho) (vOf x2 3 (by decide) o ho) (qOf x0 3 (by decide))⟩,
   ⟨Rect.unit ![0, 0, 256] ![1, 1024, 128] inb_S1x1024x512_S1x1024x128_0_0_256, headOut s.2.2.2.2.2.2.1 s.2.2.2.2.2.2.2.1 s.2.2.2.2.2.2.2.2.1 (kOf x1 2 (by decide) o ho) (vOf x2 2 (by decide) o ho) (qOf x0 2 (by decide))⟩,
   ⟨Rect.unit ![0, 0, 128] ![1, 1024, 128] inb_S1x1024x512_S1x1024x128_0_0_128, headOut s.2.2.2.1 s.2.2.2.2.1 s.2.2.2.2.2.1 (kOf x1 1 (by decide) o ho) (vOf x2 1 (by decide) o ho) (qOf x0 1 (by decide))⟩,
   ⟨Rect.unit ![0, 0, 0] ![1, 1024, 128] inb_S1x1024x512_S1x1024x128_0_0_0, headOut s.1 s.2.1 s.2.2.1 (kOf x1 0 (by decide) o ho) (vOf x2 0 (by decide) o ho) (qOf x0 0 (by decide))⟩]

theorem trips1 : ∀ n : Fin 2, Scf.trips (0#32) (Scalar.addi (0#32) (Scalar.muli (Scalar.divsi (Scalar.subi (BitVec.ofNat 32 n.val) 0#32) 1#32) 1#32)) 1#32 = n.val := by decide +kernel
theorem trips2 : ∀ n : Fin 2, Scf.trips (Scalar.addi (0#32) (Scalar.muli (Scalar.divsi (Scalar.subi (BitVec.ofNat 32 n.val) 0#32) 1#32) 1#32)) (Scalar.addi (0#32) (Scalar.subi (BitVec.ofNat 32 n.val) 0#32)) 1#32 = 0 := by decide +kernel

/-- The grid point of a batch, a group of heads and a block of queries. -/
def pt (b : Fin 4) (g : Fin 2) (n : Fin 2) : grid0.Coords
  | 0 => b
  | 1 => g
  | 2 => n

theorem pt_eq (i : grid0.Coords) : i = pt (i 0) (i 1) (i 2) := by
  funext a
  match a with
  | 0 => rfl
  | 1 => rfl
  | 2 => rfl

theorem out_zero (b : Fin 4) (g : Fin 2) : out0_A_3 c (pt b g 0) arg3 harg3 arg4 harg4 arg5 harg5 arg6 harg6 x0 x1 x2 = View.canon (pieces x0 x1 x2 init 0 (by decide)) := by
  unfold out0_A_3
  rw [View.read_writes_eq_canon _ _ _ (cover0_A_3 c (pt b g 0) arg3 harg3 arg4 harg4 arg5 harg5 arg6 harg6 x0 x1 x2)]
  unfold kernelRun0_A
  dsimp only
  sl_unfold_words
  have t1 : Scf.trips (0#32) (Scalar.addi (0#32) (Scalar.muli (Scalar.divsi (Scalar.subi (BitVec.ofNat 32 (pt b g 0 2).val) 0#32) 1#32) 1#32)) 1#32 = 0 := trips1 0
  have t2 : Scf.trips (Scalar.addi (0#32) (Scalar.muli (Scalar.divsi (Scalar.subi (BitVec.ofNat 32 (pt b g 0 2).val) 0#32) 1#32) 1#32)) (Scalar.addi (0#32) (Scalar.subi (BitVec.ofNat 32 (pt b g 0 2).val) 0#32)) 1#32 = 0 := trips2 0
  simp only [View.readAt_eq_ld, harg3.read_unread, harg4.read_unread, harg5.read_unread, t1, t2, st_k0_t1_zero, st_k0_t2_zero]
  unfold pieces
  refine list_congr _ _ _ _ ?_ ?_ ?_ ?_
  all_goals rfl

theorem out_one (b : Fin 4) (g : Fin 2) : out0_A_3 c (pt b g 1) arg3 harg3 arg4 harg4 arg5 harg5 arg6 harg6 x0 x1 x2 = View.canon (pieces x0 x1 x2 (tripOf x0 x1 x2 0 (by decide) init) 1024 (by decide)) := by
  unfold out0_A_3
  rw [View.read_writes_eq_canon _ _ _ (cover0_A_3 c (pt b g 1) arg3 harg3 arg4 harg4 arg5 harg5 arg6 harg6 x0 x1 x2)]
  unfold kernelRun0_A
  dsimp only
  sl_unfold_words
  have t1 : Scf.trips (0#32) (Scalar.addi (0#32) (Scalar.muli (Scalar.divsi (Scalar.subi (BitVec.ofNat 32 (pt b g 1 2).val) 0#32) 1#32) 1#32)) 1#32 = 1 := trips1 1
  have t2 : Scf.trips (Scalar.addi (0#32) (Scalar.muli (Scalar.divsi (Scalar.subi (BitVec.ofNat 32 (pt b g 1 2).val) 0#32) 1#32) 1#32)) (Scalar.addi (0#32) (Scalar.subi (BitVec.ofNat 32 (pt b g 1 2).val) 0#32)) 1#32 = 0 := trips2 1
  have ht : 0 < (k0_t1_loop (pt b g 1)).trips := by
    show 0 < Scf.trips _ _ _
    rw [t1]; omega
  have st1 := st1_one c (pt b g 1) arg3 harg3 arg4 harg4 arg5 harg5 arg6 harg6 x0 x1 x2 init 1 rfl ht
  unfold init at st1
  simp only [View.readAt_eq_ld, harg3.read_unread, harg4.read_unread, harg5.read_unread, t1, t2, st1, st_k0_t2_zero]
  unfold pieces
  refine list_congr _ _ _ _ ?_ ?_ ?_ ?_
  all_goals rfl

end Cert.Proof.K3
-- ==== Proof.AttnSpec.lean ====
module

public import proofs.«01_k».proof.Proof.InprojSpec

@[expose] public section

/-! A softmax taken in pieces, over the extended reals.

One query's scores come in two halves `s 0`, `s 1`. The kernel carries a maximum, a sum of exponentials and a weighted sum of the values, and
rescales all three when a later half raises the maximum; the reference takes the maximum and the sums of all scores at once and divides every
exponential before weighing. Here the two are shown equal. A masked score is −∞; at least one score is real and none is +∞. The values may be
anything. -/

namespace Cert.Proof.K3

open Idealize.ShloMosaic

/-- Half a row of scores or values. -/
abbrev Half := Fin 1024 → EReal

/-- The maximum after a half. -/
noncomputable def upM (m : EReal) (s : Half) : EReal := max m (Finset.univ.sup s)

/-- The sum of exponentials after a half. -/
noncomputable def upL (m l : EReal) (s : Half) : EReal :=
  Ideal.exp (m - upM m s) * l + ∑ x, Ideal.exp (s x - upM m s)

/-- The weighted sum after a half. -/
noncomputable def upA (m a : EReal) (s v : Half) : EReal :=
  Ideal.exp (m - upM m s) * a + ∑ x, v x * Ideal.exp (s x - upM m s)

/-- The lower half of a row. -/
def lo (f : Fin 2048 → EReal) : Half := fun x => f ⟨x.val, by omega⟩

/-- The upper half of a row. -/
def hi (f : Fin 2048 → EReal) : Half := fun x => f ⟨1024 + x.val, by omega⟩

/-- The reference's softmax of a row, weighing the values. -/
noncomputable def soft (s v : Fin 2048 → EReal) : EReal :=
  ∑ x, v x * Ideal.div (Ideal.exp (s x - Finset.univ.sup s)) (∑ y, Ideal.exp (s y - Finset.univ.sup s))

theorem exp_nonneg (x : EReal) : 0 ≤ Ideal.exp x := by
  induction x with
  | bot => simp
  | top => simp
  | coe r => rw [Ideal.exp_coe]; exact_mod_cast (Real.exp_pos r).le

/-- The exponential of a score less something no smaller is a real number. -/
theorem exp_ne_top {s m : EReal} (h : s ≤ m) (hm : m ≠ ⊤) : Ideal.exp (s - m) ≠ ⊤ := by
  induction s with
  | bot => simp [sub_eq_add_neg]
  | top => exact absurd (top_le_iff.mp h) hm
  | coe r =>
    induction m with
    | bot => exact absurd h (by simp)
    | top => exact absurd rfl hm
    | coe t => rw [← EReal.coe_sub, Ideal.exp_coe]; exact EReal.coe_ne_top _

/-- Raising the maximum: two factors make one. -/
theorem exp_mul {s m M : EReal} (h : s ≤ m) (hm : m ≤ M) (ht : M ≠ ⊤) :
    Ideal.exp (m - M) * Ideal.exp (s - m) = Ideal.exp (s - M) := by
  induction s with
  | bot => simp [sub_eq_add_neg]
  | top => exact absurd (top_le_iff.mp (h.trans hm)) ht
  | coe r =>
    induction m with
    | bot => exact absurd h (by simp)
    | top => exact absurd (top_le_iff.mp hm) ht
    | coe t =>
      induction M with
      | bot => exact absurd hm (by simp)
      | top => exact absurd rfl ht
      | coe u =>
        rw [← EReal.coe_sub, ← EReal.coe_sub, ← EReal.coe_sub, Ideal.exp_coe, Ideal.exp_coe, Ideal.exp_coe, ← EReal.coe_mul, ← Real.exp_add]
        congr 2; ring

/-- A nonnegative real factor goes into a sum. -/
theorem mul_sum_of_nonneg {ι : Type} {c : EReal} (h0 : 0 ≤ c) (ht : c ≠ ⊤) (t : Finset ι) (f : ι → EReal) :
    c * ∑ x ∈ t, f x = ∑ x ∈ t, c * f x := by
  classical
  induction t using Finset.induction_on with
  | empty => simp
  | insert a t ha ih => rw [Finset.sum_insert ha, Finset.sum_insert ha, EReal.left_distrib_of_nonneg_of_ne_top h0 ht, ih]

/-- A sum over a row is the sum over its halves. -/
theorem sum_halves (f : Fin 2048 → EReal) : ∑ x, f x = ∑ x, lo f x + ∑ x, hi f x :=
  Fin.sum_univ_add (a := 1024) (b := 1024) f

/-- The maximum of a row is the larger of its halves' maxima. -/
theorem sup_halves (s : Fin 2048 → EReal) : Finset.univ.sup s = max (Finset.univ.sup (lo s)) (Finset.univ.sup (hi s)) := by
  apply le_antisymm
  · refine Finset.sup_le fun x _ => ?_
    by_cases h : x.val < 1024
    · exact le_max_of_le_left (Finset.le_sup (f := lo s) (Finset.mem_univ (⟨x.val, h⟩ : Fin 1024)))
    · have e : hi s ⟨x.val - 1024, by omega⟩ = s x := congrArg s (Fin.ext (by simp only; omega))
      exact le_max_of_le_right (e ▸ Finset.le_sup (f := hi s) (Finset.mem_univ (⟨x.val - 1024, by omega⟩ : Fin 1024)))
  · exact max_le (Finset.sup_le fun x _ => Finset.le_sup (f := s) (Finset.mem_univ _))
      (Finset.sup_le fun x _ => Finset.le_sup (f := s) (Finset.mem_univ _))

section Row

variable (s v : Fin 2048 → EReal) (ht : ∀ x, s x ≠ ⊤) (d : Fin 2048) (hd : s d ≠ ⊥)

include ht in
theorem sup_ne_top : Finset.univ.sup s ≠ ⊤ :=
  ((Finset.sup_lt_iff (bot_lt_top)).mpr fun x _ => lt_top_iff_ne_top.mpr (ht x)).ne

theorem le_sup (x : Fin 2048) : s x ≤ Finset.univ.sup s := Finset.le_sup (Finset.mem_univ x)

/-- All at once, with the division last. -/
noncomputable def whole : EReal :=
  Ideal.div (∑ x, v x * Ideal.exp (s x - Finset.univ.sup s)) (∑ y, Ideal.exp (s y - Finset.univ.sup s))

include ht hd in
/-- Dividing first or last is the same. -/
theorem whole_eq_soft : whole s v = soft s v := by
  unfold whole soft
  set M := Finset.univ.sup s with hM
  have hne : M ≠ ⊤ := sup_ne_top s ht
  have hf : ∀ x, Ideal.exp (s x - M) ≠ ⊤ := fun x => exp_ne_top (le_sup s x) hne
  have hp : 0 < Ideal.exp (s d - M) := by
    have h1 := le_sup s d
    have h2 := ht d
    rw [← hM] at h1
    revert h1 h2 hd hne
    generalize s d = y
    generalize M = u
    intro hb h1 h2 h3
    lift y to ℝ using ⟨h3, hb⟩
    induction u with
    | bot => exact absurd h2 (by simp)
    | top => exact absurd rfl h1
    | coe w => rw [← EReal.coe_sub, Ideal.exp_coe]; exact_mod_cast Real.exp_pos _
  have hL : 0 < ∑ y, Ideal.exp (s y - M) :=
    hp.trans_le (Finset.single_le_sum (f := fun y => Ideal.exp (s y - M)) (fun x _ => exp_nonneg _) (Finset.mem_univ d))
  generalize (∑ y, Ideal.exp (s y - M)) = L at hL
  have h0 : 0 ≤ L⁻¹ := EReal.inv_nonneg_of_nonneg hL.le
  have h1 : L⁻¹ ≠ ⊤ := by
    induction L with
    | bot => simp
    | top => simp
    | coe r => rw [← EReal.coe_inv]; exact EReal.coe_ne_top _
  simp only [Ideal.div, if_neg hL.ne']
  rw [mul_comm, mul_sum_of_nonneg h0 h1]
  exact Finset.sum_congr rfl fun x _ => by rw [mul_comm, mul_assoc]

include ht in
/-- Two halves in turn, from nothing. -/
theorem two_halves :
    Ideal.div (upA (upM ⊥ (lo s)) (upA ⊥ 0 (lo s) (lo v)) (hi s) (hi v)) (upL (upM ⊥ (lo s)) (upL ⊥ 0 (lo s)) (hi s)) = whole s v := by
  have hM : upM (upM ⊥ (lo s)) (hi s) = Finset.univ.sup s := by
    rw [sup_halves]; simp [upM]
  have hm : upM ⊥ (lo s) = Finset.univ.sup (lo s) := by simp [upM]
  have hle : Finset.univ.sup (lo s) ≤ Finset.univ.sup s := by rw [sup_halves]; exact le_max_left _ _
  have hne := sup_ne_top s ht
  have hml : ∀ x, lo s x ≤ Finset.univ.sup (lo s) := fun x => Finset.le_sup (Finset.mem_univ x)
  have hc0 : 0 ≤ Ideal.exp (Finset.univ.sup (lo s) - Finset.univ.sup s) := exp_nonneg _
  have hct := exp_ne_top hle hne
  unfold upA upL whole
  rw [hM, hm]
  simp only [mul_zero, zero_add]
  rw [mul_sum_of_nonneg hc0 hct, mul_sum_of_nonneg hc0 hct, sum_halves (fun x => v x * _), sum_halves (fun x => Ideal.exp _)]
  congr 2
  · refine Finset.sum_congr rfl fun x _ => ?_
    rw [mul_left_comm, exp_mul (hml x) hle hne]; rfl
  · refine Finset.sum_congr rfl fun x _ => ?_
    rw [exp_mul (hml x) hle hne]; rfl

/-- The lower half alone, when the upper one is masked. -/
theorem one_half (hh : ∀ x, hi s x = ⊥) :
    Ideal.div (upA ⊥ 0 (lo s) (lo v)) (upL ⊥ 0 (lo s)) = whole s v := by
  have hs : Finset.univ.sup (hi s) = ⊥ := by
    rw [show hi s = fun _ => ⊥ from funext hh]; simp
  have hM : upM ⊥ (lo s) = Finset.univ.sup s := by rw [sup_halves, hs]; simp [upM]
  unfold upA upL whole
  rw [hM]
  simp only [mul_zero, zero_add]
  rw [sum_halves (fun x => v x * _), sum_halves (fun x => Ideal.exp _)]
  have z : ∀ x, Ideal.exp (hi s x - Finset.univ.sup s) = 0 := fun x => by rw [hh]; simp [sub_eq_add_neg]
  have z1 : ∑ x, hi (fun x => v x * Ideal.exp (s x - Finset.univ.sup s)) x = 0 :=
    Finset.sum_eq_zero fun x _ => by
      show v _ * Ideal.exp (hi s x - _) = 0
      rw [z, mul_zero]
  have z2 : ∑ x, hi (fun x => Ideal.exp (s x - Finset.univ.sup s)) x = 0 := Finset.sum_eq_zero fun x _ => z x
  rw [z1, z2, add_zero, add_zero]
  rfl

end Row

/-! ## The constants and the mask, as the programs spell them -/

theorem neg_inf : Ideal.ofBits .f32 0xFF800000#32 = ⊥ := by simp [Ideal.ofBits, Ideal.ieee]

theorem pos_inf : Ideal.ofBits .f32 0x7F800000#32 = ⊤ := by simp [Ideal.ofBits, Ideal.ieee]

/-- The scale of the scores is a nonnegative real. -/
theorem scale_real : ∃ r : ℝ, 0 ≤ r ∧ Ideal.ofBits .f32 0x3D93CD3A#32 = (r : EReal) := by
  refine ⟨_, ?_, by simp [Ideal.ofBits, Ideal.ieee, -EReal.coe_mul]; rfl⟩
  positivity

/-- A choice by the order of two small counters is a choice by the order of the numbers. -/
theorem select_le {α : Type} (r j : ℕ) (hr : r < 2048) (hj : j < 2048) (a b : α) :
    Scalar.select (IntOp.cmpi .sle (BitVec.ofNat 32 r) (BitVec.ofNat 32 j)) a b = if r ≤ j then a else b := by
  have e : ∀ n : ℕ, n < 2048 → (BitVec.ofNat 32 n).toInt = n := fun n hn => by
    rw [BitVec.toInt_eq_toNat_of_lt (by rw [BitVec.toNat_ofNat]; omega), BitVec.toNat_ofNat, Nat.mod_eq_of_lt (by omega)]
  unfold Scalar.select IntOp.cmpi
  simp only [BitVec.sle_eq_decide, e r hr, e j hj]
  by_cases h : r ≤ j <;> simp [h]

end Cert.Proof.K3
-- ==== Proof.AttnPay.lean ====
module

public import proofs.«01_k».proof.Proof.AttnRun
public import proofs.«01_k».proof.Proof.AttnSpec

@[expose] public section

set_option maxRecDepth 16384

noncomputable section

namespace Cert.Proof.K3

open Cert.Kernel3Ideal Cert.Kernel3Ideal.Gen
open Idealize.ShloMosaic Idealize.ShloMosaic.TcCoe Idealize.ShloMosaic.Tactic

/-! # One head's state and result, at an index -/

section Head

variable (m l : FVec Ideal S1x1024 .f32) (a : FVec Ideal S128x1024 .f32) (k q : Vec Ideal S1x1x1024x192 .bf16) (v : Vec Ideal S1x1x128x1024 .bf16)

/-- A query's scores of a block of keys. -/
def raw (j : Fin 1024) : Half := fun r => ∑ x : Fin 192, k (ix4 (n0 := 1) (n1 := 1) (n2 := 1024) (n3 := 192) 0 0 r x) * q (ix4 (n0 := 1) (n1 := 1) (n2 := 1024) (n3 := 192) 0 0 j x)

/-- The same with later keys masked. -/
def cau (j : Fin 1024) : Half := fun r => if r.val ≤ j.val then raw k q j r else ⊥

/-- One feature of a block of values. -/
def val (d : Fin 128) : Half := fun r => v (ix4 (n0 := 1) (n1 := 1) (n2 := 128) (n3 := 1024) 0 0 d r)

theorem pay5_at (r j : Fin 1024) : k0_pay5 k q (ix2 (n0 := 1024) (n1 := 1024) r j) = raw k q j r := by
  unfold k0_pay5
  pointwise
  rfl

theorem pay97_at (r j : Fin 1024) : k0_pay97 k q (ix2 (n0 := 1024) (n1 := 1024) r j) = cau k q j r := by
  unfold k0_pay97
  pointwise
  rw [select_le r.val j.val (by omega) (by omega)]
  rfl

theorem pay6_at (j : Fin 1024) : k0_pay6 m k q (ix2 (n0 := 1) (n1 := 1024) 0 j) = upM (m (ix2 (n0 := 1) (n1 := 1024) 0 j)) (raw k q j) := by
  have h : (fun x : Fin 1024 => k0_pay5 k q (ix2 (n0 := 1024) (n1 := 1024) x j)) = raw k q j := funext fun x => pay5_at k q x j
  rw [← h]
  unfold k0_pay6
  generalize k0_pay5 k q = S
  pointwise
  rw [neg_inf]
  rfl

theorem pay98_at (j : Fin 1024) : k0_pay98 m k q (ix2 (n0 := 1) (n1 := 1024) 0 j) = upM (m (ix2 (n0 := 1) (n1 := 1024) 0 j)) (cau k q j) := by
  have h : (fun x : Fin 1024 => k0_pay97 k q (ix2 (n0 := 1024) (n1 := 1024) x j)) = cau k q j := funext fun x => pay97_at k q x j
  rw [← h]
  unfold k0_pay98
  generalize k0_pay97 k q = S
  pointwise
  rw [neg_inf]
  rfl

theorem stepM_at (j : Fin 1024) : stepM m k q (ix2 (n0 := 1) (n1 := 1024) 0 j) = upM (m (ix2 (n0 := 1) (n1 := 1024) 0 j)) (raw k q j) := pay6_at m k q j

theorem stepL_at (j : Fin 1024) : stepL m l k q (ix2 (n0 := 1) (n1 := 1024) 0 j) = upL (m (ix2 (n0 := 1) (n1 := 1024) 0 j)) (l (ix2 (n0 := 1) (n1 := 1024) 0 j)) (raw k q j) := by
  have h : (fun x : Fin 1024 => k0_pay5 k q (ix2 (n0 := 1024) (n1 := 1024) x j)) = raw k q j := funext fun x => pay5_at k q x j
  unfold upL
  rw [← pay6_at m k q j, ← h]
  unfold stepL k0_pay9 k0_pay7 k0_pay8
  generalize k0_pay5 k q = S
  generalize k0_pay6 m k q = M
  pointwise

theorem stepA_at (d : Fin 128) (j : Fin 1024) : stepA m a k v q (ix2 (n0 := 128) (n1 := 1024) d j) = upA (m (ix2 (n0 := 1) (n1 := 1024) 0 j)) (a (ix2 (n0 := 128) (n1 := 1024) d j)) (raw k q j) (val v d) := by
  have h : (fun x : Fin 1024 => k0_pay5 k q (ix2 (n0 := 1024) (n1 := 1024) x j)) = raw k q j := funext fun x => pay5_at k q x j
  unfold upA
  rw [← pay6_at m k q j, ← h]
  unfold stepA k0_pay10 k0_pay7 k0_pay8
  generalize k0_pay5 k q = S
  generalize k0_pay6 m k q = M
  pointwise
  rfl

theorem pay101_at (j : Fin 1024) : k0_pay101 m l k q (ix2 (n0 := 1) (n1 := 1024) 0 j) = upL (m (ix2 (n0 := 1) (n1 := 1024) 0 j)) (l (ix2 (n0 := 1) (n1 := 1024) 0 j)) (cau k q j) := by
  have h : (fun x : Fin 1024 => k0_pay97 k q (ix2 (n0 := 1024) (n1 := 1024) x j)) = cau k q j := funext fun x => pay97_at k q x j
  unfold upL
  rw [← pay98_at m k q j, ← h]
  unfold k0_pay101 k0_pay99 k0_pay100
  generalize k0_pay97 k q = S
  generalize k0_pay98 m k q = M
  pointwise

theorem pay102_at (d : Fin 128) (j : Fin 1024) : k0_pay102 m a k v q (ix2 (n0 := 128) (n1 := 1024) d j) = upA (m (ix2 (n0 := 1) (n1 := 1024) 0 j)) (a (ix2 (n0 := 128) (n1 := 1024) d j)) (cau k q j) (val v d) := by
  have h : (fun x : Fin 1024 => k0_pay97 k q (ix2 (n0 := 1024) (n1 := 1024) x j)) = cau k q j := funext fun x => pay97_at k q x j
  unfold upA
  rw [← pay98_at m k q j, ← h]
  unfold k0_pay102 k0_pay99 k0_pay100
  generalize k0_pay97 k q = S
  generalize k0_pay98 m k q = M
  pointwise
  rfl

theorem pay4_at (j : Fin 1024) (d : Fin 128) : k0_pay4 l a (ix3 (n0 := 1) (n1 := 1024) (n2 := 128) 0 j d) = Ideal.div (a (ix2 (n0 := 128) (n1 := 1024) d j)) (l (ix2 (n0 := 1) (n1 := 1024) 0 j)) := by
  unfold k0_pay4
  pointwise

theorem headOut_at (j : Fin 1024) (d : Fin 128) : headOut m l a k v q (ix3 (n0 := 1) (n1 := 1024) (n2 := 128) 0 j d) =
    Ideal.div (upA (m (ix2 (n0 := 1) (n1 := 1024) 0 j)) (a (ix2 (n0 := 128) (n1 := 1024) d j)) (cau k q j) (val v d)) (upL (m (ix2 (n0 := 1) (n1 := 1024) 0 j)) (l (ix2 (n0 := 1) (n1 := 1024) 0 j)) (cau k q j)) := by
  unfold headOut
  rw [pay4_at, pay101_at, pay102_at]

end Head

end Cert.Proof.K3

end
-- ==== Proof.AttnBlk.lean ====
module

public import proofs.«01_k».proof.Proof.AttnPay

@[expose] public section

set_option maxRecDepth 16384

noncomputable section

namespace Cert.Proof.K3

open Cert.Kernel3Ideal Cert.Kernel3Ideal.Gen
open Idealize.ShloMosaic Idealize.ShloMosaic.TcCoe Idealize.ShloMosaic.Tactic

/-! # What one grid point stores, at an index -/

/-- Four heads' results side by side, read at a head's column. -/
theorem four_canon (G : Fin 4 → S1x1024x128.Idx → Elt Ideal .bf16) (h : Fin 4) (j : Fin 1024) (d : Fin 128) :
    View.canon ([⟨Rect.unit ![0, 0, 384] ![1, 1024, 128] inb_S1x1024x512_S1x1024x128_0_0_384, G 3⟩, ⟨Rect.unit ![0, 0, 256] ![1, 1024, 128] inb_S1x1024x512_S1x1024x128_0_0_256, G 2⟩,
      ⟨Rect.unit ![0, 0, 128] ![1, 1024, 128] inb_S1x1024x512_S1x1024x128_0_0_128, G 1⟩, ⟨Rect.unit ![0, 0, 0] ![1, 1024, 128] inb_S1x1024x512_S1x1024x128_0_0_0, G 0⟩] : List (View.Piece (Elt Ideal) S1x1024x512 .bf16))
      (ix3 (n0 := 1) (n1 := 1024) (n2 := 512) 0 j ⟨h.val * 128 + d.val, by omega⟩) = G h (ix3 (n0 := 1) (n1 := 1024) (n2 := 128) 0 j d) := by
  have key : ∀ (p : Fin 4) (o : Nat), o = p.val * 128 → View.TileAt (S := S1x1024x512) (ix3 (n0 := 1) (n1 := 1024) (n2 := 512) 0 j ⟨h.val * 128 + d.val, by omega⟩) ![0, 0, o] ![1, 1024, 128] (G p) (G h (ix3 (n0 := 1) (n1 := 1024) (n2 := 128) 0 j d)) := by
    intro p o ho x hx
    have e1 : j.val = 0 + (x 1).val := hx 1
    have e2 : h.val * 128 + d.val = o + (x 2).val := hx 2
    have l2 : (x 2).val < 128 := (x 2).isLt
    have l0 : (x 0).val < 1 := (x 0).isLt
    obtain rfl : p = h := Fin.ext (by omega)
    congr 1
    funext a
    match a with
    | ⟨0, _⟩ => exact Fin.ext (by show (x 0).val = 0; omega)
    | ⟨1, _⟩ => exact Fin.ext (by show (x 1).val = j.val; omega)
    | ⟨2, _⟩ => exact Fin.ext (by show (x 2).val = d.val; omega)
  refine View.canon_eq_of_allAt _ _ _ ?_ ?_
  · refine View.cover_of_tiledL (s := S1x1024x512) _ (![1, 1024, 128] : Fin 3 → ℕ) ?_ _
    sl_kernel_rfl
  refine View.allAt_cons_unit _ _ _ _ _ (key 3 384 rfl) ?_
  refine View.allAt_cons_unit _ _ _ _ _ (key 2 256 rfl) ?_
  refine View.allAt_cons_unit _ _ _ _ _ (key 1 128 rfl) ?_
  refine View.allAt_cons_unit _ _ _ _ _ (key 0 0 rfl) ?_
  exact View.allAt_nil _ _

section Blk

variable (x0 : Vec Ideal S1x4x1024x192 .bf16) (x1 : Vec Ideal S1x4x2048x192 .bf16) (x2 : Vec Ideal S1x4x128x2048 .bf16)

theorem qOf_at (h : Nat) (hh : h < 4) (r : Fin 1024) (x : Fin 192) : qOf x0 h hh (ix4 (n0 := 1) (n1 := 1) (n2 := 1024) (n3 := 192) 0 0 r x) = x0 (ix4 (n0 := 1) (n1 := 4) (n2 := 1024) (n3 := 192) 0 ⟨h, hh⟩ r x) := by
  unfold qOf
  pointwise

theorem kOf_at (h : Nat) (hh : h < 4) (o : Nat) (ho : o + 1024 ≤ 2048) (r : Fin 1024) (x : Fin 192) : kOf x1 h hh o ho (ix4 (n0 := 1) (n1 := 1) (n2 := 1024) (n3 := 192) 0 0 r x) = x1 (ix4 (n0 := 1) (n1 := 4) (n2 := 2048) (n3 := 192) 0 ⟨h, hh⟩ ⟨o + r.val, by omega⟩ x) := by
  unfold kOf
  pointwise

theorem vOf_at (h : Nat) (hh : h < 4) (o : Nat) (ho : o + 1024 ≤ 2048) (d : Fin 128) (r : Fin 1024) : vOf x2 h hh o ho (ix4 (n0 := 1) (n1 := 1) (n2 := 128) (n3 := 1024) 0 0 d r) = x2 (ix4 (n0 := 1) (n1 := 4) (n2 := 128) (n3 := 2048) 0 ⟨h, hh⟩ d ⟨o + r.val, by omega⟩) := by
  unfold vOf
  pointwise

/-- A query's score of a key. -/
def bScore (h : Fin 4) (j : Fin 1024) (y : Fin 2048) : EReal :=
  ∑ x : Fin 192, x1 (ix4 (n0 := 1) (n1 := 4) (n2 := 2048) (n3 := 192) 0 h y x) * x0 (ix4 (n0 := 1) (n1 := 4) (n2 := 1024) (n3 := 192) 0 h j x)

/-- A query's row of scores, later keys masked; the block's queries start at `n` halves. -/
def bRow (n : Nat) (h : Fin 4) (j : Fin 1024) : Fin 2048 → EReal := fun y => if y.val ≤ n * 1024 + j.val then bScore x0 x1 h j y else ⊥

/-- One feature of the values. -/
def bVal (h : Fin 4) (d : Fin 128) : Fin 2048 → EReal := fun y => x2 (ix4 (n0 := 1) (n1 := 4) (n2 := 128) (n3 := 2048) 0 h d y)

theorem raw_at (h : Fin 4) (o : Nat) (ho : o + 1024 ≤ 2048) (j r : Fin 1024) : raw (kOf x1 h.val h.isLt o ho) (qOf x0 h.val h.isLt) j r = bScore x0 x1 h j ⟨o + r.val, by omega⟩ := by
  unfold raw bScore
  exact Finset.sum_congr rfl fun x _ => by rw [kOf_at, qOf_at]

theorem raw_lo (h : Fin 4) (ho : 0 + 1024 ≤ 2048) (j : Fin 1024) : raw (kOf x1 h.val h.isLt 0 ho) (qOf x0 h.val h.isLt) j = lo (bRow x0 x1 1 h j) := by
  funext r
  rw [raw_at]
  unfold lo bRow
  rw [if_pos (by show r.val ≤ _; omega)]
  exact congrArg _ (Fin.ext (by show 0 + r.val = r.val; omega))

theorem cau_lo (h : Fin 4) (ho : 0 + 1024 ≤ 2048) (j : Fin 1024) : cau (kOf x1 h.val h.isLt 0 ho) (qOf x0 h.val h.isLt) j = lo (bRow x0 x1 0 h j) := by
  funext r
  unfold cau lo bRow
  rw [raw_at]
  have e : (⟨0 + r.val, by omega⟩ : Fin 2048) = ⟨r.val, by omega⟩ := Fin.ext (by show 0 + r.val = r.val; omega)
  rw [e]
  exact if_congr (by show r.val ≤ j.val ↔ r.val ≤ 0 * 1024 + j.val; omega) rfl rfl

theorem cau_hi (h : Fin 4) (ho : 1024 + 1024 ≤ 2048) (j : Fin 1024) : cau (kOf x1 h.val h.isLt 1024 ho) (qOf x0 h.val h.isLt) j = hi (bRow x0 x1 1 h j) := by
  funext r
  unfold cau hi bRow
  rw [raw_at]
  exact if_congr (by show r.val ≤ j.val ↔ 1024 + r.val ≤ 1 * 1024 + j.val; omega) rfl rfl

theorem hi_zero (h : Fin 4) (j r : Fin 1024) : hi (bRow x0 x1 0 h j) r = ⊥ := by
  unfold hi bRow
  rw [if_neg (by show ¬ (1024 + r.val ≤ 0 * 1024 + j.val); omega)]

theorem val_lo (h : Fin 4) (ho : 0 + 1024 ≤ 2048) (d : Fin 128) : val (vOf x2 h.val h.isLt 0 ho) d = lo (bVal x2 h d) := by
  funext r
  unfold val lo bVal
  rw [vOf_at]
  congr 2
  exact Fin.ext (by show 0 + r.val = r.val; omega)

theorem val_hi (h : Fin 4) (ho : 1024 + 1024 ≤ 2048) (d : Fin 128) : val (vOf x2 h.val h.isLt 1024 ho) d = hi (bVal x2 h d) := by
  funext r
  unfold val hi bVal
  rw [vOf_at]

variable (m l : FVec Ideal S1x1024 .f32) (a : FVec Ideal S128x1024 .f32) (hm : ∀ j, m (ix2 (n0 := 1) (n1 := 1024) 0 j) = ⊥) (hl : ∀ j, l (ix2 (n0 := 1) (n1 := 1024) 0 j) = 0)
    (ha : ∀ d j, a (ix2 (n0 := 128) (n1 := 1024) d j) = 0)

include hm hl ha

/-- A head's result from the masked block alone: the queries of the first half. -/
theorem head_zero (h : Fin 4) (ho : 0 + 1024 ≤ 2048) (j : Fin 1024) (d : Fin 128) :
    headOut m l a (kOf x1 h.val h.isLt 0 ho) (vOf x2 h.val h.isLt 0 ho) (qOf x0 h.val h.isLt) (ix3 (n0 := 1) (n1 := 1024) (n2 := 128) 0 j d) = whole (bRow x0 x1 0 h j) (bVal x2 h d) := by
  rw [headOut_at, hm, hl, ha, cau_lo, val_lo]
  exact one_half _ _ (hi_zero x0 x1 h j)

/-- A head's result from a whole block and a masked one: the queries of the second half. -/
theorem head_one (h : Fin 4) (ho : 0 + 1024 ≤ 2048) (ho' : 1024 + 1024 ≤ 2048) (j : Fin 1024) (d : Fin 128) (ht : ∀ y, bRow x0 x1 1 h j y ≠ ⊤) :
    headOut (stepM m (kOf x1 h.val h.isLt 0 ho) (qOf x0 h.val h.isLt)) (stepL m l (kOf x1 h.val h.isLt 0 ho) (qOf x0 h.val h.isLt)) (stepA m a (kOf x1 h.val h.isLt 0 ho) (vOf x2 h.val h.isLt 0 ho) (qOf x0 h.val h.isLt))
      (kOf x1 h.val h.isLt 1024 ho') (vOf x2 h.val h.isLt 1024 ho') (qOf x0 h.val h.isLt) (ix3 (n0 := 1) (n1 := 1024) (n2 := 128) 0 j d) = whole (bRow x0 x1 1 h j) (bVal x2 h d) := by
  rw [headOut_at, stepM_at, stepL_at, stepA_at, hm, hl, ha, cau_hi, val_hi, raw_lo, val_lo]
  exact two_halves _ _ ht

end Blk

/-! ## The state the heads start from -/

theorem start_M (κv : FVec Ideal S1x1024 .f32) (h : κv = k0_pay45) (j : Fin 1024) : κv (ix2 (n0 := 1) (n1 := 1024) 0 j) = ⊥ := by
  subst h
  unfold k0_pay45
  pointwise
  rfl

theorem start_L (v : FVec Ideal S1x1024 .f32) (h : v = k0_pay46) (j : Fin 1024) : v (ix2 (n0 := 1) (n1 := 1024) 0 j) = 0 := by
  subst h
  unfold k0_pay46
  pointwise

theorem start_A (v : FVec Ideal S128x1024 .f32) (h : v = k0_pay47) (d : Fin 128) (j : Fin 1024) : v (ix2 (n0 := 128) (n1 := 1024) d j) = 0 := by
  subst h
  unfold k0_pay47
  pointwise

section Pieces

variable (x0 : Vec Ideal S1x4x1024x192 .bf16) (x1 : Vec Ideal S1x4x2048x192 .bf16) (x2 : Vec Ideal S1x4x128x2048 .bf16)

/-- What the points of the first half store. -/
theorem pieces_zero (h : Fin 4) (j : Fin 1024) (d : Fin 128) :
    View.canon (pieces x0 x1 x2 init 0 (by decide)) (ix3 (n0 := 1) (n1 := 1024) (n2 := 512) 0 j ⟨h.val * 128 + d.val, by omega⟩) = whole (bRow x0 x1 0 h j) (bVal x2 h d) := by
  refine (four_canon (fun h => headOut k0_pay45 k0_pay46 k0_pay47 (kOf x1 h.val h.isLt 0 (by decide)) (vOf x2 h.val h.isLt 0 (by decide)) (qOf x0 h.val h.isLt)) h j d).trans ?_
  exact head_zero x0 x1 x2 _ _ _ (start_M _ rfl) (start_L _ rfl) (start_A _ rfl) h _ j d

/-- What the points of the second half store. -/
theorem pieces_one (h : Fin 4) (j : Fin 1024) (d : Fin 128) (ht : ∀ y, bRow x0 x1 1 h j y ≠ ⊤) :
    View.canon (pieces x0 x1 x2 (tripOf x0 x1 x2 0 (by decide) init) 1024 (by decide)) (ix3 (n0 := 1) (n1 := 1024) (n2 := 512) 0 j ⟨h.val * 128 + d.val, by omega⟩) = whole (bRow x0 x1 1 h j) (bVal x2 h d) := by
  refine (four_canon (fun h => headOut (stepM k0_pay45 (kOf x1 h.val h.isLt 0 (by decide)) (qOf x0 h.val h.isLt)) (stepL k0_pay45 k0_pay46 (kOf x1 h.val h.isLt 0 (by decide)) (qOf x0 h.val h.isLt)) (stepA k0_pay45 k0_pay47 (kOf x1 h.val h.isLt 0 (by decide)) (vOf x2 h.val h.isLt 0 (by decide)) (qOf x0 h.val h.isLt))
      (kOf x1 h.val h.isLt 1024 (by decide)) (vOf x2 h.val h.isLt 1024 (by decide)) (qOf x0 h.val h.isLt)) h j d).trans ?_
  exact head_one x0 x1 x2 _ _ _ (start_M _ rfl) (start_L _ rfl) (start_A _ rfl) h _ _ j d ht

end Pieces

end Cert.Proof.K3

end
-- ==== Proof.AttnArr.lean ====
module

public import proofs.«01_k».proof.Proof.AttnBlk

@[expose] public section

set_option maxRecDepth 16384

noncomputable section

namespace Cert.Proof.K3

open Cert.Kernel3Ideal Cert.Kernel3Ideal.Gen
open Idealize.ShloMosaic Idealize.ShloMosaic.TcCoe Idealize.SL.Sem
open Idealize.ShloMosaic.Pipeline (Dat)

/-! # The attention's result array -/

variable (m : (ℓ : Loc nD τ sig) → Buf (Elt Ideal) ℓ) (c : Dev nD)

/-- Every window's block index, at every point. -/
theorem idx : ∀ t : Fin cfg0.N, win0_0.index t = ![t.val / 4, t.val / 2 % 2, t.val % 2, 0] ∧ win0_1.index t = ![t.val / 4, t.val / 2 % 2, 0, 0]
    ∧ win0_2.index t = ![t.val / 4, t.val / 2 % 2, 0, 0] ∧ win0_3.index t = ![t.val / 4, t.val % 2, t.val / 2 % 2] :=
  (by decide +kernel : ∀ t : Fin grid0.N, _)

theorem crd : ∀ t : Fin grid0.N, (grid0.coords t 0).val = t.val / 4 ∧ (grid0.coords t 1).val = t.val / 2 % 2 ∧ (grid0.coords t 2).val = t.val % 2 := by decide +kernel

theorem N_lt (t : Fin cfg0.N) : t.val < 16 := t.isLt

/-- A point's batch, and the head and the position of a block's head and query there. -/
def bat (t : Fin cfg0.N) : Fin 4 := ⟨t.val / 4, by have := N_lt t; omega⟩
def hd (t : Fin cfg0.N) (h : Fin 4) : Fin 8 := ⟨t.val / 2 % 2 * 4 + h.val, by omega⟩
def pos (t : Fin cfg0.N) (j : Fin 1024) : Fin 2048 := ⟨t.val % 2 * 1024 + j.val, by omega⟩

/-- A feature of a query, and of a key. -/
def aQ (b : Fin 4) (i : Fin 2048) (h : Fin 8) (x : Fin 192) : EReal := m ((c : Thread nD τ).loc main_arg0) (ix4 (n0 := 4) (n1 := 2048) (n2 := 8) (n3 := 192) b i h x)
def aK (b : Fin 4) (y : Fin 2048) (h : Fin 8) (x : Fin 192) : EReal := m ((c : Thread nD τ).loc main_arg1) (ix4 (n0 := 4) (n1 := 2048) (n2 := 8) (n3 := 192) b y h x)

theorem iblk0_at (t : Fin cfg0.N) (h : Fin 4) (r : Fin 1024) (x : Fin 192) :
    iblk m c 0 t (ix4 (n0 := 1) (n1 := 4) (n2 := 1024) (n3 := 192) 0 h r x) = aQ m c (bat t) (pos t r) (hd t h) x * Ideal.ofBits .f32 0x3D93CD3A#32 := by
  have := N_lt t
  unfold aQ
  blk_simp [iblk, idx t]
  entry_read
  try pointwise
  refine congrArg (fun z : EReal => z * Ideal.ofBits .f32 0x3D93CD3A#32) ?_
  blk_ext [idx t, bat, pos, hd]

theorem iblk1_at (t : Fin cfg0.N) (h : Fin 4) (y : Fin 2048) (x : Fin 192) :
    iblk m c 1 t (ix4 (n0 := 1) (n1 := 4) (n2 := 2048) (n3 := 192) 0 h y x) = aK m c (bat t) y (hd t h) x := by
  have := N_lt t
  unfold aK
  blk_ext! [iblk, V, idx t, bat, hd]

theorem iblk2_at (t : Fin cfg0.N) (h : Fin 4) (d : Fin 128) (y : Fin 2048) :
    iblk m c 2 t (ix4 (n0 := 1) (n1 := 4) (n2 := 128) (n3 := 2048) 0 h d y) = m ((c : Thread nD τ).loc main_arg2) (ix4 (n0 := 4) (n1 := 2048) (n2 := 8) (n3 := 128) (bat t) y (hd t h) d) := by
  have := N_lt t
  blk_ext! [iblk, V, idx t, bat, hd]

/-! ## The scores of the arguments -/

/-- A query's score of a key, before the scale. -/
def dotQK (b : Fin 4) (h : Fin 8) (i y : Fin 2048) : EReal :=
  ∑ x : Fin 192, aQ m c b i h x * aK m c b y h x

/-- A query's row of masked scores. -/
def aRow (b : Fin 4) (h : Fin 8) (i : Fin 2048) : Fin 2048 → EReal := fun y =>
  if y.val ≤ i.val then dotQK m c b h i y * Ideal.ofBits .f32 0x3D93CD3A#32 else ⊥

/-- One feature of a head's values. -/
def aVal (b : Fin 4) (h : Fin 8) (d : Fin 128) : Fin 2048 → EReal := fun y => m ((c : Thread nD τ).loc main_arg2) (ix4 (n0 := 4) (n1 := 2048) (n2 := 8) (n3 := 128) b y h d)

/-- Scaling the query scales the score. -/
theorem score_scale (q k : Fin 192 → EReal) : ∑ x, k x * (q x * Ideal.ofBits .f32 0x3D93CD3A#32) = (∑ x, q x * k x) * Ideal.ofBits .f32 0x3D93CD3A#32 := by
  obtain ⟨r, h0, e⟩ := scale_real
  rw [e, mul_comm (∑ x, q x * k x), mul_sum_of_nonneg (by exact_mod_cast h0) (EReal.coe_ne_top r)]
  exact Finset.sum_congr rfl fun x _ => by rw [mul_comm (k x), mul_comm (q x), mul_assoc]

theorem bRow_blk (t : Fin cfg0.N) (h : Fin 4) (j : Fin 1024) : bRow (iblk m c 0 t) (iblk m c 1 t) (t.val % 2) h j = aRow m c (bat t) (hd t h) (pos t j) := by
  funext y
  unfold bRow aRow
  refine if_congr Iff.rfl ?_ rfl
  unfold bScore dotQK
  rw [← score_scale]
  exact Finset.sum_congr rfl fun x _ => by rw [iblk0_at, iblk1_at]

theorem bVal_blk (t : Fin cfg0.N) (h : Fin 4) (d : Fin 128) : bVal (iblk m c 2 t) h d = aVal m c (bat t) (hd t h) d := by
  funext y
  exact iblk2_at m c t h d y

/-- The result at an index. -/
def res (b : Fin 4) (i : Fin 2048) (col : Fin 1024) : EReal :=
  whole (aRow m c b ⟨col.val / 128, by omega⟩ i) (aVal m c b ⟨col.val / 128, by omega⟩ ⟨col.val % 128, by omega⟩)

/-- What a point stores, of scores none of which is +∞. -/
theorem out_at (ht : ∀ b h i y, aRow m c b h i y ≠ ⊤) (t : Fin cfg0.N) (h : Fin 4) (j : Fin 1024) (d : Fin 128) :
    outsAt0 m c t (ix3 (n0 := 1) (n1 := 1024) (n2 := 512) 0 j ⟨h.val * 128 + d.val, by omega⟩) = whole (aRow m c (bat t) (hd t h) (pos t j)) (aVal m c (bat t) (hd t h) d) := by
  have hc := crd t
  have ht' := fun y => ht (bat t) (hd t h) (pos t j) y
  rw [← bRow_blk m c t h j] at ht' ⊢
  rw [← bVal_blk m c t h d]
  unfold outsAt0
  have e : ∃ (b : Fin 4) (g n : Fin 2), grid0.coords t = pt b g n ∧ n.val = t.val % 2 :=
    ⟨grid0.coords t 0, grid0.coords t 1, grid0.coords t 2, pt_eq (grid0.coords t), hc.2.2⟩
  obtain ⟨b, g, n, e, hn⟩ := e
  rw [e]
  rcases (by omega : t.val % 2 = 0 ∨ t.val % 2 = 1) with h2 | h2
  · rw [h2] at hn ⊢
    obtain rfl : n = 0 := Fin.ext hn
    rw [out_zero]
    exact pieces_zero _ _ _ h j d
  · rw [h2] at ht' hn ⊢
    obtain rfl : n = 1 := Fin.ext hn
    rw [out_one]
    exact pieces_one _ _ _ h j d ht'

theorem arr3 (ht : ∀ b h i y, aRow m c b h i y ≠ ⊤) : (dats m 0 c).arrAt 3 cfg0.N = (fun i => res m c (i 0) (i 1) (i 2) : S4x2048x1024.Idx → EReal) := by
  refine (dats m 0 c).arrAt_eq_of_covers 3 _ (by decide +kernel) fun t hf y => ?_
  obtain ⟨j, h, d, rfl⟩ : ∃ (j : Fin 1024) (h : Fin 4) (d : Fin 128), y = ix3 (n0 := 1) (n1 := 1024) (n2 := 512) 0 j ⟨h.val * 128 + d.val, by omega⟩ := by
    have l2 : (y 2).val < 512 := (y 2).isLt
    have l0 : (y 0).val < 1 := (y 0).isLt
    refine ⟨y 1, ⟨(y 2).val / 128, by omega⟩, ⟨(y 2).val % 128, by omega⟩, ?_⟩
    funext a
    match a with
    | ⟨0, _⟩ => exact Fin.ext (by show (y 0).val = 0; omega)
    | ⟨1, _⟩ => rfl
    | ⟨2, _⟩ => exact Fin.ext (by show (y 2).val = (y 2).val / 128 * 128 + (y 2).val % 128; omega)
  have := N_lt t
  have hy : ((cfg0.win 3).blk t).view.emb (ix3 (n0 := 1) (n1 := 1024) (n2 := 512) 0 j ⟨h.val * 128 + d.val, by omega⟩) = ix3 (n0 := 4) (n1 := 2048) (n2 := 1024) (bat t) (pos t j) ⟨t.val / 2 % 2 * 512 + (h.val * 128 + d.val), by omega⟩ := by
    blk_ext [bat, pos, idx t]
  rw [hy]
  blk_simp
  rw [after0_3]
  refine (out_at m c ht t h j d).trans ?_
  show _ = res m c (bat t) (pos t j) ⟨t.val / 2 % 2 * 512 + (h.val * 128 + d.val), by omega⟩
  unfold res
  have e1 : (⟨(t.val / 2 % 2 * 512 + (h.val * 128 + d.val)) / 128, by omega⟩ : Fin 8) = hd t h := Fin.ext (by show (t.val / 2 % 2 * 512 + (h.val * 128 + d.val)) / 128 = t.val / 2 % 2 * 4 + h.val; omega)
  have e2 : (⟨(t.val / 2 % 2 * 512 + (h.val * 128 + d.val)) % 128, by omega⟩ : Fin 128) = d := Fin.ext (by show (t.val / 2 % 2 * 512 + (h.val * 128 + d.val)) % 128 = d.val; omega)
  show _ = whole (aRow m c (bat t) (⟨(t.val / 2 % 2 * 512 + (h.val * 128 + d.val)) / 128, by omega⟩ : Fin 8) (pos t j)) (aVal m c (bat t) (⟨(t.val / 2 % 2 * 512 + (h.val * 128 + d.val)) / 128, by omega⟩ : Fin 8) (⟨(t.val / 2 % 2 * 512 + (h.val * 128 + d.val)) % 128, by omega⟩ : Fin 128))
  rw [e1, e2]

end Cert.Proof.K3

end
-- ==== Proof.AttnRef.lean ====
module

public import proofs.«01_k».proof.Proof.Gen.Reference3Ideal.Run
public import proofs.«01_k».proof.Proof.AttnSpec

@[expose] public section

noncomputable section

namespace Cert.Proof.R3

open Cert.Reference3Ideal Cert.Reference3Ideal.Gen
open Idealize.ShloMosaic Idealize.ShloMosaic.TcCoe
open Cert.Proof.K3

/-! # The attention's reference at an index -/

/-- The masked scores. -/
def rS (Q K : S4x2048x8x192.Idx → Ideal .f32) : S4x8x2048x2048.Idx → Ideal .f32 :=
  select (broadcastInDim S4x8x2048x2048 ![2, 3] bcast_S2048x2048_S4x8x2048x2048_2_3 (cmpi .sle (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))) (mulf (F := Ideal) (φ := .f32) (Host.dotGeneral (F := Ideal) (φ₁ := .f32) (φ₂ := .f32) dot_S4x2048x8x192_S4x2048x8x192_S4x8x2048x2048_3_3_1_1_02_02 none Q K) (broadcastInDim S4x8x2048x2048 ![] bcast_S_S4x8x2048x2048 (constant (F := Ideal) S_ .f32 0x3D93CD3A#32))) (broadcastInDim S4x8x2048x2048 ![] bcast_S_S4x8x2048x2048 (id (constant (F := Ideal) S_ .f32 0xFF800000#32)))

/-- The maxima of the scores. -/
def rM (s : S4x8x2048x2048.Idx → Ideal .f32) : S4x8x2048.Idx → Ideal .f32 :=
  Host.reduce (FloatOps.maximumf (F := Ideal) (φ := .f32)) s (constant (F := Ideal) S_ .f32 0xFF800000#32) reducesTo_S4x8x2048x2048_S4x8x2048_d3 h_S_

/-- The exponentials of the scores over the maxima. -/
def rE (s : S4x8x2048x2048.Idx → Ideal .f32) (M : S4x8x2048.Idx → Ideal .f32) : S4x8x2048x2048.Idx → Ideal .f32 :=
  Host.exp (F := Ideal) (φ := .f32) (subf (F := Ideal) (φ := .f32) s (broadcastInDim S4x8x2048x2048 ![0, 1, 2, 3] bcast_S4x8x2048x1_S4x8x2048x2048_0_1_2_3 (broadcastInDim S4x8x2048x1 ![0, 1, 2] bcast_S4x8x2048_S4x8x2048x1_0_1_2 (maximumf (F := Ideal) (φ := .f32) (broadcastInDim S4x8x2048 ![] bcast_S_S4x8x2048 (constant (F := Ideal) S_ .f32 0xFF800000#32)) M))))

/-- The weighted values, laid out as the result. -/
def rO (e : S4x8x2048x2048.Idx → Ideal .f32) (V : S4x2048x8x128.Idx → Ideal .f32) : S4x2048x1024.Idx → Ideal .bf16 :=
  truncf (F := Ideal) (φ := .f32) .bf16 (shapeCast _ (transpose S4x2048x8x128 [0, 3, 1, 2] (Host.dotGeneral (F := Ideal) (φ₁ := .f32) (φ₂ := .f32) dot_S4x2048x8x128_S4x8x2048x2048_S4x8x128x2048_1_3_3_2_02_01 none V (Host.divf (F := Ideal) (φ := .f32) e (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd (F := Ideal) (φ := .f32) e (constant (F := Ideal) S_ .f32 0x00000000#32) reducesTo_S4x8x2048x2048_S4x8x2048_d3 h_S_))))) transposes_S4x8x128x2048_S4x2048x8x128_0_3_1_2) shapeCasts_S4x2048x8x128_S4x2048x1024) bitsLt_bf16_f32

/-- A query's row of masked scores. -/
def row (Q K : S4x2048x8x192.Idx → Ideal .f32) (b : Fin 4) (h : Fin 8) (i : Fin 2048) : Fin 2048 → EReal := fun j =>
  if j.val ≤ i.val then (∑ x : Fin 192, Q (ix4 (n0 := 4) (n1 := 2048) (n2 := 8) (n3 := 192) b i h x) * K (ix4 (n0 := 4) (n1 := 2048) (n2 := 8) (n3 := 192) b j h x)) * Ideal.ofBits .f32 0x3D93CD3A#32 else ⊥

theorem rS_at (Q K : S4x2048x8x192.Idx → Ideal .f32) (b : Fin 4) (h : Fin 8) (i j : Fin 2048) :
    rS Q K (ix4 (n0 := 4) (n1 := 8) (n2 := 2048) (n3 := 2048) b h i j) = row Q K b h i j := by
  pointwise [rS]
  rw [select_le j.val i.val j.isLt i.isLt]
  unfold row
  rw [← neg_inf]
  rfl

/-- A maximum over the last of four axes, at an index. -/
theorem reduce_last {n0 n1 n2 n3 : ℕ} {u : Shape} (s : Shape.Idx ⟨4, ![n0, n1, n2, n3]⟩ → Ideal .f32) (z : u.Idx → Ideal .f32)
    (hr : Shape.ReducesTo ⟨4, ![n0, n1, n2, n3]⟩ [3] ⟨3, ![n0, n1, n2]⟩) (hu : 0 < u.numel) (b : Fin n0) (h : Fin n1) (i : Fin n2) :
    Host.reduce (FloatOps.maximumf (F := Ideal) (φ := .f32)) s z hr hu (ix3 b h i) = Finset.univ.fold max (z (Shape.Idx.first hu)) (fun x => s (ix4 b h i x)) := by
  pointwise

theorem rM_at (s : S4x8x2048x2048.Idx → Ideal .f32) (b : Fin 4) (h : Fin 8) (i : Fin 2048) :
    rM s (ix3 (n0 := 4) (n1 := 8) (n2 := 2048) b h i) = Finset.univ.sup (fun x : Fin 2048 => (s (ix4 (n0 := 4) (n1 := 8) (n2 := 2048) (n3 := 2048) b h i x) : EReal)) := by
  refine (reduce_last s _ reducesTo_S4x8x2048x2048_S4x8x2048_d3 h_S_ b h i).trans ?_
  show Finset.univ.fold max (Ideal.ofBits .f32 0xFF800000#32) _ = _
  rw [neg_inf]
  rfl

theorem rE_at (s : S4x8x2048x2048.Idx → Ideal .f32) (M : S4x8x2048.Idx → Ideal .f32) (b : Fin 4) (h : Fin 8) (i j : Fin 2048) :
    rE s M (ix4 (n0 := 4) (n1 := 8) (n2 := 2048) (n3 := 2048) b h i j) = Ideal.exp (s (ix4 (n0 := 4) (n1 := 8) (n2 := 2048) (n3 := 2048) b h i j) - max (Ideal.ofBits .f32 0xFF800000#32) (M (ix3 (n0 := 4) (n1 := 8) (n2 := 2048) b h i))) := by
  pointwise [rE]

theorem rO_at (e : S4x8x2048x2048.Idx → Ideal .f32) (V : S4x2048x8x128.Idx → Ideal .f32) (b : Fin 4) (i : Fin 2048) (c : Fin 1024) :
    rO e V (ix3 (n0 := 4) (n1 := 2048) (n2 := 1024) b i c) = ∑ x : Fin 2048, V (ix4 (n0 := 4) (n1 := 2048) (n2 := 8) (n3 := 128) b x ⟨c.val / 128, by omega⟩ ⟨c.val % 128, by omega⟩) *
      Ideal.div (e (ix4 (n0 := 4) (n1 := 8) (n2 := 2048) (n3 := 2048) b ⟨c.val / 128, by omega⟩ i x)) (∑ y : Fin 2048, e (ix4 (n0 := 4) (n1 := 8) (n2 := 2048) (n3 := 2048) b ⟨c.val / 128, by omega⟩ i y)) := by
  pointwise [rO]

/-- The reference's result at an index: a softmax of the masked scores, weighing the values. -/
theorem out_at (Q K : S4x2048x8x192.Idx → Ideal .f32) (V : S4x2048x8x128.Idx → Ideal .f32) (b : Fin 4) (i : Fin 2048) (c : Fin 1024) :
    rO (rE (rS Q K) (rM (rS Q K))) V (ix3 (n0 := 4) (n1 := 2048) (n2 := 1024) b i c) =
      soft (row Q K b ⟨c.val / 128, by omega⟩ i) (fun x => V (ix4 (n0 := 4) (n1 := 2048) (n2 := 8) (n3 := 128) b x ⟨c.val / 128, by omega⟩ ⟨c.val % 128, by omega⟩)) := by
  have hm : ∀ h : Fin 8, rM (rS Q K) (ix3 (n0 := 4) (n1 := 8) (n2 := 2048) b h i) = Finset.univ.sup (row Q K b h i) := fun h => by
    rw [rM_at]
    exact congrArg _ (funext fun x => rS_at Q K b h i x)
  rw [rO_at]
  unfold soft
  simp only [rE_at, hm, rS_at, neg_inf, max_bot_left]

theorem res_eq (m : (ℓ : Loc nD τ sig) → Buf (Elt Ideal) ℓ) (c : Dev nD) :
    Cert.Reference3Ideal.Value.res_main_v24 m c = rO (rE (rS (m ((c.tc : Thread nD τ).loc main_arg0)) (m ((c.tc : Thread nD τ).loc main_arg1))) (rM (rS (m ((c.tc : Thread nD τ).loc main_arg0)) (m ((c.tc : Thread nD τ).loc main_arg1))))) (m ((c.tc : Thread nD τ).loc main_arg2)) := rfl

end Cert.Proof.R3

end
-- ==== Proof.AttnEq.lean ====
module

public import proofs.«01_k».proof.Defs
public import proofs.«01_k».proof.Proof.AttnArr
public import proofs.«01_k».proof.Proof.AttnRef
public import proofs.«01_k».proof.Proof.AttnGen
public import Idealize.ShloMosaic.Lib.Claim
public import Idealize.ShloMosaic.Lib.WordCmp

@[expose] public section

set_option maxRecDepth 16384

noncomputable section

namespace Cert.Proof

open Idealize.ShloMosaic Idealize.ShloMosaic.TcCoe Idealize.SL.Sem

/-! # Attention: the two sides meet, and the claims of it -/

/-! ## What the precondition gives -/

/-- A number between the infinities is a real. -/
theorem real_of_between {x : EReal}
    (h : IntOp.andi (FloatOps.cmpf (F := Ideal) (φ := .f32) .ogt x (Ideal.ofBits .f32 0xFF800000#32)) (FloatOps.cmpf (F := Ideal) (φ := .f32) .olt x (Ideal.ofBits .f32 0x7F800000#32)) = 1#1) :
    ∃ r : ℝ, x = (r : EReal) := by
  rw [K3.neg_inf, K3.pos_inf] at h
  have h : BitVec.ofBool (decide (⊥ < x)) &&& BitVec.ofBool (decide (x < ⊤)) = 1#1 := h
  induction x with
  | bot => simp at h
  | top => simp at h
  | coe r => exact ⟨r, rfl⟩

section
variable (Q K : Cert.Pre_finite_queries_keys.S4x2048x8x192.Idx → Ideal .f32) (V : Cert.Pre_finite_queries_keys.S4x2048x8x128.Idx → Ideal .f32)

theorem real_args (h : haveI := Cert.Pre_finite_queries_keys.Gen.facts; (Cert.Pre_finite_queries_keys.fn (F := Ideal) Q K V).1 = (fun _ => 1#1) ∧ (Cert.Pre_finite_queries_keys.fn (F := Ideal) Q K V).2 = (fun _ => 1#1)) :
    (∀ i, ∃ r : ℝ, Q i = (r : EReal)) ∧ (∀ i, ∃ r : ℝ, K i = (r : EReal)) :=
  ⟨fun i => real_of_between (congrFun h.1 i), fun i => real_of_between (congrFun h.2 i)⟩
end

/-- A sum of products of reals is a real. -/
theorem real_dot (f g : Fin 192 → EReal) (hf : ∀ x, ∃ r : ℝ, f x = (r : EReal)) (hg : ∀ x, ∃ r : ℝ, g x = (r : EReal)) : ∃ r : ℝ, ∑ x, f x * g x = (r : EReal) := by
  choose a ha using hf
  choose b hb using hg
  have : ∀ s : Finset (Fin 192), ∃ r : ℝ, ∑ x ∈ s, f x * g x = (r : EReal) := by
    intro s
    induction s using Finset.induction_on with
    | empty => exact ⟨0, by simp⟩
    | insert x s hx ih =>
      obtain ⟨r, hr⟩ := ih
      exact ⟨a x * b x + r, by rw [Finset.sum_insert hx, hr, ha, hb, EReal.coe_add, EReal.coe_mul]⟩
  exact this _

section
variable (m : (ℓ : Loc Cert.Kernel3Ideal.nD Cert.Kernel3Ideal.τ Cert.Kernel3Ideal.sig) → Buf (Elt Ideal) ℓ) (c : Dev Cert.Kernel3Ideal.nD)
  (hpre : haveI := Cert.Pre_finite_queries_keys.Gen.facts; Cert.Pre_Kernel3Ideal_finite_queries_keys m)

include hpre in
/-- An unmasked score is a real. -/
theorem score_real (b : Fin 4) (h : Fin 8) (i y : Fin 2048) : ∃ r : ℝ, K3.dotQK m c b h i y * Ideal.ofBits .f32 0x3D93CD3A#32 = (r : EReal) := by
  have hr := real_args _ _ _ (hpre c)
  obtain ⟨s, -, e⟩ := K3.scale_real
  obtain ⟨t, ht⟩ := real_dot (K3.aQ m c b i h) (K3.aK m c b y h) (fun x => hr.1 _) (fun x => hr.2 _)
  exact ⟨t * s, by rw [e, EReal.coe_mul, ← ht]; rfl⟩

include hpre in
theorem row_ne_top (b : Fin 4) (h : Fin 8) (i y : Fin 2048) : K3.aRow m c b h i y ≠ ⊤ := by
  unfold K3.aRow
  obtain ⟨r, e⟩ := score_real m c hpre b h i y
  rw [e]
  split
  · exact EReal.coe_ne_top r
  · exact bot_ne_top

include hpre in
theorem row_self (b : Fin 4) (h : Fin 8) (i : Fin 2048) : K3.aRow m c b h i i ≠ ⊥ := by
  unfold K3.aRow
  obtain ⟨r, e⟩ := score_real m c hpre b h i i
  rw [e, if_pos le_rfl]
  exact EReal.coe_ne_bot r

variable (m' : (ℓ : Loc Cert.Reference3Ideal.nD Cert.Reference3Ideal.τ Cert.Reference3Ideal.sig) → Buf (Elt Ideal) ℓ)
  (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
  (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
  (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))

include hpre h0 h1 h2 in
/-- The reference's attention is the kernel's, index by index. -/
theorem eqA (b : Fin 4) (i : Fin 2048) (col : Fin 1024) : Cert.Reference3Ideal.Value.res_main_v24 m' c (ix3 (n0 := 4) (n1 := 2048) (n2 := 1024) b i col) = K3.res m c b i col := by
  rw [R3.res_eq, h0, h1, h2, R3.out_at]
  unfold K3.res
  rw [K3.whole_eq_soft _ _ (row_ne_top m c hpre b _ i) i (row_self m c hpre b _ i)]
  rfl

end

/-- Arrays of three axes that agree at every triple of indices agree. -/
theorem ext3 {n0 n1 n2 : ℕ} {α : Type} {u v : Shape.Idx ⟨3, ![n0, n1, n2]⟩ → α} (h : ∀ (a : Fin n0) (b : Fin n1) (d : Fin n2), u (ix3 a b d) = v (ix3 a b d)) : u = v := by
  funext i
  have : i = ix3 (n0 := n0) (n1 := n1) (n2 := n2) (i 0) (i 1) (i 2) := by funext a; match a with | ⟨0, _⟩ => rfl | ⟨1, _⟩ => rfl | ⟨2, _⟩ => rfl
  rw [this]
  exact h _ _ _

/-- Attention's frame. -/
theorem frame_Kernel3 : haveI := Cert.Kernel3.Gen.facts; Cert.quiescent_Kernel3 := fun m g _ => Cert.Kernel3.Gen.frame m g

/-- Its frame at the exact reals. -/
theorem frame_Kernel3Ideal : haveI := Cert.Kernel3Ideal.Gen.facts; Cert.quiescent_Kernel3Ideal := fun m g _ => Cert.Kernel3Ideal.Gen.frame m g

/-- The same of real queries and keys: it needs nothing of them. -/
theorem frame_Kernel3Ideal_pre : haveI := Cert.Pre_finite_queries_keys.Gen.facts; haveI := Cert.Kernel3Ideal.Gen.facts; Cert.quiescent_Kernel3Ideal_pre_finite_queries_keys :=
  fun m g _ => frame_Kernel3Ideal m g trivial

/-- Its reference's frame: it declares no counter. -/
theorem frame_Reference3Ideal : haveI := Cert.Reference3Ideal.Gen.facts; Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

/-- The same of real queries and keys. -/
theorem frame_Reference3Ideal_pre : haveI := Cert.Pre_finite_queries_keys.Gen.facts; haveI := Cert.Reference3Ideal.Gen.facts; Cert.quiescent_Reference3Ideal_pre_finite_queries_keys :=
  fun m g _ => frame_Reference3Ideal m g trivial

/-- The idealization names one constant, the mask's. -/
theorem preserves3 : Cert.preserves_Kernel3_Kernel3Ideal := IdealRules.named_const.statement Cert.Kernel3Ideal.κ "mask" .f32 0xF149F2CA#32 ⊥ rfl

set_option maxHeartbeats 4000000 in
/-- Attention's result is the reference's, of the same arguments, where queries and keys are real. -/
theorem algebraic3 : haveI := Cert.Kernel3Ideal.Gen.facts; haveI := Cert.Reference3Ideal.Gen.facts; haveI := Cert.Pre_finite_queries_keys.Gen.facts; Cert.algebraic_Kernel3Ideal_Reference3Ideal_pre_finite_queries_keys := by
  pair_intro
  · run_from Cert.Kernel3Ideal.Gen.run_main m g
  · run_from Cert.Reference3Ideal.Value.run (F := Ideal) m' g'
    exact (ext3 fun a b d => eqA m c hpre m' (hagree c).1 (hagree c).2.1 (hagree c).2.2 a b d).trans (K3.arr3 m c (fun b h i y => row_ne_top m c hpre b h i y)).symm

end Cert.Proof

end
-- ==== Proof.QkvGen.lean ====
module

public import proofs.«01_k».proof.Proof.Gen.Kernel4.Frame
public import proofs.«01_k».proof.Proof.Gen.Kernel4Ideal.Value
public import proofs.«01_k».proof.Proof.Gen.Kernel4Ideal.Frame
public import proofs.«01_k».proof.Proof.Gen.Reference4Ideal.Run
public section
-- ==== Proof.QkvSpec.lean ====
module

public import Idealize.ShloMosaic.Lib.Pipeline.ValueKit
public import Idealize.ShloMosaic.Lib.Pointwise
public import proofs.«01_k».proof.Proof.AttnSpec

@[expose] public section

noncomputable section

namespace Cert.Proof.Rot

open Idealize.ShloMosaic

/-! # The up-projections and the rotary embedding of one token

Both programs are read, index by index, to these functions. -/

/-- The scale of the scores, as both programs spell it. -/
def scale : EReal := Ideal.ofBits .f32 0x3D93CD3A#32

/-- A column of a product: a row against a column of the weights. -/
def dot {n : ℕ} (x w : Fin n → EReal) : EReal := ∑ k, x k * w k

/-- The half-split rotary embedding of 64 features by 32 angles. -/
def rot (x : Fin 64 → EReal) (a : Fin 32 → EReal) (j : Fin 64) : EReal :=
  if h : j.val < 32 then x j * Ideal.cos (a ⟨j.val, h⟩) - x ⟨j.val + 32, by omega⟩ * Ideal.sin (a ⟨j.val, h⟩)
  else x j * Ideal.cos (a ⟨j.val - 32, by omega⟩) + x ⟨j.val - 32, by omega⟩ * Ideal.sin (a ⟨j.val - 32, by omega⟩)

/-- The inverse frequency of a pair. -/
def freq (i : Fin 32) : EReal :=
  Ideal.div 1 (Ideal.pow (Ideal.ofBits .f32 0x461C4000#32) (Ideal.div (Ideal.ofBits .f32 0x40000000#32 * (FloatOps.sitofp (F := Ideal) .f32 (BitVec.ofNat 32 i.val) : EReal)) (Ideal.ofBits .f32 0x42800000#32)))

/-- The scale goes through the embedding. -/
theorem rot_scale (x : Fin 64 → EReal) (a : Fin 32 → EReal) (j : Fin 64) : rot (fun k => x k * scale) a j = rot x a j * scale := by
  obtain ⟨s, h0, e⟩ := K3.scale_real
  unfold rot scale
  rw [e]
  have hs : (0 : EReal) ≤ (s : EReal) := by exact_mod_cast h0
  split
  · rw [sub_eq_add_neg, sub_eq_add_neg, EReal.right_distrib_of_nonneg_of_ne_top hs (EReal.coe_ne_top s), EReal.neg_mul, mul_right_comm, mul_right_comm _ (s : EReal)]
  · rw [EReal.right_distrib_of_nonneg_of_ne_top hs (EReal.coe_ne_top s), mul_right_comm, mul_right_comm _ (s : EReal)]

end Cert.Proof.Rot

end
-- ==== Proof.QkvPay.lean ====
module

public import proofs.«01_k».proof.Proof.Gen.Kernel4Ideal.Skeleton
public import Idealize.ShloMosaic.Lib.KernelVsHost
public import proofs.«01_k».proof.Proof.QkvSpec

@[expose] public section

set_option maxRecDepth 16384

noncomputable section

namespace Cert.Proof.K4

open Cert.Kernel4Ideal Cert.Kernel4Ideal.Gen
open Idealize.ShloMosaic
open Cert.Proof.Rot

/-! # What the body computes at an index -/

theorem zero_bits : Ideal.ofBits .f32 0x00000000#32 = 0 := by
  simp [Ideal.ofBits, Ideal.ieee]

/-- The scaled query columns. -/
theorem pay9_at (x : Vec Ideal S1024x768 .bf16) (w : Vec Ideal S768x1536 .bf16) (r : Fin 1024) (j : Fin 1536) :
    k0_pay9 x w (ix2 (n0 := 1024) (n1 := 1536) r j) = dot (fun k => x (ix2 (n0 := 1024) (n1 := 768) r k)) (fun k => w (ix2 (n0 := 768) (n1 := 1536) k j)) * scale := by
  pointwise [k0_pay9]
  rfl

/-- Their last 512: the rotary ones. -/
theorem pay10_at (x : Vec Ideal S1024x768 .bf16) (w : Vec Ideal S768x1536 .bf16) (r : Fin 1024) (j : Fin 512) :
    k0_pay10 x w (ix2 (n0 := 1024) (n1 := 512) r j) = k0_pay9 x w (ix2 (n0 := 1024) (n1 := 1536) r ⟨1024 + j.val, by omega⟩) := by
  pointwise [k0_pay10]

/-- The key and value columns. -/
theorem pay15_at (x : Vec Ideal S1024x512 .bf16) (w : Vec Ideal S512x2048 .bf16) (r : Fin 1024) (j : Fin 2048) :
    k0_pay15 x w (ix2 (n0 := 1024) (n1 := 2048) r j) = dot (fun k => x (ix2 (n0 := 1024) (n1 := 512) r k)) (fun k => w (ix2 (n0 := 512) (n1 := 2048) k j)) := by
  pointwise [k0_pay15]
  rfl

/-- The angles. -/
theorem pay4_at (p : Vec Ideal S1024x1 .i32) (f : Vec Ideal S1x128 .f32) (r : Fin 1024) (l : Fin 128) :
    k0_pay4 p f (ix2 (n0 := 1024) (n1 := 128) r l) = (FloatOps.sitofp (F := Ideal) .f32 (p (ix2 (n0 := 1024) (n1 := 1) r 0)) : EReal) * f (ix2 (n0 := 1) (n1 := 128) 0 l) := by
  pointwise [k0_pay4]

theorem pay5_at (p : Vec Ideal S1024x1 .i32) (f : Vec Ideal S1x128 .f32) (r : Fin 1024) (l : Fin 128) :
    k0_pay5 p f (ix2 (n0 := 1024) (n1 := 128) r l) = Ideal.cos (k0_pay4 p f (ix2 (n0 := 1024) (n1 := 128) r l)) := rfl

theorem pay6_at (p : Vec Ideal S1024x1 .i32) (f : Vec Ideal S1x128 .f32) (r : Fin 1024) (l : Fin 128) :
    k0_pay6 p f (ix2 (n0 := 1024) (n1 := 128) r l) = Ideal.sin (k0_pay4 p f (ix2 (n0 := 1024) (n1 := 128) r l)) := rfl

/-- Four copies of a row of 128 side by side. -/
theorem four_at (u : FVec Ideal S1024x128 .f32) (r : Fin 1024) (l : Fin 512) :
    concatenate S1024x512 1 [⟨S1024x128, u⟩, ⟨S1024x128, u⟩, ⟨S1024x128, u⟩, ⟨S1024x128, u⟩] concatenates_S1024x128_S1024x128_S1024x128_S1024x128_S1024x512_d1 (ix2 (n0 := 1024) (n1 := 512) r l)
      = u (ix2 (n0 := 1024) (n1 := 128) r ⟨l.val % 128, by omega⟩) := by
  refine (concatenate_ofFn_apply (t := S1024x512) (s₁ := S1024x128) 1 (fun _ : Fin 4 => u)
    concatenates_S1024x128_S1024x128_S1024x128_S1024x128_S1024x512_d1 rfl 128 rfl
    (ix2 (n0 := 1024) (n1 := 512) r l) ⟨l.val / 128, by omega⟩ rfl (ix2 (n0 := 1024) (n1 := 128) r ⟨l.val % 128, by omega⟩) rfl ?_)
  intro b hb
  fin_cases b
  · rfl
  · exact absurd rfl hb

/-- The width of a row, as the body works it out. -/
def width : BitVec 32 := Scalar.select (Scalar.cmpi .eq 64#32 0#32) 1#32 64#32

/-- Whether a lane lies in the first half of its row of 64, as the body works it out. -/
def lane (v : BitVec 32) : BitVec 1 :=
  IntOp.cmpi .slt (Scalar.select (IntOp.andi (IntOp.xori (IntOp.cmpi .slt (IntOp.remsi .vector v width) 0#32) (Scalar.cmpi .slt width 0#32)) (IntOp.cmpi .ne (IntOp.remsi .vector v width) 0#32)) (IntOp.addi (IntOp.remsi .vector v width) width) (IntOp.remsi .vector v width)) 32#32

theorem lane_eq : ∀ l : Fin 512, lane (BitVec.ofNat 32 l.val) = BitVec.ofBool (l.val % 64 < 32) := by decide +kernel

theorem pay11_at (r : Fin 1024) (l : Fin 512) : k0_pay11 (ix2 (n0 := 1024) (n1 := 512) r l) = BitVec.ofBool (l.val % 64 < 32) := by
  rw [← lane_eq]
  unfold k0_pay11
  pointwise
  rfl

theorem back512 (u : FVec Ideal S1024x512 .f32) (r : Fin 1024) (l : Fin 512) (h : 32 ≤ l.val) :
    dynamicRotate 1 32#32 none u rotates_S1024x512_d1 (ix2 (n0 := 1024) (n1 := 512) r l) = u (ix2 (n0 := 1024) (n1 := 512) r ⟨l.val - 32, by omega⟩) := by
  refine dynamicRotate_apply _ _ _ _ _ _ fun b => ?_
  match b with
  | ⟨0, _⟩ => rfl
  | ⟨1, _⟩ => show l.val - 32 = (l.val + 512 - 32 % 512) % 512; omega

theorem ahead512 (u : FVec Ideal S1024x512 .f32) (r : Fin 1024) (l : Fin 512) (h : l.val + 32 < 512) :
    dynamicRotate 1 480#32 none u rotates_S1024x512_d1 (ix2 (n0 := 1024) (n1 := 512) r l) = u (ix2 (n0 := 1024) (n1 := 512) r ⟨l.val + 32, h⟩) := by
  refine dynamicRotate_apply _ _ _ _ _ _ fun b => ?_
  match b with
  | ⟨0, _⟩ => rfl
  | ⟨1, _⟩ => show l.val + 32 = (l.val + 512 - 480 % 512) % 512; omega

theorem back128 (u : FVec Ideal S1024x128 .f32) (r : Fin 1024) (l : Fin 128) (h : 32 ≤ l.val) :
    dynamicRotate 1 32#32 none u rotates_S1024x128_d1 (ix2 (n0 := 1024) (n1 := 128) r l) = u (ix2 (n0 := 1024) (n1 := 128) r ⟨l.val - 32, by omega⟩) := by
  refine dynamicRotate_apply _ _ _ _ _ _ fun b => ?_
  match b with
  | ⟨0, _⟩ => rfl
  | ⟨1, _⟩ => show l.val - 32 = (l.val + 128 - 32 % 128) % 128; omega

theorem ahead128 (u : FVec Ideal S1024x128 .f32) (r : Fin 1024) (l : Fin 128) (h : l.val + 32 < 128) :
    dynamicRotate 1 96#32 none u rotates_S1024x128_d1 (ix2 (n0 := 1024) (n1 := 128) r l) = u (ix2 (n0 := 1024) (n1 := 128) r ⟨l.val + 32, h⟩) := by
  refine dynamicRotate_apply _ _ _ _ _ _ fun b => ?_
  match b with
  | ⟨0, _⟩ => rfl
  | ⟨1, _⟩ => show l.val + 32 = (l.val + 128 - 96 % 128) % 128; omega

/-- The pair's other element, with its sign. -/
theorem bit_if (p : Prop) [Decidable p] (a b : EReal) : (if BitVec.ofBool (decide p) = 1#1 then a else b) = if p then a else b := by
  by_cases h : p <;> simp [h]

theorem pay14_at (v10 v11 v18 : FVec Ideal S1024x512 .f32) (r : Fin 1024) (l : Fin 512) :
    k0_pay14 v10 v11 v18 k0_pay11 (dynamicRotate 1 480#32 none v18 rotates_S1024x512_d1) k0_pay13 (ix2 (n0 := 1024) (n1 := 512) r l) =
      v18 (ix2 (n0 := 1024) (n1 := 512) r l) * v10 (ix2 (n0 := 1024) (n1 := 512) r l)
        + (if l.val % 64 < 32 then -(dynamicRotate 1 480#32 none v18 rotates_S1024x512_d1 (ix2 (n0 := 1024) (n1 := 512) r l) : EReal) else dynamicRotate 1 32#32 none v18 rotates_S1024x512_d1 (ix2 (n0 := 1024) (n1 := 512) r l)) * v11 (ix2 (n0 := 1024) (n1 := 512) r l) := by
  have h : k0_pay14 v10 v11 v18 k0_pay11 (dynamicRotate 1 480#32 none v18 rotates_S1024x512_d1) k0_pay13 (ix2 (n0 := 1024) (n1 := 512) r l) =
      v18 (ix2 (n0 := 1024) (n1 := 512) r l) * v10 (ix2 (n0 := 1024) (n1 := 512) r l)
        + (if k0_pay11 (ix2 (n0 := 1024) (n1 := 512) r l) = 1#1 then (Ideal.ofBits .f32 0x00000000#32 - dynamicRotate 1 480#32 none v18 rotates_S1024x512_d1 (ix2 (n0 := 1024) (n1 := 512) r l) : EReal) else dynamicRotate 1 32#32 none v18 rotates_S1024x512_d1 (ix2 (n0 := 1024) (n1 := 512) r l)) * v11 (ix2 (n0 := 1024) (n1 := 512) r l) := rfl
  rw [h, pay11_at, bit_if, zero_bits, zero_sub]

/-- A head's rotary columns of the queries. -/
theorem pay14_rot (v10 v11 v18 : FVec Ideal S1024x512 .f32) (r : Fin 1024) (h : Fin 8) (d : Fin 64) (a : Fin 32 → EReal)
    (hc : ∀ l : Fin 512, v10 (ix2 (n0 := 1024) (n1 := 512) r l) = Ideal.cos (a ⟨l.val % 32, by omega⟩)) (hs : ∀ l : Fin 512, v11 (ix2 (n0 := 1024) (n1 := 512) r l) = Ideal.sin (a ⟨l.val % 32, by omega⟩)) :
    k0_pay14 v10 v11 v18 k0_pay11 (dynamicRotate 1 480#32 none v18 rotates_S1024x512_d1) k0_pay13 (ix2 (n0 := 1024) (n1 := 512) r ⟨h.val * 64 + d.val, by omega⟩)
      = rot (fun k => v18 (ix2 (n0 := 1024) (n1 := 512) r ⟨h.val * 64 + k.val, by omega⟩)) a d := by
  rw [pay14_at, hc, hs]
  unfold rot
  by_cases hd : d.val < 32
  · rw [if_pos (by show (h.val * 64 + d.val) % 64 < 32; omega), dif_pos hd, ahead512 _ _ _ (by show h.val * 64 + d.val + 32 < 512; omega)]
    have e : (⟨(h.val * 64 + d.val) % 32, by omega⟩ : Fin 32) = ⟨d.val, hd⟩ := Fin.ext (by show (h.val * 64 + d.val) % 32 = d.val; omega)
    rw [e, EReal.neg_mul, ← sub_eq_add_neg]
    rfl
  · rw [if_neg (by show ¬ (h.val * 64 + d.val) % 64 < 32; omega), dif_neg hd, back512 _ _ _ (by show 32 ≤ h.val * 64 + d.val; omega)]
    have e : (⟨(h.val * 64 + d.val) % 32, by omega⟩ : Fin 32) = ⟨d.val - 32, by omega⟩ := Fin.ext (by show (h.val * 64 + d.val) % 32 = d.val - 32; omega)
    rw [e]
    have e2 : (⟨h.val * 64 + d.val - 32, by omega⟩ : Fin 512) = ⟨h.val * 64 + (d.val - 32), by omega⟩ := Fin.ext (by show h.val * 64 + d.val - 32 = h.val * 64 + (d.val - 32); omega)
    rw [e2]

/-- The rotary columns of the keys. -/
theorem pay16_at (v8 v9 v50 : FVec Ideal S1024x128 .f32) (r : Fin 1024) (d : Fin 64) :
    k0_pay16 v8 v9 v50 (ix2 (n0 := 1024) (n1 := 64) r d) =
      v50 (ix2 (n0 := 1024) (n1 := 128) r ⟨d.val, by omega⟩) * v8 (ix2 (n0 := 1024) (n1 := 128) r ⟨d.val, by omega⟩)
        + (if d.val < 32 then -(dynamicRotate 1 96#32 none v50 rotates_S1024x128_d1 (ix2 (n0 := 1024) (n1 := 128) r ⟨d.val, by omega⟩) : EReal) else dynamicRotate 1 32#32 none v50 rotates_S1024x128_d1 (ix2 (n0 := 1024) (n1 := 128) r ⟨d.val, by omega⟩)) * v9 (ix2 (n0 := 1024) (n1 := 128) r ⟨d.val, by omega⟩) := by
  have hm := lane_eq ⟨d.val, by omega⟩
  have hd : d.val % 64 = d.val := by omega
  simp only [hd] at hm
  rw [← bit_if, ← hm, ← zero_sub, ← zero_bits]
  unfold k0_pay16
  pointwise
  rfl

theorem pay16_rot (v8 v9 v50 : FVec Ideal S1024x128 .f32) (r : Fin 1024) (d : Fin 64) (a : Fin 32 → EReal)
    (hc : ∀ l : Fin 128, v8 (ix2 (n0 := 1024) (n1 := 128) r l) = Ideal.cos (a ⟨l.val % 32, by omega⟩)) (hs : ∀ l : Fin 128, v9 (ix2 (n0 := 1024) (n1 := 128) r l) = Ideal.sin (a ⟨l.val % 32, by omega⟩)) :
    k0_pay16 v8 v9 v50 (ix2 (n0 := 1024) (n1 := 64) r d)
      = rot (fun k => v50 (ix2 (n0 := 1024) (n1 := 128) r ⟨k.val, by omega⟩)) a d := by
  rw [pay16_at, hc, hs]
  unfold rot
  by_cases hd : d.val < 32
  · rw [if_pos hd, dif_pos hd, ahead128 _ _ _ (by show d.val + 32 < 128; omega)]
    have e : (⟨d.val % 32, by omega⟩ : Fin 32) = ⟨d.val, hd⟩ := Fin.ext (by show d.val % 32 = d.val; omega)
    rw [e, EReal.neg_mul, ← sub_eq_add_neg]
  · rw [if_neg hd, dif_neg hd, back128 _ _ _ (by show 32 ≤ d.val; omega)]
    have e : (⟨d.val % 32, by omega⟩ : Fin 32) = ⟨d.val - 32, by omega⟩ := Fin.ext (by show d.val % 32 = d.val - 32; omega)
    rw [e]

end Cert.Proof.K4

end
-- ==== Proof.QkvBlk.lean ====
module

public import proofs.«01_k».proof.Proof.QkvGen
public import proofs.«01_k».proof.Proof.QkvPay

@[expose] public section

set_option maxRecDepth 16384

noncomputable section

namespace Cert.Proof.K4

open Cert.Kernel4Ideal Cert.Kernel4Ideal.Gen
open Idealize.ShloMosaic Idealize.ShloMosaic.TcCoe Idealize.ShloMosaic.Tactic
open Cert.Proof.Rot

/-! # What one grid point stores, at an index -/

/-- Eight heads of 128 plain and 64 rotary features, read at a head's feature. -/
theorem heads_canon (G : Fin 8 → S1x1x1024x128.Idx → Elt Ideal .bf16) (E : Fin 8 → S1x1x1024x64.Idx → Elt Ideal .bf16) (h : Fin 8) (r : Fin 1024) (d : Fin 192) :
    View.canon ([⟨Rect.unit ![0, 7, 0, 128] ![1, 1, 1024, 64] inb_S1x8x1024x192_S1x1x1024x64_0_7_0_128, E 7⟩,
      ⟨Rect.unit ![0, 7, 0, 0] ![1, 1, 1024, 128] inb_S1x8x1024x192_S1x1x1024x128_0_7_0_0, G 7⟩,
      ⟨Rect.unit ![0, 6, 0, 128] ![1, 1, 1024, 64] inb_S1x8x1024x192_S1x1x1024x64_0_6_0_128, E 6⟩,
      ⟨Rect.unit ![0, 6, 0, 0] ![1, 1, 1024, 128] inb_S1x8x1024x192_S1x1x1024x128_0_6_0_0, G 6⟩,
      ⟨Rect.unit ![0, 5, 0, 128] ![1, 1, 1024, 64] inb_S1x8x1024x192_S1x1x1024x64_0_5_0_128, E 5⟩,
      ⟨Rect.unit ![0, 5, 0, 0] ![1, 1, 1024, 128] inb_S1x8x1024x192_S1x1x1024x128_0_5_0_0, G 5⟩,
      ⟨Rect.unit ![0, 4, 0, 128] ![1, 1, 1024, 64] inb_S1x8x1024x192_S1x1x1024x64_0_4_0_128, E 4⟩,
      ⟨Rect.unit ![0, 4, 0, 0] ![1, 1, 1024, 128] inb_S1x8x1024x192_S1x1x1024x128_0_4_0_0, G 4⟩,
      ⟨Rect.unit ![0, 3, 0, 128] ![1, 1, 1024, 64] inb_S1x8x1024x192_S1x1x1024x64_0_3_0_128, E 3⟩,
      ⟨Rect.unit ![0, 3, 0, 0] ![1, 1, 1024, 128] inb_S1x8x1024x192_S1x1x1024x128_0_3_0_0, G 3⟩,
      ⟨Rect.unit ![0, 2, 0, 128] ![1, 1, 1024, 64] inb_S1x8x1024x192_S1x1x1024x64_0_2_0_128, E 2⟩,
      ⟨Rect.unit ![0, 2, 0, 0] ![1, 1, 1024, 128] inb_S1x8x1024x192_S1x1x1024x128_0_2_0_0, G 2⟩,
      ⟨Rect.unit ![0, 1, 0, 128] ![1, 1, 1024, 64] inb_S1x8x1024x192_S1x1x1024x64_0_1_0_128, E 1⟩,
      ⟨Rect.unit ![0, 1, 0, 0] ![1, 1, 1024, 128] inb_S1x8x1024x192_S1x1x1024x128_0_1_0_0, G 1⟩,
      ⟨Rect.unit ![0, 0, 0, 128] ![1, 1, 1024, 64] inb_S1x8x1024x192_S1x1x1024x64_0_0_0_128, E 0⟩,
      ⟨Rect.unit ![0, 0, 0, 0] ![1, 1, 1024, 128] inb_S1x8x1024x192_S1x1x1024x128_0_0_0_0, G 0⟩] : List (View.Piece (Elt Ideal) S1x8x1024x192 .bf16))
      (ix4 (n0 := 1) (n1 := 8) (n2 := 1024) (n3 := 192) 0 h r d) = if hd : d.val < 128 then G h (ix4 (n0 := 1) (n1 := 1) (n2 := 1024) (n3 := 128) 0 0 r ⟨d.val, hd⟩) else E h (ix4 (n0 := 1) (n1 := 1) (n2 := 1024) (n3 := 64) 0 0 r ⟨d.val - 128, by omega⟩) := by
  have keyG : ∀ p : Fin 8, View.TileAt (S := S1x8x1024x192) (ix4 (n0 := 1) (n1 := 8) (n2 := 1024) (n3 := 192) 0 h r d) ![0, p.val, 0, 0] ![1, 1, 1024, 128] (G p) (if hd : d.val < 128 then G h (ix4 (n0 := 1) (n1 := 1) (n2 := 1024) (n3 := 128) 0 0 r ⟨d.val, hd⟩) else E h (ix4 (n0 := 1) (n1 := 1) (n2 := 1024) (n3 := 64) 0 0 r ⟨d.val - 128, by omega⟩)) := by
    intro p x hx
    have e1 : h.val = p.val + (x 1).val := hx 1
    have e2 : r.val = 0 + (x 2).val := hx 2
    have e3 : d.val = 0 + (x 3).val := hx 3
    have l3 : (x 3).val < 128 := (x 3).isLt
    have l0 : (x 0).val < 1 := (x 0).isLt
    have l1 : (x 1).val < 1 := (x 1).isLt
    obtain rfl : p = h := Fin.ext (by omega)
    rw [dif_pos (by omega)]
    congr 1
    funext a
    match a with
    | ⟨0, _⟩ => exact Fin.ext (by show (x 0).val = 0; omega)
    | ⟨1, _⟩ => exact Fin.ext (by show (x 1).val = 0; omega)
    | ⟨2, _⟩ => exact Fin.ext (by show (x 2).val = r.val; omega)
    | ⟨3, _⟩ => exact Fin.ext (by show (x 3).val = d.val; omega)
  have keyE : ∀ p : Fin 8, View.TileAt (S := S1x8x1024x192) (ix4 (n0 := 1) (n1 := 8) (n2 := 1024) (n3 := 192) 0 h r d) ![0, p.val, 0, 128] ![1, 1, 1024, 64] (E p) (if hd : d.val < 128 then G h (ix4 (n0 := 1) (n1 := 1) (n2 := 1024) (n3 := 128) 0 0 r ⟨d.val, hd⟩) else E h (ix4 (n0 := 1) (n1 := 1) (n2 := 1024) (n3 := 64) 0 0 r ⟨d.val - 128, by omega⟩)) := by
    intro p x hx
    have e1 : h.val = p.val + (x 1).val := hx 1
    have e2 : r.val = 0 + (x 2).val := hx 2
    have e3 : d.val = 128 + (x 3).val := hx 3
    have l0 : (x 0).val < 1 := (x 0).isLt
    have l1 : (x 1).val < 1 := (x 1).isLt
    obtain rfl : p = h := Fin.ext (by omega)
    rw [dif_neg (by omega)]
    congr 1
    funext a
    match a with
    | ⟨0, _⟩ => exact Fin.ext (by show (x 0).val = 0; omega)
    | ⟨1, _⟩ => exact Fin.ext (by show (x 1).val = 0; omega)
    | ⟨2, _⟩ => exact Fin.ext (by show (x 2).val = r.val; omega)
    | ⟨3, _⟩ => exact Fin.ext (by show (x 3).val = d.val - 128; omega)
  refine View.canon_eq_of_allAt _ _ _ ?_ ?_
  · refine View.cover_of_tiledBy (s := S1x8x1024x192) _ (![1, 1, 1024, 64] : Fin 4 → ℕ) ?_ _
    sl_kernel_rfl
  refine View.allAt_cons_unit _ _ _ _ _ (keyE 7) ?_
  refine View.allAt_cons_unit _ _ _ _ _ (keyG 7) ?_
  refine View.allAt_cons_unit _ _ _ _ _ (keyE 6) ?_
  refine View.allAt_cons_unit _ _ _ _ _ (keyG 6) ?_
  refine View.allAt_cons_unit _ _ _ _ _ (keyE 5) ?_
  refine View.allAt_cons_unit _ _ _ _ _ (keyG 5) ?_
  refine View.allAt_cons_unit _ _ _ _ _ (keyE 4) ?_
  refine View.allAt_cons_unit _ _ _ _ _ (keyG 4) ?_
  refine View.allAt_cons_unit _ _ _ _ _ (keyE 3) ?_
  refine View.allAt_cons_unit _ _ _ _ _ (keyG 3) ?_
  refine View.allAt_cons_unit _ _ _ _ _ (keyE 2) ?_
  refine View.allAt_cons_unit _ _ _ _ _ (keyG 2) ?_
  refine View.allAt_cons_unit _ _ _ _ _ (keyE 1) ?_
  refine View.allAt_cons_unit _ _ _ _ _ (keyG 1) ?_
  refine View.allAt_cons_unit _ _ _ _ _ (keyE 0) ?_
  refine View.allAt_cons_unit _ _ _ _ _ (keyG 0) ?_
  exact View.allAt_nil _ _

/-- Eight heads of transposed values, read at a head's feature. -/
theorem vals_canon (G : Fin 8 → S1x1x128x1024.Idx → Elt Ideal .bf16) (h : Fin 8) (d : Fin 128) (r : Fin 1024) :
    View.canon ([⟨Rect.unit ![0, 7, 0, 0] ![1, 1, 128, 1024] inb_S1x8x128x1024_S1x1x128x1024_0_7_0_0, G 7⟩,
      ⟨Rect.unit ![0, 6, 0, 0] ![1, 1, 128, 1024] inb_S1x8x128x1024_S1x1x128x1024_0_6_0_0, G 6⟩,
      ⟨Rect.unit ![0, 5, 0, 0] ![1, 1, 128, 1024] inb_S1x8x128x1024_S1x1x128x1024_0_5_0_0, G 5⟩,
      ⟨Rect.unit ![0, 4, 0, 0] ![1, 1, 128, 1024] inb_S1x8x128x1024_S1x1x128x1024_0_4_0_0, G 4⟩,
      ⟨Rect.unit ![0, 3, 0, 0] ![1, 1, 128, 1024] inb_S1x8x128x1024_S1x1x128x1024_0_3_0_0, G 3⟩,
      ⟨Rect.unit ![0, 2, 0, 0] ![1, 1, 128, 1024] inb_S1x8x128x1024_S1x1x128x1024_0_2_0_0, G 2⟩,
      ⟨Rect.unit ![0, 1, 0, 0] ![1, 1, 128, 1024] inb_S1x8x128x1024_S1x1x128x1024_0_1_0_0, G 1⟩,
      ⟨Rect.unit ![0, 0, 0, 0] ![1, 1, 128, 1024] inb_S1x8x128x1024_S1x1x128x1024_0_0_0_0, G 0⟩] : List (View.Piece (Elt Ideal) S1x8x128x1024 .bf16))
      (ix4 (n0 := 1) (n1 := 8) (n2 := 128) (n3 := 1024) 0 h d r) = G h (ix4 (n0 := 1) (n1 := 1) (n2 := 128) (n3 := 1024) 0 0 d r) := by
  have key : ∀ p : Fin 8, View.TileAt (S := S1x8x128x1024) (ix4 (n0 := 1) (n1 := 8) (n2 := 128) (n3 := 1024) 0 h d r) ![0, p.val, 0, 0] ![1, 1, 128, 1024] (G p) (G h (ix4 (n0 := 1) (n1 := 1) (n2 := 128) (n3 := 1024) 0 0 d r)) := by
    intro p x hx
    have e1 : h.val = p.val + (x 1).val := hx 1
    have e2 : d.val = 0 + (x 2).val := hx 2
    have e3 : r.val = 0 + (x 3).val := hx 3
    have l0 : (x 0).val < 1 := (x 0).isLt
    have l1 : (x 1).val < 1 := (x 1).isLt
    obtain rfl : p = h := Fin.ext (by omega)
    congr 1
    funext a
    match a with
    | ⟨0, _⟩ => exact Fin.ext (by show (x 0).val = 0; omega)
    | ⟨1, _⟩ => exact Fin.ext (by show (x 1).val = 0; omega)
    | ⟨2, _⟩ => exact Fin.ext (by show (x 2).val = d.val; omega)
    | ⟨3, _⟩ => exact Fin.ext (by show (x 3).val = r.val; omega)
  refine View.canon_eq_of_allAt _ _ _ ?_ ?_
  · refine View.cover_of_tiledL (s := S1x8x128x1024) _ (![1, 1, 128, 1024] : Fin 4 → ℕ) ?_ _
    sl_kernel_rfl
  refine View.allAt_cons_unit _ _ _ _ _ (key 7) ?_
  refine View.allAt_cons_unit _ _ _ _ _ (key 6) ?_
  refine View.allAt_cons_unit _ _ _ _ _ (key 5) ?_
  refine View.allAt_cons_unit _ _ _ _ _ (key 4) ?_
  refine View.allAt_cons_unit _ _ _ _ _ (key 3) ?_
  refine View.allAt_cons_unit _ _ _ _ _ (key 2) ?_
  refine View.allAt_cons_unit _ _ _ _ _ (key 1) ?_
  refine View.allAt_cons_unit _ _ _ _ _ (key 0) ?_
  exact View.allAt_nil _ _

/-! ## The stored heads -/

/-- The plain features of the queries as stored, head by head. -/
def qN (v : FVec Ideal S1024x1536 .f32) : Fin 8 → S1x1x1024x128.Idx → Elt Ideal .bf16
  | 0 => k0_pay18 (k0_pay17 v)
  | 1 => k0_pay23 v
  | 2 => k0_pay29 v
  | 3 => k0_pay35 v
  | 4 => k0_pay40 v
  | 5 => k0_pay46 v
  | 6 => k0_pay52 (k0_pay51 v)
  | 7 => k0_pay57 v

theorem qN_at (v : FVec Ideal S1024x1536 .f32) (h : Fin 8) (r : Fin 1024) (d : Fin 128) : qN v h (ix4 (n0 := 1) (n1 := 1) (n2 := 1024) (n3 := 128) 0 0 r d) = v (ix2 (n0 := 1024) (n1 := 1536) r ⟨h.val * 128 + d.val, by omega⟩) := by
  match h with
  | 0 => pointwise [qN, k0_pay17, k0_pay18, k0_pay23, k0_pay29, k0_pay35, k0_pay40, k0_pay46, k0_pay51, k0_pay52, k0_pay57]
  | 1 => pointwise [qN, k0_pay17, k0_pay18, k0_pay23, k0_pay29, k0_pay35, k0_pay40, k0_pay46, k0_pay51, k0_pay52, k0_pay57]
  | 2 => pointwise [qN, k0_pay17, k0_pay18, k0_pay23, k0_pay29, k0_pay35, k0_pay40, k0_pay46, k0_pay51, k0_pay52, k0_pay57]
  | 3 => pointwise [qN, k0_pay17, k0_pay18, k0_pay23, k0_pay29, k0_pay35, k0_pay40, k0_pay46, k0_pay51, k0_pay52, k0_pay57]
  | 4 => pointwise [qN, k0_pay17, k0_pay18, k0_pay23, k0_pay29, k0_pay35, k0_pay40, k0_pay46, k0_pay51, k0_pay52, k0_pay57]
  | 5 => pointwise [qN, k0_pay17, k0_pay18, k0_pay23, k0_pay29, k0_pay35, k0_pay40, k0_pay46, k0_pay51, k0_pay52, k0_pay57]
  | 6 => pointwise [qN, k0_pay17, k0_pay18, k0_pay23, k0_pay29, k0_pay35, k0_pay40, k0_pay46, k0_pay51, k0_pay52, k0_pay57]
  | 7 => pointwise [qN, k0_pay17, k0_pay18, k0_pay23, k0_pay29, k0_pay35, k0_pay40, k0_pay46, k0_pay51, k0_pay52, k0_pay57]

/-- The rotary features of the queries as stored, head by head. -/
def qR (v : FVec Ideal S1024x512 .f32) : Fin 8 → S1x1x1024x64.Idx → Elt Ideal .bf16
  | 0 => k0_pay19 v
  | 1 => k0_pay25 (k0_pay24 v)
  | 2 => k0_pay30 v
  | 3 => k0_pay36 v
  | 4 => k0_pay41 v
  | 5 => k0_pay47 v
  | 6 => k0_pay53 v
  | 7 => k0_pay58 v

theorem qR_at (v : FVec Ideal S1024x512 .f32) (h : Fin 8) (r : Fin 1024) (d : Fin 64) : qR v h (ix4 (n0 := 1) (n1 := 1) (n2 := 1024) (n3 := 64) 0 0 r d) = v (ix2 (n0 := 1024) (n1 := 512) r ⟨h.val * 64 + d.val, by omega⟩) := by
  match h with
  | 0 => pointwise [qR, k0_pay19, k0_pay24, k0_pay25, k0_pay30, k0_pay36, k0_pay41, k0_pay47, k0_pay53, k0_pay58]
  | 1 => pointwise [qR, k0_pay19, k0_pay24, k0_pay25, k0_pay30, k0_pay36, k0_pay41, k0_pay47, k0_pay53, k0_pay58]
  | 2 => pointwise [qR, k0_pay19, k0_pay24, k0_pay25, k0_pay30, k0_pay36, k0_pay41, k0_pay47, k0_pay53, k0_pay58]
  | 3 => pointwise [qR, k0_pay19, k0_pay24, k0_pay25, k0_pay30, k0_pay36, k0_pay41, k0_pay47, k0_pay53, k0_pay58]
  | 4 => pointwise [qR, k0_pay19, k0_pay24, k0_pay25, k0_pay30, k0_pay36, k0_pay41, k0_pay47, k0_pay53, k0_pay58]
  | 5 => pointwise [qR, k0_pay19, k0_pay24, k0_pay25, k0_pay30, k0_pay36, k0_pay41, k0_pay47, k0_pay53, k0_pay58]
  | 6 => pointwise [qR, k0_pay19, k0_pay24, k0_pay25, k0_pay30, k0_pay36, k0_pay41, k0_pay47, k0_pay53, k0_pay58]
  | 7 => pointwise [qR, k0_pay19, k0_pay24, k0_pay25, k0_pay30, k0_pay36, k0_pay41, k0_pay47, k0_pay53, k0_pay58]

/-- The plain features of the keys as stored, head by head. -/
def kN (v : FVec Ideal S1024x2048 .f32) : Fin 8 → S1x1x1024x128.Idx → Elt Ideal .bf16
  | 0 => k0_pay20 v
  | 1 => k0_pay26 v
  | 2 => k0_pay32 (k0_pay31 v)
  | 3 => k0_pay37 v
  | 4 => k0_pay42 v
  | 5 => k0_pay48 v
  | 6 => k0_pay54 v
  | 7 => k0_pay1 v

theorem kN_at (v : FVec Ideal S1024x2048 .f32) (h : Fin 8) (r : Fin 1024) (d : Fin 128) : kN v h (ix4 (n0 := 1) (n1 := 1) (n2 := 1024) (n3 := 128) 0 0 r d) = v (ix2 (n0 := 1024) (n1 := 2048) r ⟨h.val * 128 + d.val, by omega⟩) := by
  match h with
  | 0 => pointwise [kN, k0_pay20, k0_pay26, k0_pay31, k0_pay32, k0_pay37, k0_pay42, k0_pay48, k0_pay54, k0_pay1]
  | 1 => pointwise [kN, k0_pay20, k0_pay26, k0_pay31, k0_pay32, k0_pay37, k0_pay42, k0_pay48, k0_pay54, k0_pay1]
  | 2 => pointwise [kN, k0_pay20, k0_pay26, k0_pay31, k0_pay32, k0_pay37, k0_pay42, k0_pay48, k0_pay54, k0_pay1]
  | 3 => pointwise [kN, k0_pay20, k0_pay26, k0_pay31, k0_pay32, k0_pay37, k0_pay42, k0_pay48, k0_pay54, k0_pay1]
  | 4 => pointwise [kN, k0_pay20, k0_pay26, k0_pay31, k0_pay32, k0_pay37, k0_pay42, k0_pay48, k0_pay54, k0_pay1]
  | 5 => pointwise [kN, k0_pay20, k0_pay26, k0_pay31, k0_pay32, k0_pay37, k0_pay42, k0_pay48, k0_pay54, k0_pay1]
  | 6 => pointwise [kN, k0_pay20, k0_pay26, k0_pay31, k0_pay32, k0_pay37, k0_pay42, k0_pay48, k0_pay54, k0_pay1]
  | 7 => pointwise [kN, k0_pay20, k0_pay26, k0_pay31, k0_pay32, k0_pay37, k0_pay42, k0_pay48, k0_pay54, k0_pay1]

/-- The rotary features of the keys as stored, head by head. -/
def kR (v : FVec Ideal S1024x64 .bf16) : Fin 8 → S1x1x1024x64.Idx → Elt Ideal .bf16
  | 0 => k0_pay21 v
  | 1 => k0_pay27 v
  | 2 => k0_pay33 v
  | 3 => k0_pay38 v
  | 4 => k0_pay43 v
  | 5 => k0_pay49 v
  | 6 => k0_pay55 v
  | 7 => k0_pay2 v

theorem kR_at (v : FVec Ideal S1024x64 .bf16) (h : Fin 8) (r : Fin 1024) (d : Fin 64) : kR v h (ix4 (n0 := 1) (n1 := 1) (n2 := 1024) (n3 := 64) 0 0 r d) = v (ix2 (n0 := 1024) (n1 := 64) r d) := by
  match h with
  | 0 => pointwise [kR, k0_pay21, k0_pay27, k0_pay33, k0_pay38, k0_pay43, k0_pay49, k0_pay55, k0_pay2]
  | 1 => pointwise [kR, k0_pay21, k0_pay27, k0_pay33, k0_pay38, k0_pay43, k0_pay49, k0_pay55, k0_pay2]
  | 2 => pointwise [kR, k0_pay21, k0_pay27, k0_pay33, k0_pay38, k0_pay43, k0_pay49, k0_pay55, k0_pay2]
  | 3 => pointwise [kR, k0_pay21, k0_pay27, k0_pay33, k0_pay38, k0_pay43, k0_pay49, k0_pay55, k0_pay2]
  | 4 => pointwise [kR, k0_pay21, k0_pay27, k0_pay33, k0_pay38, k0_pay43, k0_pay49, k0_pay55, k0_pay2]
  | 5 => pointwise [kR, k0_pay21, k0_pay27, k0_pay33, k0_pay38, k0_pay43, k0_pay49, k0_pay55, k0_pay2]
  | 6 => pointwise [kR, k0_pay21, k0_pay27, k0_pay33, k0_pay38, k0_pay43, k0_pay49, k0_pay55, k0_pay2]
  | 7 => pointwise [kR, k0_pay21, k0_pay27, k0_pay33, k0_pay38, k0_pay43, k0_pay49, k0_pay55, k0_pay2]

/-- The values as stored, head by head. -/
def vT (v : FVec Ideal S1024x2048 .f32) : Fin 8 → S1x1x128x1024.Idx → Elt Ideal .bf16
  | 0 => k0_pay22 v
  | 1 => k0_pay28 v
  | 2 => k0_pay34 v
  | 3 => k0_pay39 v
  | 4 => k0_pay45 (k0_pay44 v)
  | 5 => k0_pay50 v
  | 6 => k0_pay56 v
  | 7 => k0_pay3 v

theorem vT_at (v : FVec Ideal S1024x2048 .f32) (h : Fin 8) (d : Fin 128) (r : Fin 1024) : vT v h (ix4 (n0 := 1) (n1 := 1) (n2 := 128) (n3 := 1024) 0 0 d r) = v (ix2 (n0 := 1024) (n1 := 2048) r ⟨1024 + (h.val * 128 + d.val), by omega⟩) := by
  match h with
  | 0 => pointwise [vT, k0_pay22, k0_pay28, k0_pay34, k0_pay39, k0_pay44, k0_pay45, k0_pay50, k0_pay56, k0_pay3]
  | 1 => pointwise [vT, k0_pay22, k0_pay28, k0_pay34, k0_pay39, k0_pay44, k0_pay45, k0_pay50, k0_pay56, k0_pay3] <;> exact congrArg (fun j => v (ix2 (n0 := 1024) (n1 := 2048) r j)) (Fin.ext (by show 1152 + d.val = 1024 + (128 + d.val); omega))
  | 2 => pointwise [vT, k0_pay22, k0_pay28, k0_pay34, k0_pay39, k0_pay44, k0_pay45, k0_pay50, k0_pay56, k0_pay3] <;> exact congrArg (fun j => v (ix2 (n0 := 1024) (n1 := 2048) r j)) (Fin.ext (by show 1280 + d.val = 1024 + (256 + d.val); omega))
  | 3 => pointwise [vT, k0_pay22, k0_pay28, k0_pay34, k0_pay39, k0_pay44, k0_pay45, k0_pay50, k0_pay56, k0_pay3] <;> exact congrArg (fun j => v (ix2 (n0 := 1024) (n1 := 2048) r j)) (Fin.ext (by show 1408 + d.val = 1024 + (384 + d.val); omega))
  | 4 => pointwise [vT, k0_pay22, k0_pay28, k0_pay34, k0_pay39, k0_pay44, k0_pay45, k0_pay50, k0_pay56, k0_pay3] <;> exact congrArg (fun j => v (ix2 (n0 := 1024) (n1 := 2048) r j)) (Fin.ext (by show 1536 + d.val = 1024 + (512 + d.val); omega))
  | 5 => pointwise [vT, k0_pay22, k0_pay28, k0_pay34, k0_pay39, k0_pay44, k0_pay45, k0_pay50, k0_pay56, k0_pay3] <;> exact congrArg (fun j => v (ix2 (n0 := 1024) (n1 := 2048) r j)) (Fin.ext (by show 1664 + d.val = 1024 + (640 + d.val); omega))
  | 6 => pointwise [vT, k0_pay22, k0_pay28, k0_pay34, k0_pay39, k0_pay44, k0_pay45, k0_pay50, k0_pay56, k0_pay3] <;> exact congrArg (fun j => v (ix2 (n0 := 1024) (n1 := 2048) r j)) (Fin.ext (by show 1792 + d.val = 1024 + (768 + d.val); omega))
  | 7 => pointwise [vT, k0_pay22, k0_pay28, k0_pay34, k0_pay39, k0_pay44, k0_pay45, k0_pay50, k0_pay56, k0_pay3] <;> exact congrArg (fun j => v (ix2 (n0 := 1024) (n1 := 2048) r j)) (Fin.ext (by show 1920 + d.val = 1024 + (896 + d.val); omega))

/-! ## Loads of whole blocks -/

theorem whole0 (x : Vec Ideal S1024x768 .bf16) : View.ld x (Rect.unit (s := S1024x768) ![0, 0] ![1024, 768] inb_S1024x768_S1024x768_0_0) = x := View.ld_unit_zero (S := S1024x768) (by funext a; fin_cases a <;> rfl) _ x
theorem whole1 (x : Vec Ideal S1024x512 .bf16) : View.ld x (Rect.unit (s := S1024x512) ![0, 0] ![1024, 512] inb_S1024x512_S1024x512_0_0) = x := View.ld_unit_zero (S := S1024x512) (by funext a; fin_cases a <;> rfl) _ x
theorem whole2 (x : Vec Ideal S1024x128 .f32) : View.ld x (Rect.unit (s := S1024x128) ![0, 0] ![1024, 128] inb_S1024x128_S1024x128_0_0) = x := View.ld_unit_zero (S := S1024x128) (by funext a; fin_cases a <;> rfl) _ x
theorem whole3 (x : Vec Ideal S1024x1 .i32) : View.ld x (Rect.unit (s := S1024x1) ![0, 0] ![1024, 1] inb_S1024x1_S1024x1_0_0) = x := View.ld_unit_zero (S := S1024x1) (by funext a; fin_cases a <;> rfl) _ x
theorem whole4 (x : Vec Ideal S1x128 .f32) : View.ld x (Rect.unit (s := S1x128) ![0, 0] ![1, 128] inb_S1x128_S1x128_0_0) = x := View.ld_unit_zero (S := S1x128) (by funext a; fin_cases a <;> rfl) _ x
theorem whole5 (x : Vec Ideal S768x1536 .bf16) : View.ld x (Rect.unit (s := S768x1536) ![0, 0] ![768, 1536] inb_S768x1536_S768x1536_0_0) = x := View.ld_unit_zero (S := S768x1536) (by funext a; fin_cases a <;> rfl) _ x
theorem whole6 (x : Vec Ideal S512x2048 .bf16) : View.ld x (Rect.unit (s := S512x2048) ![0, 0] ![512, 2048] inb_S512x2048_S512x2048_0_0) = x := View.ld_unit_zero (S := S512x2048) (by funext a; fin_cases a <;> rfl) _ x

/-! ## What each window holds after the body -/

variable (c : Dev nD) (i : grid0.Coords) (arg1 : Memref sig .tc .vmem S1024x768 .bf16) (harg1 : arg1.IsWhole) (arg2 : Memref sig .tc .vmem S1024x512 .bf16) (harg2 : arg2.IsWhole) (arg3 : Memref sig .tc .vmem S1024x128 .f32) (harg3 : arg3.IsWhole) (arg4 : Memref sig .tc .vmem S1024x1 .i32) (harg4 : arg4.IsWhole) (arg5 : Memref sig .tc .vmem S1x128 .f32) (harg5 : arg5.IsWhole) (arg6 : Memref sig .tc .vmem S768x1536 .bf16) (harg6 : arg6.IsWhole) (arg7 : Memref sig .tc .vmem S512x2048 .bf16) (harg7 : arg7.IsWhole) (arg8 : Memref sig .tc .vmem S1x8x1024x192 .bf16) (harg8 : arg8.IsWhole) (arg9 : Memref sig .tc .vmem S1x8x1024x192 .bf16) (harg9 : arg9.IsWhole) (arg10 : Memref sig .tc .vmem S1x8x128x1024 .bf16) (harg10 : arg10.IsWhole)
    (x0 : Vec Ideal S1024x768 .bf16) (x1 : Vec Ideal S1024x512 .bf16) (x2 : Vec Ideal S1024x128 .f32) (x3 : Vec Ideal S1024x1 .i32) (x4 : Vec Ideal S1x128 .f32) (x5 : Vec Ideal S768x1536 .bf16) (x6 : Vec Ideal S512x2048 .bf16)

theorem run7 (h : Fin 8) (r : Fin 1024) (d : Fin 192) : out0_A_7 c i arg1 harg1 arg2 harg2 arg3 harg3 arg4 harg4 arg5 harg5 arg6 harg6 arg7 harg7 arg8 harg8 arg9 harg9 arg10 harg10 x0 x1 x2 x3 x4 x5 x6 (ix4 (n0 := 1) (n1 := 8) (n2 := 1024) (n3 := 192) 0 h r d) =
    if hd : d.val < 128 then (k0_pay9 x0 x5) (ix2 (n0 := 1024) (n1 := 1536) r ⟨h.val * 128 + d.val, by omega⟩) else (k0_pay14 (k0_pay7 x3 x4) (k0_pay8 x3 x4) (k0_pay10 x0 x5) k0_pay11 (k0_pay12 x0 x5) k0_pay13) (ix2 (n0 := 1024) (n1 := 512) r ⟨h.val * 64 + (d.val - 128), by omega⟩) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, whole0, whole1, whole2, whole3, whole4, whole5, whole6]
  refine (heads_canon (qN (k0_pay9 x0 x5)) (qR (k0_pay14 (k0_pay7 x3 x4) (k0_pay8 x3 x4) (k0_pay10 x0 x5) k0_pay11 (k0_pay12 x0 x5) k0_pay13)) h r d).trans ?_
  simp only [qN_at, qR_at]

theorem run8 (h : Fin 8) (r : Fin 1024) (d : Fin 192) : out0_A_8 c i arg1 harg1 arg2 harg2 arg3 harg3 arg4 harg4 arg5 harg5 arg6 harg6 arg7 harg7 arg8 harg8 arg9 harg9 arg10 harg10 x0 x1 x2 x3 x4 x5 x6 (ix4 (n0 := 1) (n1 := 8) (n2 := 1024) (n3 := 192) 0 h r d) =
    if hd : d.val < 128 then (k0_pay15 x1 x6) (ix2 (n0 := 1024) (n1 := 2048) r ⟨h.val * 128 + d.val, by omega⟩) else (k0_pay16 (k0_pay5 x3 x4) (k0_pay6 x3 x4) x2) (ix2 (n0 := 1024) (n1 := 64) r ⟨d.val - 128, by omega⟩) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, whole0, whole1, whole2, whole3, whole4, whole5, whole6]
  refine (heads_canon (kN (k0_pay15 x1 x6)) (kR (k0_pay16 (k0_pay5 x3 x4) (k0_pay6 x3 x4) x2)) h r d).trans ?_
  simp only [kN_at, kR_at]

theorem run9 (h : Fin 8) (r : Fin 1024) (d : Fin 128) : out0_A_9 c i arg1 harg1 arg2 harg2 arg3 harg3 arg4 harg4 arg5 harg5 arg6 harg6 arg7 harg7 arg8 harg8 arg9 harg9 arg10 harg10 x0 x1 x2 x3 x4 x5 x6 (ix4 (n0 := 1) (n1 := 8) (n2 := 128) (n3 := 1024) 0 h d r) =
    (k0_pay15 x1 x6) (ix2 (n0 := 1024) (n1 := 2048) r ⟨1024 + (h.val * 128 + d.val), by omega⟩) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  simp only [View.readAt_eq_ld, harg1.read_unread, harg2.read_unread, harg3.read_unread, harg4.read_unread, harg5.read_unread, harg6.read_unread, harg7.read_unread, whole0, whole1, whole2, whole3, whole4, whole5, whole6]
  refine (vals_canon (vT (k0_pay15 x1 x6)) h d r).trans ?_
  rw [vT_at]

end Cert.Proof.K4

end
-- ==== Proof.QkvArr.lean ====
module

public import proofs.«01_k».proof.Proof.QkvBlk

@[expose] public section

set_option maxRecDepth 16384

noncomputable section

namespace Cert.Proof.K4

open Cert.Kernel4Ideal Cert.Kernel4Ideal.Gen
open Idealize.ShloMosaic Idealize.ShloMosaic.TcCoe Idealize.SL.Sem
open Idealize.ShloMosaic.Pipeline (Dat)
open Cert.Proof.Rot

/-! # The up-projections' blocks of the arguments -/

variable (m : (ℓ : Loc nD τ sig) → Buf (Elt Ideal) ℓ) (c : Dev nD)

/-- Every window's block index, at every point. -/
theorem idx : ∀ t : Fin cfg0.N, win0_0.index t = ![t.val, 0] ∧ win0_1.index t = ![t.val, 0] ∧ win0_2.index t = ![t.val, 0] ∧ win0_3.index t = ![t.val, 0] ∧ win0_4.index t = ![0, 0]
    ∧ win0_5.index t = ![0, 0] ∧ win0_6.index t = ![0, 0] ∧ win0_7.index t = ![t.val / 2, 0, t.val % 2, 0] ∧ win0_8.index t = ![t.val / 2, 0, t.val % 2, 0] ∧ win0_9.index t = ![t.val / 2, 0, 0, t.val % 2] :=
  (by decide +kernel : ∀ t : Fin grid0.N, _)

theorem N_lt (t : Fin cfg0.N) : t.val < 8 := t.isLt

theorem iblk0_at (t : Fin cfg0.N) (r : Fin 1024) (k : Fin 768) :
    iblk m c 0 t (ix2 (n0 := 1024) (n1 := 768) r k) = m ((c : Thread nD τ).loc main_arg0) (ix2 (n0 := 8192) (n1 := 768) ⟨t.val * 1024 + r.val, by have := N_lt t; omega⟩ k) := by
  have := N_lt t
  blk_ext! [iblk, V, idx t]

theorem iblk1_at (t : Fin cfg0.N) (r : Fin 1024) (k : Fin 512) :
    iblk m c 1 t (ix2 (n0 := 1024) (n1 := 512) r k) = m ((c : Thread nD τ).loc main_arg1) (ix2 (n0 := 8192) (n1 := 512) ⟨t.val * 1024 + r.val, by have := N_lt t; omega⟩ k) := by
  have := N_lt t
  blk_ext! [iblk, V, idx t]

theorem iblk2_at (t : Fin cfg0.N) (r : Fin 1024) (k : Fin 128) :
    iblk m c 2 t (ix2 (n0 := 1024) (n1 := 128) r k) = m ((c : Thread nD τ).loc main_arg2) (ix2 (n0 := 8192) (n1 := 128) ⟨t.val * 1024 + r.val, by have := N_lt t; omega⟩ k) := by
  have := N_lt t
  blk_ext! [iblk, V, idx t]

theorem iblk3_at (t : Fin cfg0.N) (r : Fin 1024) :
    iblk m c 3 t (ix2 (n0 := 1024) (n1 := 1) r 0) = m ((c : Thread nD τ).loc main_arg3) (ix2 (n0 := 4) (n1 := 2048) ⟨(t.val * 1024 + r.val) / 2048, by have := N_lt t; omega⟩ ⟨(t.val * 1024 + r.val) % 2048, by omega⟩) := by
  have := N_lt t
  blk_ext! [iblk, V, idx t]

theorem iblk4_at (t : Fin cfg0.N) (l : Fin 128) :
    iblk m c 4 t (ix2 (n0 := 1) (n1 := 128) 0 l) = freq ⟨l.val % 32, by omega⟩ := by
  blk_ext! [iblk, V, idx t]

theorem iblk6_lo (t : Fin cfg0.N) (k : Fin 512) (h : Fin 8) (d : Fin 128) :
    iblk m c 6 t (ix2 (n0 := 512) (n1 := 2048) k ⟨h.val * 128 + d.val, by omega⟩) = m ((c : Thread nD τ).loc main_arg5) (ix2 (n0 := 512) (n1 := 2048) k ⟨h.val * 256 + d.val, by omega⟩) := by
  blk_ext! [iblk, V, idx t]

theorem iblk6_hi (t : Fin cfg0.N) (k : Fin 512) (h : Fin 8) (d : Fin 128) :
    iblk m c 6 t (ix2 (n0 := 512) (n1 := 2048) k ⟨1024 + (h.val * 128 + d.val), by omega⟩) = m ((c : Thread nD τ).loc main_arg5) (ix2 (n0 := 512) (n1 := 2048) k ⟨h.val * 256 + (128 + d.val), by omega⟩) := by
  blk_ext! [iblk, V, idx t]

end Cert.Proof.K4

end
-- ==== Proof.QkvW.lean ====
module

public import proofs.«01_k».proof.Proof.QkvArr

@[expose] public section

set_option maxRecDepth 16384

noncomputable section

namespace Cert.Proof.K4

open Cert.Kernel4Ideal Cert.Kernel4Ideal.Gen
open Idealize.ShloMosaic Idealize.ShloMosaic.TcCoe Idealize.SL.Sem
open Idealize.ShloMosaic.Pipeline (Dat)
open Cert.Proof.Rot

/-! # The queries' weights, as a block of the call -/

variable (m : (ℓ : Loc nD τ sig) → Buf (Elt Ideal) ℓ) (c : Dev nD)

/-- The queries' weights, their rotary columns set last. -/
theorem w21_at (k : Fin 768) (j : Fin 1536) :
    V m c main_v21 (ix2 (n0 := 768) (n1 := 1536) k j) = (if h : j.val < 1024 then m ((c : Thread nD τ).loc main_arg4) (ix2 (n0 := 768) (n1 := 1536) k ⟨j.val / 128 * 192 + j.val % 128, by omega⟩)
      else m ((c : Thread nD τ).loc main_arg4) (ix2 (n0 := 768) (n1 := 1536) k ⟨(j.val - 1024) / 64 * 192 + (128 + (j.val - 1024) % 64), by omega⟩)) := by
  entry_read
  pointwise

theorem w21_lo (k : Fin 768) (j : Fin 1536) (h : j.val < 1024) (q : Fin 1536) (hq : j.val / 128 * 192 + j.val % 128 = q.val) :
    V m c main_v21 (ix2 (n0 := 768) (n1 := 1536) k j) = m ((c : Thread nD τ).loc main_arg4) (ix2 (n0 := 768) (n1 := 1536) k q) := by
  exact ((w21_at m c k j).trans (dif_pos h)).trans (congrArg (fun q => m ((c : Thread nD τ).loc main_arg4) (ix2 (n0 := 768) (n1 := 1536) k q)) (Fin.ext hq))

theorem w21_hi (k : Fin 768) (j : Fin 1536) (h : ¬ j.val < 1024) (q : Fin 1536) (hq : (j.val - 1024) / 64 * 192 + (128 + (j.val - 1024) % 64) = q.val) :
    V m c main_v21 (ix2 (n0 := 768) (n1 := 1536) k j) = m ((c : Thread nD τ).loc main_arg4) (ix2 (n0 := 768) (n1 := 1536) k q) := by
  exact ((w21_at m c k j).trans (dif_neg h)).trans (congrArg (fun q => m ((c : Thread nD τ).loc main_arg4) (ix2 (n0 := 768) (n1 := 1536) k q)) (Fin.ext hq))

theorem emb5 (t : Fin cfg0.N) (k : Fin 768) (j : Fin 1536) : ((cfg0.win 5).blk t).view.emb (ix2 (n0 := 768) (n1 := 1536) k j) = ix2 (n0 := 768) (n1 := 1536) k j := by
  blk_ext [idx t]

theorem iblk5_at (t : Fin cfg0.N) (k : Fin 768) (j : Fin 1536) : iblk m c 5 t (ix2 (n0 := 768) (n1 := 1536) k j) = V m c main_v21 (ix2 (n0 := 768) (n1 := 1536) k j) :=
  congrArg (V m c main_v21) (emb5 t k j)

theorem iblk5_lo (t : Fin cfg0.N) (k : Fin 768) (h : Fin 8) (d : Fin 128) :
    iblk m c 5 t (ix2 (n0 := 768) (n1 := 1536) k ⟨h.val * 128 + d.val, by omega⟩) = m ((c : Thread nD τ).loc main_arg4) (ix2 (n0 := 768) (n1 := 1536) k ⟨h.val * 192 + d.val, by omega⟩) :=
  (iblk5_at m c t k _).trans (w21_lo m c k _ (by show h.val * 128 + d.val < 1024; omega) _
    (by show (h.val * 128 + d.val) / 128 * 192 + (h.val * 128 + d.val) % 128 = h.val * 192 + d.val; omega))

theorem iblk5_hi (t : Fin cfg0.N) (k : Fin 768) (h : Fin 8) (d : Fin 64) :
    iblk m c 5 t (ix2 (n0 := 768) (n1 := 1536) k ⟨1024 + (h.val * 64 + d.val), by omega⟩) = m ((c : Thread nD τ).loc main_arg4) (ix2 (n0 := 768) (n1 := 1536) k ⟨h.val * 192 + (128 + d.val), by omega⟩) :=
  (iblk5_at m c t k _).trans (w21_hi m c k _ (by show ¬ 1024 + (h.val * 64 + d.val) < 1024; omega) _
    (by show (1024 + (h.val * 64 + d.val) - 1024) / 64 * 192 + (128 + (1024 + (h.val * 64 + d.val) - 1024) % 64) = h.val * 192 + (128 + d.val); omega))

end Cert.Proof.K4

end
-- ==== Proof.QkvTok.lean ====
module

public import proofs.«01_k».proof.Proof.QkvW

@[expose] public section

set_option maxRecDepth 16384

noncomputable section

namespace Cert.Proof.K4

open Cert.Kernel4Ideal Cert.Kernel4Ideal.Gen
open Idealize.ShloMosaic Idealize.ShloMosaic.TcCoe Idealize.SL.Sem
open Idealize.ShloMosaic.Pipeline (Dat)
open Cert.Proof.Rot

/-! # The up-projections of one block of tokens -/

variable (m : (ℓ : Loc nD τ sig) → Buf (Elt Ideal) ℓ) (c : Dev nD)

/-! ## What the arguments come to -/

/-- The angles of a token. -/
def aAng (b : Fin 4) (s : Fin 2048) (i : Fin 32) : EReal :=
  (FloatOps.sitofp (F := Ideal) .f32 (m ((c : Thread nD τ).loc main_arg3) (ix2 (n0 := 4) (n1 := 2048) b s)) : EReal) * freq i

/-- A column of the queries' projection of a token, before the scale. -/
def aQc (n : Fin 8192) (j : Fin 1536) : EReal :=
  dot (fun k => m ((c : Thread nD τ).loc main_arg0) (ix2 (n0 := 8192) (n1 := 768) n k)) (fun k => m ((c : Thread nD τ).loc main_arg4) (ix2 (n0 := 768) (n1 := 1536) k j))

/-- A column of the keys' and values' projection. -/
def aKc (n : Fin 8192) (j : Fin 2048) : EReal :=
  dot (fun k => m ((c : Thread nD τ).loc main_arg1) (ix2 (n0 := 8192) (n1 := 512) n k)) (fun k => m ((c : Thread nD τ).loc main_arg5) (ix2 (n0 := 512) (n1 := 2048) k j))

/-- A token's row of the flat arrays. -/
def tok (b : Fin 4) (s : Fin 2048) : Fin 8192 := ⟨b.val * 2048 + s.val, by omega⟩

/-- The queries at an index. -/
def gQ (b : Fin 4) (h : Fin 8) (s : Fin 2048) (d : Fin 192) : EReal :=
  (if hd : d.val < 128 then aQc m c (tok b s) ⟨h.val * 192 + d.val, by omega⟩
   else rot (fun k => aQc m c (tok b s) ⟨h.val * 192 + (128 + k.val), by omega⟩) (aAng m c b s) ⟨d.val - 128, by omega⟩) * scale

/-- The keys at an index. -/
def gK (b : Fin 4) (h : Fin 8) (s : Fin 2048) (d : Fin 192) : EReal :=
  if hd : d.val < 128 then aKc m c (tok b s) ⟨h.val * 256 + d.val, by omega⟩
  else rot (fun k => m ((c : Thread nD τ).loc main_arg2) (ix2 (n0 := 8192) (n1 := 128) (tok b s) ⟨k.val, by omega⟩)) (aAng m c b s) ⟨d.val - 128, by omega⟩

/-- The values at an index. -/
def gV (b : Fin 4) (h : Fin 8) (d : Fin 128) (s : Fin 2048) : EReal := aKc m c (tok b s) ⟨h.val * 256 + (128 + d.val), by omega⟩

/-! ## One point's blocks -/

/-- The batch and the token of a point's block row. -/
def bat (t : Fin cfg0.N) : Fin 4 := ⟨t.val / 2, by have := N_lt t; omega⟩
def pos (t : Fin cfg0.N) (r : Fin 1024) : Fin 2048 := ⟨t.val % 2 * 1024 + r.val, by omega⟩

theorem row_eq (t : Fin cfg0.N) (r : Fin 1024) (h : t.val * 1024 + r.val < 8192) : (⟨t.val * 1024 + r.val, h⟩ : Fin 8192) = tok (bat t) (pos t r) :=
  Fin.ext (by show t.val * 1024 + r.val = t.val / 2 * 2048 + (t.val % 2 * 1024 + r.val); omega)

theorem pay4_blk (t : Fin cfg0.N) (r : Fin 1024) (l : Fin 128) : k0_pay4 (iblk m c 3 t) (iblk m c 4 t) (ix2 (n0 := 1024) (n1 := 128) r l) = aAng m c (bat t) (pos t r) ⟨l.val % 32, by omega⟩ := by
  have := N_lt t
  refine (pay4_at (iblk m c 3 t) (iblk m c 4 t) r l).trans ?_
  unfold aAng
  rw [iblk3_at, iblk4_at]
  have e : (ix2 (n0 := 4) (n1 := 2048) ⟨(t.val * 1024 + r.val) / 2048, by omega⟩ ⟨(t.val * 1024 + r.val) % 2048, by omega⟩) = ix2 (n0 := 4) (n1 := 2048) (bat t) (pos t r) := by
    congr 1 <;> apply Fin.ext
    · show (t.val * 1024 + r.val) / 2048 = t.val / 2; omega
    · show (t.val * 1024 + r.val) % 2048 = t.val % 2 * 1024 + r.val; omega
  rw [e]

theorem cos4_blk (t : Fin cfg0.N) (r : Fin 1024) (l : Fin 512) : k0_pay7 (iblk m c 3 t) (iblk m c 4 t) (ix2 (n0 := 1024) (n1 := 512) r l) = Ideal.cos (aAng m c (bat t) (pos t r) ⟨l.val % 32, by omega⟩) := by
  refine (four_at (k0_pay5 (iblk m c 3 t) (iblk m c 4 t)) r l).trans ((pay5_at (iblk m c 3 t) (iblk m c 4 t) r _).trans ?_)
  rw [pay4_blk]
  exact congrArg (fun i => Ideal.cos (aAng m c (bat t) (pos t r) i)) (Fin.ext (by show l.val % 128 % 32 = l.val % 32; omega))

theorem sin4_blk (t : Fin cfg0.N) (r : Fin 1024) (l : Fin 512) : k0_pay8 (iblk m c 3 t) (iblk m c 4 t) (ix2 (n0 := 1024) (n1 := 512) r l) = Ideal.sin (aAng m c (bat t) (pos t r) ⟨l.val % 32, by omega⟩) := by
  refine (four_at (k0_pay6 (iblk m c 3 t) (iblk m c 4 t)) r l).trans ((pay6_at (iblk m c 3 t) (iblk m c 4 t) r _).trans ?_)
  rw [pay4_blk]
  exact congrArg (fun i => Ideal.sin (aAng m c (bat t) (pos t r) i)) (Fin.ext (by show l.val % 128 % 32 = l.val % 32; omega))

theorem q_lo (t : Fin cfg0.N) (r : Fin 1024) (h : Fin 8) (d : Fin 128) : k0_pay9 (iblk m c 0 t) (iblk m c 5 t) (ix2 (n0 := 1024) (n1 := 1536) r ⟨h.val * 128 + d.val, by omega⟩) = aQc m c (tok (bat t) (pos t r)) ⟨h.val * 192 + d.val, by omega⟩ * scale := by
  refine (pay9_at (iblk m c 0 t) (iblk m c 5 t) r _).trans ?_
  unfold aQc
  rw [← row_eq t r (by have := N_lt t; omega)]
  simp only [iblk0_at, iblk5_lo]

theorem q_hi (t : Fin cfg0.N) (r : Fin 1024) (h : Fin 8) (d : Fin 64) : k0_pay10 (iblk m c 0 t) (iblk m c 5 t) (ix2 (n0 := 1024) (n1 := 512) r ⟨h.val * 64 + d.val, by omega⟩) = aQc m c (tok (bat t) (pos t r)) ⟨h.val * 192 + (128 + d.val), by omega⟩ * scale := by
  refine (pay10_at (iblk m c 0 t) (iblk m c 5 t) r _).trans ((pay9_at (iblk m c 0 t) (iblk m c 5 t) r _).trans ?_)
  unfold aQc
  rw [← row_eq t r (by have := N_lt t; omega)]
  simp only [iblk0_at, iblk5_hi]

theorem kv_lo (t : Fin cfg0.N) (r : Fin 1024) (h : Fin 8) (d : Fin 128) : k0_pay15 (iblk m c 1 t) (iblk m c 6 t) (ix2 (n0 := 1024) (n1 := 2048) r ⟨h.val * 128 + d.val, by omega⟩) = aKc m c (tok (bat t) (pos t r)) ⟨h.val * 256 + d.val, by omega⟩ := by
  refine (pay15_at (iblk m c 1 t) (iblk m c 6 t) r _).trans ?_
  unfold aKc
  rw [← row_eq t r (by have := N_lt t; omega)]
  simp only [iblk1_at, iblk6_lo]

theorem kv_hi (t : Fin cfg0.N) (r : Fin 1024) (h : Fin 8) (d : Fin 128) : k0_pay15 (iblk m c 1 t) (iblk m c 6 t) (ix2 (n0 := 1024) (n1 := 2048) r ⟨1024 + (h.val * 128 + d.val), by omega⟩) = aKc m c (tok (bat t) (pos t r)) ⟨h.val * 256 + (128 + d.val), by omega⟩ := by
  refine (pay15_at (iblk m c 1 t) (iblk m c 6 t) r _).trans ?_
  unfold aKc
  rw [← row_eq t r (by have := N_lt t; omega)]
  simp only [iblk1_at, iblk6_hi]

theorem q_rot (t : Fin cfg0.N) (r : Fin 1024) (h : Fin 8) (d : Fin 64) :
    k0_pay14 (k0_pay7 (iblk m c 3 t) (iblk m c 4 t)) (k0_pay8 (iblk m c 3 t) (iblk m c 4 t)) (k0_pay10 (iblk m c 0 t) (iblk m c 5 t)) k0_pay11 (k0_pay12 (iblk m c 0 t) (iblk m c 5 t)) k0_pay13 (ix2 (n0 := 1024) (n1 := 512) r ⟨h.val * 64 + d.val, by omega⟩)
      = rot (fun k => aQc m c (tok (bat t) (pos t r)) ⟨h.val * 192 + (128 + k.val), by omega⟩) (aAng m c (bat t) (pos t r)) d * scale := by
  refine (pay14_rot _ _ _ r h d (aAng m c (bat t) (pos t r)) (cos4_blk m c t r) (sin4_blk m c t r)).trans ?_
  rw [← rot_scale]
  exact congrArg (fun x => rot x (aAng m c (bat t) (pos t r)) d) (funext fun k => q_hi m c t r h k)

theorem k_rot (t : Fin cfg0.N) (r : Fin 1024) (d : Fin 64) :
    k0_pay16 (k0_pay5 (iblk m c 3 t) (iblk m c 4 t)) (k0_pay6 (iblk m c 3 t) (iblk m c 4 t)) (iblk m c 2 t) (ix2 (n0 := 1024) (n1 := 64) r d)
      = rot (fun k => m ((c : Thread nD τ).loc main_arg2) (ix2 (n0 := 8192) (n1 := 128) (tok (bat t) (pos t r)) ⟨k.val, by omega⟩)) (aAng m c (bat t) (pos t r)) d := by
  refine (pay16_rot _ _ _ r d (aAng m c (bat t) (pos t r)) (fun l => ?_) (fun l => ?_)).trans ?_
  · rw [pay5_at, pay4_blk]
  · rw [pay6_at, pay4_blk]
  · refine congrArg (fun x => rot x (aAng m c (bat t) (pos t r)) d) (funext fun k => ?_)
    rw [← row_eq t r (by have := N_lt t; omega)]
    exact iblk2_at m c t r _

end Cert.Proof.K4

end
-- ==== Proof.QkvOut7.lean ====
module

public import proofs.«01_k».proof.Proof.QkvTok

@[expose] public section

set_option maxRecDepth 16384

noncomputable section

namespace Cert.Proof.K4

open Cert.Kernel4Ideal Cert.Kernel4Ideal.Gen
open Idealize.ShloMosaic Idealize.ShloMosaic.TcCoe Idealize.SL.Sem
open Idealize.ShloMosaic.Pipeline (Dat)
open Cert.Proof.Rot

/-! # The queries' array -/

variable (m : (ℓ : Loc nD τ sig) → Buf (Elt Ideal) ℓ) (c : Dev nD)

theorem out7_at (t : Fin cfg0.N) (h : Fin 8) (r : Fin 1024) (d : Fin 192) : out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (ix4 (n0 := 1) (n1 := 8) (n2 := 1024) (n3 := 192) 0 h r d) = gQ m c (bat t) h (pos t r) d := by
  refine (run7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) h r d).trans ?_
  unfold gQ
  by_cases hd : d.val < 128
  · rw [dif_pos hd, dif_pos hd]
    exact q_lo m c t r h ⟨d.val, hd⟩
  · rw [dif_neg hd, dif_neg hd]
    exact q_rot m c t r h ⟨d.val - 128, by omega⟩

theorem outs7_at (t : Fin cfg0.N) (h : Fin 8) (r : Fin 1024) (d : Fin 192) : (outsAt0 m c t).1 (ix4 (n0 := 1) (n1 := 8) (n2 := 1024) (n3 := 192) 0 h r d) = gQ m c (bat t) h (pos t r) d := by
  dsimp only [outsAt0]
  exact out7_at m c t h r d

theorem arr7 : (dats m 0 c).arrAt 7 cfg0.N = (fun i => gQ m c (i 0) (i 1) (i 2) (i 3) : S4x8x2048x192.Idx → EReal) := by
  refine (dats m 0 c).arrAt_eq_of_covers 7 _ (by decide +kernel) fun t hf y => ?_
  obtain ⟨h, r, d, rfl⟩ : ∃ (h : Fin 8) (r : Fin 1024) (d : Fin 192), y = ix4 (n0 := 1) (n1 := 8) (n2 := 1024) (n3 := 192) 0 h r d := by
    have l0 : (y 0).val < 1 := (y 0).isLt
    refine ⟨y 1, y 2, y 3, ?_⟩
    funext a
    match a with
    | ⟨0, _⟩ => exact Fin.ext (by show (y 0).val = 0; omega)
    | ⟨1, _⟩ => rfl
    | ⟨2, _⟩ => rfl
    | ⟨3, _⟩ => rfl
  have := N_lt t
  have hy : ((cfg0.win 7).blk t).view.emb (ix4 (n0 := 1) (n1 := 8) (n2 := 1024) (n3 := 192) 0 h r d) = ix4 (n0 := 4) (n1 := 8) (n2 := 2048) (n3 := 192) (bat t) h (pos t r) d := by
    blk_ext [bat, pos, idx t]
  rw [hy]
  blk_simp
  rw [after0_7]
  exact outs7_at m c t h r d

end Cert.Proof.K4

end
-- ==== Proof.QkvOut8.lean ====
module

public import proofs.«01_k».proof.Proof.QkvTok

@[expose] public section

set_option maxRecDepth 16384

noncomputable section

namespace Cert.Proof.K4

open Cert.Kernel4Ideal Cert.Kernel4Ideal.Gen
open Idealize.ShloMosaic Idealize.ShloMosaic.TcCoe Idealize.SL.Sem
open Idealize.ShloMosaic.Pipeline (Dat)
open Cert.Proof.Rot

/-! # The keys' array -/

variable (m : (ℓ : Loc nD τ sig) → Buf (Elt Ideal) ℓ) (c : Dev nD)

theorem out8_at (t : Fin cfg0.N) (h : Fin 8) (r : Fin 1024) (d : Fin 192) : out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (ix4 (n0 := 1) (n1 := 8) (n2 := 1024) (n3 := 192) 0 h r d) = gK m c (bat t) h (pos t r) d := by
  refine (run8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) h r d).trans ?_
  unfold gK
  by_cases hd : d.val < 128
  · rw [dif_pos hd, dif_pos hd]
    exact kv_lo m c t r h ⟨d.val, hd⟩
  · rw [dif_neg hd, dif_neg hd]
    exact k_rot m c t r ⟨d.val - 128, by omega⟩

theorem outs8_at (t : Fin cfg0.N) (h : Fin 8) (r : Fin 1024) (d : Fin 192) : (outsAt0 m c t).2.1 (ix4 (n0 := 1) (n1 := 8) (n2 := 1024) (n3 := 192) 0 h r d) = gK m c (bat t) h (pos t r) d := by
  dsimp only [outsAt0]
  exact out8_at m c t h r d

theorem arr8 : (dats m 0 c).arrAt 8 cfg0.N = (fun i => gK m c (i 0) (i 1) (i 2) (i 3) : S4x8x2048x192.Idx → EReal) := by
  refine (dats m 0 c).arrAt_eq_of_covers 8 _ (by decide +kernel) fun t hf y => ?_
  obtain ⟨h, r, d, rfl⟩ : ∃ (h : Fin 8) (r : Fin 1024) (d : Fin 192), y = ix4 (n0 := 1) (n1 := 8) (n2 := 1024) (n3 := 192) 0 h r d := by
    have l0 : (y 0).val < 1 := (y 0).isLt
    refine ⟨y 1, y 2, y 3, ?_⟩
    funext a
    match a with
    | ⟨0, _⟩ => exact Fin.ext (by show (y 0).val = 0; omega)
    | ⟨1, _⟩ => rfl
    | ⟨2, _⟩ => rfl
    | ⟨3, _⟩ => rfl
  have := N_lt t
  have hy : ((cfg0.win 8).blk t).view.emb (ix4 (n0 := 1) (n1 := 8) (n2 := 1024) (n3 := 192) 0 h r d) = ix4 (n0 := 4) (n1 := 8) (n2 := 2048) (n3 := 192) (bat t) h (pos t r) d := by
    blk_ext [bat, pos, idx t]
  rw [hy]
  blk_simp
  rw [after0_8]
  exact outs8_at m c t h r d

end Cert.Proof.K4

end
-- ==== Proof.QkvOut9.lean ====
module

public import proofs.«01_k».proof.Proof.QkvTok

@[expose] public section

set_option maxRecDepth 16384

noncomputable section

namespace Cert.Proof.K4

open Cert.Kernel4Ideal Cert.Kernel4Ideal.Gen
open Idealize.ShloMosaic Idealize.ShloMosaic.TcCoe Idealize.SL.Sem
open Idealize.ShloMosaic.Pipeline (Dat)
open Cert.Proof.Rot

/-! # The values' array -/

variable (m : (ℓ : Loc nD τ sig) → Buf (Elt Ideal) ℓ) (c : Dev nD)

theorem out9_at (t : Fin cfg0.N) (h : Fin 8) (d : Fin 128) (r : Fin 1024) : out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (ix4 (n0 := 1) (n1 := 8) (n2 := 128) (n3 := 1024) 0 h d r) = gV m c (bat t) h d (pos t r) := by
  refine (run9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) h r d).trans ?_
  exact kv_hi m c t r h d

theorem outs9_at (t : Fin cfg0.N) (h : Fin 8) (d : Fin 128) (r : Fin 1024) : (outsAt0 m c t).2.2 (ix4 (n0 := 1) (n1 := 8) (n2 := 128) (n3 := 1024) 0 h d r) = gV m c (bat t) h d (pos t r) := by
  dsimp only [outsAt0]
  exact out9_at m c t h d r

theorem arr9 : (dats m 0 c).arrAt 9 cfg0.N = (fun i => gV m c (i 0) (i 1) (i 2) (i 3) : S4x8x128x2048.Idx → EReal) := by
  refine (dats m 0 c).arrAt_eq_of_covers 9 _ (by decide +kernel) fun t hf y => ?_
  obtain ⟨h, d, r, rfl⟩ : ∃ (h : Fin 8) (d : Fin 128) (r : Fin 1024), y = ix4 (n0 := 1) (n1 := 8) (n2 := 128) (n3 := 1024) 0 h d r := by
    have l0 : (y 0).val < 1 := (y 0).isLt
    refine ⟨y 1, y 2, y 3, ?_⟩
    funext a
    match a with
    | ⟨0, _⟩ => exact Fin.ext (by show (y 0).val = 0; omega)
    | ⟨1, _⟩ => rfl
    | ⟨2, _⟩ => rfl
    | ⟨3, _⟩ => rfl
  have := N_lt t
  have hy : ((cfg0.win 9).blk t).view.emb (ix4 (n0 := 1) (n1 := 8) (n2 := 128) (n3 := 1024) 0 h d r) = ix4 (n0 := 4) (n1 := 8) (n2 := 128) (n3 := 2048) (bat t) h d (pos t r) := by
    blk_ext [bat, pos, idx t]
  rw [hy]
  blk_simp
  rw [after0_9]
  exact outs9_at m c t h d r

end Cert.Proof.K4

end
-- ==== Proof.QkvRef.lean ====
module

public import proofs.«01_k».proof.Proof.Gen.Reference4Ideal.Run
public import proofs.«01_k».proof.Proof.QkvSpec

@[expose] public section

set_option maxRecDepth 16384

noncomputable section

namespace Cert.Proof.R4

open Cert.Reference4Ideal Cert.Reference4Ideal.Gen
open Idealize.ShloMosaic Idealize.ShloMosaic.TcCoe
open Cert.Proof.Rot

/-! # The reference of the up-projections at an index -/

/-- The inverse frequencies. -/
def rF : S32.Idx → Ideal .f32 :=
  Host.divf (F := Ideal) (φ := .f32) (broadcastInDim S32 ![] bcast_S_S32 (constant (F := Ideal) S_ .f32 0x3F800000#32)) (Host.powf (F := Ideal) (φ := .f32) (broadcastInDim S32 ![] bcast_S_S32 (constant (F := Ideal) S_ .f32 0x461C4000#32)) (Host.divf (F := Ideal) (φ := .f32) (addf (F := Ideal) (φ := .f32) (broadcastInDim S32 ![] bcast_S_S32 (constant (F := Ideal) S_ .f32 0x00000000#32)) (mulf (F := Ideal) (φ := .f32) (broadcastInDim S32 ![] bcast_S_S32 (constant (F := Ideal) S_ .f32 0x40000000#32)) (sitofp (F := Ideal) .f32 (iotaInDim S32 32 0)))) (broadcastInDim S32 ![] bcast_S_S32 (constant (F := Ideal) S_ .f32 0x42800000#32))))

theorem rF_at (i : Fin 32) : rF (ix1 (n0 := 32) i) = freq i := by
  pointwise [rF]
  rfl

/-- The angles: a token's position times the inverse frequencies. -/
def rA (P : S4x2048.Idx → BitVec 32) (F : S32.Idx → Ideal .f32) : S4x2048x32.Idx → Ideal .f32 :=
  mulf (F := Ideal) (φ := .f32) (broadcastInDim S4x2048x32 ![0, 1, 2] bcast_S4x2048x1_S4x2048x32_0_1_2 (broadcastInDim S4x2048x1 ![0, 1] bcast_S4x2048_S4x2048x1_0_1 (sitofp (F := Ideal) .f32 P))) (broadcastInDim S4x2048x32 ![0, 1, 2] bcast_S1x1x32_S4x2048x32_0_1_2 (broadcastInDim S1x1x32 ![2] bcast_S32_S1x1x32_2 F))

theorem rA_at (P : S4x2048.Idx → BitVec 32) (F : S32.Idx → Ideal .f32) (b : Fin 4) (s : Fin 2048) (i : Fin 32) :
    rA P F (ix3 (n0 := 4) (n1 := 2048) (n2 := 32) b s i) = (FloatOps.sitofp (F := Ideal) .f32 (P (ix2 (n0 := 4) (n1 := 2048) b s)) : EReal) * F (ix1 (n0 := 32) i) := by
  pointwise [rA]

/-- The queries' columns, head by head. -/
def rQ (X : S8192x768.Idx → Ideal .bf16) (W : S768x1536.Idx → Ideal .f32) : S4x2048x8x192.Idx → Ideal .f32 :=
  shapeCast _ (Host.dotGeneral (F := Ideal) (φ₁ := .f32) (φ₂ := .f32) dot_S4x2048x768_S768x1536_S4x2048x1536_2_0_01_1_n_n none (shapeCast _ (extf (F := Ideal) (φ := .bf16) .f32 X bitsLt_bf16_f32) shapeCasts_S8192x768_S4x2048x768) W) shapeCasts_S4x2048x1536_S4x2048x8x192

theorem rQ_at (X : S8192x768.Idx → Ideal .bf16) (W : S768x1536.Idx → Ideal .f32) (b : Fin 4) (s : Fin 2048) (h : Fin 8) (d : Fin 192) :
    rQ X W (ix4 (n0 := 4) (n1 := 2048) (n2 := 8) (n3 := 192) b s h d) = dot (fun k => X (ix2 (n0 := 8192) (n1 := 768) ⟨b.val * 2048 + s.val, by omega⟩ k)) (fun k => W (ix2 (n0 := 768) (n1 := 1536) k ⟨h.val * 192 + d.val, by omega⟩)) := by
  pointwise [rQ]
  rfl

/-- The keys' and values' columns, head by head. -/
def rKV (X : S8192x512.Idx → Ideal .bf16) (W : S512x2048.Idx → Ideal .f32) : S4x2048x8x256.Idx → Ideal .f32 :=
  shapeCast _ (Host.dotGeneral (F := Ideal) (φ₁ := .f32) (φ₂ := .f32) dot_S4x2048x512_S512x2048_S4x2048x2048_2_0_01_1_n_n none (shapeCast _ (extf (F := Ideal) (φ := .bf16) .f32 X bitsLt_bf16_f32) shapeCasts_S8192x512_S4x2048x512) W) shapeCasts_S4x2048x2048_S4x2048x8x256

theorem rKV_at (X : S8192x512.Idx → Ideal .bf16) (W : S512x2048.Idx → Ideal .f32) (b : Fin 4) (s : Fin 2048) (h : Fin 8) (d : Fin 256) :
    rKV X W (ix4 (n0 := 4) (n1 := 2048) (n2 := 8) (n3 := 256) b s h d) = dot (fun k => X (ix2 (n0 := 8192) (n1 := 512) ⟨b.val * 2048 + s.val, by omega⟩ k)) (fun k => W (ix2 (n0 := 512) (n1 := 2048) k ⟨h.val * 256 + d.val, by omega⟩)) := by
  pointwise [rKV]
  rfl

/-- The queries' rotary columns. -/
def rQr (Q : S4x2048x8x192.Idx → Ideal .f32) (A : S4x2048x32.Idx → Ideal .f32) : S4x2048x8x64.Idx → Ideal .f32 :=
  concatenate S4x2048x8x64 3 [⟨S4x2048x8x32, (subf (F := Ideal) (φ := .f32) (mulf (F := Ideal) (φ := .f32) (extractStridedSlice S4x2048x8x32 ![0, 0, 0, 0] (extractStridedSlice S4x2048x8x64 ![0, 0, 0, 128] Q slices_S4x2048x8x192_S4x2048x8x64_0_0_0_128) slices_S4x2048x8x64_S4x2048x8x32_0_0_0_0) (broadcastInDim S4x2048x8x32 ![0, 1, 2, 3] bcast_S4x2048x1x32_S4x2048x8x32_0_1_2_3 (broadcastInDim S4x2048x1x32 ![0, 1, 3] bcast_S4x2048x32_S4x2048x1x32_0_1_3 (Host.cos (F := Ideal) (φ := .f32) A)))) (mulf (F := Ideal) (φ := .f32) (extractStridedSlice S4x2048x8x32 ![0, 0, 0, 32] (extractStridedSlice S4x2048x8x64 ![0, 0, 0, 128] Q slices_S4x2048x8x192_S4x2048x8x64_0_0_0_128) slices_S4x2048x8x64_S4x2048x8x32_0_0_0_32) (broadcastInDim S4x2048x8x32 ![0, 1, 2, 3] bcast_S4x2048x1x32_S4x2048x8x32_0_1_2_3 (broadcastInDim S4x2048x1x32 ![0, 1, 3] bcast_S4x2048x32_S4x2048x1x32_0_1_3 (Host.sin (F := Ideal) (φ := .f32) A)))))⟩, ⟨S4x2048x8x32, (addf (F := Ideal) (φ := .f32) (mulf (F := Ideal) (φ := .f32) (extractStridedSlice S4x2048x8x32 ![0, 0, 0, 32] (extractStridedSlice S4x2048x8x64 ![0, 0, 0, 128] Q slices_S4x2048x8x192_S4x2048x8x64_0_0_0_128) slices_S4x2048x8x64_S4x2048x8x32_0_0_0_32) (broadcastInDim S4x2048x8x32 ![0, 1, 2, 3] bcast_S4x2048x1x32_S4x2048x8x32_0_1_2_3 (broadcastInDim S4x2048x1x32 ![0, 1, 3] bcast_S4x2048x32_S4x2048x1x32_0_1_3 (Host.cos (F := Ideal) (φ := .f32) A)))) (mulf (F := Ideal) (φ := .f32) (extractStridedSlice S4x2048x8x32 ![0, 0, 0, 0] (extractStridedSlice S4x2048x8x64 ![0, 0, 0, 128] Q slices_S4x2048x8x192_S4x2048x8x64_0_0_0_128) slices_S4x2048x8x64_S4x2048x8x32_0_0_0_0) (broadcastInDim S4x2048x8x32 ![0, 1, 2, 3] bcast_S4x2048x1x32_S4x2048x8x32_0_1_2_3 (broadcastInDim S4x2048x1x32 ![0, 1, 3] bcast_S4x2048x32_S4x2048x1x32_0_1_3 (Host.sin (F := Ideal) (φ := .f32) A)))))⟩] concatenates_S4x2048x8x32_S4x2048x8x32_S4x2048x8x64_d3

theorem rQr_at (Q : S4x2048x8x192.Idx → Ideal .f32) (A : S4x2048x32.Idx → Ideal .f32) (b : Fin 4) (s : Fin 2048) (h : Fin 8) (d : Fin 64) :
    rQr Q A (ix4 (n0 := 4) (n1 := 2048) (n2 := 8) (n3 := 64) b s h d) = rot (fun k => Q (ix4 (n0 := 4) (n1 := 2048) (n2 := 8) (n3 := 192) b s h ⟨128 + k.val, by omega⟩)) (fun i => A (ix3 (n0 := 4) (n1 := 2048) (n2 := 32) b s i)) d := by
  unfold rot
  by_cases hd : d.val < 32
  · rw [dif_pos hd]
    pointwise [rQr]
    simp only [dif_pos hd, Nat.add_comm 32]
  · rw [dif_neg hd]
    pointwise [rQr]
    have e : 32 + (d.val - 32) = d.val := by omega
    simp only [dif_neg hd, e]

/-- The keys' rotary columns before the embedding. -/
def rE (X : S8192x128.Idx → Ideal .f32) : S4x2048x64.Idx → Ideal .f32 :=
  shapeCast _ (extractStridedSlice S8192x64 ![0, 0] X slices_S8192x128_S8192x64_0_0) shapeCasts_S8192x64_S4x2048x64

theorem rE_at (X : S8192x128.Idx → Ideal .f32) (b : Fin 4) (s : Fin 2048) (k : Fin 64) :
    rE X (ix3 (n0 := 4) (n1 := 2048) (n2 := 64) b s k) = X (ix2 (n0 := 8192) (n1 := 128) ⟨b.val * 2048 + s.val, by omega⟩ ⟨k.val, by omega⟩) := by
  pointwise [rE]

/-- … and after it. -/
def rKr (E : S4x2048x64.Idx → Ideal .f32) (A : S4x2048x32.Idx → Ideal .f32) : S4x2048x64.Idx → Ideal .f32 :=
  concatenate S4x2048x64 2 [⟨S4x2048x32, (subf (F := Ideal) (φ := .f32) (mulf (F := Ideal) (φ := .f32) (extractStridedSlice S4x2048x32 ![0, 0, 0] E slices_S4x2048x64_S4x2048x32_0_0_0) (Host.cos (F := Ideal) (φ := .f32) A)) (mulf (F := Ideal) (φ := .f32) (extractStridedSlice S4x2048x32 ![0, 0, 32] E slices_S4x2048x64_S4x2048x32_0_0_32) (Host.sin (F := Ideal) (φ := .f32) A)))⟩, ⟨S4x2048x32, (addf (F := Ideal) (φ := .f32) (mulf (F := Ideal) (φ := .f32) (extractStridedSlice S4x2048x32 ![0, 0, 32] E slices_S4x2048x64_S4x2048x32_0_0_32) (Host.cos (F := Ideal) (φ := .f32) A)) (mulf (F := Ideal) (φ := .f32) (extractStridedSlice S4x2048x32 ![0, 0, 0] E slices_S4x2048x64_S4x2048x32_0_0_0) (Host.sin (F := Ideal) (φ := .f32) A)))⟩] concatenates_S4x2048x32_S4x2048x32_S4x2048x64_d2

theorem rKr_at (E : S4x2048x64.Idx → Ideal .f32) (A : S4x2048x32.Idx → Ideal .f32) (b : Fin 4) (s : Fin 2048) (d : Fin 64) :
    rKr E A (ix3 (n0 := 4) (n1 := 2048) (n2 := 64) b s d) = rot (fun k => E (ix3 (n0 := 4) (n1 := 2048) (n2 := 64) b s k)) (fun i => A (ix3 (n0 := 4) (n1 := 2048) (n2 := 32) b s i)) d := by
  unfold rot
  by_cases hd : d.val < 32
  · rw [dif_pos hd]
    pointwise [rKr]
    simp only [dif_pos hd, Nat.add_comm 32]
  · rw [dif_neg hd]
    pointwise [rKr]
    have e : 32 + (d.val - 32) = d.val := by omega
    simp only [dif_neg hd, e, Fin.eta]

/-- The queries. -/
def rOutQ (Q : S4x2048x8x192.Idx → Ideal .f32) (R : S4x2048x8x64.Idx → Ideal .f32) : S4x8x2048x192.Idx → Ideal .bf16 :=
  transpose S4x8x2048x192 [0, 2, 1, 3] (truncf (F := Ideal) (φ := .f32) .bf16 (mulf (F := Ideal) (φ := .f32) (concatenate S4x2048x8x192 3 [⟨S4x2048x8x128, (extractStridedSlice S4x2048x8x128 ![0, 0, 0, 0] Q slices_S4x2048x8x192_S4x2048x8x128_0_0_0_0)⟩, ⟨S4x2048x8x64, R⟩] concatenates_S4x2048x8x128_S4x2048x8x64_S4x2048x8x192_d3) (broadcastInDim S4x2048x8x192 ![] bcast_S_S4x2048x8x192 (constant (F := Ideal) S_ .f32 0x3D93CD3A#32))) bitsLt_bf16_f32) transposes_S4x2048x8x192_S4x8x2048x192_0_2_1_3

theorem rOutQ_at (Q : S4x2048x8x192.Idx → Ideal .f32) (R : S4x2048x8x64.Idx → Ideal .f32) (b : Fin 4) (h : Fin 8) (s : Fin 2048) (d : Fin 192) :
    rOutQ Q R (ix4 (n0 := 4) (n1 := 8) (n2 := 2048) (n3 := 192) b h s d) = (if hd : d.val < 128 then Q (ix4 (n0 := 4) (n1 := 2048) (n2 := 8) (n3 := 192) b s h d) else R (ix4 (n0 := 4) (n1 := 2048) (n2 := 8) (n3 := 64) b s h ⟨d.val - 128, by omega⟩) : EReal) * scale := by
  by_cases hd : d.val < 128
  · rw [dif_pos hd]
    pointwise [rOutQ]
    rw [dif_pos hd]
    rfl
  · rw [dif_neg hd]
    pointwise [rOutQ]
    rw [dif_neg hd]
    rfl

/-- The keys. -/
def rOutK (KV : S4x2048x8x256.Idx → Ideal .f32) (R : S4x2048x64.Idx → Ideal .f32) : S4x8x2048x192.Idx → Ideal .bf16 :=
  transpose S4x8x2048x192 [0, 2, 1, 3] (truncf (F := Ideal) (φ := .f32) .bf16 (concatenate S4x2048x8x192 3 [⟨S4x2048x8x128, (extractStridedSlice S4x2048x8x128 ![0, 0, 0, 0] KV slices_S4x2048x8x256_S4x2048x8x128_0_0_0_0)⟩, ⟨S4x2048x8x64, (broadcastInDim S4x2048x8x64 ![0, 1, 2, 3] bcast_S4x2048x1x64_S4x2048x8x64_0_1_2_3 (broadcastInDim S4x2048x1x64 ![0, 1, 3] bcast_S4x2048x64_S4x2048x1x64_0_1_3 R))⟩] concatenates_S4x2048x8x128_S4x2048x8x64_S4x2048x8x192_d3) bitsLt_bf16_f32) transposes_S4x2048x8x192_S4x8x2048x192_0_2_1_3

theorem rOutK_at (KV : S4x2048x8x256.Idx → Ideal .f32) (R : S4x2048x64.Idx → Ideal .f32) (b : Fin 4) (h : Fin 8) (s : Fin 2048) (d : Fin 192) :
    rOutK KV R (ix4 (n0 := 4) (n1 := 8) (n2 := 2048) (n3 := 192) b h s d) = (if hd : d.val < 128 then KV (ix4 (n0 := 4) (n1 := 2048) (n2 := 8) (n3 := 256) b s h ⟨d.val, by omega⟩) else R (ix3 (n0 := 4) (n1 := 2048) (n2 := 64) b s ⟨d.val - 128, by omega⟩) : EReal) := by
  by_cases hd : d.val < 128
  · rw [dif_pos hd]
    pointwise [rOutK]
    rw [dif_pos hd]
  · rw [dif_neg hd]
    pointwise [rOutK]
    rw [dif_neg hd]

/-- The values. -/
def rOutV (KV : S4x2048x8x256.Idx → Ideal .f32) : S4x8x128x2048.Idx → Ideal .bf16 :=
  transpose S4x8x128x2048 [0, 2, 3, 1] (truncf (F := Ideal) (φ := .f32) .bf16 (extractStridedSlice S4x2048x8x128 ![0, 0, 0, 128] KV slices_S4x2048x8x256_S4x2048x8x128_0_0_0_128) bitsLt_bf16_f32) transposes_S4x2048x8x128_S4x8x128x2048_0_2_3_1

theorem rOutV_at (KV : S4x2048x8x256.Idx → Ideal .f32) (b : Fin 4) (h : Fin 8) (d : Fin 128) (s : Fin 2048) :
    rOutV KV (ix4 (n0 := 4) (n1 := 8) (n2 := 128) (n3 := 2048) b h d s) = KV (ix4 (n0 := 4) (n1 := 2048) (n2 := 8) (n3 := 256) b s h ⟨128 + d.val, by omega⟩) := by
  pointwise [rOutV]

/-! ## The generated run's terms -/

variable (m : (ℓ : Loc nD τ sig) → Buf (Elt Ideal) ℓ) (c : Dev nD)

theorem res0_eq : Cert.Reference4Ideal.Value.res_main_v64 m c = rOutQ (rQ (m ((c.tc : Thread nD τ).loc main_arg0)) (m ((c.tc : Thread nD τ).loc main_arg4))) (rQr (rQ (m ((c.tc : Thread nD τ).loc main_arg0)) (m ((c.tc : Thread nD τ).loc main_arg4))) (rA (m ((c.tc : Thread nD τ).loc main_arg3)) rF)) := rfl
theorem res1_eq : Cert.Reference4Ideal.Value.res_main_v66 m c = rOutK (rKV (m ((c.tc : Thread nD τ).loc main_arg1)) (m ((c.tc : Thread nD τ).loc main_arg5))) (rKr (rE (m ((c.tc : Thread nD τ).loc main_arg2))) (rA (m ((c.tc : Thread nD τ).loc main_arg3)) rF)) := rfl

end Cert.Proof.R4

end
-- ==== Proof.QkvEq.lean ====
module

public import proofs.«01_k».proof.Defs
public import proofs.«01_k».proof.Proof.QkvOut7
public import proofs.«01_k».proof.Proof.QkvOut8
public import proofs.«01_k».proof.Proof.QkvOut9
public import proofs.«01_k».proof.Proof.QkvRef
public import proofs.«01_k».proof.Proof.Gen.Kernel4.Frame
public import Idealize.ShloMosaic.Lib.Claim

@[expose] public section

set_option maxRecDepth 16384

noncomputable section

namespace Cert.Proof

open Idealize.ShloMosaic Idealize.ShloMosaic.TcCoe Idealize.SL.Sem
open Cert.Proof.Rot

/-! # The up-projections and the rotary embedding: the two sides meet, and the claims of them -/

section
variable (m : (ℓ : Loc Cert.Kernel4Ideal.nD Cert.Kernel4Ideal.τ Cert.Kernel4Ideal.sig) → Buf (Elt Ideal) ℓ)
  (m' : (ℓ : Loc Cert.Reference4Ideal.nD Cert.Reference4Ideal.τ Cert.Reference4Ideal.sig) → Buf (Elt Ideal) ℓ) (c : Dev Cert.Kernel4Ideal.nD)
  (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
  (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
  (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
  (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
  (h4 : m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4))
  (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))

include h3 in
/-- The angles are the same. -/
theorem ang_eq (b : Fin 4) (s : Fin 2048) : (fun i => R4.rA (m' ((c.tc : Thread Cert.Reference4Ideal.nD Cert.Reference4Ideal.τ).loc Cert.Reference4Ideal.main_arg3)) R4.rF (ix3 (n0 := 4) (n1 := 2048) (n2 := 32) b s i)) = K4.aAng m c b s := by
  funext i
  rw [R4.rA_at, R4.rF_at, h3]
  rfl

include h0 h4 in
/-- The queries' projection is the same. -/
theorem q_eq (b : Fin 4) (s : Fin 2048) (h : Fin 8) (d : Fin 192) :
    R4.rQ (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg4)) (ix4 (n0 := 4) (n1 := 2048) (n2 := 8) (n3 := 192) b s h d) = K4.aQc m c (K4.tok b s) ⟨h.val * 192 + d.val, by omega⟩ := by
  rw [R4.rQ_at, h0, h4]
  rfl

include h1 h5 in
/-- The keys' and values' projection is the same. -/
theorem kv_eq (b : Fin 4) (s : Fin 2048) (h : Fin 8) (d : Fin 256) :
    R4.rKV (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg5)) (ix4 (n0 := 4) (n1 := 2048) (n2 := 8) (n3 := 256) b s h d) = K4.aKc m c (K4.tok b s) ⟨h.val * 256 + d.val, by omega⟩ := by
  rw [R4.rKV_at, h1, h5]
  rfl

include h0 h3 h4 in
theorem eqQ (b : Fin 4) (h : Fin 8) (s : Fin 2048) (d : Fin 192) : Cert.Reference4Ideal.Value.res_main_v64 m' c (ix4 (n0 := 4) (n1 := 8) (n2 := 2048) (n3 := 192) b h s d) = K4.gQ m c b h s d := by
  rw [R4.res0_eq, R4.rOutQ_at]
  unfold K4.gQ
  refine congrArg (fun x : EReal => x * scale) ?_
  by_cases hd : d.val < 128
  · rw [dif_pos hd, dif_pos hd]
    exact q_eq m m' c h0 h4 b s h d
  · rw [dif_neg hd, dif_neg hd, R4.rQr_at, ang_eq m m' c h3]
    exact congrArg (fun x => rot x (K4.aAng m c b s) ⟨d.val - 128, by omega⟩) (funext fun k => q_eq m m' c h0 h4 b s h _)

include h1 h2 h3 h5 in
theorem eqK (b : Fin 4) (h : Fin 8) (s : Fin 2048) (d : Fin 192) : Cert.Reference4Ideal.Value.res_main_v66 m' c (ix4 (n0 := 4) (n1 := 8) (n2 := 2048) (n3 := 192) b h s d) = K4.gK m c b h s d := by
  rw [R4.res1_eq, R4.rOutK_at]
  unfold K4.gK
  by_cases hd : d.val < 128
  · rw [dif_pos hd, dif_pos hd]
    exact kv_eq m m' c h1 h5 b s h _
  · rw [dif_neg hd, dif_neg hd, R4.rKr_at, ang_eq m m' c h3, h2]
    exact congrArg (fun x => rot x (K4.aAng m c b s) ⟨d.val - 128, by omega⟩) (funext fun k => R4.rE_at _ b s k)

include h1 h5 in
theorem eqV (b : Fin 4) (h : Fin 8) (d : Fin 128) (s : Fin 2048) : R4.rOutV (R4.rKV (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg5))) (ix4 (n0 := 4) (n1 := 8) (n2 := 128) (n3 := 2048) b h d s) = K4.gV m c b h d s := by
  rw [R4.rOutV_at]
  exact kv_eq m m' c h1 h5 b s h _

end

/-- Arrays of four axes that agree at every quadruple of indices agree. -/
theorem ext4 {n0 n1 n2 n3 : ℕ} {α : Type} {u v : Shape.Idx ⟨4, ![n0, n1, n2, n3]⟩ → α} (h : ∀ (a : Fin n0) (b : Fin n1) (d : Fin n2) (e : Fin n3), u (ix4 a b d e) = v (ix4 a b d e)) : u = v := by
  funext i
  have : i = ix4 (n0 := n0) (n1 := n1) (n2 := n2) (n3 := n3) (i 0) (i 1) (i 2) (i 3) := by funext a; match a with | ⟨0, _⟩ => rfl | ⟨1, _⟩ => rfl | ⟨2, _⟩ => rfl | ⟨3, _⟩ => rfl
  rw [this]
  exact h _ _ _ _

/-- The up-projections' frame. -/
theorem frame_Kernel4 : haveI := Cert.Kernel4.Gen.facts; Cert.quiescent_Kernel4 := fun m g _ => Cert.Kernel4.Gen.frame m g

/-- Their frame at the exact reals. -/
theorem frame_Kernel4Ideal : haveI := Cert.Kernel4Ideal.Gen.facts; Cert.quiescent_Kernel4Ideal := fun m g _ => Cert.Kernel4Ideal.Gen.frame m g

/-- Their reference's frame: it declares no counter. -/
theorem frame_Reference4Ideal : haveI := Cert.Reference4Ideal.Gen.facts; Cert.quiescent_Reference4Ideal := fun m g _ =>
  (θ_run Cert.Reference4Ideal.defs _ _).mono (fun r h => ⟨fun c => (h c).2.2.2, Idealize.ShloMosaic.sem_eq_zero_of_no_sems (by decide) r.2⟩)
    (Cert.Reference4Ideal.Value.run (F := Ideal) m g)

/-- The idealization rewrites nothing. -/
theorem preserves4 : Cert.preserves_Kernel4_Kernel4Ideal := trivial

/-- The reference's run, with its third result named. -/
theorem run_Reference4Ideal (m : (ℓ : Loc Cert.Reference4Ideal.nD Cert.Reference4Ideal.τ Cert.Reference4Ideal.sig) → Buf (Elt Ideal) ℓ) (g : Dev Cert.Reference4Ideal.nD → PrngReg) :
    θ_run Cert.Reference4Ideal.defs (onTc (τ := Cert.Reference4Ideal.τ) (Cert.Reference4Ideal.main (F := Ideal))) ⟨m, fun _ => 0, g⟩ fun r => ∀ c : Dev Cert.Reference4Ideal.nD,
      r.2.mem ((c.tc : Thread Cert.Reference4Ideal.nD Cert.Reference4Ideal.τ).loc Cert.Reference4Ideal.main_v64) = Cert.Reference4Ideal.Value.res_main_v64 m c
      ∧ r.2.mem ((c.tc : Thread Cert.Reference4Ideal.nD Cert.Reference4Ideal.τ).loc Cert.Reference4Ideal.main_v66) = Cert.Reference4Ideal.Value.res_main_v66 m c
      ∧ r.2.mem ((c.tc : Thread Cert.Reference4Ideal.nD Cert.Reference4Ideal.τ).loc Cert.Reference4Ideal.main_v68) = R4.rOutV (R4.rKV (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg5)))
      ∧ r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5) :=
  (θ_run Cert.Reference4Ideal.defs _ _).mono (fun _ h c => ⟨(h c).1, (h c).2.1, (h c).2.2.1, (h c).2.2.2⟩) (Cert.Reference4Ideal.Value.run (F := Ideal) m g)

set_option maxHeartbeats 4000000 in
/-- The queries, keys and values are the reference's, of the same arguments. -/
theorem algebraic4 : haveI := Cert.Kernel4Ideal.Gen.facts; haveI := Cert.Reference4Ideal.Gen.facts; Cert.algebraic_Kernel4Ideal_Reference4Ideal := by
  pair_intro
  · run_from Cert.Kernel4Ideal.Gen.run_main m g
  · run_from run_Reference4Ideal m' g'
    · exact (ext4 fun a b d e => eqQ m m' c (hagree c).1 (hagree c).2.2.2.1 (hagree c).2.2.2.2.1 a b d e).trans (K4.arr7 m c).symm
    · exact (ext4 fun a b d e => eqK m m' c (hagree c).2.1 (hagree c).2.2.1 (hagree c).2.2.2.1 (hagree c).2.2.2.2.2 a b d e).trans (K4.arr8 m c).symm
    · exact (ext4 fun a b d e => by
        have q := eqV m m' c (hagree c).2.1 (hagree c).2.2.2.2.2 a b d e
        rw [(hagree c).2.1, (hagree c).2.2.2.2.2] at q
        exact q).trans (K4.arr9 m c).symm

end Cert.Proof

end
-- ==== Proof.lean ====
module

public import proofs.«01_k».proof.Defs
public import proofs.«01_k».proof.Proof.Run
public import proofs.«01_k».proof.Proof.ValueRun
public import proofs.«01_k».proof.Proof.ValueEq
public import proofs.«01_k».proof.Proof.IdealRun
public import proofs.«01_k».proof.Proof.PlanOf
public import proofs.«01_k».proof.Proof.InprojEq
public import proofs.«01_k».proof.Proof.AttnEq
public import proofs.«01_k».proof.Proof.QkvEq
public import proofs.«01_k».proof.Proof.Gen.Kernel
public import proofs.«01_k».proof.Proof.Gen.Pre_tiles_planned
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.ReferenceIdeal.Run
public import Idealize.ShloMosaic.Lib.Quiescent
public import Idealize.ShloMosaic.Lib.Bf16PairInverse
@[expose] public section

noncomputable section

namespace Cert.Proof

open Idealize.ShloMosaic Idealize.ShloMosaic.TcCoe Idealize.SL.Sem

/-- The mesh has one device: its table is every device's. -/
theorem one_table {E : FTy → Type} (m : (ℓ : Loc Cert.Kernel.nD Cert.Kernel.τ Cert.Kernel.sig) → Buf (Elt E) ℓ) (c : Dev Cert.Kernel.nD) :
    m ((c : Thread Cert.Kernel.nD Cert.Kernel.τ).loc Cert.Kernel.main_arg0) = m (((0 : Dev Cert.Kernel.nD) : Thread Cert.Kernel.nD Cert.Kernel.τ).loc Cert.Kernel.main_arg0) := by
  have : c = 0 := Subsingleton.elim _ _
  rw [this]

/-- The same of the idealized program. -/
theorem one_tableI {E : FTy → Type} (m : (ℓ : Loc Cert.KernelIdeal.nD Cert.KernelIdeal.τ Cert.KernelIdeal.sig) → Buf (Elt E) ℓ) (c : Dev Cert.KernelIdeal.nD) :
    m ((c : Thread Cert.KernelIdeal.nD Cert.KernelIdeal.τ).loc Cert.KernelIdeal.main_arg0) = m (((0 : Dev Cert.KernelIdeal.nD) : Thread Cert.KernelIdeal.nD Cert.KernelIdeal.τ).loc Cert.KernelIdeal.main_arg0) := by
  have : c = 0 := Subsingleton.elim _ _
  rw [this]

/-- The kernel's frame: from a planned tile table it runs, leaves its arguments and returns every counter to zero. -/
theorem frame_Kernel : haveI := Cert.Pre_tiles_planned.Gen.facts; haveI := Cert.Kernel.Gen.facts; Cert.quiescent_Kernel := fun m g h =>
  K.frame_of_plan m (planned_of_pre (F := Bits) _ _ _ _ _ (h 0)) (one_table m) g

/-- The idealized kernel's frame. -/
theorem frame_KernelIdeal : haveI := Cert.Pre_tiles_planned.Gen.facts; haveI := Cert.KernelIdeal.Gen.facts; Cert.quiescent_KernelIdeal := fun m g h =>
  KI.frame_of_plan m (planned_of_pre (F := Ideal) _ _ _ _ _ (h 0)) (one_tableI m) g

/-- The reference's frame: it declares no counter. -/
theorem frame_ReferenceIdeal : haveI := Cert.ReferenceIdeal.Gen.facts; Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The reference's frame where the table is planned: it needs nothing of it. -/
theorem frame_ReferenceIdeal_pre : haveI := Cert.Pre_tiles_planned.Gen.facts; haveI := Cert.ReferenceIdeal.Gen.facts; Cert.quiescent_ReferenceIdeal_pre_tiles_planned :=
  fun m g _ => frame_ReferenceIdeal m g trivial

/-- The idealized kernel is the kernel's sanctioned idealization: each rewrite by its rule's own proof. -/
theorem preserves : Cert.preserves_Kernel_KernelIdeal :=
  ⟨IdealRules.bf16_pair.bufferStatement _ _, IdealRules.bf16_pair.bufferStatement _ _, IdealRules.bf16_pair.packStatement _, IdealRules.bf16_pair.statement _ _,
    IdealRules.bf16_pair.packStatement _, IdealRules.bf16_pair.statement _ _, IdealRules.bf16_pair.statement _ _⟩

/-- The idealized kernel's result is the reference's, of the same arguments, where the tile table is planned. -/
theorem algebraic : haveI := Cert.Pre_tiles_planned.Gen.facts; haveI := Cert.KernelIdeal.Gen.facts; haveI := Cert.ReferenceIdeal.Gen.facts;
    Cert.algebraic_KernelIdeal_ReferenceIdeal := fun m g m' g' hpre hagree => by
  have hT := planned_of_pre (F := Ideal) _ _ _ _ _ (hpre 0)
  refine ⟨fun c => KI.decOut m hT c, KI.value_of_plan m hT (one_tableI m) g, ?_⟩
  refine (θ_run Cert.ReferenceIdeal.defs _ _).mono (fun r h c => ⟨(h c).1.trans ?_, (h c).2⟩) (Cert.ReferenceIdeal.Value.run (F := Ideal) m' g')
  refine Eq.trans ?_ (KI.decOut_ref m hT c).symm
  exact KI.refOf_congr ((hagree c).1.trans (one_tableI m c)) (hagree c).2.1 (hagree c).2.2.1 (hagree c).2.2.2.1 (hagree c).2.2.2.2

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_tiles_planned.Gen.facts, Cert.Pre_finite_queries_keys.Gen.facts,
  frame_Kernel, frame_KernelIdeal, frame_ReferenceIdeal, frame_ReferenceIdeal_pre, frame_Kernel2, frame_Kernel2Ideal, frame_Reference2Ideal,
  frame_Kernel3, frame_Kernel3Ideal, frame_Kernel3Ideal_pre, frame_Reference3Ideal, frame_Reference3Ideal_pre,
  frame_Kernel4, frame_Kernel4Ideal, frame_Reference4Ideal,
  preserves, algebraic, preserves2, algebraic2, preserves3, algebraic3, preserves4, algebraic4⟩

end Cert.Proof

end
